-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_SwaProj (m : (ℓ : Loc Cert.SwaProj.nD Cert.SwaProj.τ Cert.SwaProj.sig) → Buf (Elt Bits) ℓ) : Prop :=
  True

def Pre_SwaProjIdeal (m : (ℓ : Loc Cert.SwaProjIdeal.nD Cert.SwaProjIdeal.τ Cert.SwaProjIdeal.sig) → Buf (Elt Ideal) ℓ) : Prop :=
  True

def Pre_SwaProjReferenceIdeal (m : (ℓ : Loc Cert.SwaProjReferenceIdeal.nD Cert.SwaProjReferenceIdeal.τ Cert.SwaProjReferenceIdeal.sig) → Buf (Elt Ideal) ℓ) : Prop :=
  True

def Pre_FoxProj (m : (ℓ : Loc Cert.FoxProj.nD Cert.FoxProj.τ Cert.FoxProj.sig) → Buf (Elt Bits) ℓ) : Prop :=
  True

def Pre_FoxProjIdeal (m : (ℓ : Loc Cert.FoxProjIdeal.nD Cert.FoxProjIdeal.τ Cert.FoxProjIdeal.sig) → Buf (Elt Ideal) ℓ) : Prop :=
  True

def Pre_FoxProjReferenceIdeal (m : (ℓ : Loc Cert.FoxProjReferenceIdeal.nD Cert.FoxProjReferenceIdeal.τ Cert.FoxProjReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2)
      ∧ r.2.mem ((c.tc : Thread Cert.OutProjReferenceIdeal.nD Cert.OutProjReferenceIdeal.τ).loc Cert.OutProjReferenceIdeal.main_arg3) = m ((c.tc : Thread Cert.OutProjReferenceIdeal.nD Cert.OutProjReferenceIdeal.τ).loc Cert.OutProjReferenceIdeal.main_arg3))
      ∧ r.2.sem = fun _ => 0)

def quiescent_SwaProj [hSwaProj : Cert.SwaProj.Facts] : Prop :=
  ∀ (m : (ℓ : Loc Cert.SwaProj.nD Cert.SwaProj.τ Cert.SwaProj.sig) → Buf (Elt Bits) ℓ) (g : Dev Cert.SwaProj.nD → PrngReg), Pre_SwaProj m →
    θ_run (Cert.SwaProj.defs (F := Bits)) (onTc (τ := Cert.SwaProj.τ) (Cert.SwaProj.main (F := Bits))) ⟨m, fun _ => 0, g⟩ (fun r => (∀ c : Dev Cert.SwaProj.nD,
      r.2.mem ((c.tc : Thread Cert.SwaProj.nD Cert.SwaProj.τ).loc Cert.SwaProj.main_arg0) = m ((c.tc : Thread Cert.SwaProj.nD Cert.SwaProj.τ).loc Cert.SwaProj.main_arg0)
      ∧ r.2.mem ((c.tc : Thread Cert.SwaProj.nD Cert.SwaProj.τ).loc Cert.SwaProj.main_arg1) = m ((c.tc : Thread Cert.SwaProj.nD Cert.SwaProj.τ).loc Cert.SwaProj.main_arg1)
      ∧ r.2.mem ((c.tc : Thread Cert.SwaProj.nD Cert.SwaProj.τ).loc Cert.SwaProj.main_arg2) = m ((c.tc : Thread Cert.SwaProj.nD Cert.SwaProj.τ).loc Cert.SwaProj.main_arg2))
      ∧ r.2.sem = fun _ => 0)

def quiescent_SwaProjIdeal [hSwaProjIdeal : Cert.SwaProjIdeal.Facts] : Prop :=
  ∀ (m : (ℓ : Loc Cert.SwaProjIdeal.nD Cert.SwaProjIdeal.τ Cert.SwaProjIdeal.sig) → Buf (Elt Ideal) ℓ) (g : Dev Cert.SwaProjIdeal.nD → PrngReg), Pre_SwaProjIdeal m →
    θ_run (Cert.SwaProjIdeal.defs (F := Ideal)) (onTc (τ := Cert.SwaProjIdeal.τ) (Cert.SwaProjIdeal.main (F := Ideal))) ⟨m, fun _ => 0, g⟩ (fun r => (∀ c : Dev Cert.SwaProjIdeal.nD,
      r.2.mem ((c.tc : Thread Cert.SwaProjIdeal.nD Cert.SwaProjIdeal.τ).loc Cert.SwaProjIdeal.main_arg0) = m ((c.tc : Thread Cert.SwaProjIdeal.nD Cert.SwaProjIdeal.τ).loc Cert.SwaProjIdeal.main_arg0)
      ∧ r.2.mem ((c.tc : Thread Cert.SwaProjIdeal.nD Cert.SwaProjIdeal.τ).loc Cert.SwaProjIdeal.main_arg1) = m ((c.tc : Thread Cert.SwaProjIdeal.nD Cert.SwaProjIdeal.τ).loc Cert.SwaProjIdeal.main_arg1)
      ∧ r.2.mem ((c.tc : Thread Cert.SwaProjIdeal.nD Cert.SwaProjIdeal.τ).loc Cert.SwaProjIdeal.main_arg2) = m ((c.tc : Thread Cert.SwaProjIdeal.nD Cert.SwaProjIdeal.τ).loc Cert.SwaProjIdeal.main_arg2))
      ∧ r.2.sem = fun _ => 0)

def quiescent_SwaProjReferenceIdeal [hSwaProjReferenceIdeal : Cert.SwaProjReferenceIdeal.Facts] : Prop :=
  ∀ (m : (ℓ : Loc Cert.SwaProjReferenceIdeal.nD Cert.SwaProjReferenceIdeal.τ Cert.SwaProjReferenceIdeal.sig) → Buf (Elt Ideal) ℓ) (g : Dev Cert.SwaProjReferenceIdeal.nD → PrngReg), Pre_SwaProjReferenceIdeal m →
    θ_run (Cert.SwaProjReferenceIdeal.defs (F := Ideal)) (onTc (τ := Cert.SwaProjReferenceIdeal.τ) (Cert.SwaProjReferenceIdeal.main (F := Ideal))) ⟨m, fun _ => 0, g⟩ (fun r => (∀ c : Dev Cert.SwaProjReferenceIdeal.nD,
      r.2.mem ((c.tc : Thread Cert.SwaProjReferenceIdeal.nD Cert.SwaProjReferenceIdeal.τ).loc Cert.SwaProjReferenceIdeal.main_arg0) = m ((c.tc : Thread Cert.SwaProjReferenceIdeal.nD Cert.SwaProjReferenceIdeal.τ).loc Cert.SwaProjReferenceIdeal.main_arg0)
      ∧ r.2.mem ((c.tc : Thread Cert.SwaProjReferenceIdeal.nD Cert.SwaProjReferenceIdeal.τ).loc Cert.SwaProjReferenceIdeal.main_arg1) = m ((c.tc : Thread Cert.SwaProjReferenceIdeal.nD Cert.SwaProjReferenceIdeal.τ).loc Cert.SwaProjReferenceIdeal.main_arg1)
      ∧ r.2.mem ((c.tc : Thread Cert.SwaProjReferenceIdeal.nD Cert.SwaProjReferenceIdeal.τ).loc Cert.SwaProjReferenceIdeal.main_arg2) = m ((c.tc : Thread Cert.SwaProjReferenceIdeal.nD Cert.SwaProjReferenceIdeal.τ).loc Cert.SwaProjReferenceIdeal.main_arg2))
      ∧ r.2.sem = fun _ => 0)

def quiescent_FoxProj [hFoxProj : Cert.FoxProj.Facts] : Prop :=
  ∀ (m : (ℓ : Loc Cert.FoxProj.nD Cert.FoxProj.τ Cert.FoxProj.sig) → Buf (Elt Bits) ℓ) (g : Dev Cert.FoxProj.nD → PrngReg), Pre_FoxProj m →
    θ_run (Cert.FoxProj.defs (F := Bits)) (onTc (τ := Cert.FoxProj.τ) (Cert.FoxProj.main (F := Bits))) ⟨m, fun _ => 0, g⟩ (fun r => (∀ c : Dev Cert.FoxProj.nD,
      r.2.mem ((c.tc : Thread Cert.FoxProj.nD Cert.FoxProj.τ).loc Cert.FoxProj.main_arg0) = m ((c.tc : Thread Cert.FoxProj.nD Cert.FoxProj.τ).loc Cert.FoxProj.main_arg0)
      ∧ r.2.mem ((c.tc : Thread Cert.FoxProj.nD Cert.FoxProj.τ).loc Cert.FoxProj.main_arg1) = m ((c.tc : Thread Cert.FoxProj.nD Cert.FoxProj.τ).loc Cert.FoxProj.main_arg1)
      ∧ r.2.mem ((c.tc : Thread Cert.FoxProj.nD Cert.FoxProj.τ).loc Cert.FoxProj.main_arg2) = m ((c.tc : Thread Cert.FoxProj.nD Cert.FoxProj.τ).loc Cert.FoxProj.main_arg2)
      ∧ r.2.mem ((c.tc : Thread Cert.FoxProj.nD Cert.FoxProj.τ).loc Cert.FoxProj.main_arg3) = m ((c.tc : Thread Cert.FoxProj.nD Cert.FoxProj.τ).loc Cert.FoxProj.main_arg3))
      ∧ r.2.sem = fun _ => 0)

def quiescent_FoxProjIdeal [hFoxProjIdeal : Cert.FoxProjIdeal.Facts] : Prop :=
  ∀ (m : (ℓ : Loc Cert.FoxProjIdeal.nD Cert.FoxProjIdeal.τ Cert.FoxProjIdeal.sig) → Buf (Elt Ideal) ℓ) (g : Dev Cert.FoxProjIdeal.nD → PrngReg), Pre_FoxProjIdeal m →
    θ_run (Cert.FoxProjIdeal.defs (F := Ideal)) (onTc (τ := Cert.FoxProjIdeal.τ) (Cert.FoxProjIdeal.main (F := Ideal))) ⟨m, fun _ => 0, g⟩ (fun r => (∀ c : Dev Cert.FoxProjIdeal.nD,
      r.2.mem ((c.tc : Thread Cert.FoxProjIdeal.nD Cert.FoxProjIdeal.τ).loc Cert.FoxProjIdeal.main_arg0) = m ((c.tc : Thread Cert.FoxProjIdeal.nD Cert.FoxProjIdeal.τ).loc Cert.FoxProjIdeal.main_arg0)
      ∧ r.2.mem ((c.tc : Thread Cert.FoxProjIdeal.nD Cert.FoxProjIdeal.τ).loc Cert.FoxProjIdeal.main_arg1) = m ((c.tc : Thread Cert.FoxProjIdeal.nD Cert.FoxProjIdeal.τ).loc Cert.FoxProjIdeal.main_arg1)
      ∧ r.2.mem ((c.tc : Thread Cert.FoxProjIdeal.nD Cert.FoxProjIdeal.τ).loc Cert.FoxProjIdeal.main_arg2) = m ((c.tc : Thread Cert.FoxProjIdeal.nD Cert.FoxProjIdeal.τ).loc Cert.FoxProjIdeal.main_arg2)
      ∧ r.2.mem ((c.tc : Thread Cert.FoxProjIdeal.nD Cert.FoxProjIdeal.τ).loc Cert.FoxProjIdeal.main_arg3) = m ((c.tc : Thread Cert.FoxProjIdeal.nD Cert.FoxProjIdeal.τ).loc Cert.FoxProjIdeal.main_arg3))
      ∧ r.2.sem = fun _ => 0)

def quiescent_FoxProjReferenceIdeal [hFoxProjReferenceIdeal : Cert.FoxProjReferenceIdeal.Facts] : Prop :=
  ∀ (m : (ℓ : Loc Cert.FoxProjReferenceIdeal.nD Cert.FoxProjReferenceIdeal.τ Cert.FoxProjReferenceIdeal.sig) → Buf (Elt Ideal) ℓ) (g : Dev Cert.FoxProjReferenceIdeal.nD → PrngReg), Pre_FoxProjReferenceIdeal m →
    θ_run (Cert.FoxProjReferenceIdeal.defs (F := Ideal)) (onTc (τ := Cert.FoxProjReferenceIdeal.τ) (Cert.FoxProjReferenceIdeal.main (F := Ideal))) ⟨m, fun _ => 0, g⟩ (fun r => (∀ c : Dev Cert.FoxProjReferenceIdeal.nD,
      r.2.mem ((c.tc : Thread Cert.FoxProjReferenceIdeal.nD Cert.FoxProjReferenceIdeal.τ).loc Cert.FoxProjReferenceIdeal.main_arg0) = m ((c.tc : Thread Cert.FoxProjReferenceIdeal.nD Cert.FoxProjReferenceIdeal.τ).loc Cert.FoxProjReferenceIdeal.main_arg0)
      ∧ r.2.mem ((c.tc : Thread Cert.FoxProjReferenceIdeal.nD Cert.FoxProjReferenceIdeal.τ).loc Cert.FoxProjReferenceIdeal.main_arg1) = m ((c.tc : Thread Cert.FoxProjReferenceIdeal.nD Cert.FoxProjReferenceIdeal.τ).loc Cert.FoxProjReferenceIdeal.main_arg1)
      ∧ r.2.mem ((c.tc : Thread Cert.FoxProjReferenceIdeal.nD Cert.FoxProjReferenceIdeal.τ).loc Cert.FoxProjReferenceIdeal.main_arg2) = m ((c.tc : Thread Cert.FoxProjReferenceIdeal.nD Cert.FoxProjReferenceIdeal.τ).loc Cert.FoxProjReferenceIdeal.main_arg2)
      ∧ r.2.mem ((c.tc : Thread Cert.FoxProjReferenceIdeal.nD Cert.FoxProjReferenceIdeal.τ).loc Cert.FoxProjReferenceIdeal.main_arg3) = m ((c.tc : Thread Cert.FoxProjReferenceIdeal.nD Cert.FoxProjReferenceIdeal.τ).loc Cert.FoxProjReferenceIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)
      ∧ m' ((c.tc : Thread Cert.OutProjReferenceIdeal.nD Cert.OutProjReferenceIdeal.τ).loc Cert.OutProjReferenceIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v2) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v16) = v0 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2)
          ∧ r.2.mem ((c.tc : Thread Cert.OutProjReferenceIdeal.nD Cert.OutProjReferenceIdeal.τ).loc Cert.OutProjReferenceIdeal.main_arg3) = m' ((c.tc : Thread Cert.OutProjReferenceIdeal.nD Cert.OutProjReferenceIdeal.τ).loc Cert.OutProjReferenceIdeal.main_arg3))

def preserves_SwaProj_SwaProjIdeal : Prop :=
  True

def algebraic_SwaProjIdeal_SwaProjReferenceIdeal [hSwaProjIdeal : Cert.SwaProjIdeal.Facts] [hSwaProjReferenceIdeal : Cert.SwaProjReferenceIdeal.Facts] : Prop :=
  ∀ (m : (ℓ : Loc Cert.SwaProjIdeal.nD Cert.SwaProjIdeal.τ Cert.SwaProjIdeal.sig) → Buf (Elt Ideal) ℓ) (g : Dev Cert.SwaProjIdeal.nD → PrngReg)
    (m' : (ℓ : Loc Cert.SwaProjReferenceIdeal.nD Cert.SwaProjReferenceIdeal.τ Cert.SwaProjReferenceIdeal.sig) → Buf (Elt Ideal) ℓ) (g' : Dev Cert.SwaProjReferenceIdeal.nD → PrngReg), Pre_SwaProjIdeal m →
    (∀ c : Dev Cert.SwaProjIdeal.nD,
      m' ((c.tc : Thread Cert.SwaProjReferenceIdeal.nD Cert.SwaProjReferenceIdeal.τ).loc Cert.SwaProjReferenceIdeal.main_arg0) = m ((c.tc : Thread Cert.SwaProjIdeal.nD Cert.SwaProjIdeal.τ).loc Cert.SwaProjIdeal.main_arg0)
      ∧ m' ((c.tc : Thread Cert.SwaProjReferenceIdeal.nD Cert.SwaProjReferenceIdeal.τ).loc Cert.SwaProjReferenceIdeal.main_arg1) = m ((c.tc : Thread Cert.SwaProjIdeal.nD Cert.SwaProjIdeal.τ).loc Cert.SwaProjIdeal.main_arg1)
      ∧ m' ((c.tc : Thread Cert.SwaProjReferenceIdeal.nD Cert.SwaProjReferenceIdeal.τ).loc Cert.SwaProjReferenceIdeal.main_arg2) = m ((c.tc : Thread Cert.SwaProjIdeal.nD Cert.SwaProjIdeal.τ).loc Cert.SwaProjIdeal.main_arg2)) →
    ∃ (v0 : (c : Dev Cert.SwaProjIdeal.nD) → Buf (Elt Ideal) ((c.tc : Thread Cert.SwaProjIdeal.nD Cert.SwaProjIdeal.τ).loc Cert.SwaProjIdeal.main_v5_0)) (v1 : (c : Dev Cert.SwaProjIdeal.nD) → Buf (Elt Ideal) ((c.tc : Thread Cert.SwaProjIdeal.nD Cert.SwaProjIdeal.τ).loc Cert.SwaProjIdeal.main_v5_1)) (v2 : (c : Dev Cert.SwaProjIdeal.nD) → Buf (Elt Ideal) ((c.tc : Thread Cert.SwaProjIdeal.nD Cert.SwaProjIdeal.τ).loc Cert.SwaProjIdeal.main_v5_2)) (v3 : (c : Dev Cert.SwaProjIdeal.nD) → Buf (Elt Ideal) ((c.tc : Thread Cert.SwaProjIdeal.nD Cert.SwaProjIdeal.τ).loc Cert.SwaProjIdeal.main_v5_3)) (v4 : (c : Dev Cert.SwaProjIdeal.nD) → Buf (Elt Ideal) ((c.tc : Thread Cert.SwaProjIdeal.nD Cert.SwaProjIdeal.τ).loc Cert.SwaProjIdeal.main_v5_4)) (v5 : (c : Dev Cert.SwaProjIdeal.nD) → Buf (Elt Ideal) ((c.tc : Thread Cert.SwaProjIdeal.nD Cert.SwaProjIdeal.τ).loc Cert.SwaProjIdeal.main_v5_5)),
      θ_run (Cert.SwaProjIdeal.defs (F := Ideal)) (onTc (τ := Cert.SwaProjIdeal.τ) (Cert.SwaProjIdeal.main (F := Ideal))) ⟨m, fun _ => 0, g⟩ (fun r => ∀ c : Dev Cert.SwaProjIdeal.nD,
          r.2.mem ((c.tc : Thread Cert.SwaProjIdeal.nD Cert.SwaProjIdeal.τ).loc Cert.SwaProjIdeal.main_v5_0) = v0 c
          ∧ r.2.mem ((c.tc : Thread Cert.SwaProjIdeal.nD Cert.SwaProjIdeal.τ).loc Cert.SwaProjIdeal.main_v5_1) = v1 c
          ∧ r.2.mem ((c.tc : Thread Cert.SwaProjIdeal.nD Cert.SwaProjIdeal.τ).loc Cert.SwaProjIdeal.main_v5_2) = v2 c
          ∧ r.2.mem ((c.tc : Thread Cert.SwaProjIdeal.nD Cert.SwaProjIdeal.τ).loc Cert.SwaProjIdeal.main_v5_3) = v3 c
          ∧ r.2.mem ((c.tc : Thread Cert.SwaProjIdeal.nD Cert.SwaProjIdeal.τ).loc Cert.SwaProjIdeal.main_v5_4) = v4 c
          ∧ r.2.mem ((c.tc : Thread Cert.SwaProjIdeal.nD Cert.SwaProjIdeal.τ).loc Cert.SwaProjIdeal.main_v5_5) = v5 c
          ∧ r.2.mem ((c.tc : Thread Cert.SwaProjIdeal.nD Cert.SwaProjIdeal.τ).loc Cert.SwaProjIdeal.main_arg0) = m ((c.tc : Thread Cert.SwaProjIdeal.nD Cert.SwaProjIdeal.τ).loc Cert.SwaProjIdeal.main_arg0)
          ∧ r.2.mem ((c.tc : Thread Cert.SwaProjIdeal.nD Cert.SwaProjIdeal.τ).loc Cert.SwaProjIdeal.main_arg1) = m ((c.tc : Thread Cert.SwaProjIdeal.nD Cert.SwaProjIdeal.τ).loc Cert.SwaProjIdeal.main_arg1)
          ∧ r.2.mem ((c.tc : Thread Cert.SwaProjIdeal.nD Cert.SwaProjIdeal.τ).loc Cert.SwaProjIdeal.main_arg2) = m ((c.tc : Thread Cert.SwaProjIdeal.nD Cert.SwaProjIdeal.τ).loc Cert.SwaProjIdeal.main_arg2))
      ∧ θ_run (Cert.SwaProjReferenceIdeal.defs (F := Ideal)) (onTc (τ := Cert.SwaProjReferenceIdeal.τ) (Cert.SwaProjReferenceIdeal.main (F := Ideal))) ⟨m', fun _ => 0, g'⟩ (fun r => ∀ c : Dev Cert.SwaProjReferenceIdeal.nD,
          r.2.mem ((c.tc : Thread Cert.SwaProjReferenceIdeal.nD Cert.SwaProjReferenceIdeal.τ).loc Cert.SwaProjReferenceIdeal.main_v24) = v0 c
          ∧ r.2.mem ((c.tc : Thread Cert.SwaProjReferenceIdeal.nD Cert.SwaProjReferenceIdeal.τ).loc Cert.SwaProjReferenceIdeal.main_v29) = v1 c
          ∧ r.2.mem ((c.tc : Thread Cert.SwaProjReferenceIdeal.nD Cert.SwaProjReferenceIdeal.τ).loc Cert.SwaProjReferenceIdeal.main_v30) = v2 c
          ∧ r.2.mem ((c.tc : Thread Cert.SwaProjReferenceIdeal.nD Cert.SwaProjReferenceIdeal.τ).loc Cert.SwaProjReferenceIdeal.main_v31) = v3 c
          ∧ r.2.mem ((c.tc : Thread Cert.SwaProjReferenceIdeal.nD Cert.SwaProjReferenceIdeal.τ).loc Cert.SwaProjReferenceIdeal.main_v28) = v4 c
          ∧ r.2.mem ((c.tc : Thread Cert.SwaProjReferenceIdeal.nD Cert.SwaProjReferenceIdeal.τ).loc Cert.SwaProjReferenceIdeal.main_v33) = v5 c
          ∧ r.2.mem ((c.tc : Thread Cert.SwaProjReferenceIdeal.nD Cert.SwaProjReferenceIdeal.τ).loc Cert.SwaProjReferenceIdeal.main_arg0) = m' ((c.tc : Thread Cert.SwaProjReferenceIdeal.nD Cert.SwaProjReferenceIdeal.τ).loc Cert.SwaProjReferenceIdeal.main_arg0)
          ∧ r.2.mem ((c.tc : Thread Cert.SwaProjReferenceIdeal.nD Cert.SwaProjReferenceIdeal.τ).loc Cert.SwaProjReferenceIdeal.main_arg1) = m' ((c.tc : Thread Cert.SwaProjReferenceIdeal.nD Cert.SwaProjReferenceIdeal.τ).loc Cert.SwaProjReferenceIdeal.main_arg1)
          ∧ r.2.mem ((c.tc : Thread Cert.SwaProjReferenceIdeal.nD Cert.SwaProjReferenceIdeal.τ).loc Cert.SwaProjReferenceIdeal.main_arg2) = m' ((c.tc : Thread Cert.SwaProjReferenceIdeal.nD Cert.SwaProjReferenceIdeal.τ).loc Cert.SwaProjReferenceIdeal.main_arg2))

def preserves_FoxProj_FoxProjIdeal : Prop :=
  True

def algebraic_FoxProjIdeal_FoxProjReferenceIdeal [hFoxProjIdeal : Cert.FoxProjIdeal.Facts] [hFoxProjReferenceIdeal : Cert.FoxProjReferenceIdeal.Facts] : Prop :=
  ∀ (m : (ℓ : Loc Cert.FoxProjIdeal.nD Cert.FoxProjIdeal.τ Cert.FoxProjIdeal.sig) → Buf (Elt Ideal) ℓ) (g : Dev Cert.FoxProjIdeal.nD → PrngReg)
    (m' : (ℓ : Loc Cert.FoxProjReferenceIdeal.nD Cert.FoxProjReferenceIdeal.τ Cert.FoxProjReferenceIdeal.sig) → Buf (Elt Ideal) ℓ) (g' : Dev Cert.FoxProjReferenceIdeal.nD → PrngReg), Pre_FoxProjIdeal m →
    (∀ c : Dev Cert.FoxProjIdeal.nD,
      m' ((c.tc : Thread Cert.FoxProjReferenceIdeal.nD Cert.FoxProjReferenceIdeal.τ).loc Cert.FoxProjReferenceIdeal.main_arg0) = m ((c.tc : Thread Cert.FoxProjIdeal.nD Cert.FoxProjIdeal.τ).loc Cert.FoxProjIdeal.main_arg0)
      ∧ m' ((c.tc : Thread Cert.FoxProjReferenceIdeal.nD Cert.FoxProjReferenceIdeal.τ).loc Cert.FoxProjReferenceIdeal.main_arg1) = m ((c.tc : Thread Cert.FoxProjIdeal.nD Cert.FoxProjIdeal.τ).loc Cert.FoxProjIdeal.main_arg1)
      ∧ m' ((c.tc : Thread Cert.FoxProjReferenceIdeal.nD Cert.FoxProjReferenceIdeal.τ).loc Cert.FoxProjReferenceIdeal.main_arg2) = m ((c.tc : Thread Cert.FoxProjIdeal.nD Cert.FoxProjIdeal.τ).loc Cert.FoxProjIdeal.main_arg2)
      ∧ m' ((c.tc : Thread Cert.FoxProjReferenceIdeal.nD Cert.FoxProjReferenceIdeal.τ).loc Cert.FoxProjReferenceIdeal.main_arg3) = m ((c.tc : Thread Cert.FoxProjIdeal.nD Cert.FoxProjIdeal.τ).loc Cert.FoxProjIdeal.main_arg3)) →
    ∃ (v0 : (c : Dev Cert.FoxProjIdeal.nD) → Buf (Elt Ideal) ((c.tc : Thread Cert.FoxProjIdeal.nD Cert.FoxProjIdeal.τ).loc Cert.FoxProjIdeal.main_v87_0)) (v1 : (c : Dev Cert.FoxProjIdeal.nD) → Buf (Elt Ideal) ((c.tc : Thread Cert.FoxProjIdeal.nD Cert.FoxProjIdeal.τ).loc Cert.FoxProjIdeal.main_v87_1)) (v2 : (c : Dev Cert.FoxProjIdeal.nD) → Buf (Elt Ideal) ((c.tc : Thread Cert.FoxProjIdeal.nD Cert.FoxProjIdeal.τ).loc Cert.FoxProjIdeal.main_v87_2)) (v3 : (c : Dev Cert.FoxProjIdeal.nD) → Buf (Elt Ideal) ((c.tc : Thread Cert.FoxProjIdeal.nD Cert.FoxProjIdeal.τ).loc Cert.FoxProjIdeal.main_v87_3)) (v4 : (c : Dev Cert.FoxProjIdeal.nD) → Buf (Elt Ideal) ((c.tc : Thread Cert.FoxProjIdeal.nD Cert.FoxProjIdeal.τ).loc Cert.FoxProjIdeal.main_v87_4)) (v5 : (c : Dev Cert.FoxProjIdeal.nD) → Buf (Elt Ideal) ((c.tc : Thread Cert.FoxProjIdeal.nD Cert.FoxProjIdeal.τ).loc Cert.FoxProjIdeal.main_v87_5)) (v6 : (c : Dev Cert.FoxProjIdeal.nD) → Buf (Elt Ideal) ((c.tc : Thread Cert.FoxProjIdeal.nD Cert.FoxProjIdeal.τ).loc Cert.FoxProjIdeal.main_v87_6)),
      θ_run (Cert.FoxProjIdeal.defs (F := Ideal)) (onTc (τ := Cert.FoxProjIdeal.τ) (Cert.FoxProjIdeal.main (F := Ideal))) ⟨m, fun _ => 0, g⟩ (fun r => ∀ c : Dev Cert.FoxProjIdeal.nD,
          r.2.mem ((c.tc : Thread Cert.FoxProjIdeal.nD Cert.FoxProjIdeal.τ).loc Cert.FoxProjIdeal.main_v87_0) = v0 c
          ∧ r.2.mem ((c.tc : Thread Cert.FoxProjIdeal.nD Cert.FoxProjIdeal.τ).loc Cert.FoxProjIdeal.main_v87_1) = v1 c
          ∧ r.2.mem ((c.tc : Thread Cert.FoxProjIdeal.nD Cert.FoxProjIdeal.τ).loc Cert.FoxProjIdeal.main_v87_2) = v2 c
          ∧ r.2.mem ((c.tc : Thread Cert.FoxProjIdeal.nD Cert.FoxProjIdeal.τ).loc Cert.FoxProjIdeal.main_v87_3) = v3 c
          ∧ r.2.mem ((c.tc : Thread Cert.FoxProjIdeal.nD Cert.FoxProjIdeal.τ).loc Cert.FoxProjIdeal.main_v87_4) = v4 c
          ∧ r.2.mem ((c.tc : Thread Cert.FoxProjIdeal.nD Cert.FoxProjIdeal.τ).loc Cert.FoxProjIdeal.main_v87_5) = v5 c
          ∧ r.2.mem ((c.tc : Thread Cert.FoxProjIdeal.nD Cert.FoxProjIdeal.τ).loc Cert.FoxProjIdeal.main_v87_6) = v6 c
          ∧ r.2.mem ((c.tc : Thread Cert.FoxProjIdeal.nD Cert.FoxProjIdeal.τ).loc Cert.FoxProjIdeal.main_arg0) = m ((c.tc : Thread Cert.FoxProjIdeal.nD Cert.FoxProjIdeal.τ).loc Cert.FoxProjIdeal.main_arg0)
          ∧ r.2.mem ((c.tc : Thread Cert.FoxProjIdeal.nD Cert.FoxProjIdeal.τ).loc Cert.FoxProjIdeal.main_arg1) = m ((c.tc : Thread Cert.FoxProjIdeal.nD Cert.FoxProjIdeal.τ).loc Cert.FoxProjIdeal.main_arg1)
          ∧ r.2.mem ((c.tc : Thread Cert.FoxProjIdeal.nD Cert.FoxProjIdeal.τ).loc Cert.FoxProjIdeal.main_arg2) = m ((c.tc : Thread Cert.FoxProjIdeal.nD Cert.FoxProjIdeal.τ).loc Cert.FoxProjIdeal.main_arg2)
          ∧ r.2.mem ((c.tc : Thread Cert.FoxProjIdeal.nD Cert.FoxProjIdeal.τ).loc Cert.FoxProjIdeal.main_arg3) = m ((c.tc : Thread Cert.FoxProjIdeal.nD Cert.FoxProjIdeal.τ).loc Cert.FoxProjIdeal.main_arg3))
      ∧ θ_run (Cert.FoxProjReferenceIdeal.defs (F := Ideal)) (onTc (τ := Cert.FoxProjReferenceIdeal.τ) (Cert.FoxProjReferenceIdeal.main (F := Ideal))) ⟨m', fun _ => 0, g'⟩ (fun r => ∀ c : Dev Cert.FoxProjReferenceIdeal.nD,
          r.2.mem ((c.tc : Thread Cert.FoxProjReferenceIdeal.nD Cert.FoxProjReferenceIdeal.τ).loc Cert.FoxProjReferenceIdeal.main_v65) = v0 c
          ∧ r.2.mem ((c.tc : Thread Cert.FoxProjReferenceIdeal.nD Cert.FoxProjReferenceIdeal.τ).loc Cert.FoxProjReferenceIdeal.main_v66) = v1 c
          ∧ r.2.mem ((c.tc : Thread Cert.FoxProjReferenceIdeal.nD Cert.FoxProjReferenceIdeal.τ).loc Cert.FoxProjReferenceIdeal.main_v67) = v2 c
          ∧ r.2.mem ((c.tc : Thread Cert.FoxProjReferenceIdeal.nD Cert.FoxProjReferenceIdeal.τ).loc Cert.FoxProjReferenceIdeal.main_v68) = v3 c
          ∧ r.2.mem ((c.tc : Thread Cert.FoxProjReferenceIdeal.nD Cert.FoxProjReferenceIdeal.τ).loc Cert.FoxProjReferenceIdeal.main_v70) = v4 c
          ∧ r.2.mem ((c.tc : Thread Cert.FoxProjReferenceIdeal.nD Cert.FoxProjReferenceIdeal.τ).loc Cert.FoxProjReferenceIdeal.main_v72) = v5 c
          ∧ r.2.mem ((c.tc : Thread Cert.FoxProjReferenceIdeal.nD Cert.FoxProjReferenceIdeal.τ).loc Cert.FoxProjReferenceIdeal.main_v73) = v6 c
          ∧ r.2.mem ((c.tc : Thread Cert.FoxProjReferenceIdeal.nD Cert.FoxProjReferenceIdeal.τ).loc Cert.FoxProjReferenceIdeal.main_arg0) = m' ((c.tc : Thread Cert.FoxProjReferenceIdeal.nD Cert.FoxProjReferenceIdeal.τ).loc Cert.FoxProjReferenceIdeal.main_arg0)
          ∧ r.2.mem ((c.tc : Thread Cert.FoxProjReferenceIdeal.nD Cert.FoxProjReferenceIdeal.τ).loc Cert.FoxProjReferenceIdeal.main_arg1) = m' ((c.tc : Thread Cert.FoxProjReferenceIdeal.nD Cert.FoxProjReferenceIdeal.τ).loc Cert.FoxProjReferenceIdeal.main_arg1)
          ∧ r.2.mem ((c.tc : Thread Cert.FoxProjReferenceIdeal.nD Cert.FoxProjReferenceIdeal.τ).loc Cert.FoxProjReferenceIdeal.main_arg2) = m' ((c.tc : Thread Cert.FoxProjReferenceIdeal.nD Cert.FoxProjReferenceIdeal.τ).loc Cert.FoxProjReferenceIdeal.main_arg2)
          ∧ r.2.mem ((c.tc : Thread Cert.FoxProjReferenceIdeal.nD Cert.FoxProjReferenceIdeal.τ).loc Cert.FoxProjReferenceIdeal.main_arg3) = m' ((c.tc : Thread Cert.FoxProjReferenceIdeal.nD Cert.FoxProjReferenceIdeal.τ).loc Cert.FoxProjReferenceIdeal.main_arg3))

def Claim : Prop :=
  ∃ (hKernel : Cert.Kernel.Facts) (hKernelIdeal : Cert.KernelIdeal.Facts) (hReferenceIdeal : Cert.ReferenceIdeal.Facts) (hOutProj : Cert.OutProj.Facts) (hOutProjIdeal : Cert.OutProjIdeal.Facts) (hOutProjReferenceIdeal : Cert.OutProjReferenceIdeal.Facts) (hSwaProj : Cert.SwaProj.Facts) (hSwaProjIdeal : Cert.SwaProjIdeal.Facts) (hSwaProjReferenceIdeal : Cert.SwaProjReferenceIdeal.Facts) (hFoxProj : Cert.FoxProj.Facts) (hFoxProjIdeal : Cert.FoxProjIdeal.Facts) (hFoxProjReferenceIdeal : Cert.FoxProjReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_SwaProj (hSwaProj := hSwaProj)
    ∧ quiescent_SwaProjIdeal (hSwaProjIdeal := hSwaProjIdeal)
    ∧ quiescent_SwaProjReferenceIdeal (hSwaProjReferenceIdeal := hSwaProjReferenceIdeal)
    ∧ quiescent_FoxProj (hFoxProj := hFoxProj)
    ∧ quiescent_FoxProjIdeal (hFoxProjIdeal := hFoxProjIdeal)
    ∧ quiescent_FoxProjReferenceIdeal (hFoxProjReferenceIdeal := hFoxProjReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_OutProj_OutProjIdeal
    ∧ algebraic_OutProjIdeal_OutProjReferenceIdeal (hOutProjIdeal := hOutProjIdeal) (hOutProjReferenceIdeal := hOutProjReferenceIdeal)
    ∧ preserves_SwaProj_SwaProjIdeal
    ∧ algebraic_SwaProjIdeal_SwaProjReferenceIdeal (hSwaProjIdeal := hSwaProjIdeal) (hSwaProjReferenceIdeal := hSwaProjReferenceIdeal)
    ∧ preserves_FoxProj_FoxProjIdeal
    ∧ algebraic_FoxProjIdeal_FoxProjReferenceIdeal (hFoxProjIdeal := hFoxProjIdeal) (hFoxProjReferenceIdeal := hFoxProjReferenceIdeal)
-- ==== Pre_finite.lean ====
abbrev S2x2048x8192 : Shape := ⟨3, ![2, 2048, 8192]⟩
abbrev S2x8192x512 : Shape := ⟨3, ![2, 8192, 512]⟩
abbrev S2x256x8192 : Shape := ⟨3, ![2, 256, 8192]⟩
abbrev S2x1024x8192 : Shape := ⟨3, ![2, 1024, 8192]⟩
abbrev S_ : Shape := ⟨0, ![]⟩

class Facts : Prop where
  bitsLt_bf16_f32 : FTy.bits .bf16 < FTy.bits .f32
  bcast_S_S2x2048x8192 : S_.BroadcastsInDim S2x2048x8192 (![] : Fin 0 → Fin S2x2048x8192.rank)
  reducesTo_S2x2048x8192_S_d0_1_2 : S2x2048x8192.ReducesTo [0, 1, 2] S_
  h_S_ : 0 < S_.numel
  bcast_S_S2x8192x512 : S_.BroadcastsInDim S2x8192x512 (![] : Fin 0 → Fin S2x8192x512.rank)
  reducesTo_S2x8192x512_S_d0_1_2 : S2x8192x512.ReducesTo [0, 1, 2] S_

variable [Facts]

def fn {F : FTy → Type} [FloatOps F] (main_arg0 : FVec F S2x2048x8192 .bf16) (main_arg1 : FVec F S2x8192x512 .bf16) (main_arg2 : FVec F S2x256x8192 .bf16) (main_arg3 : FVec F S2x1024x8192 .f32) : IVec S_ 1 :=
  let main_v0 : FVec F S2x2048x8192 .f32 := (extf .f32 · bitsLt_bf16_f32) main_arg0
  let main_v1 : FVec F S2x2048x8192 .f32 := Host.absf main_v0
  let main_cst : FVec F S_ .f32 := constant S_ .f32 0x7F800000#32
  let main_v2 : FVec F S2x2048x8192 .f32 := broadcastInDim S2x2048x8192 ![] bcast_S_S2x2048x8192 main_cst
  let main_v3 : IVec S2x2048x8192 1 := cmpf .olt main_v1 main_v2
  let main_c : IVec S_ 1 := constantI S_ 1 1#1
  let main_v4 : IVec S_ 1 := (fun x v => Host.reduce IntOp.andi x v reducesTo_S2x2048x8192_S_d0_1_2 h_S_) main_v3 main_c
  let main_v5 : FVec F S2x8192x512 .f32 := (extf .f32 · bitsLt_bf16_f32) main_arg1
  let main_v6 : FVec F S2x8192x512 .f32 := Host.absf main_v5
  let main_cst_0 : FVec F S_ .f32 := constant S_ .f32 0x7F800000#32
  let main_v7 : FVec F S2x8192x512 .f32 := broadcastInDim S2x8192x512 ![] bcast_S_S2x8192x512 main_cst_0
  let main_v8 : IVec S2x8192x512 1 := cmpf .olt main_v6 main_v7
  let main_c_1 : IVec S_ 1 := constantI S_ 1 1#1
  let main_v9 : IVec S_ 1 := (fun x v => Host.reduce IntOp.andi x v reducesTo_S2x8192x512_S_d0_1_2 h_S_) main_v8 main_c_1
  let main_v10 : IVec S_ 1 := andi main_v4 main_v9
  main_v10
-- ==== Kernel.lean ====
abbrev S2x2048x8192 : Shape := ⟨3, ![2, 2048, 8192]⟩
abbrev S2x8192x512 : Shape := ⟨3, ![2, 8192, 512]⟩
abbrev S2x256x8192 : Shape := ⟨3, ![2, 256, 8192]⟩
abbrev S2x1024x8192 : Shape := ⟨3, ![2, 1024, 8192]⟩
abbrev S136 : Shape := ⟨1, ![136]⟩
abbrev S1x2048x512 : Shape := ⟨3, ![1, 2048, 512]⟩
abbrev S1 : Shape := ⟨1, ![1]⟩
abbrev S1x512x512 : Shape := ⟨3, ![1, 512, 512]⟩
abbrev S1x256x512 : Shape := ⟨3, ![1, 256, 512]⟩
abbrev S1x1024x512 : Shape := ⟨3, ![1, 1024, 512]⟩
abbrev S16x1x512 : Shape := ⟨3, ![16, 1, 512]⟩
abbrev S16x64x512 : Shape := ⟨3, ![16, 64, 512]⟩
abbrev S1x512x128 : Shape := ⟨3, ![1, 512, 128]⟩
abbrev S512x128 : Shape := ⟨2, ![512, 128]⟩
abbrev S1x64x512 : Shape := ⟨3, ![1, 64, 512]⟩
abbrev S64x512 : Shape := ⟨2, ![64, 512]⟩
abbrev S1x128x512 : Shape := ⟨3, ![1, 128, 512]⟩
abbrev S128x512 : Shape := ⟨2, ![128, 512]⟩
abbrev S512x512 : Shape := ⟨2, ![512, 512]⟩
abbrev S1x1x512 : Shape := ⟨3, ![1, 1, 512]⟩
abbrev S1x512 : Shape := ⟨2, ![1, 512]⟩
abbrev S512 : Shape := ⟨1, ![512]⟩

abbrev nBuf : Space → Nat
  | .hbm => 5
  | .vmem => 13
  | .smem => 2
  | _ => 0

abbrev bufTy : (tb : Table) → Fin (tcTables nBuf tb) → BufTy
  | .hbm, ⟨0, _⟩ => ⟨S2x2048x8192, .bf16⟩
  | .hbm, ⟨1, _⟩ => ⟨S2x8192x512, .bf16⟩
  | .hbm, ⟨2, _⟩ => ⟨S2x256x8192, .bf16⟩
  | .hbm, ⟨3, _⟩ => ⟨S2x1024x8192, .f32⟩
  | .hbm, ⟨4, _⟩ => ⟨S2x1024x8192, .bf16⟩
  | .local _ .vmem, ⟨0, _⟩ => ⟨S1x2048x512, .bf16⟩
  | .local _ .vmem, ⟨1, _⟩ => ⟨S1x2048x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x256x512, .bf16⟩
  | .local _ .vmem, ⟨5, _⟩ => ⟨S1x256x512, .bf16⟩
  | .local _ .vmem, ⟨6, _⟩ => ⟨S1x1024x512, .f32⟩
  | .local _ .vmem, ⟨7, _⟩ => ⟨S1x1024x512, .f32⟩
  | .local _ .vmem, ⟨8, _⟩ => ⟨S1x1024x512, .bf16⟩
  | .local _ .vmem, ⟨9, _⟩ => ⟨S1x1024x512, .bf16⟩
  | .local _ .vmem, ⟨10, _⟩ => ⟨S16x1x512, .f32⟩
  | .local _ .vmem, ⟨11, _⟩ => ⟨S16x1x512, .f32⟩
  | .local _ .vmem, ⟨12, _⟩ => ⟨S16x64x512, .f32⟩
  | .local _ .smem, ⟨0, _⟩ => ⟨S136, .i32⟩
  | .local _ .smem, ⟨1, _⟩ => ⟨S136, .i32⟩
  | _, _ => ⟨S2x2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 1, 136], ![false, false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg2 : BitVec 32 := BitVec.ofNat 32 (i 2).val
  let v0 : Index := Scalar.indexCast arg2
  ![v0.toNat]
def k0_cond3 (v1 : BitVec 32) (v3 : BitVec 32) : BitVec 1 :=
  let v10 : BitVec 1 := Scalar.cmpi .eq v3 v1
  let v11 : BitVec 32 := Scalar.extui v10
  let c0_i32_2 : BitVec 32 := 0#32
  let v12 : BitVec 1 := Scalar.cmpi .ne v11 c0_i32_2
  v12

def cc0_transform_0 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 0 (Rect.unit (s := S136) ![v0.toNat] S1.size (k0_off1_inb i)) numel1_S1
  let c0_i32 : BitVec 32 := 0#32
  ![arg0.toNat, arg1.toNat, v1.toNat]

def cc0_transform_1 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 1 (Rect.unit (s := S136) ![v0.toNat] S1.size (k0_off1_inb i)) numel1_S1
  let c0_i32 : BitVec 32 := 0#32
  ![arg0.toNat, v1.toNat, arg1.toNat]

def cc0_transform_2 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 1 (Rect.unit (s := S136) ![v0.toNat] S1.size (k0_off1_inb i)) numel1_S1
  let c0_i32 : BitVec 32 := 0#32
  ![arg0.toNat, arg1.toNat, v1.toNat]

def cc0_transform_3 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 0 (Rect.unit (s := S136) ![v0.toNat] S1.size (k0_off1_inb i)) numel1_S1
  let c0_i32 : BitVec 32 := 0#32
  ![arg0.toNat, arg1.toNat, v1.toNat]

def cc0_transform_4 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 0 (Rect.unit (s := S136) ![v0.toNat] S1.size (k0_off1_inb i)) numel1_S1
  let c0_i32 : BitVec 32 := 0#32
  ![arg0.toNat, arg1.toNat, v1.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S2x2048x8192 : Shape := ⟨3, ![2, 2048, 8192]⟩
abbrev S2x8192x512 : Shape := ⟨3, ![2, 8192, 512]⟩
abbrev S2x256x8192 : Shape := ⟨3, ![2, 256, 8192]⟩
abbrev S2x1024x8192 : Shape := ⟨3, ![2, 1024, 8192]⟩
abbrev S2x4x4x128x8192 : Shape := ⟨5, ![2, 4, 4, 128, 8192]⟩
abbrev S2x8192x4x128 : Shape := ⟨4, ![2, 8192, 4, 128]⟩
abbrev S2x4x64x8192 : Shape := ⟨4, ![2, 4, 64, 8192]⟩
abbrev S2x4x4x8192x8192 : Shape := ⟨5, ![2, 4, 4, 8192, 8192]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1x1x1x8192x8192 : Shape := ⟨5, ![1, 1, 1, 8192, 8192]⟩
abbrev S2x4x4x8192 : Shape := ⟨4, ![2, 4, 4, 8192]⟩
abbrev S2x4x4x8192x1 : Shape := ⟨5, ![2, 4, 4, 8192, 1]⟩
abbrev S2x4x64x4x8192 : Shape := ⟨5, ![2, 4, 64, 4, 8192]⟩
abbrev S2x4x4x64x8192 : Shape := ⟨5, ![2, 4, 4, 64, 8192]⟩

abbrev nBuf : Space → Nat
  | .hbm => 55
  | .vmem => 0
  | .smem => 0
  | _ => 0

abbrev bufTy : (tb : Table) → Fin (tcTables nBuf tb) → BufTy
  | .hbm, ⟨0, _⟩ => ⟨S2x2048x8192, .bf16⟩
  | .hbm, ⟨1, _⟩ => ⟨S2x8192x512, .bf16⟩
  | .hbm, ⟨2, _⟩ => ⟨S2x256x8192, .bf16⟩
  | .hbm, ⟨3, _⟩ => ⟨S2x1024x8192, .f32⟩
  | .hbm, ⟨4, _⟩ => ⟨S2x2048x8192, .f32⟩
  | .hbm, ⟨5, _⟩ => ⟨S2x4x4x128x8192, .f32⟩
  | .hbm, ⟨6, _⟩ => ⟨S2x8192x512, .f32⟩
  | .hbm, ⟨7, _⟩ => ⟨S2x8192x4x128, .f32⟩
  | .hbm, ⟨8, _⟩ => ⟨S2x256x8192, .f32⟩
  | .hbm, ⟨9, _⟩ => ⟨S2x4x64x8192, .f32⟩
  | .hbm, ⟨10, _⟩ => ⟨S2x4x4x8192x8192, .f32⟩
  | .hbm, ⟨11, _⟩ => ⟨S_, .f32⟩
  | .hbm, ⟨12, _⟩ => ⟨S_, .f32⟩
  | .hbm, ⟨13, _⟩ => ⟨S2x4x4x8192x8192, .f32⟩
  | .hbm, ⟨14, _⟩ => ⟨S2x4x4x8192x8192, .f32⟩
  | .hbm, ⟨15, _⟩ => ⟨S8192, .i32⟩
  | .hbm, ⟨16, _⟩ => ⟨S8192x1, .i32⟩
  | .hbm, ⟨17, _⟩ => ⟨S1x8192, .i32⟩
  | .hbm, ⟨18, _⟩ => ⟨S8192x8192, .i32⟩
  | .hbm, ⟨19, _⟩ => ⟨S8192x8192, .i32⟩
  | .hbm, ⟨20, _⟩ => ⟨S8192x8192, .i1⟩
  | .hbm, ⟨21, _⟩ => ⟨S1x1x1x8192x8192, .i1⟩
  | .hbm, ⟨22, _⟩ => ⟨S_, .f32⟩
  | .hbm, ⟨23, _⟩ => ⟨S_, .f32⟩
  | .hbm, ⟨24, _⟩ => ⟨S2x4x4x8192x8192, .i1⟩
  | .hbm, ⟨25, _⟩ => ⟨S2x4x4x8192x8192, .f32⟩
  | .hbm, ⟨26, _⟩ => ⟨S2x4x4x8192x8192, .f32⟩
  | .hbm, ⟨27, _⟩ => ⟨S_, .f32⟩
  | .hbm, ⟨28, _⟩ => ⟨S2x4x4x8192, .f32⟩
  | .hbm, ⟨29, _⟩ => ⟨S_, .f32⟩
  | .hbm, ⟨30, _⟩ => ⟨S2x4x4x8192, .f32⟩
  | .hbm, ⟨31, _⟩ => ⟨S2x4x4x8192, .f32⟩
  | .hbm, ⟨32, _⟩ => ⟨S2x4x4x8192x1, .f32⟩
  | .hbm, ⟨33, _⟩ => ⟨S2x4x4x8192x8192, .f32⟩
  | .hbm, ⟨34, _⟩ => ⟨S2x4x4x8192x8192, .f32⟩
  | .hbm, ⟨35, _⟩ => ⟨S2x4x4x8192x8192, .f32⟩
  | .hbm, ⟨36, _⟩ => ⟨S_, .f32⟩
  | .hbm, ⟨37, _⟩ => ⟨S2x4x4x8192, .f32⟩
  | .hbm, ⟨38, _⟩ => ⟨S2x4x4x8192x1, .f32⟩
  | .hbm, ⟨39, _⟩ => ⟨S2x4x4x8192x8192, .f32⟩
  | .hbm, ⟨40, _⟩ => ⟨S2x4x4x8192x8192, .f32⟩
  | .hbm, ⟨41, _⟩ => ⟨S2x4x64x4x8192, .f32⟩
  | .hbm, ⟨42, _⟩ => ⟨S2x4x4x64x8192, .f32⟩
  | .hbm, ⟨43, _⟩ => ⟨S2x1024x8192, .f32⟩
  | .hbm, ⟨44, _⟩ => ⟨S2x1024x8192, .f32⟩
  | .hbm, ⟨45, _⟩ => ⟨S2x1024x8192, .f32⟩
  | .hbm, ⟨46, _⟩ => ⟨S_, .f32⟩
  | .hbm, ⟨47, _⟩ => ⟨S2x1024x8192, .f32⟩
  | .hbm, ⟨48, _⟩ => ⟨S2x1024x8192, .f32⟩
  | .hbm, ⟨49, _⟩ => ⟨S_, .f32⟩
  | .hbm, ⟨50, _⟩ => ⟨S2x1024x8192, .f32⟩
  | .hbm, ⟨51, _⟩ => ⟨S2x1024x8192, .f32⟩
  | .hbm, ⟨52, _⟩ => ⟨S2x1024x8192, .f32⟩
  | .hbm, ⟨53, _⟩ => ⟨S2x1024x8192, .f32⟩
  | .hbm, ⟨54, _⟩ => ⟨S2x1024x8192, .bf16⟩
  | _, _ => ⟨S2x2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_call1_v0 : Ref sig .tc := ⟨.hbm, 44, rfl⟩
abbrev main_call1_v1 : Ref sig .tc := ⟨.hbm, 45, rfl⟩
abbrev main_call1_cst : Ref sig .tc := ⟨.hbm, 46, rfl⟩
abbrev main_call1_v2 : Ref sig .tc := ⟨.hbm, 47, rfl⟩
abbrev main_call1_v3 : Ref sig .tc := ⟨.hbm, 48, rfl⟩
abbrev main_call1_cst_0 : Ref sig .tc := ⟨.hbm, 49, rfl⟩
abbrev main_call1_v4 : Ref sig .tc := ⟨.hbm, 50, rfl⟩
abbrev main_call1_v5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩

abbrev nD : Nat := 1
abbrev τ : Topo := Topo.v7x

variable {F : FTy → Type} [FloatOps F]
-- ==== OutProj.lean ====
abbrev S2x1024x8192 : Shape := ⟨3, ![2, 1024, 8192]⟩
abbrev S1024x1024 : Shape := ⟨2, ![1024, 1024]⟩
abbrev S1024 : Shape := ⟨1, ![1024]⟩
abbrev S2x8192x1024 : Shape := ⟨3, ![2, 8192, 1024]⟩
abbrev S1x1024 : Shape := ⟨2, ![1, 1024]⟩
abbrev S1x1024x512 : Shape := ⟨3, ![1, 1024, 512]⟩
abbrev S1x512x1024 : Shape := ⟨3, ![1, 512, 1024]⟩
abbrev S1024x512 : Shape := ⟨2, ![1024, 512]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S2x1024x8192, .bf16⟩
  | .hbm, ⟨1, _⟩ => ⟨S1024x1024, .f32⟩
  | .hbm, ⟨2, _⟩ => ⟨S1024, .f32⟩
  | .hbm, ⟨3, _⟩ => ⟨S2x8192x1024, .f32⟩
  | .hbm, ⟨4, _⟩ => ⟨S1024x1024, .bf16⟩
  | .hbm, ⟨5, _⟩ => ⟨S1x1024, .f32⟩
  | .hbm, ⟨6, _⟩ => ⟨S2x8192x1024, .f32⟩
  | .local _ .vmem, ⟨0, _⟩ => ⟨S1x1024x512, .bf16⟩
  | .local _ .vmem, ⟨1, _⟩ => ⟨S1x1024x512, .bf16⟩
  | .local _ .vmem, ⟨2, _⟩ => ⟨S1024x1024, .bf16⟩
  | .local _ .vmem, ⟨3, _⟩ => ⟨S1x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | _, _ => ⟨S2x1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutProjReferenceIdeal.lean ====
abbrev S2x1024x8192 : Shape := ⟨3, ![2, 1024, 8192]⟩
abbrev S1024x1024 : Shape := ⟨2, ![1024, 1024]⟩
abbrev S1024 : Shape := ⟨1, ![1024]⟩
abbrev S2x8192x1024 : Shape := ⟨3, ![2, 8192, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩

abbrev nBuf : Space → Nat
  | .hbm => 24
  | .vmem => 0
  | .smem => 0
  | _ => 0

abbrev bufTy : (tb : Table) → Fin (tcTables nBuf tb) → BufTy
  | .hbm, ⟨0, _⟩ => ⟨S2x1024x8192, .bf16⟩
  | .hbm, ⟨1, _⟩ => ⟨S1024x1024, .f32⟩
  | .hbm, ⟨2, _⟩ => ⟨S1024, .f32⟩
  | .hbm, ⟨3, _⟩ => ⟨S2x8192x1024, .f32⟩
  | .hbm, ⟨4, _⟩ => ⟨S2x1024x8192, .f32⟩
  | .hbm, ⟨5, _⟩ => ⟨S2x8192x1024, .f32⟩
  | .hbm, ⟨6, _⟩ => ⟨S2x8192x1024, .f32⟩
  | .hbm, ⟨7, _⟩ => ⟨S2x8192x1024, .f32⟩
  | .hbm, ⟨8, _⟩ => ⟨S_, .f32⟩
  | .hbm, ⟨9, _⟩ => ⟨S2x8192, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S2x8192x1, .f32⟩
  | .hbm, ⟨18, _⟩ => ⟨S2x8192x1024, .f32⟩
  | .hbm, ⟨19, _⟩ => ⟨S2x8192x1024, .f32⟩
  | .hbm, ⟨20, _⟩ => ⟨S1x1x1024, .f32⟩
  | .hbm, ⟨21, _⟩ => ⟨S2x8192x1024, .f32⟩
  | .hbm, ⟨22, _⟩ => ⟨S2x8192x1024, .f32⟩
  | .hbm, ⟨23, _⟩ => ⟨S2x8192x1024, .f32⟩
  | _, _ => ⟨S2x1024x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== SwaProj.lean ====
abbrev S2x8192x1024 : Shape := ⟨3, ![2, 8192, 1024]⟩
abbrev S1024 : Shape := ⟨1, ![1024]⟩
abbrev S1024x2560 : Shape := ⟨2, ![1024, 2560]⟩
abbrev S1x1024 : Shape := ⟨2, ![1, 1024]⟩
abbrev S2560x1024 : Shape := ⟨2, ![2560, 1024]⟩
abbrev S1024x256 : Shape := ⟨2, ![1024, 256]⟩
abbrev S2x2048x8192 : Shape := ⟨3, ![2, 2048, 8192]⟩
abbrev S2x1024x8192 : Shape := ⟨3, ![2, 1024, 8192]⟩
abbrev S2x256x8192 : Shape := ⟨3, ![2, 256, 8192]⟩
abbrev S2x8192x512 : Shape := ⟨3, ![2, 8192, 512]⟩
abbrev S1x256x1024 : Shape := ⟨3, ![1, 256, 1024]⟩
abbrev S1x2048x256 : Shape := ⟨3, ![1, 2048, 256]⟩
abbrev S1x1024x256 : Shape := ⟨3, ![1, 1024, 256]⟩
abbrev S1x256x256 : Shape := ⟨3, ![1, 256, 256]⟩
abbrev S1x256x512 : Shape := ⟨3, ![1, 256, 512]⟩
abbrev S256x1024 : Shape := ⟨2, ![256, 1024]⟩
abbrev S256 : Shape := ⟨1, ![256]⟩
abbrev S256x1 : Shape := ⟨2, ![256, 1]⟩
abbrev S2560x256 : Shape := ⟨2, ![2560, 256]⟩
abbrev S256x256 : Shape := ⟨2, ![256, 256]⟩
abbrev S64x256 : Shape := ⟨2, ![64, 256]⟩
abbrev S1x64x256 : Shape := ⟨3, ![1, 64, 256]⟩
abbrev S256x128 : Shape := ⟨2, ![256, 128]⟩
abbrev S1x256x128 : Shape := ⟨3, ![1, 256, 128]⟩

abbrev nBuf : Space → Nat
  | .hbm => 14
  | .vmem => 17
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x2560, .f32⟩
  | .hbm, ⟨3, _⟩ => ⟨S1x1024, .f32⟩
  | .hbm, ⟨4, _⟩ => ⟨S2560x1024, .f32⟩
  | .hbm, ⟨5, _⟩ => ⟨S2560x1024, .bf16⟩
  | .hbm, ⟨6, _⟩ => ⟨S1024x256, .f32⟩
  | .hbm, ⟨7, _⟩ => ⟨S1024x256, .bf16⟩
  | .hbm, ⟨8, _⟩ => ⟨S2x2048x8192, .bf16⟩
  | .hbm, ⟨9, _⟩ => ⟨S2x1024x8192, .f32⟩
  | .hbm, ⟨10, _⟩ => ⟨S2x256x8192, .f32⟩
  | .hbm, ⟨11, _⟩ => ⟨S2x256x8192, .f32⟩
  | .hbm, ⟨12, _⟩ => ⟨S2x8192x512, .bf16⟩
  | .hbm, ⟨13, _⟩ => ⟨S2x256x8192, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S2560x1024, .bf16⟩
  | .local _ .vmem, ⟨4, _⟩ => ⟨S1024x256, .bf16⟩
  | .local _ .vmem, ⟨5, _⟩ => ⟨S1x2048x256, .bf16⟩
  | .local _ .vmem, ⟨6, _⟩ => ⟨S1x2048x256, .bf16⟩
  | .local _ .vmem, ⟨7, _⟩ => ⟨S1x1024x256, .f32⟩
  | .local _ .vmem, ⟨8, _⟩ => ⟨S1x1024x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x512, .bf16⟩
  | .local _ .vmem, ⟨14, _⟩ => ⟨S1x256x512, .bf16⟩
  | .local _ .vmem, ⟨15, _⟩ => ⟨S1x256x256, .bf16⟩
  | .local _ .vmem, ⟨16, _⟩ => ⟨S1x256x256, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev main_v5_3 : Ref sig .tc := ⟨.hbm, 11, rfl⟩
abbrev main_v5_4 : Ref sig .tc := ⟨.hbm, 12, rfl⟩
abbrev main_v5_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2560x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== SwaProjReferenceIdeal.lean ====
abbrev S2x8192x1024 : Shape := ⟨3, ![2, 8192, 1024]⟩
abbrev S1024 : Shape := ⟨1, ![1024]⟩
abbrev S1024x2560 : Shape := ⟨2, ![1024, 2560]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2560 : Shape := ⟨3, ![2, 8192, 2560]⟩
abbrev S2x8192x16x64 : Shape := ⟨4, ![2, 8192, 16, 64]⟩
abbrev S2x8192x256 : Shape := ⟨3, ![2, 8192, 256]⟩
abbrev S2x8192x16x128 : Shape := ⟨4, ![2, 8192, 16, 128]⟩
abbrev S2x8192x2048 : Shape := ⟨3, ![2, 8192, 2048]⟩
abbrev S2x2048x8192 : Shape := ⟨3, ![2, 2048, 8192]⟩
abbrev S2x8192x4x64 : Shape := ⟨4, ![2, 8192, 4, 64]⟩
abbrev S2x8192x4x128 : Shape := ⟨4, ![2, 8192, 4, 128]⟩
abbrev S2x8192x512 : Shape := ⟨3, ![2, 8192, 512]⟩
abbrev S2x1024x8192 : Shape := ⟨3, ![2, 1024, 8192]⟩
abbrev S2x256x8192 : Shape := ⟨3, ![2, 256, 8192]⟩

abbrev nBuf : Space → Nat
  | .hbm => 45
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x2560, .f32⟩
  | .hbm, ⟨3, _⟩ => ⟨S2x8192x1024, .f32⟩
  | .hbm, ⟨4, _⟩ => ⟨S_, .f32⟩
  | .hbm, ⟨5, _⟩ => ⟨S2x8192, .f32⟩
  | .hbm, ⟨6, _⟩ => ⟨S2x8192x1, .f32⟩
  | .hbm, ⟨7, _⟩ => ⟨S_, .f32⟩
  | .hbm, ⟨8, _⟩ => ⟨S2x8192x1, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S2x8192x1, .f32⟩
  | .hbm, ⟨14, _⟩ => ⟨S2x8192x1024, .f32⟩
  | .hbm, ⟨15, _⟩ => ⟨S2x8192x1024, .f32⟩
  | .hbm, ⟨16, _⟩ => ⟨S1x1x1024, .f32⟩
  | .hbm, ⟨17, _⟩ => ⟨S2x8192x1024, .f32⟩
  | .hbm, ⟨18, _⟩ => ⟨S2x8192x1024, .f32⟩
  | .hbm, ⟨19, _⟩ => ⟨S2x8192x2560, .f32⟩
  | .hbm, ⟨20, _⟩ => ⟨S2x8192x1024, .f32⟩
  | .hbm, ⟨21, _⟩ => ⟨S2x8192x16x64, .f32⟩
  | .hbm, ⟨22, _⟩ => ⟨S2x8192x256, .f32⟩
  | .hbm, ⟨23, _⟩ => ⟨S2x8192x256, .f32⟩
  | .hbm, ⟨24, _⟩ => ⟨S2x8192x1024, .f32⟩
  | .hbm, ⟨25, _⟩ => ⟨S_, .f32⟩
  | .hbm, ⟨26, _⟩ => ⟨S2x8192x16x64, .f32⟩
  | .hbm, ⟨27, _⟩ => ⟨S2x8192x16x64, .f32⟩
  | .hbm, ⟨28, _⟩ => ⟨S_, .i32⟩
  | .hbm, ⟨29, _⟩ => ⟨S_, .f32⟩
  | .hbm, ⟨30, _⟩ => ⟨S2x8192x16x128, .f32⟩
  | .hbm, ⟨31, _⟩ => ⟨S2x8192x2048, .f32⟩
  | .hbm, ⟨32, _⟩ => ⟨S2x2048x8192, .f32⟩
  | .hbm, ⟨33, _⟩ => ⟨S2x2048x8192, .bf16⟩
  | .hbm, ⟨34, _⟩ => ⟨S2x8192x4x64, .f32⟩
  | .hbm, ⟨35, _⟩ => ⟨S_, .i32⟩
  | .hbm, ⟨36, _⟩ => ⟨S_, .f32⟩
  | .hbm, ⟨37, _⟩ => ⟨S2x8192x4x128, .f32⟩
  | .hbm, ⟨38, _⟩ => ⟨S2x8192x512, .f32⟩
  | .hbm, ⟨39, _⟩ => ⟨S2x8192x512, .bf16⟩
  | .hbm, ⟨40, _⟩ => ⟨S2x1024x8192, .f32⟩
  | .hbm, ⟨41, _⟩ => ⟨S2x256x8192, .f32⟩
  | .hbm, ⟨42, _⟩ => ⟨S2x256x8192, .f32⟩
  | .hbm, ⟨43, _⟩ => ⟨S2x256x8192, .f32⟩
  | .hbm, ⟨44, _⟩ => ⟨S2x256x8192, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_c : Ref sig .tc := ⟨.hbm, 28, rfl⟩
abbrev main_call0_v0 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_3 : Ref sig .tc := ⟨.hbm, 35, rfl⟩
abbrev main_call1_v0 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== FoxProj.lean ====
abbrev S2x8192x1024 : Shape := ⟨3, ![2, 8192, 1024]⟩
abbrev S1024 : Shape := ⟨1, ![1024]⟩
abbrev S1024x2576 : Shape := ⟨2, ![1024, 2576]⟩
abbrev S16 : Shape := ⟨1, ![16]⟩
abbrev S1x1024 : Shape := ⟨2, ![1, 1024]⟩
abbrev S1024x2560 : Shape := ⟨2, ![1024, 2560]⟩
abbrev S2560x1024 : Shape := ⟨2, ![2560, 1024]⟩
abbrev S1024x256 : Shape := ⟨2, ![1024, 256]⟩
abbrev S1024x16 : Shape := ⟨2, ![1024, 16]⟩
abbrev S_ : Shape := ⟨0, ![]⟩
abbrev S1024x128 : Shape := ⟨2, ![1024, 128]⟩
abbrev S16x1024 : Shape := ⟨2, ![16, 1024]⟩
abbrev S128 : Shape := ⟨1, ![128]⟩
abbrev S1x128 : Shape := ⟨2, ![1, 128]⟩
abbrev S16x1 : Shape := ⟨2, ![16, 1]⟩
abbrev S384 : Shape := ⟨1, ![384]⟩
abbrev S384x1 : Shape := ⟨2, ![384, 1]⟩
abbrev S512 : Shape := ⟨1, ![512]⟩
abbrev S1x512 : Shape := ⟨2, ![1, 512]⟩
abbrev S384x512 : Shape := ⟨2, ![384, 512]⟩
abbrev S1024x1 : Shape := ⟨2, ![1024, 1]⟩
abbrev S2x2048x8192 : Shape := ⟨3, ![2, 2048, 8192]⟩
abbrev S2x1024x8192 : Shape := ⟨3, ![2, 1024, 8192]⟩
abbrev S2x256x8192 : Shape := ⟨3, ![2, 256, 8192]⟩
abbrev S2x8192x512 : Shape := ⟨3, ![2, 8192, 512]⟩
abbrev S2x16x8192 : Shape := ⟨3, ![2, 16, 8192]⟩
abbrev S1x256x1024 : Shape := ⟨3, ![1, 256, 1024]⟩
abbrev S1x2048x256 : Shape := ⟨3, ![1, 2048, 256]⟩
abbrev S1x1024x256 : Shape := ⟨3, ![1, 1024, 256]⟩
abbrev S1x256x256 : Shape := ⟨3, ![1, 256, 256]⟩
abbrev S1x256x512 : Shape := ⟨3, ![1, 256, 512]⟩
abbrev S1x16x256 : Shape := ⟨3, ![1, 16, 256]⟩
abbrev S256x1024 : Shape := ⟨2, ![256, 1024]⟩
abbrev S256 : Shape := ⟨1, ![256]⟩
abbrev S256x1 : Shape := ⟨2, ![256, 1]⟩
abbrev S2560x256 : Shape := ⟨2, ![2560, 256]⟩
abbrev S256x256 : Shape := ⟨2, ![256, 256]⟩
abbrev S256x128 : Shape := ⟨2, ![256, 128]⟩
abbrev S16x256 : Shape := ⟨2, ![16, 256]⟩
abbrev S256x384 : Shape := ⟨2, ![256, 384]⟩
abbrev S256x512 : Shape := ⟨2, ![256, 512]⟩
abbrev S80x256 : Shape := ⟨2, ![80, 256]⟩
abbrev S128x256 : Shape := ⟨2, ![128, 256]⟩
abbrev S64x256 : Shape := ⟨2, ![64, 256]⟩
abbrev S1x64x256 : Shape := ⟨3, ![1, 64, 256]⟩
abbrev S1x256x128 : Shape := ⟨3, ![1, 256, 128]⟩

abbrev nBuf : Space → Nat
  | .hbm => 138
  | .vmem => 29
  | .smem => 0
  | _ => 0

abbrev hbmTy0_0 (i : Nat) : BufTy := match i % 128 with
  | 0 => ⟨S2x8192x1024, .f32⟩
  | 1 => ⟨S1024, .f32⟩
  | 2 => ⟨S1024x2576, .f32⟩
  | 3 => ⟨S16, .f32⟩
  | 4 => ⟨S1x1024, .f32⟩
  | 5 => ⟨S1024x2560, .f32⟩
  | 6 => ⟨S2560x1024, .f32⟩
  | 7 => ⟨S2560x1024, .bf16⟩
  | 8 => ⟨S1024x256, .f32⟩
  | 9 => ⟨S1024x256, .bf16⟩
  | 10 => ⟨S1024x16, .f32⟩
  | 11 => ⟨S_, .i32⟩
  | 12 => ⟨S_, .f32⟩
  | 13 => ⟨S1024x128, .f32⟩
  | 14 => ⟨S1024x128, .bf16⟩
  | 15 => ⟨S16x1024, .f32⟩
  | 16 => ⟨S16x1024, .bf16⟩
  | 17 => ⟨S_, .i32⟩
  | 18 => ⟨S_, .f32⟩
  | 19 => ⟨S128, .f32⟩
  | 20 => ⟨S1x128, .f32⟩
  | 21 => ⟨S16x1, .f32⟩
  | 22 => ⟨S384, .i32⟩
  | 23 => ⟨S_, .i32⟩
  | 24 => ⟨S384, .i32⟩
  | 25 => ⟨S384, .i32⟩
  | 26 => ⟨S_, .i32⟩
  | 27 => ⟨S384, .i32⟩
  | 28 => ⟨S384, .i32⟩
  | 29 => ⟨S_, .i32⟩
  | 30 => ⟨S384, .i32⟩
  | 31 => ⟨S384, .i32⟩
  | 32 => ⟨S_, .i32⟩
  | 33 => ⟨S384, .i32⟩
  | 34 => ⟨S384, .i32⟩
  | 35 => ⟨S_, .i32⟩
  | 36 => ⟨S384, .i32⟩
  | 37 => ⟨S384, .i32⟩
  | 38 => ⟨S_, .i32⟩
  | 39 => ⟨S384, .i32⟩
  | 40 => ⟨S384, .i32⟩
  | 41 => ⟨S_, .i32⟩
  | 42 => ⟨S384, .i32⟩
  | 43 => ⟨S384, .i32⟩
  | 44 => ⟨S384, .i32⟩
  | 45 => ⟨S384, .i32⟩
  | 46 => ⟨S384x1, .i32⟩
  | 47 => ⟨S512, .i32⟩
  | 48 => ⟨S1x512, .i32⟩
  | 49 => ⟨S384x512, .i32⟩
  | 50 => ⟨S384x512, .i32⟩
  | 51 => ⟨S384x512, .i1⟩
  | 52 => ⟨S_, .f32⟩
  | 53 => ⟨S_, .f32⟩
  | 54 => ⟨S384x512, .f32⟩
  | 55 => ⟨S384x512, .f32⟩
  | 56 => ⟨S384x512, .f32⟩
  | 57 => ⟨S384x512, .bf16⟩
  | 58 => ⟨S512, .i32⟩
  | 59 => ⟨S_, .i32⟩
  | 60 => ⟨S512, .i32⟩
  | 61 => ⟨S512, .i32⟩
  | 62 => ⟨S_, .i32⟩
  | 63 => ⟨S512, .i32⟩
  | 64 => ⟨S512, .i1⟩
  | 65 => ⟨S_, .i32⟩
  | 66 => ⟨S512, .i32⟩
  | 67 => ⟨S512, .i1⟩
  | 68 => ⟨S512, .i1⟩
  | 69 => ⟨S_, .f32⟩
  | 70 => ⟨S_, .f32⟩
  | 71 => ⟨S512, .f32⟩
  | 72 => ⟨S512, .f32⟩
  | 73 => ⟨S512, .f32⟩
  | 74 => ⟨S1x512, .f32⟩
  | 75 => ⟨S1024, .i32⟩
  | 76 => ⟨S_, .i32⟩
  | 77 => ⟨S1024, .i32⟩
  | 78 => ⟨S1024, .i32⟩
  | 79 => ⟨S_, .i32⟩
  | 80 => ⟨S1024, .i32⟩
  | 81 => ⟨S1024, .i32⟩
  | 82 => ⟨S_, .i32⟩
  | 83 => ⟨S1024, .i32⟩
  | 84 => ⟨S1024, .i32⟩
  | 85 => ⟨S_, .i32⟩
  | 86 => ⟨S1024, .i32⟩
  | 87 => ⟨S1024, .i32⟩
  | 88 => ⟨S1024, .i32⟩
  | 89 => ⟨S1024x1, .i32⟩
  | 90 => ⟨S128, .i32⟩
  | 91 => ⟨S1x128, .i32⟩
  | 92 => ⟨S1024x128, .i32⟩
  | 93 => ⟨S1024x128, .i32⟩
  | 94 => ⟨S1024x128, .i1⟩
  | 95 => ⟨S_, .i32⟩
  | 96 => ⟨S1024, .i32⟩
  | 97 => ⟨S1024, .i1⟩
  | 98 => ⟨S1024x1, .i1⟩
  | 99 => ⟨S1024x128, .i1⟩
  | 100 => ⟨S1024x128, .i1⟩
  | 101 => ⟨S_, .f32⟩
  | 102 => ⟨S_, .f32⟩
  | 103 => ⟨S1024x128, .f32⟩
  | 104 => ⟨S1024x128, .f32⟩
  | 105 => ⟨S1024x128, .f32⟩
  | 106 => ⟨S_, .i32⟩
  | 107 => ⟨S1024, .i32⟩
  | 108 => ⟨S1024, .i32⟩
  | 109 => ⟨S_, .i32⟩
  | 110 => ⟨S1024, .i32⟩
  | 111 => ⟨S1024, .i32⟩
  | 112 => ⟨S1024, .i32⟩
  | 113 => ⟨S_, .i32⟩
  | 114 => ⟨S1024, .i32⟩
  | 115 => ⟨S1024, .i1⟩
  | 116 => ⟨S_, .i32⟩
  | 117 => ⟨S1024, .i32⟩
  | 118 => ⟨S1024, .i1⟩
  | 119 => ⟨S1024, .i1⟩
  | 120 => ⟨S_, .i32⟩
  | 121 => ⟨S1024, .i32⟩
  | 122 => ⟨S1024, .i1⟩
  | 123 => ⟨S1024, .i1⟩
  | 124 => ⟨S_, .f32⟩
  | 125 => ⟨S_, .f32⟩
  | 126 => ⟨S1024, .f32⟩
  | 127 => ⟨S1024, .f32⟩
  | _ => ⟨S2x8192x1024, .f32⟩

abbrev hbmTy0_1 (i : Nat) : BufTy := match i % 128 with
  | 0 => ⟨S1024, .f32⟩
  | 1 => ⟨S1024x1, .f32⟩
  | 2 => ⟨S1024x128, .bf16⟩
  | 3 => ⟨S2x2048x8192, .bf16⟩
  | 4 => ⟨S2x1024x8192, .f32⟩
  | 5 => ⟨S2x256x8192, .f32⟩
  | 6 => ⟨S2x256x8192, .f32⟩
  | 7 => ⟨S2x8192x512, .bf16⟩
  | 8 => ⟨S2x256x8192, .bf16⟩
  | 9 => ⟨S2x16x8192, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S2560x1024, .bf16⟩
  | .local _ .vmem, ⟨4, _⟩ => ⟨S1024x256, .bf16⟩
  | .local _ .vmem, ⟨5, _⟩ => ⟨S1024x128, .bf16⟩
  | .local _ .vmem, ⟨6, _⟩ => ⟨S16x1024, .bf16⟩
  | .local _ .vmem, ⟨7, _⟩ => ⟨S1x128, .f32⟩
  | .local _ .vmem, ⟨8, _⟩ => ⟨S16x1, .f32⟩
  | .local _ .vmem, ⟨9, _⟩ => ⟨S384x512, .bf16⟩
  | .local _ .vmem, ⟨10, _⟩ => ⟨S1x512, .f32⟩
  | .local _ .vmem, ⟨11, _⟩ => ⟨S1024x128, .bf16⟩
  | .local _ .vmem, ⟨12, _⟩ => ⟨S1024x1, .f32⟩
  | .local _ .vmem, ⟨13, _⟩ => ⟨S1x2048x256, .bf16⟩
  | .local _ .vmem, ⟨14, _⟩ => ⟨S1x2048x256, .bf16⟩
  | .local _ .vmem, ⟨15, _⟩ => ⟨S1x1024x256, .f32⟩
  | .local _ .vmem, ⟨16, _⟩ => ⟨S1x1024x256, .f32⟩
  | .local _ .vmem, ⟨17, _⟩ => ⟨S1x256x256, .f32⟩
  | .local _ .vmem, ⟨18, _⟩ => ⟨S1x256x256, .f32⟩
  | .local _ .vmem, ⟨19, _⟩ => ⟨S1x256x256, .f32⟩
  | .local _ .vmem, ⟨20, _⟩ => ⟨S1x256x256, .f32⟩
  | .local _ .vmem, ⟨21, _⟩ => ⟨S1x256x512, .bf16⟩
  | .local _ .vmem, ⟨22, _⟩ => ⟨S1x256x512, .bf16⟩
  | .local _ .vmem, ⟨23, _⟩ => ⟨S1x256x256, .bf16⟩
  | .local _ .vmem, ⟨24, _⟩ => ⟨S1x256x256, .bf16⟩
  | .local _ .vmem, ⟨25, _⟩ => ⟨S1x16x256, .f32⟩
  | .local _ .vmem, ⟨26, _⟩ => ⟨S1x16x256, .f32⟩
  | .local _ .vmem, ⟨27, _⟩ => ⟨S1x128, .f32⟩
  | .local _ .vmem, ⟨28, _⟩ => ⟨S16x1, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_call1_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_1 : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_v19 : Ref sig .tc := ⟨.hbm, 30, rfl⟩
abbrev main_v20 : Ref sig .tc := ⟨.hbm, 31, rfl⟩
abbrev main_c_4 : Ref sig .tc := ⟨.hbm, 32, rfl⟩
abbrev main_v21 : Ref sig .tc := ⟨.hbm, 33, rfl⟩
abbrev main_v22 : Ref sig .tc := ⟨.hbm, 34, rfl⟩
abbrev main_c_5 : Ref sig .tc := ⟨.hbm, 35, rfl⟩
abbrev main_v23 : Ref sig .tc := ⟨.hbm, 36, rfl⟩
abbrev main_v24 : Ref sig .tc := ⟨.hbm, 37, rfl⟩
abbrev main_c_6 : Ref sig .tc := ⟨.hbm, 38, rfl⟩
abbrev main_v25 : Ref sig .tc := ⟨.hbm, 39, rfl⟩
abbrev main_v26 : Ref sig .tc := ⟨.hbm, 40, rfl⟩
abbrev main_c_7 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst : Ref sig .tc := ⟨.hbm, 52, rfl⟩
abbrev main_cst_8 : Ref sig .tc := ⟨.hbm, 53, rfl⟩
abbrev main_call2_v0 : Ref sig .tc := ⟨.hbm, 54, rfl⟩
abbrev main_call2_v1 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_c_9 : Ref sig .tc := ⟨.hbm, 59, rfl⟩
abbrev main_v40 : Ref sig .tc := ⟨.hbm, 60, rfl⟩
abbrev main_v41 : Ref sig .tc := ⟨.hbm, 61, rfl⟩
abbrev main_c_10 : Ref sig .tc := ⟨.hbm, 62, rfl⟩
abbrev main_v42 : Ref sig .tc := ⟨.hbm, 63, rfl⟩
abbrev main_v43 : Ref sig .tc := ⟨.hbm, 64, rfl⟩
abbrev main_c_11 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_12 : Ref sig .tc := ⟨.hbm, 69, rfl⟩
abbrev main_cst_13 : Ref sig .tc := ⟨.hbm, 70, rfl⟩
abbrev main_call3_v0 : Ref sig .tc := ⟨.hbm, 71, rfl⟩
abbrev main_call3_v1 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_c_14 : Ref sig .tc := ⟨.hbm, 76, rfl⟩
abbrev main_v50 : Ref sig .tc := ⟨.hbm, 77, rfl⟩
abbrev main_v51 : Ref sig .tc := ⟨.hbm, 78, rfl⟩
abbrev main_c_15 : Ref sig .tc := ⟨.hbm, 79, rfl⟩
abbrev main_v52 : Ref sig .tc := ⟨.hbm, 80, rfl⟩
abbrev main_v53 : Ref sig .tc := ⟨.hbm, 81, rfl⟩
abbrev main_c_16 : Ref sig .tc := ⟨.hbm, 82, rfl⟩
abbrev main_v54 : Ref sig .tc := ⟨.hbm, 83, rfl⟩
abbrev main_v55 : Ref sig .tc := ⟨.hbm, 84, rfl⟩
abbrev main_c_17 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_c_18 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_19 : Ref sig .tc := ⟨.hbm, 101, rfl⟩
abbrev main_cst_20 : Ref sig .tc := ⟨.hbm, 102, rfl⟩
abbrev main_call4_v0 : Ref sig .tc := ⟨.hbm, 103, rfl⟩
abbrev main_call4_v1 : Ref sig .tc := ⟨.hbm, 104, rfl⟩
abbrev main_v70 : Ref sig .tc := ⟨.hbm, 105, rfl⟩
abbrev main_c_21 : Ref sig .tc := ⟨.hbm, 106, rfl⟩
abbrev main_v71 : Ref sig .tc := ⟨.hbm, 107, rfl⟩
abbrev main_v72 : Ref sig .tc := ⟨.hbm, 108, rfl⟩
abbrev main_c_22 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_c_23 : Ref sig .tc := ⟨.hbm, 113, rfl⟩
abbrev main_v76 : Ref sig .tc := ⟨.hbm, 114, rfl⟩
abbrev main_v77 : Ref sig .tc := ⟨.hbm, 115, rfl⟩
abbrev main_c_24 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_c_25 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_cst_26 : Ref sig .tc := ⟨.hbm, 124, rfl⟩
abbrev main_cst_27 : Ref sig .tc := ⟨.hbm, 125, rfl⟩
abbrev main_call5_v0 : Ref sig .tc := ⟨.hbm, 126, rfl⟩
abbrev main_call5_v1 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87_0 : Ref sig .tc := ⟨.hbm, 131, rfl⟩
abbrev main_v87_1 : Ref sig .tc := ⟨.hbm, 132, rfl⟩
abbrev main_v87_2 : Ref sig .tc := ⟨.hbm, 133, rfl⟩
abbrev main_v87_3 : Ref sig .tc := ⟨.hbm, 134, rfl⟩
abbrev main_v87_4 : Ref sig .tc := ⟨.hbm, 135, rfl⟩
abbrev main_v87_5 : Ref sig .tc := ⟨.hbm, 136, rfl⟩
abbrev main_v87_6 : Ref sig .tc := ⟨.hbm, 137, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_scratch0 : Ref sig .tc := ⟨.vmem, 27, rfl⟩
abbrev cc0_scratch1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2560x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S16x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S16x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S384x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x2048x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1024x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x256x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x16x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== FoxProjReferenceIdeal.lean ====
abbrev S2x8192x1024 : Shape := ⟨3, ![2, 8192, 1024]⟩
abbrev S1024 : Shape := ⟨1, ![1024]⟩
abbrev S1024x2576 : Shape := ⟨2, ![1024, 2576]⟩
abbrev S16 : Shape := ⟨1, ![16]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2576 : Shape := ⟨3, ![2, 8192, 2576]⟩
abbrev S2x8192x16x64 : Shape := ⟨4, ![2, 8192, 16, 64]⟩
abbrev S2x8192x256 : Shape := ⟨3, ![2, 8192, 256]⟩
abbrev S2x8192x16 : Shape := ⟨3, ![2, 8192, 16]⟩
abbrev S1x1x16 : Shape := ⟨3, ![1, 1, 16]⟩
abbrev S2x8192x16x1 : Shape := ⟨4, ![2, 8192, 16, 1]⟩
abbrev S2x8192x16x3 : Shape := ⟨4, ![2, 8192, 16, 3]⟩
abbrev S16x1 : Shape := ⟨2, ![16, 1]⟩
abbrev S4 : Shape := ⟨1, ![4]⟩
abbrev S1x4 : Shape := ⟨2, ![1, 4]⟩
abbrev S16x4 : Shape := ⟨2, ![16, 4]⟩
abbrev S1x1x16x4x1 : Shape := ⟨5, ![1, 1, 16, 4, 1]⟩
abbrev S2x8192x16x4x3 : Shape := ⟨5, ![2, 8192, 16, 4, 3]⟩
abbrev S2x8192x16x12 : Shape := ⟨4, ![2, 8192, 16, 12]⟩
abbrev S2x8192x16x49 : Shape := ⟨4, ![2, 8192, 16, 49]⟩
abbrev S2x8192x16x128 : Shape := ⟨4, ![2, 8192, 16, 128]⟩
abbrev S2x8192x4x64 : Shape := ⟨4, ![2, 8192, 4, 64]⟩
abbrev S2x8192x4x12 : Shape := ⟨4, ![2, 8192, 4, 12]⟩
abbrev S2x8192x4x3 : Shape := ⟨4, ![2, 8192, 4, 3]⟩
abbrev S2x8192x4x49 : Shape := ⟨4, ![2, 8192, 4, 49]⟩
abbrev S2x8192x4x128 : Shape := ⟨4, ![2, 8192, 4, 128]⟩
abbrev S2x8192x2048 : Shape := ⟨3, ![2, 8192, 2048]⟩
abbrev S2x2048x8192 : Shape := ⟨3, ![2, 2048, 8192]⟩
abbrev S2x1024x8192 : Shape := ⟨3, ![2, 1024, 8192]⟩
abbrev S2x256x8192 : Shape := ⟨3, ![2, 256, 8192]⟩
abbrev S2x8192x512 : Shape := ⟨3, ![2, 8192, 512]⟩
abbrev S2x16x8192 : Shape := ⟨3, ![2, 16, 8192]⟩

abbrev nBuf : Space → Nat
  | .hbm => 104
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x2576, .f32⟩
  | .hbm, ⟨3, _⟩ => ⟨S16, .f32⟩
  | .hbm, ⟨4, _⟩ => ⟨S2x8192x1024, .f32⟩
  | .hbm, ⟨5, _⟩ => ⟨S_, .f32⟩
  | .hbm, ⟨6, _⟩ => ⟨S2x8192, .f32⟩
  | .hbm, ⟨7, _⟩ => ⟨S2x8192x1, .f32⟩
  | .hbm, ⟨8, _⟩ => ⟨S_, .f32⟩
  | .hbm, ⟨9, _⟩ => ⟨S2x8192x1, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S2x8192x1, .f32⟩
  | .hbm, ⟨15, _⟩ => ⟨S2x8192x1024, .f32⟩
  | .hbm, ⟨16, _⟩ => ⟨S2x8192x1024, .f32⟩
  | .hbm, ⟨17, _⟩ => ⟨S1x1x1024, .f32⟩
  | .hbm, ⟨18, _⟩ => ⟨S2x8192x1024, .f32⟩
  | .hbm, ⟨19, _⟩ => ⟨S2x8192x1024, .f32⟩
  | .hbm, ⟨20, _⟩ => ⟨S2x8192x2576, .f32⟩
  | .hbm, ⟨21, _⟩ => ⟨S2x8192x1024, .f32⟩
  | .hbm, ⟨22, _⟩ => ⟨S2x8192x16x64, .f32⟩
  | .hbm, ⟨23, _⟩ => ⟨S2x8192x256, .f32⟩
  | .hbm, ⟨24, _⟩ => ⟨S2x8192x256, .f32⟩
  | .hbm, ⟨25, _⟩ => ⟨S2x8192x1024, .f32⟩
  | .hbm, ⟨26, _⟩ => ⟨S2x8192x16, .f32⟩
  | .hbm, ⟨27, _⟩ => ⟨S1x1x16, .f32⟩
  | .hbm, ⟨28, _⟩ => ⟨S2x8192x16, .f32⟩
  | .hbm, ⟨29, _⟩ => ⟨S2x8192x16, .f32⟩
  | .hbm, ⟨30, _⟩ => ⟨S2x8192x16, .f32⟩
  | .hbm, ⟨31, _⟩ => ⟨S_, .f32⟩
  | .hbm, ⟨32, _⟩ => ⟨S2x8192x16, .f32⟩
  | .hbm, ⟨33, _⟩ => ⟨S2x8192x16, .f32⟩
  | .hbm, ⟨34, _⟩ => ⟨S2x8192x16, .f32⟩
  | .hbm, ⟨35, _⟩ => ⟨S2x8192x16, .f32⟩
  | .hbm, ⟨36, _⟩ => ⟨S2x8192x16, .i1⟩
  | .hbm, ⟨37, _⟩ => ⟨S2x8192x16, .f32⟩
  | .hbm, ⟨38, _⟩ => ⟨S2x8192x16, .f32⟩
  | .hbm, ⟨39, _⟩ => ⟨S2x8192x16, .f32⟩
  | .hbm, ⟨40, _⟩ => ⟨S2x8192x16, .f32⟩
  | .hbm, ⟨41, _⟩ => ⟨S2x8192x16, .f32⟩
  | .hbm, ⟨42, _⟩ => ⟨S2x8192x16, .f32⟩
  | .hbm, ⟨43, _⟩ => ⟨S2x8192x16, .f32⟩
  | .hbm, ⟨44, _⟩ => ⟨S2x8192x16, .f32⟩
  | .hbm, ⟨45, _⟩ => ⟨S2x8192x16, .f32⟩
  | .hbm, ⟨46, _⟩ => ⟨S_, .f32⟩
  | .hbm, ⟨47, _⟩ => ⟨S_, .f32⟩
  | .hbm, ⟨48, _⟩ => ⟨S2x8192x16, .f32⟩
  | .hbm, ⟨49, _⟩ => ⟨S_, .f32⟩
  | .hbm, ⟨50, _⟩ => ⟨S2x8192x16, .f32⟩
  | .hbm, ⟨51, _⟩ => ⟨S2x8192x16, .f32⟩
  | .hbm, ⟨52, _⟩ => ⟨S2x8192x16, .bf16⟩
  | .hbm, ⟨53, _⟩ => ⟨S2x8192x16, .f32⟩
  | .hbm, ⟨54, _⟩ => ⟨S2x8192x16, .f32⟩
  | .hbm, ⟨55, _⟩ => ⟨S2x8192x16, .bf16⟩
  | .hbm, ⟨56, _⟩ => ⟨S2x8192x16, .f32⟩
  | .hbm, ⟨57, _⟩ => ⟨S2x8192x16, .f32⟩
  | .hbm, ⟨58, _⟩ => ⟨S2x8192x16, .f32⟩
  | .hbm, ⟨59, _⟩ => ⟨S2x8192x16, .bf16⟩
  | .hbm, ⟨60, _⟩ => ⟨S2x8192x16, .f32⟩
  | .hbm, ⟨61, _⟩ => ⟨S2x8192x16x1, .f32⟩
  | .hbm, ⟨62, _⟩ => ⟨S2x8192x16x1, .f32⟩
  | .hbm, ⟨63, _⟩ => ⟨S2x8192x16x1, .f32⟩
  | .hbm, ⟨64, _⟩ => ⟨S2x8192x16x3, .f32⟩
  | .hbm, ⟨65, _⟩ => ⟨S16, .i32⟩
  | .hbm, ⟨66, _⟩ => ⟨S16x1, .i32⟩
  | .hbm, ⟨67, _⟩ => ⟨S_, .i32⟩
  | .hbm, ⟨68, _⟩ => ⟨S16x1, .i32⟩
  | .hbm, ⟨69, _⟩ => ⟨S16x1, .i32⟩
  | .hbm, ⟨70, _⟩ => ⟨S4, .i32⟩
  | .hbm, ⟨71, _⟩ => ⟨S1x4, .i32⟩
  | .hbm, ⟨72, _⟩ => ⟨S16x4, .i32⟩
  | .hbm, ⟨73, _⟩ => ⟨S16x4, .i32⟩
  | .hbm, ⟨74, _⟩ => ⟨S16x4, .i1⟩
  | .hbm, ⟨75, _⟩ => ⟨S1x1x16x4x1, .i1⟩
  | .hbm, ⟨76, _⟩ => ⟨S2x8192x16x4x3, .i1⟩
  | .hbm, ⟨77, _⟩ => ⟨S2x8192x16x4x3, .f32⟩
  | .hbm, ⟨78, _⟩ => ⟨S_, .f32⟩
  | .hbm, ⟨79, _⟩ => ⟨S2x8192x16x64, .f32⟩
  | .hbm, ⟨80, _⟩ => ⟨S2x8192x16x64, .f32⟩
  | .hbm, ⟨81, _⟩ => ⟨S2x8192x16x12, .f32⟩
  | .hbm, ⟨82, _⟩ => ⟨S_, .f32⟩
  | .hbm, ⟨83, _⟩ => ⟨S2x8192x16x49, .f32⟩
  | .hbm, ⟨84, _⟩ => ⟨S2x8192x16x128, .f32⟩
  | .hbm, ⟨85, _⟩ => ⟨S2x8192x4x64, .f32⟩
  | .hbm, ⟨86, _⟩ => ⟨S2x8192x4x12, .f32⟩
  | .hbm, ⟨87, _⟩ => ⟨S2x8192x4x12, .f32⟩
  | .hbm, ⟨88, _⟩ => ⟨S_, .f32⟩
  | .hbm, ⟨89, _⟩ => ⟨S2x8192x4x3, .f32⟩
  | .hbm, ⟨90, _⟩ => ⟨S_, .f32⟩
  | .hbm, ⟨91, _⟩ => ⟨S2x8192x4x49, .f32⟩
  | .hbm, ⟨92, _⟩ => ⟨S2x8192x4x128, .f32⟩
  | .hbm, ⟨93, _⟩ => ⟨S2x8192x2048, .f32⟩
  | .hbm, ⟨94, _⟩ => ⟨S2x2048x8192, .f32⟩
  | .hbm, ⟨95, _⟩ => ⟨S2x2048x8192, .bf16⟩
  | .hbm, ⟨96, _⟩ => ⟨S2x1024x8192, .f32⟩
  | .hbm, ⟨97, _⟩ => ⟨S2x256x8192, .f32⟩
  | .hbm, ⟨98, _⟩ => ⟨S2x256x8192, .f32⟩
  | .hbm, ⟨99, _⟩ => ⟨S2x8192x512, .f32⟩
  | .hbm, ⟨100, _⟩ => ⟨S2x8192x512, .bf16⟩
  | .hbm, ⟨101, _⟩ => ⟨S2x256x8192, .f32⟩
  | .hbm, ⟨102, _⟩ => ⟨S2x256x8192, .bf16⟩
  | .hbm, ⟨103, _⟩ => ⟨S2x16x8192, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_call0_v0 : Ref sig .tc := ⟨.hbm, 30, rfl⟩
abbrev main_call0_call0_cst : Ref sig .tc := ⟨.hbm, 31, rfl⟩
abbrev main_call0_call0_v0 : Ref sig .tc := ⟨.hbm, 32, rfl⟩
abbrev main_call0_call0_v1 : Ref sig .tc := ⟨.hbm, 33, rfl⟩
abbrev main_call0_call0_v2 : Ref sig .tc := ⟨.hbm, 34, rfl⟩
abbrev main_call0_call0_v3 : Ref sig .tc := ⟨.hbm, 35, rfl⟩
abbrev main_call0_call0_v4 : Ref sig .tc := ⟨.hbm, 36, rfl⟩
abbrev main_call0_call0_v5 : Ref sig .tc := ⟨.hbm, 37, rfl⟩
abbrev main_call0_call0_v6 : Ref sig .tc := ⟨.hbm, 38, rfl⟩
abbrev main_call0_call0_v7 : Ref sig .tc := ⟨.hbm, 39, rfl⟩
abbrev main_call0_call0_v8 : Ref sig .tc := ⟨.hbm, 40, rfl⟩
abbrev main_call0_call0_v9 : Ref sig .tc := ⟨.hbm, 41, rfl⟩
abbrev main_call0_call0_v10 : Ref sig .tc := ⟨.hbm, 42, rfl⟩
abbrev main_call0_call0_v11 : Ref sig .tc := ⟨.hbm, 43, rfl⟩
abbrev main_call0_v1 : Ref sig .tc := ⟨.hbm, 44, rfl⟩
abbrev main_v23 : Ref sig .tc := ⟨.hbm, 45, rfl⟩
abbrev main_call1_call0_cst : Ref sig .tc := ⟨.hbm, 46, rfl⟩
abbrev main_call1_call0_v0 : Ref sig .tc := ⟨.hbm, 47, rfl⟩
abbrev main_v24 : Ref sig .tc := ⟨.hbm, 48, rfl⟩
abbrev main_cst_2 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_c : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_3 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_4 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_5 : Ref sig .tc := ⟨.hbm, 88, rfl⟩
abbrev main_v60 : Ref sig .tc := ⟨.hbm, 89, rfl⟩
abbrev main_cst_6 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩

abbrev nD : Nat := 1
abbrev τ : Topo := Topo.v7x

variable {F : FTy → Type} [FloatOps F]
-- ==== Proof.Kernel.Words.lean ====
/-
  The schedule of the flash call: its two prefetched tables (`qi`, the query block of each step, and `kj`, the key
  block), the pipeline at them, and what the body's two decisions read at a step say. Every fact about single steps
  that later modules need is decided here once, over all 272 steps.
-/
module

public import proofs.«01_k».proof.Defs
public import proofs.«01_k».proof.Proof.Gen.Kernel
public import proofs.«01_k».proof.Proof.Gen.Kernel.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

namespace Cert.Kernel.Flash

open Cert.Kernel Cert.Kernel.Gen
open Idealize.ShloMosaic
open Idealize.ShloMosaic.TcCoe Idealize.ShloMosaic.Tactic
open Idealize.SL Idealize.SL.RA Idealize.SL.BI
open Idealize.ShloMosaic.Pipeline (Dat Cfg Window)

/-- The tables and the scratch buffers the body is handed, whole. -/
abbrev tbQ : Memref sig .tc .smem S136 .i32 := Memref.whole main_c
abbrev tbK : Memref sig .tc .smem S136 .i32 := Memref.whole main_c_0
abbrev scM : Memref sig .tc .vmem S16x1x512 .f32 := Memref.whole cc0_scratch0
abbrev scL : Memref sig .tc .vmem S16x1x512 .f32 := Memref.whole cc0_scratch1
abbrev scA : Memref sig .tc .vmem S16x64x512 .f32 := Memref.whole cc0_scratch2

/-- The query block of step `n`, counted along the rows of the lower triangle: row `i` holds the steps
    `i (i + 1) / 2 ≤ n < (i + 1) (i + 2) / 2`. -/
def rowOf (n : ℕ) : ℕ := (List.range 15).countP fun i => (i + 1) * (i + 2) / 2 ≤ n
/-- The key block of step `n`: its place in the row. -/
def colOf (n : ℕ) : ℕ := n - rowOf n * (rowOf n + 1) / 2

/-- What the host writes into the two tables. -/
def tabQ : S136.Idx → BitVec 32 := fun x => BitVec.ofNat 32 (rowOf (x 0).val)
def tabK : S136.Idx → BitVec 32 := fun x => BitVec.ofNat 32 (colOf (x 0).val)

theorem lit0_eq : ∀ n : Fin 136, lit0 n = BitVec.ofNat 32 (rowOf n.val) := by decide +kernel
theorem lit1_eq : ∀ n : Fin 136, lit1 n = BitVec.ofNat 32 (colOf n.val) := by decide +kernel

theorem tabQ_eq : (fun i => lit0 (S136.rowMajor i)) = tabQ :=
  funext fun x => (lit0_eq (S136.rowMajor x)).trans
    (congrArg (fun n => BitVec.ofNat 32 (rowOf n)) (Shape.rowMajor_val_one x))
theorem tabK_eq : (fun i => lit1 (S136.rowMajor i)) = tabK :=
  funext fun x => (lit1_eq (S136.rowMajor x)).trans
    (congrArg (fun n => BitVec.ofNat 32 (colOf n)) (Shape.rowMajor_val_one x))

set_option backward.proofsInPublic true in
/-- The tables' contents, as the pipeline takes them. -/
def tabs : pre0.Contents (Elt Bits) := fun | ⟨0, _⟩ => tabQ | ⟨1, _⟩ => tabK | ⟨_ + 2, h⟩ => absurd h (by simp)

/-! ## The side condition of the pipeline at the tables: every block lies inside its array -/

theorem inb0 : ∀ i : grid0.Coords, ∀ a, (cc0_transform_0 k0_off1_inb numel1_S1 tabs i a + 1) * S1x2048x512.size a ≤ S2x2048x8192.size a := by
  decide +kernel
theorem inb1 : ∀ i : grid0.Coords, ∀ a, (cc0_transform_1 k0_off1_inb numel1_S1 tabs i a + 1) * S1x512x512.size a ≤ S2x8192x512.size a := by
  decide +kernel
theorem inb2 : ∀ i : grid0.Coords, ∀ a, (cc0_transform_2 k0_off1_inb numel1_S1 tabs i a + 1) * S1x256x512.size a ≤ S2x256x8192.size a := by
  decide +kernel
theorem inb3 : ∀ i : grid0.Coords, ∀ a, (cc0_transform_3 k0_off1_inb numel1_S1 tabs i a + 1) * S1x1024x512.size a ≤ S2x1024x8192.size a := by
  decide +kernel
theorem inb4 : ∀ i : grid0.Coords, ∀ a, (cc0_transform_4 k0_off1_inb numel1_S1 tabs i a + 1) * S1x1024x512.size a ≤ S2x1024x8192.size a := by
  decide +kernel

theorem ok_tabs : ok0 (F := Bits) tabs :=
  ⟨fun i => ⟨inb0 i, .inr (Affine.block_words_dvd (s := S2x2048x8192) (p := EltTy.packing .bf16) (by decide) (by decide))⟩,
   fun i => ⟨inb1 i, .inr (Affine.block_words_dvd (s := S2x8192x512) (p := EltTy.packing .bf16) (by decide) (by decide))⟩,
   fun i => ⟨inb2 i, .inr (Affine.block_words_dvd (s := S2x256x8192) (p := EltTy.packing .bf16) (by decide) (by decide))⟩,
   fun i => ⟨inb3 i, .inl rfl⟩,
   fun i => ⟨inb4 i, .inr (Affine.block_words_dvd (s := S2x1024x8192) (p := EltTy.packing .bf16) (by decide) (by decide))⟩⟩

/-- The pipeline at the tables. -/
def adm : (pcfg0 (F := Bits)).Adm := ⟨tabs, ok_tabs⟩
abbrev cfgA : Pipeline.Cfg sig Λ₀ := cfg0 (F := Bits) adm
abbrev pcs : Fin 1 → Pipeline.Cfg sig Λ₀ := Pipeline.pin (pcfgs (F := Bits)) fun _ => adm

/-- Step `t`'s coordinates. -/
abbrev crd (t : Fin cfgA.N) : cfgA.grid.Coords := cfgA.grid.coords t

/-! ## What the body reads of the tables, and its decisions -/

/-- The words the body reads at coordinates `i`, of tables holding `T`. -/
abbrev wordQ (T : S136.Idx → Elt Bits .i32) (i : grid0.Coords) : BitVec 32 :=
  View.readAt (Elt Bits) tbQ.view (Rect.unit (s := S136) (k0_off1 i) S1.size (k0_off1_inb i)).toLoadRect T (Shape.Idx.first (numel1_S1.symm ▸ Nat.one_pos))
abbrev wordK (T : S136.Idx → Elt Bits .i32) (i : grid0.Coords) : BitVec 32 :=
  View.readAt (Elt Bits) tbK.view (Rect.unit (s := S136) (k0_off1 i) S1.size (k0_off1_inb i)).toLoadRect T (Shape.Idx.first (numel1_S1.symm ▸ Nat.one_pos))

/-- The body's first decision (the first key block of a row) and its second (a key block before the diagonal). -/
abbrev IsFirst (k : BitVec 32) : Prop := Scalar.cmpi .ne (Scalar.extui (Scalar.cmpi .eq k 0#32)) 0#32 = 1#1
abbrev IsFull (q k : BitVec 32) : Prop := Scalar.cmpi .ne (Scalar.extui (Scalar.cmpi .slt k q)) 0#32 = 1#1

/-- Step `t` is the first of its row; step `t` lies before the diagonal. -/
abbrev AtFirst (t : Fin cfgA.N) : Prop := IsFirst (wordK tabK (crd t))
abbrev AtFull (t : Fin cfgA.N) : Prop := IsFull (wordQ tabQ (crd t)) (wordK tabK (crd t))

/-- What is decided of every step: the words are the row and the column of its place, the third decision is the
    negation of the second, the output's block is left alone and not written back exactly before the diagonal, and
    the first step is a first step. -/
abbrev StepFacts (t : Fin cfgA.N) : Prop :=
  wordQ tabQ (crd t) = BitVec.ofNat 32 (rowOf (t.val % 136)) ∧ wordK tabK (crd t) = BitVec.ofNat 32 (colOf (t.val % 136))
  ∧ (k0_cond3 (wordQ tabQ (crd t)) (wordK tabK (crd t)) = 1#1 ↔ ¬AtFull t)
  ∧ (cfgA.idle (4 : Fin 5) (crd t) = true ↔ AtFull t) ∧ ((cfgA.win (4 : Fin 5)).flush t = false ↔ AtFull t)
  ∧ (t.val = 0 → AtFirst t)

theorem stepFacts : ∀ t : Fin cfgA.N, StepFacts t := by decide +kernel

theorem notDiag {t : Fin cfgA.N} (h : AtFull t) : ¬k0_cond3 (wordQ tabQ (crd t)) (wordK tabK (crd t)) = 1#1 :=
  fun h' => (stepFacts t).2.2.1.1 h' h
theorem diag {t : Fin cfgA.N} (h : ¬AtFull t) : k0_cond3 (wordQ tabQ (crd t)) (wordK tabK (crd t)) = 1#1 :=
  (stepFacts t).2.2.1.2 h
theorem idle_full {t : Fin cfgA.N} (h : AtFull t) : cfgA.idle (4 : Fin 5) (crd t) = true := (stepFacts t).2.2.2.1.2 h
theorem idle_diag {t : Fin cfgA.N} (h : ¬AtFull t) : cfgA.idle (4 : Fin 5) (crd t) = false :=
  Bool.eq_false_iff.2 fun h' => h ((stepFacts t).2.2.2.1.1 h')
theorem flush_full {t : Fin cfgA.N} (h : AtFull t) : (cfgA.win (4 : Fin 5)).flush t = false := (stepFacts t).2.2.2.2.1.2 h
theorem flush_diag {t : Fin cfgA.N} (h : ¬AtFull t) : (cfgA.win (4 : Fin 5)).flush t = true :=
  Bool.eq_true_of_not_eq_false fun h' => h ((stepFacts t).2.2.2.2.1.1 h')
theorem pos_of_notFirst {t : Fin cfgA.N} (h : ¬AtFirst t) : t.val ≠ 0 := fun h0 => h ((stepFacts t).2.2.2.2.2 h0)

/-- The output's staging buffer never holds anything across steps: it is stored and written back at the same step. -/
theorem fresh_out (n : ℕ) (hn : n ≤ cfgA.N) : cfgA.fresh (4 : Fin 5) n = true := by
  refine Pipeline.Cfg.fresh_tab cfgA (4 : Fin 5) (fun _ => true) rfl (fun t => ?_) n hn
  by_cases h : AtFull t
  · rw [flush_full h, show cfgA.idle (4 : Fin 5) (cfgA.grid.coords t) = true from idle_full h]; rfl
  · rw [flush_diag h]; rfl

end Cert.Kernel.Flash

end
-- ==== Proof.Kernel.Runs.lean ====
/-
  One step of the flash call, on each of the four ways its decisions go: A (first key block, on the diagonal),
  B (first, before the diagonal), C (later, on the diagonal), D (later, before it). Each run names what the step
  leaves in the running maximum, the running sum, the running product and (on the diagonal) the output's block,
  together with the proof that the body, from its input blocks, the tables and the scratches, leaves just that.
-/
module

public import proofs.«01_k».proof.Proof.Kernel.Words
public import proofs.«01_k».proof.Proof.Gen.Kernel.Skeleton

@[expose] public section

set_option maxRecDepth 16384
set_option Elab.async false

noncomputable section

namespace Cert.Kernel.Flash

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Bits) ℕ (UR sig nD τ) ℕ

/-- What a scratch buffer of core `c` may hold. -/
abbrev BufM (c : Dev nD) := Buf (Elt Bits) ((c : Thread nD τ).loc cc0_scratch0)
abbrev BufL (c : Dev nD) := Buf (Elt Bits) ((c : Thread nD τ).loc cc0_scratch1)
abbrev BufA (c : Dev nD) := Buf (Elt Bits) ((c : Thread nD τ).loc cc0_scratch2)

/-- The four input blocks in their staging buffers, and the body's halves of the two tables. -/
abbrev Ins (c : Dev nD) (arg5 : Memref sig .tc .vmem S1x2048x512 .bf16) (arg6 : Memref sig .tc .vmem S1x512x512 .bf16)
    (arg7 : Memref sig .tc .vmem S1x256x512 .bf16) (arg8 : Memref sig .tc .vmem S1x1024x512 .f32) (T0 T1 : S136.Idx → Elt Bits .i32)
    (x0 : S1x2048x512.Idx → Elt Bits .bf16) (x1 : S1x512x512.Idx → Elt Bits .bf16) (x2 : S1x256x512.Idx → Elt Bits .bf16)
    (x3 : S1x1024x512.Idx → Elt Bits .f32) : sProp 𝕄 :=
  iprop((arg5.view.loc (c : Thread nD τ) ↦[arg5.view.set]{fullShare} arg5.view.rep x0)
    ∗ (arg6.view.loc (c : Thread nD τ) ↦[arg6.view.set]{fullShare} arg6.view.rep x1)
    ∗ (arg7.view.loc (c : Thread nD τ) ↦[arg7.view.set]{fullShare} arg7.view.rep x2)
    ∗ (arg8.view.loc (c : Thread nD τ) ↦[arg8.view.set]{fullShare} arg8.view.rep x3)
    ∗ (tbQ.view.loc (c : Thread nD τ) ↦{fullShare.right} T0)
    ∗ (tbK.view.loc (c : Thread nD τ) ↦{fullShare.right} T1))

/-- The three scratch buffers, whole, at given contents. -/
abbrev Scr (c : Dev nD) (m : BufM c) (l : BufL c) (a : BufA c) : sProp 𝕄 :=
  iprop((scM.view.loc (c : Thread nD τ) ↦{fullShare} m) ∗ (scL.view.loc (c : Thread nD τ) ↦{fullShare} l)
    ∗ (scA.view.loc (c : Thread nD τ) ↦{fullShare} a))

variable (c : Dev nD) (i : grid0.Coords) (arg5 : Memref sig .tc .vmem S1x2048x512 .bf16) (harg5 : arg5.IsWhole)
  (arg6 : Memref sig .tc .vmem S1x512x512 .bf16) (harg6 : arg6.IsWhole) (arg7 : Memref sig .tc .vmem S1x256x512 .bf16) (harg7 : arg7.IsWhole)
  (arg8 : Memref sig .tc .vmem S1x1024x512 .f32) (harg8 : arg8.IsWhole) (arg9 : Memref sig .tc .vmem S1x1024x512 .bf16) (harg9 : arg9.IsWhole)
  (T0 T1 : S136.Idx → Elt Bits .i32) (x0 : S1x2048x512.Idx → Elt Bits .bf16) (x1 : S1x512x512.Idx → Elt Bits .bf16)
  (x2 : S1x256x512.Idx → Elt Bits .bf16) (x3 : S1x1024x512.Idx → Elt Bits .f32)

/-- The body on these staging buffers. -/
abbrev body : Prog (TpuEff nD τ sig (Elt Bits) Λ₀ .tc) PUnit :=
  cc0_fox_flash i tbQ (Memref.isWhole_whole _) tbK (Memref.isWhole_whole _) arg5 harg5 arg6 harg6 arg7 harg7 arg8 harg8 arg9 harg9
    scM (Memref.isWhole_whole _) scL (Memref.isWhole_whole _) scA (Memref.isWhole_whole _)

set_option backward.proofsInPublic true in
set_option maxHeartbeats 8000000 in
/-- The only key block of its row. -/
def runA (hc0 : IsFirst (wordK T1 i)) (hc1 : ¬IsFull (wordQ T0 i) (wordK T1 i))
    (hc3 : k0_cond3 (wordQ T0 i) (wordK T1 i) = 1#1) :
    Σ' (out : List (View.Piece (Elt Bits) S1x1024x512 .bf16)) (om : BufM c) (ol : BufL c), { oa : BufA c //
      ∀ (xm : BufM c) (xl : BufL c) (xa : BufA c) (K : PUnit → sProp 𝕄),
        iprop(Ins c arg5 arg6 arg7 arg8 T0 T1 x0 x1 x2 x3 ∗ (∃ d, owns (c : Thread nD τ) arg9 fullShare d) ∗ Scr c xm xl xa
          ∗ (iprop(Ins c arg5 arg6 arg7 arg8 T0 T1 x0 x1 x2 x3
              ∗ (∃ f, arg9.view.loc (c : Thread nD τ) ↦[arg9.view.set]{fullShare} arg9.view.writes (Elt Bits) f out) ∗ Scr c om ol oa) -∗ K ⟨⟩))
          ⊢ wp frame (wpE (defs₀ (F := Bits)) Variants.none c none) Set.univ
              (body i arg5 harg5 arg6 harg6 arg7 harg7 arg8 harg8 arg9 harg9) K } :=
  ⟨_, _, _, _, fun xm xl xa K => by
    unfold owns
    rw [body, cc0_fox_flash_eq_skeleton]; unfold cc0_fox_flash_skel
    iintro ⟨⟨H0, H1, H2, H3, HT0, HT1⟩, ⟨%d, %f, -, HO⟩, ⟨HM, HL, HA⟩, Hk⟩
    have hM : scM.IsWhole := Memref.isWhole_whole _
    have hL : scL.IsWhole := Memref.isWhole_whole _
    have hA : scA.IsWhole := Memref.isWhole_whole _
    have hQ : tbQ.IsWhole := Memref.isWhole_whole _
    have hK : tbK.IsWhole := Memref.isWhole_whole _
    sl_exec! (disch := first | (guard_target = Scalar.cmpi = _; exact hc0) | (guard_target = ¬(Scalar.cmpi = _); exact hc1) | (guard_target = k0_cond3 _ _ = _; exact hc3))
    sl_step
    iapply Hk
    isplitl [H0 H1 H2 H3 HT0 HT1]
    · isplitl [H0]; · iexact H0
      isplitl [H1]; · iexact H1
      isplitl [H2]; · iexact H2
      isplitl [H3]; · iexact H3
      isplitl [HT0]; · iexact HT0
      iexact HT1
    isplitl [HO]
    · iexists _; iexact HO
    isplitl [HM]; · iexact HM
    isplitl [HL]; · iexact HL
    iexact HA⟩

/-- Its stores into the output's block, one per head, tile the block. -/
theorem coverA (hc0 : IsFirst (wordK T1 i)) (hc1 : ¬IsFull (wordQ T0 i) (wordK T1 i))
    (hc3 : k0_cond3 (wordQ T0 i) (wordK T1 i) = 1#1) (y : S1x1024x512.Idx) :
    ∃ pc ∈ (runA c i arg5 harg5 arg6 harg6 arg7 harg7 arg8 harg8 arg9 harg9 T0 T1 x0 x1 x2 x3 hc0 hc1 hc3).1, y ∈ pc.1.set :=
  View.cover_of_tiledL (runA c i arg5 harg5 arg6 harg6 arg7 harg7 arg8 harg8 arg9 harg9 T0 T1 x0 x1 x2 x3 hc0 hc1 hc3).1
    S1x64x512.size (by sl_kernel_rfl) y

set_option backward.proofsInPublic true in
set_option maxHeartbeats 8000000 in
/-- The first key block of a longer row. -/
def runB (hc0 : IsFirst (wordK T1 i)) (hc1 : IsFull (wordQ T0 i) (wordK T1 i))
    (hc3 : ¬k0_cond3 (wordQ T0 i) (wordK T1 i) = 1#1) :
    Σ' (om : BufM c) (ol : BufL c), { oa : BufA c //
      ∀ (y : S1x1024x512.Idx → Elt Bits .bf16) (xm : BufM c) (xl : BufL c) (xa : BufA c) (K : PUnit → sProp 𝕄),
        iprop(Ins c arg5 arg6 arg7 arg8 T0 T1 x0 x1 x2 x3 ∗ owns (c : Thread nD τ) arg9 fullShare y ∗ Scr c xm xl xa
          ∗ (iprop(Ins c arg5 arg6 arg7 arg8 T0 T1 x0 x1 x2 x3
              ∗ owns (c : Thread nD τ) arg9 fullShare y ∗ Scr c om ol oa) -∗ K ⟨⟩))
          ⊢ wp frame (wpE (defs₀ (F := Bits)) Variants.none c none) Set.univ
              (body i arg5 harg5 arg6 harg6 arg7 harg7 arg8 harg8 arg9 harg9) K } :=
  ⟨_, _, _, fun y xm xl xa K => by
    unfold owns
    rw [body, cc0_fox_flash_eq_skeleton]; unfold cc0_fox_flash_skel
    iintro ⟨⟨H0, H1, H2, H3, HT0, HT1⟩, ⟨%f, %hf, HO⟩, ⟨HM, HL, HA⟩, Hk⟩
    obtain rfl := harg9.eq_unread hf
    have hM : scM.IsWhole := Memref.isWhole_whole _
    have hL : scL.IsWhole := Memref.isWhole_whole _
    have hA : scA.IsWhole := Memref.isWhole_whole _
    have hQ : tbQ.IsWhole := Memref.isWhole_whole _
    have hK : tbK.IsWhole := Memref.isWhole_whole _
    sl_exec! (disch := first | (guard_target = Scalar.cmpi = _; exact hc0) | (guard_target = Scalar.cmpi = _; exact hc1) | (guard_target = ¬(k0_cond3 _ _ = _); exact hc3))
    sl_step
    iapply Hk
    isplitl [H0 H1 H2 H3 HT0 HT1]
    · isplitl [H0]; · iexact H0
      isplitl [H1]; · iexact H1
      isplitl [H2]; · iexact H2
      isplitl [H3]; · iexact H3
      isplitl [HT0]; · iexact HT0
      iexact HT1
    isplitl [HO]
    · iexists _; isplitr; · ipureintro; exact harg9.read_unread _
      iexact HO
    isplitl [HM]; · iexact HM
    isplitl [HL]; · iexact HL
    iexact HA⟩

set_option backward.proofsInPublic true in
set_option maxHeartbeats 8000000 in
/-- The last key block of a longer row. -/
def runC (xm : BufM c) (xl : BufL c) (xa : BufA c) (hc0 : ¬IsFirst (wordK T1 i)) (hc1 : ¬IsFull (wordQ T0 i) (wordK T1 i))
    (hc3 : k0_cond3 (wordQ T0 i) (wordK T1 i) = 1#1) :
    Σ' (out : List (View.Piece (Elt Bits) S1x1024x512 .bf16)) (om : BufM c) (ol : BufL c), { oa : BufA c //
      ∀ (K : PUnit → sProp 𝕄),
        iprop(Ins c arg5 arg6 arg7 arg8 T0 T1 x0 x1 x2 x3 ∗ (∃ d, owns (c : Thread nD τ) arg9 fullShare d) ∗ Scr c xm xl xa
          ∗ (iprop(Ins c arg5 arg6 arg7 arg8 T0 T1 x0 x1 x2 x3
              ∗ (∃ f, arg9.view.loc (c : Thread nD τ) ↦[arg9.view.set]{fullShare} arg9.view.writes (Elt Bits) f out) ∗ Scr c om ol oa) -∗ K ⟨⟩))
          ⊢ wp frame (wpE (defs₀ (F := Bits)) Variants.none c none) Set.univ
              (body i arg5 harg5 arg6 harg6 arg7 harg7 arg8 harg8 arg9 harg9) K } :=
  ⟨_, _, _, _, fun K => by
    unfold owns
    rw [body, cc0_fox_flash_eq_skeleton]; unfold cc0_fox_flash_skel
    iintro ⟨⟨H0, H1, H2, H3, HT0, HT1⟩, ⟨%d, %f, -, HO⟩, ⟨HM, HL, HA⟩, Hk⟩
    have hM : scM.IsWhole := Memref.isWhole_whole _
    have hL : scL.IsWhole := Memref.isWhole_whole _
    have hA : scA.IsWhole := Memref.isWhole_whole _
    have hQ : tbQ.IsWhole := Memref.isWhole_whole _
    have hK : tbK.IsWhole := Memref.isWhole_whole _
    sl_exec! (disch := first | (guard_target = ¬(Scalar.cmpi = _); exact hc0) | (guard_target = ¬(Scalar.cmpi = _); exact hc1) | (guard_target = k0_cond3 _ _ = _; exact hc3))
    sl_step
    iapply Hk
    isplitl [H0 H1 H2 H3 HT0 HT1]
    · isplitl [H0]; · iexact H0
      isplitl [H1]; · iexact H1
      isplitl [H2]; · iexact H2
      isplitl [H3]; · iexact H3
      isplitl [HT0]; · iexact HT0
      iexact HT1
    isplitl [HO]
    · iexists _; iexact HO
    isplitl [HM]; · iexact HM
    isplitl [HL]; · iexact HL
    iexact HA⟩

/-- Its stores into the output's block, one per head, tile the block. -/
theorem coverC (xm : BufM c) (xl : BufL c) (xa : BufA c) (hc0 : ¬IsFirst (wordK T1 i)) (hc1 : ¬IsFull (wordQ T0 i) (wordK T1 i))
    (hc3 : k0_cond3 (wordQ T0 i) (wordK T1 i) = 1#1) (y : S1x1024x512.Idx) :
    ∃ pc ∈ (runC c i arg5 harg5 arg6 harg6 arg7 harg7 arg8 harg8 arg9 harg9 T0 T1 x0 x1 x2 x3 xm xl xa hc0 hc1 hc3).1, y ∈ pc.1.set :=
  View.cover_of_tiledL (runC c i arg5 harg5 arg6 harg6 arg7 harg7 arg8 harg8 arg9 harg9 T0 T1 x0 x1 x2 x3 xm xl xa hc0 hc1 hc3).1
    S1x64x512.size (by sl_kernel_rfl) y

set_option backward.proofsInPublic true in
set_option maxHeartbeats 8000000 in
/-- A key block inside its row. -/
def runD (xm : BufM c) (xl : BufL c) (xa : BufA c) (hc0 : ¬IsFirst (wordK T1 i)) (hc1 : IsFull (wordQ T0 i) (wordK T1 i))
    (hc3 : ¬k0_cond3 (wordQ T0 i) (wordK T1 i) = 1#1) :
    Σ' (om : BufM c) (ol : BufL c), { oa : BufA c //
      ∀ (y : S1x1024x512.Idx → Elt Bits .bf16) (K : PUnit → sProp 𝕄),
        iprop(Ins c arg5 arg6 arg7 arg8 T0 T1 x0 x1 x2 x3 ∗ owns (c : Thread nD τ) arg9 fullShare y ∗ Scr c xm xl xa
          ∗ (iprop(Ins c arg5 arg6 arg7 arg8 T0 T1 x0 x1 x2 x3
              ∗ owns (c : Thread nD τ) arg9 fullShare y ∗ Scr c om ol oa) -∗ K ⟨⟩))
          ⊢ wp frame (wpE (defs₀ (F := Bits)) Variants.none c none) Set.univ
              (body i arg5 harg5 arg6 harg6 arg7 harg7 arg8 harg8 arg9 harg9) K } :=
  ⟨_, _, _, fun y K => by
    unfold owns
    rw [body, cc0_fox_flash_eq_skeleton]; unfold cc0_fox_flash_skel
    iintro ⟨⟨H0, H1, H2, H3, HT0, HT1⟩, ⟨%f, %hf, HO⟩, ⟨HM, HL, HA⟩, Hk⟩
    obtain rfl := harg9.eq_unread hf
    have hM : scM.IsWhole := Memref.isWhole_whole _
    have hL : scL.IsWhole := Memref.isWhole_whole _
    have hA : scA.IsWhole := Memref.isWhole_whole _
    have hQ : tbQ.IsWhole := Memref.isWhole_whole _
    have hK : tbK.IsWhole := Memref.isWhole_whole _
    sl_exec! (disch := first | (guard_target = ¬(Scalar.cmpi = _); exact hc0) | (guard_target = Scalar.cmpi = _; exact hc1) | (guard_target = ¬(k0_cond3 _ _ = _); exact hc3))
    sl_step
    iapply Hk
    isplitl [H0 H1 H2 H3 HT0 HT1]
    · isplitl [H0]; · iexact H0
      isplitl [H1]; · iexact H1
      isplitl [H2]; · iexact H2
      isplitl [H3]; · iexact H3
      isplitl [HT0]; · iexact HT0
      iexact HT1
    isplitl [HO]
    · iexists _; isplitr; · ipureintro; exact harg9.read_unread _
      iexact HO
    isplitl [HM]; · iexact HM
    isplitl [HL]; · iexact HL
    iexact HA⟩

end Cert.Kernel.Flash

end
-- ==== Proof.Kernel.Launch.lean ====
/-
  The flash call launched after the host has written its two tables: every execution ends, with each array at what
  the pipeline computes, the arguments unchanged and every counter at zero.
-/
module

public import proofs.«01_k».proof.Proof.Kernel.Body
public import Idealize.ShloMosaic.Lib.Pipeline.Quiescent
public import Idealize.ShloMosaic.Lib.Pipeline.Frame

@[expose] public section

set_option maxRecDepth 16384
set_option Elab.async false

noncomputable section

namespace Cert.Kernel.Flash

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

local notation "𝕄" => MT nD τ sig Unit (Elt Bits) ℕ (UR sig nD τ) ℕ

variable (m : (ℓ : Loc nD τ sig) → Buf (Elt Bits) ℓ) (ρ : Dev nD → PrngReg)

abbrev EP : Emb (UR sig nD τ) 𝕄 := emb₁

/-- The launch element of the rounds library. -/
def u₀ : UR sig nD τ :=
  initOf (Pipeline.cells pcs ((launch0 (F := Bits)).cellOf_inj fun _ => adm))
    (Pipeline.launchToks pcs ((launch0 (F := Bits)).cellOf_inj fun _ => adm))

theorem share_eq (c : Dev nD) (w : Fin cfgA.W) : (dats m 0 c).share w = fullShare := by unfold Dat.share; split <;> rfl

/-- The two tables, one by one. -/
theorem tables_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide,
    bigSep_insert (by decide), bigSep_singleton]
  rfl

/-- Before the first step: the scratches hold anything. -/
theorem enter (c : Dev nD) :
    iprop(BI.emp ∗ Pipeline.prefHeld pre0 c (fun _ => fullShare.right) adm.1 ∗ Pipeline.scopedRest spec0 c) ⊢ (dats m 0 c).Φ 0 := by
  rw [tables_eq, scopedRest0_eq, show (dats m 0 c).Φ 0 = Phi m c 0 from rfl]
  unfold Phi
  iintro ⟨-, ⟨HT0, HT1⟩, ⟨%a0, HM⟩, ⟨%a1, HL⟩, ⟨%a2, HA⟩⟩
  iexists (⟨a0, a1, a2⟩ : St c)
  isplitr
  · ipureintro; intro h; exact absurd rfl h
  isplitl [HM HL HA]
  · isplitl [HM]; · iexact HM
    isplitl [HL]; · iexact HL
    iexact HA
  isplitl [HT0]; · iexact HT0
  iexact HT1

/-- After the last step: the scratches are given back. -/
theorem leave (c : Dev nD) : (dats m 0 c).Φ (Fin.last cfgA.N) ⊢ iprop(BI.emp ∗ Pipeline.scopedRest spec0 c) := by
  rw [scopedRest0_eq, show (dats m 0 c).Φ (Fin.last cfgA.N) = Phi m c (Fin.last _) from rfl]
  unfold Phi
  iintro ⟨%s, -, ⟨HM, HL, HA⟩, -, -⟩
  isplitr; · iempintro
  isplitl [HM]; · iexists s.1; iexact HM
  isplitl [HL]; · iexists s.2.1; iexact HL
  iexists s.2.2; iexact HA

/-- What core `c`'s buffers hold when the call begins: the host has written the tables. -/
abbrev atCall (c : Dev nD) (b : Ref sig .tc) : Buf (Elt Bits) ((c : Thread nD τ).loc b) :=
  StableHlo.after (hostOps0 (F := Bits)) (fun b => m (c, b)) b

theorem atCall_c (c : Dev nD) : atCall m c main_c = (fun i => lit0 (S136.rowMajor i)) ∧ atCall m c main_c_0 = (fun i => lit1 (S136.rowMajor i)) := by
  refine ⟨?_, ?_⟩ <;> (unfold atCall hostOps0; after_results; rfl)

theorem atCall_table (c : Dev nD) : ∀ j : Fin 2, atCall m c (pre0.ref j) = adm.1 j
  | ⟨0, _⟩ => (atCall_c m c).1.trans tabQ_eq
  | ⟨1, _⟩ => (atCall_c m c).2.trans tabK_eq

theorem atCall_arg (c : Dev nD) : atCall m c main_arg0 = m ((c : Thread nD τ).loc main_arg0) ∧ atCall m c main_arg1 = m ((c : Thread nD τ).loc main_arg1)
    ∧ atCall m c main_arg2 = m ((c : Thread nD τ).loc main_arg2) ∧ atCall m c main_arg3 = m ((c : Thread nD τ).loc main_arg3)
    ∧ atCall m c main_v0 = m ((c : Thread nD τ).loc main_v0) := by
  refine ⟨?_, ?_, ?_, ?_, ?_⟩ <;> (unfold atCall hostOps0; after_results)

theorem atCall_array (c : Dev nD) : ∀ w : Fin 5, m ((cfgA.win w).arr.view.loc (c : Thread nD τ)) = atCall m c (Pipeline.arrRef spec0 w)
  | ⟨0, _⟩ => (atCall_arg m c).1.symm
  | ⟨1, _⟩ => (atCall_arg m c).2.1.symm
  | ⟨2, _⟩ => (atCall_arg m c).2.2.1.symm
  | ⟨3, _⟩ => (atCall_arg m c).2.2.2.1.symm
  | ⟨4, _⟩ => (atCall_arg m c).2.2.2.2.symm

/-- Every array at what the pipeline computes. -/
def Ends : PUnit × MemSt nD τ sig (Elt Bits) → Prop := fun r =>
  ∀ c : Dev nD, ∀ w : Fin cfgA.W, r.2.mem ((cfgA.win w).arr.view.loc (c : Thread nD τ)) = (dats m 0 c).arrAt w cfgA.N

set_option backward.isDefEq.respectTransparency.types false in
set_option maxHeartbeats 4000000 in
/-- Every weakly fair execution terminates, every array then at its computed contents and every counter at zero. -/
theorem run_main : θ_run (defs (F := Bits)) (onTc (τ := τ) (main (F := Bits))) ⟨m, fun _ => 0, ρ⟩ (fun r => Ends m r ∧ r.2.sem = fun _ => 0) :=
  Pipeline.θ_run_region_noSem_pf_quiescent pcfgs (fun _ => adm) (dats m) () ((launch0 (F := Bits)).cellOf_inj fun _ => adm) (0 : Fin 1)
    (launch0 (F := Bits)).win.to₀ (launch0 (F := Bits)).pre EP defs₀ Variants.none m ρ main
    (hbody := fun c => (body_obligation m c).loose) (hne := (launch0 (F := Bits)).block_pos)
    (harr := (launch0 (F := Bits)).arr_whole) (hstage := (launch0 (F := Bits)).stage_whole) (howed := fun _ _ => rfl)
    (u₀ := u₀) (hu₀ := .rfl)
    (V := atCall m)
    (hmain := Pipeline.hmainP_prefix pcfgs (0 : Fin 1) defs₀ Variants.none m main hostOps0 hostOps0_sub ⟨rfl, rfl⟩ main_chain)
    (hsplit := fun c => Pipeline.arrays_split pcs (dats m) 0 (launch0 (F := Bits)).win.arr_inj c (launch0 (F := Bits)).arr_whole
      (share_eq m c) _ _ fun w => atCall_array m c w)
    (hpf := atCall_table m)
    (X := fun _ => iprop(emp)) (Y := fun _ => iprop(emp)) (Z := fun _ => iprop(emp))
    (hX := fun c => by rw [unscopedRestP0_eq]; iintro -; isplitr <;> iempintro)
    (hin := enter m)
    (hout := leave m)
    (QY := fun _ _ => True)
    (hY := fun c s' => by
      iintro ⟨-, -, HSI⟩; imodintro
      isplitr; · ipureintro; trivial
      iexact HSI)
    (hQ := fun _ h hz => ⟨fun c => (h c).1, hz⟩)

/-- The arguments end as they began. -/
theorem kept {r : PUnit × MemSt nD τ sig (Elt Bits)} (h : Ends m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨(h c (0 : Fin 5)).trans ((dats m 0 c).arrAt_in (0 : Fin 5) rfl _), (h c (1 : Fin 5)).trans ((dats m 0 c).arrAt_in (1 : Fin 5) rfl _),
   (h c (2 : Fin 5)).trans ((dats m 0 c).arrAt_in (2 : Fin 5) rfl _), (h c (3 : Fin 5)).trans ((dats m 0 c).arrAt_in (3 : Fin 5) rfl _)⟩

/-- The frame: every weakly fair execution terminates, the arguments unchanged and every counter at zero. -/
theorem frame : θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨kept m h.1, h.2⟩) (run_main m ρ)

end Cert.Kernel.Flash

end
-- ==== Proof.KernelIdeal.Words.lean ====
/-
  The schedule of the flash call: its two prefetched tables (`qi`, the query block of each step, and `kj`, the key
  block), the pipeline at them, and what the body's two decisions read at a step say. Every fact about single steps
  that later modules need is decided here once, over all 272 steps.
-/
module

public import proofs.«01_k».proof.Defs
public import proofs.«01_k».proof.Proof.Gen.KernelIdeal
public import proofs.«01_k».proof.Proof.Gen.KernelIdeal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.KernelIdeal.Flash

open Cert.KernelIdeal Cert.KernelIdeal.Gen
open Idealize.ShloMosaic
open Idealize.ShloMosaic.TcCoe Idealize.ShloMosaic.Tactic
open Idealize.SL Idealize.SL.RA Idealize.SL.BI
open Idealize.ShloMosaic.Pipeline (Dat Cfg Window)

/-- The tables and the scratch buffers the body is handed, whole. -/
abbrev tbQ : Memref sig .tc .smem S136 .i32 := Memref.whole main_c
abbrev tbK : Memref sig .tc .smem S136 .i32 := Memref.whole main_c_0
abbrev scM : Memref sig .tc .vmem S16x1x512 .f32 := Memref.whole cc0_scratch0
abbrev scL : Memref sig .tc .vmem S16x1x512 .f32 := Memref.whole cc0_scratch1
abbrev scA : Memref sig .tc .vmem S16x64x512 .f32 := Memref.whole cc0_scratch2

/-- The query block of step `n`, counted along the rows of the lower triangle: row `i` holds the steps
    `i (i + 1) / 2 ≤ n < (i + 1) (i + 2) / 2`. -/
def rowOf (n : ℕ) : ℕ := (List.range 15).countP fun i => (i + 1) * (i + 2) / 2 ≤ n
/-- The key block of step `n`: its place in the row. -/
def colOf (n : ℕ) : ℕ := n - rowOf n * (rowOf n + 1) / 2

/-- What the host writes into the two tables. -/
def tabQ : S136.Idx → BitVec 32 := fun x => BitVec.ofNat 32 (rowOf (x 0).val)
def tabK : S136.Idx → BitVec 32 := fun x => BitVec.ofNat 32 (colOf (x 0).val)

theorem lit0_eq : ∀ n : Fin 136, lit0 n = BitVec.ofNat 32 (rowOf n.val) := by decide +kernel
theorem lit1_eq : ∀ n : Fin 136, lit1 n = BitVec.ofNat 32 (colOf n.val) := by decide +kernel

theorem tabQ_eq : (fun i => lit0 (S136.rowMajor i)) = tabQ :=
  funext fun x => (lit0_eq (S136.rowMajor x)).trans
    (congrArg (fun n => BitVec.ofNat 32 (rowOf n)) (Shape.rowMajor_val_one x))
theorem tabK_eq : (fun i => lit1 (S136.rowMajor i)) = tabK :=
  funext fun x => (lit1_eq (S136.rowMajor x)).trans
    (congrArg (fun n => BitVec.ofNat 32 (colOf n)) (Shape.rowMajor_val_one x))

set_option backward.proofsInPublic true in
/-- The tables' contents, as the pipeline takes them. -/
def tabs : pre0.Contents (Elt Ideal) := fun | ⟨0, _⟩ => tabQ | ⟨1, _⟩ => tabK | ⟨_ + 2, h⟩ => absurd h (by simp)

/-! ## The side condition of the pipeline at the tables: every block lies inside its array -/

theorem inb0 : ∀ i : grid0.Coords, ∀ a, (cc0_transform_0 k0_off1_inb numel1_S1 tabs i a + 1) * S1x2048x512.size a ≤ S2x2048x8192.size a := by
  decide +kernel
theorem inb1 : ∀ i : grid0.Coords, ∀ a, (cc0_transform_1 k0_off1_inb numel1_S1 tabs i a + 1) * S1x512x512.size a ≤ S2x8192x512.size a := by
  decide +kernel
theorem inb2 : ∀ i : grid0.Coords, ∀ a, (cc0_transform_2 k0_off1_inb numel1_S1 tabs i a + 1) * S1x256x512.size a ≤ S2x256x8192.size a := by
  decide +kernel
theorem inb3 : ∀ i : grid0.Coords, ∀ a, (cc0_transform_3 k0_off1_inb numel1_S1 tabs i a + 1) * S1x1024x512.size a ≤ S2x1024x8192.size a := by
  decide +kernel
theorem inb4 : ∀ i : grid0.Coords, ∀ a, (cc0_transform_4 k0_off1_inb numel1_S1 tabs i a + 1) * S1x1024x512.size a ≤ S2x1024x8192.size a := by
  decide +kernel

theorem ok_tabs : ok0 (F := Ideal) tabs :=
  ⟨fun i => ⟨inb0 i, .inr (Affine.block_words_dvd (s := S2x2048x8192) (p := EltTy.packing .bf16) (by decide) (by decide))⟩,
   fun i => ⟨inb1 i, .inr (Affine.block_words_dvd (s := S2x8192x512) (p := EltTy.packing .bf16) (by decide) (by decide))⟩,
   fun i => ⟨inb2 i, .inr (Affine.block_words_dvd (s := S2x256x8192) (p := EltTy.packing .bf16) (by decide) (by decide))⟩,
   fun i => ⟨inb3 i, .inl rfl⟩,
   fun i => ⟨inb4 i, .inr (Affine.block_words_dvd (s := S2x1024x8192) (p := EltTy.packing .bf16) (by decide) (by decide))⟩⟩

/-- The pipeline at the tables. -/
def adm : (pcfg0 (F := Ideal)).Adm := ⟨tabs, ok_tabs⟩
abbrev cfgA : Pipeline.Cfg sig Λ₀ := cfg0 (F := Ideal) adm
abbrev pcs : Fin 1 → Pipeline.Cfg sig Λ₀ := Pipeline.pin (pcfgs (F := Ideal)) fun _ => adm

/-- Step `t`'s coordinates. -/
abbrev crd (t : Fin cfgA.N) : cfgA.grid.Coords := cfgA.grid.coords t

/-! ## What the body reads of the tables, and its decisions -/

/-- The words the body reads at coordinates `i`, of tables holding `T`. -/
abbrev wordQ (T : S136.Idx → Elt Ideal .i32) (i : grid0.Coords) : BitVec 32 :=
  View.readAt (Elt Ideal) tbQ.view (Rect.unit (s := S136) (k0_off1 i) S1.size (k0_off1_inb i)).toLoadRect T (Shape.Idx.first (numel1_S1.symm ▸ Nat.one_pos))
abbrev wordK (T : S136.Idx → Elt Ideal .i32) (i : grid0.Coords) : BitVec 32 :=
  View.readAt (Elt Ideal) tbK.view (Rect.unit (s := S136) (k0_off1 i) S1.size (k0_off1_inb i)).toLoadRect T (Shape.Idx.first (numel1_S1.symm ▸ Nat.one_pos))

/-- The body's first decision (the first key block of a row) and its second (a key block before the diagonal). -/
abbrev IsFirst (k : BitVec 32) : Prop := Scalar.cmpi .ne (Scalar.extui (Scalar.cmpi .eq k 0#32)) 0#32 = 1#1
abbrev IsFull (q k : BitVec 32) : Prop := Scalar.cmpi .ne (Scalar.extui (Scalar.cmpi .slt k q)) 0#32 = 1#1

/-- Step `t` is the first of its row; step `t` lies before the diagonal. -/
abbrev AtFirst (t : Fin cfgA.N) : Prop := IsFirst (wordK tabK (crd t))
abbrev AtFull (t : Fin cfgA.N) : Prop := IsFull (wordQ tabQ (crd t)) (wordK tabK (crd t))

/-- What is decided of every step: the words are the row and the column of its place, the third decision is the
    negation of the second, the output's block is left alone and not written back exactly before the diagonal, and
    the first step is a first step. -/
abbrev StepFacts (t : Fin cfgA.N) : Prop :=
  wordQ tabQ (crd t) = BitVec.ofNat 32 (rowOf (t.val % 136)) ∧ wordK tabK (crd t) = BitVec.ofNat 32 (colOf (t.val % 136))
  ∧ (k0_cond3 (wordQ tabQ (crd t)) (wordK tabK (crd t)) = 1#1 ↔ ¬AtFull t)
  ∧ (cfgA.idle (4 : Fin 5) (crd t) = true ↔ AtFull t) ∧ ((cfgA.win (4 : Fin 5)).flush t = false ↔ AtFull t)
  ∧ (t.val = 0 → AtFirst t)

theorem stepFacts : ∀ t : Fin cfgA.N, StepFacts t := by decide +kernel

theorem notDiag {t : Fin cfgA.N} (h : AtFull t) : ¬k0_cond3 (wordQ tabQ (crd t)) (wordK tabK (crd t)) = 1#1 :=
  fun h' => (stepFacts t).2.2.1.1 h' h
theorem diag {t : Fin cfgA.N} (h : ¬AtFull t) : k0_cond3 (wordQ tabQ (crd t)) (wordK tabK (crd t)) = 1#1 :=
  (stepFacts t).2.2.1.2 h
theorem idle_full {t : Fin cfgA.N} (h : AtFull t) : cfgA.idle (4 : Fin 5) (crd t) = true := (stepFacts t).2.2.2.1.2 h
theorem idle_diag {t : Fin cfgA.N} (h : ¬AtFull t) : cfgA.idle (4 : Fin 5) (crd t) = false :=
  Bool.eq_false_iff.2 fun h' => h ((stepFacts t).2.2.2.1.1 h')
theorem flush_full {t : Fin cfgA.N} (h : AtFull t) : (cfgA.win (4 : Fin 5)).flush t = false := (stepFacts t).2.2.2.2.1.2 h
theorem flush_diag {t : Fin cfgA.N} (h : ¬AtFull t) : (cfgA.win (4 : Fin 5)).flush t = true :=
  Bool.eq_true_of_not_eq_false fun h' => h ((stepFacts t).2.2.2.2.1.1 h')
theorem pos_of_notFirst {t : Fin cfgA.N} (h : ¬AtFirst t) : t.val ≠ 0 := fun h0 => h ((stepFacts t).2.2.2.2.2 h0)

/-- The output's staging buffer never holds anything across steps: it is stored and written back at the same step. -/
theorem fresh_out (n : ℕ) (hn : n ≤ cfgA.N) : cfgA.fresh (4 : Fin 5) n = true := by
  refine Pipeline.Cfg.fresh_tab cfgA (4 : Fin 5) (fun _ => true) rfl (fun t => ?_) n hn
  by_cases h : AtFull t
  · rw [flush_full h, show cfgA.idle (4 : Fin 5) (cfgA.grid.coords t) = true from idle_full h]; rfl
  · rw [flush_diag h]; rfl

end Cert.KernelIdeal.Flash

end
-- ==== Proof.KernelIdeal.Runs.lean ====
/-
  One step of the flash call, on each of the four ways its decisions go: A (first key block, on the diagonal),
  B (first, before the diagonal), C (later, on the diagonal), D (later, before it). Each run names what the step
  leaves in the running maximum, the running sum, the running product and (on the diagonal) the output's block,
  together with the proof that the body, from its input blocks, the tables and the scratches, leaves just that.
-/
module

public import proofs.«01_k».proof.Proof.KernelIdeal.Words
public import proofs.«01_k».proof.Proof.Gen.KernelIdeal.Skeleton

@[expose] public section

set_option maxRecDepth 16384
set_option Elab.async false

noncomputable section

namespace Cert.KernelIdeal.Flash

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- What a scratch buffer of core `c` may hold. -/
abbrev BufM (c : Dev nD) := Buf (Elt Ideal) ((c : Thread nD τ).loc cc0_scratch0)
abbrev BufL (c : Dev nD) := Buf (Elt Ideal) ((c : Thread nD τ).loc cc0_scratch1)
abbrev BufA (c : Dev nD) := Buf (Elt Ideal) ((c : Thread nD τ).loc cc0_scratch2)

/-- The four input blocks in their staging buffers, and the body's halves of the two tables. -/
abbrev Ins (c : Dev nD) (arg5 : Memref sig .tc .vmem S1x2048x512 .bf16) (arg6 : Memref sig .tc .vmem S1x512x512 .bf16)
    (arg7 : Memref sig .tc .vmem S1x256x512 .bf16) (arg8 : Memref sig .tc .vmem S1x1024x512 .f32) (T0 T1 : S136.Idx → Elt Ideal .i32)
    (x0 : S1x2048x512.Idx → Elt Ideal .bf16) (x1 : S1x512x512.Idx → Elt Ideal .bf16) (x2 : S1x256x512.Idx → Elt Ideal .bf16)
    (x3 : S1x1024x512.Idx → Elt Ideal .f32) : sProp 𝕄 :=
  iprop((arg5.view.loc (c : Thread nD τ) ↦[arg5.view.set]{fullShare} arg5.view.rep x0)
    ∗ (arg6.view.loc (c : Thread nD τ) ↦[arg6.view.set]{fullShare} arg6.view.rep x1)
    ∗ (arg7.view.loc (c : Thread nD τ) ↦[arg7.view.set]{fullShare} arg7.view.rep x2)
    ∗ (arg8.view.loc (c : Thread nD τ) ↦[arg8.view.set]{fullShare} arg8.view.rep x3)
    ∗ (tbQ.view.loc (c : Thread nD τ) ↦{fullShare.right} T0)
    ∗ (tbK.view.loc (c : Thread nD τ) ↦{fullShare.right} T1))

/-- The three scratch buffers, whole, at given contents. -/
abbrev Scr (c : Dev nD) (m : BufM c) (l : BufL c) (a : BufA c) : sProp 𝕄 :=
  iprop((scM.view.loc (c : Thread nD τ) ↦{fullShare} m) ∗ (scL.view.loc (c : Thread nD τ) ↦{fullShare} l)
    ∗ (scA.view.loc (c : Thread nD τ) ↦{fullShare} a))

variable (c : Dev nD) (i : grid0.Coords) (arg5 : Memref sig .tc .vmem S1x2048x512 .bf16) (harg5 : arg5.IsWhole)
  (arg6 : Memref sig .tc .vmem S1x512x512 .bf16) (harg6 : arg6.IsWhole) (arg7 : Memref sig .tc .vmem S1x256x512 .bf16) (harg7 : arg7.IsWhole)
  (arg8 : Memref sig .tc .vmem S1x1024x512 .f32) (harg8 : arg8.IsWhole) (arg9 : Memref sig .tc .vmem S1x1024x512 .bf16) (harg9 : arg9.IsWhole)
  (T0 T1 : S136.Idx → Elt Ideal .i32) (x0 : S1x2048x512.Idx → Elt Ideal .bf16) (x1 : S1x512x512.Idx → Elt Ideal .bf16)
  (x2 : S1x256x512.Idx → Elt Ideal .bf16) (x3 : S1x1024x512.Idx → Elt Ideal .f32)

/-- The body on these staging buffers. -/
abbrev body : Prog (TpuEff nD τ sig (Elt Ideal) Λ₀ .tc) PUnit :=
  cc0_fox_flash i tbQ (Memref.isWhole_whole _) tbK (Memref.isWhole_whole _) arg5 harg5 arg6 harg6 arg7 harg7 arg8 harg8 arg9 harg9
    scM (Memref.isWhole_whole _) scL (Memref.isWhole_whole _) scA (Memref.isWhole_whole _)

set_option backward.proofsInPublic true in
set_option maxHeartbeats 8000000 in
/-- The only key block of its row. -/
def runA (hc0 : IsFirst (wordK T1 i)) (hc1 : ¬IsFull (wordQ T0 i) (wordK T1 i))
    (hc3 : k0_cond3 (wordQ T0 i) (wordK T1 i) = 1#1) :
    Σ' (out : List (View.Piece (Elt Ideal) S1x1024x512 .bf16)) (om : BufM c) (ol : BufL c), { oa : BufA c //
      ∀ (xm : BufM c) (xl : BufL c) (xa : BufA c) (K : PUnit → sProp 𝕄),
        iprop(Ins c arg5 arg6 arg7 arg8 T0 T1 x0 x1 x2 x3 ∗ (∃ d, owns (c : Thread nD τ) arg9 fullShare d) ∗ Scr c xm xl xa
          ∗ (iprop(Ins c arg5 arg6 arg7 arg8 T0 T1 x0 x1 x2 x3
              ∗ (∃ f, arg9.view.loc (c : Thread nD τ) ↦[arg9.view.set]{fullShare} arg9.view.writes (Elt Ideal) f out) ∗ Scr c om ol oa) -∗ K ⟨⟩))
          ⊢ wp frame (wpE (defs₀ (F := Ideal)) Variants.none c none) Set.univ
              (body i arg5 harg5 arg6 harg6 arg7 harg7 arg8 harg8 arg9 harg9) K } :=
  ⟨_, _, _, _, fun xm xl xa K => by
    unfold owns
    rw [body, cc0_fox_flash_eq_skeleton]; unfold cc0_fox_flash_skel
    iintro ⟨⟨H0, H1, H2, H3, HT0, HT1⟩, ⟨%d, %f, -, HO⟩, ⟨HM, HL, HA⟩, Hk⟩
    have hM : scM.IsWhole := Memref.isWhole_whole _
    have hL : scL.IsWhole := Memref.isWhole_whole _
    have hA : scA.IsWhole := Memref.isWhole_whole _
    have hQ : tbQ.IsWhole := Memref.isWhole_whole _
    have hK : tbK.IsWhole := Memref.isWhole_whole _
    sl_exec! (disch := first | (guard_target = Scalar.cmpi = _; exact hc0) | (guard_target = ¬(Scalar.cmpi = _); exact hc1) | (guard_target = k0_cond3 _ _ = _; exact hc3))
    sl_step
    iapply Hk
    isplitl [H0 H1 H2 H3 HT0 HT1]
    · isplitl [H0]; · iexact H0
      isplitl [H1]; · iexact H1
      isplitl [H2]; · iexact H2
      isplitl [H3]; · iexact H3
      isplitl [HT0]; · iexact HT0
      iexact HT1
    isplitl [HO]
    · iexists _; iexact HO
    isplitl [HM]; · iexact HM
    isplitl [HL]; · iexact HL
    iexact HA⟩

/-- Its stores into the output's block, one per head, tile the block. -/
theorem coverA (hc0 : IsFirst (wordK T1 i)) (hc1 : ¬IsFull (wordQ T0 i) (wordK T1 i))
    (hc3 : k0_cond3 (wordQ T0 i) (wordK T1 i) = 1#1) (y : S1x1024x512.Idx) :
    ∃ pc ∈ (runA c i arg5 harg5 arg6 harg6 arg7 harg7 arg8 harg8 arg9 harg9 T0 T1 x0 x1 x2 x3 hc0 hc1 hc3).1, y ∈ pc.1.set :=
  View.cover_of_tiledL (runA c i arg5 harg5 arg6 harg6 arg7 harg7 arg8 harg8 arg9 harg9 T0 T1 x0 x1 x2 x3 hc0 hc1 hc3).1
    S1x64x512.size (by sl_kernel_rfl) y

set_option backward.proofsInPublic true in
set_option maxHeartbeats 8000000 in
/-- The first key block of a longer row. -/
def runB (hc0 : IsFirst (wordK T1 i)) (hc1 : IsFull (wordQ T0 i) (wordK T1 i))
    (hc3 : ¬k0_cond3 (wordQ T0 i) (wordK T1 i) = 1#1) :
    Σ' (om : BufM c) (ol : BufL c), { oa : BufA c //
      ∀ (y : S1x1024x512.Idx → Elt Ideal .bf16) (xm : BufM c) (xl : BufL c) (xa : BufA c) (K : PUnit → sProp 𝕄),
        iprop(Ins c arg5 arg6 arg7 arg8 T0 T1 x0 x1 x2 x3 ∗ owns (c : Thread nD τ) arg9 fullShare y ∗ Scr c xm xl xa
          ∗ (iprop(Ins c arg5 arg6 arg7 arg8 T0 T1 x0 x1 x2 x3
              ∗ owns (c : Thread nD τ) arg9 fullShare y ∗ Scr c om ol oa) -∗ K ⟨⟩))
          ⊢ wp frame (wpE (defs₀ (F := Ideal)) Variants.none c none) Set.univ
              (body i arg5 harg5 arg6 harg6 arg7 harg7 arg8 harg8 arg9 harg9) K } :=
  ⟨_, _, _, fun y xm xl xa K => by
    unfold owns
    rw [body, cc0_fox_flash_eq_skeleton]; unfold cc0_fox_flash_skel
    iintro ⟨⟨H0, H1, H2, H3, HT0, HT1⟩, ⟨%f, %hf, HO⟩, ⟨HM, HL, HA⟩, Hk⟩
    obtain rfl := harg9.eq_unread hf
    have hM : scM.IsWhole := Memref.isWhole_whole _
    have hL : scL.IsWhole := Memref.isWhole_whole _
    have hA : scA.IsWhole := Memref.isWhole_whole _
    have hQ : tbQ.IsWhole := Memref.isWhole_whole _
    have hK : tbK.IsWhole := Memref.isWhole_whole _
    sl_exec! (disch := first | (guard_target = Scalar.cmpi = _; exact hc0) | (guard_target = Scalar.cmpi = _; exact hc1) | (guard_target = ¬(k0_cond3 _ _ = _); exact hc3))
    sl_step
    iapply Hk
    isplitl [H0 H1 H2 H3 HT0 HT1]
    · isplitl [H0]; · iexact H0
      isplitl [H1]; · iexact H1
      isplitl [H2]; · iexact H2
      isplitl [H3]; · iexact H3
      isplitl [HT0]; · iexact HT0
      iexact HT1
    isplitl [HO]
    · iexists _; isplitr; · ipureintro; exact harg9.read_unread _
      iexact HO
    isplitl [HM]; · iexact HM
    isplitl [HL]; · iexact HL
    iexact HA⟩

set_option backward.proofsInPublic true in
set_option maxHeartbeats 8000000 in
/-- The last key block of a longer row. -/
def runC (xm : BufM c) (xl : BufL c) (xa : BufA c) (hc0 : ¬IsFirst (wordK T1 i)) (hc1 : ¬IsFull (wordQ T0 i) (wordK T1 i))
    (hc3 : k0_cond3 (wordQ T0 i) (wordK T1 i) = 1#1) :
    Σ' (out : List (View.Piece (Elt Ideal) S1x1024x512 .bf16)) (om : BufM c) (ol : BufL c), { oa : BufA c //
      ∀ (K : PUnit → sProp 𝕄),
        iprop(Ins c arg5 arg6 arg7 arg8 T0 T1 x0 x1 x2 x3 ∗ (∃ d, owns (c : Thread nD τ) arg9 fullShare d) ∗ Scr c xm xl xa
          ∗ (iprop(Ins c arg5 arg6 arg7 arg8 T0 T1 x0 x1 x2 x3
              ∗ (∃ f, arg9.view.loc (c : Thread nD τ) ↦[arg9.view.set]{fullShare} arg9.view.writes (Elt Ideal) f out) ∗ Scr c om ol oa) -∗ K ⟨⟩))
          ⊢ wp frame (wpE (defs₀ (F := Ideal)) Variants.none c none) Set.univ
              (body i arg5 harg5 arg6 harg6 arg7 harg7 arg8 harg8 arg9 harg9) K } :=
  ⟨_, _, _, _, fun K => by
    unfold owns
    rw [body, cc0_fox_flash_eq_skeleton]; unfold cc0_fox_flash_skel
    iintro ⟨⟨H0, H1, H2, H3, HT0, HT1⟩, ⟨%d, %f, -, HO⟩, ⟨HM, HL, HA⟩, Hk⟩
    have hM : scM.IsWhole := Memref.isWhole_whole _
    have hL : scL.IsWhole := Memref.isWhole_whole _
    have hA : scA.IsWhole := Memref.isWhole_whole _
    have hQ : tbQ.IsWhole := Memref.isWhole_whole _
    have hK : tbK.IsWhole := Memref.isWhole_whole _
    sl_exec! (disch := first | (guard_target = ¬(Scalar.cmpi = _); exact hc0) | (guard_target = ¬(Scalar.cmpi = _); exact hc1) | (guard_target = k0_cond3 _ _ = _; exact hc3))
    sl_step
    iapply Hk
    isplitl [H0 H1 H2 H3 HT0 HT1]
    · isplitl [H0]; · iexact H0
      isplitl [H1]; · iexact H1
      isplitl [H2]; · iexact H2
      isplitl [H3]; · iexact H3
      isplitl [HT0]; · iexact HT0
      iexact HT1
    isplitl [HO]
    · iexists _; iexact HO
    isplitl [HM]; · iexact HM
    isplitl [HL]; · iexact HL
    iexact HA⟩

/-- Its stores into the output's block, one per head, tile the block. -/
theorem coverC (xm : BufM c) (xl : BufL c) (xa : BufA c) (hc0 : ¬IsFirst (wordK T1 i)) (hc1 : ¬IsFull (wordQ T0 i) (wordK T1 i))
    (hc3 : k0_cond3 (wordQ T0 i) (wordK T1 i) = 1#1) (y : S1x1024x512.Idx) :
    ∃ pc ∈ (runC c i arg5 harg5 arg6 harg6 arg7 harg7 arg8 harg8 arg9 harg9 T0 T1 x0 x1 x2 x3 xm xl xa hc0 hc1 hc3).1, y ∈ pc.1.set :=
  View.cover_of_tiledL (runC c i arg5 harg5 arg6 harg6 arg7 harg7 arg8 harg8 arg9 harg9 T0 T1 x0 x1 x2 x3 xm xl xa hc0 hc1 hc3).1
    S1x64x512.size (by sl_kernel_rfl) y

set_option backward.proofsInPublic true in
set_option maxHeartbeats 8000000 in
/-- A key block inside its row. -/
def runD (xm : BufM c) (xl : BufL c) (xa : BufA c) (hc0 : ¬IsFirst (wordK T1 i)) (hc1 : IsFull (wordQ T0 i) (wordK T1 i))
    (hc3 : ¬k0_cond3 (wordQ T0 i) (wordK T1 i) = 1#1) :
    Σ' (om : BufM c) (ol : BufL c), { oa : BufA c //
      ∀ (y : S1x1024x512.Idx → Elt Ideal .bf16) (K : PUnit → sProp 𝕄),
        iprop(Ins c arg5 arg6 arg7 arg8 T0 T1 x0 x1 x2 x3 ∗ owns (c : Thread nD τ) arg9 fullShare y ∗ Scr c xm xl xa
          ∗ (iprop(Ins c arg5 arg6 arg7 arg8 T0 T1 x0 x1 x2 x3
              ∗ owns (c : Thread nD τ) arg9 fullShare y ∗ Scr c om ol oa) -∗ K ⟨⟩))
          ⊢ wp frame (wpE (defs₀ (F := Ideal)) Variants.none c none) Set.univ
              (body i arg5 harg5 arg6 harg6 arg7 harg7 arg8 harg8 arg9 harg9) K } :=
  ⟨_, _, _, fun y K => by
    unfold owns
    rw [body, cc0_fox_flash_eq_skeleton]; unfold cc0_fox_flash_skel
    iintro ⟨⟨H0, H1, H2, H3, HT0, HT1⟩, ⟨%f, %hf, HO⟩, ⟨HM, HL, HA⟩, Hk⟩
    obtain rfl := harg9.eq_unread hf
    have hM : scM.IsWhole := Memref.isWhole_whole _
    have hL : scL.IsWhole := Memref.isWhole_whole _
    have hA : scA.IsWhole := Memref.isWhole_whole _
    have hQ : tbQ.IsWhole := Memref.isWhole_whole _
    have hK : tbK.IsWhole := Memref.isWhole_whole _
    sl_exec! (disch := first | (guard_target = ¬(Scalar.cmpi = _); exact hc0) | (guard_target = Scalar.cmpi = _; exact hc1) | (guard_target = ¬(k0_cond3 _ _ = _); exact hc3))
    sl_step
    iapply Hk
    isplitl [H0 H1 H2 H3 HT0 HT1]
    · isplitl [H0]; · iexact H0
      isplitl [H1]; · iexact H1
      isplitl [H2]; · iexact H2
      isplitl [H3]; · iexact H3
      isplitl [HT0]; · iexact HT0
      iexact HT1
    isplitl [HO]
    · iexists _; isplitr; · ipureintro; exact harg9.read_unread _
      iexact HO
    isplitl [HM]; · iexact HM
    isplitl [HL]; · iexact HL
    iexact HA⟩

end Cert.KernelIdeal.Flash

end
-- ==== Proof.KernelIdeal.Traj.lean ====
/-
  What the flash call's scratches hold before each step and what its output block holds after it, by recursion over
  the steps from the four runs of the body, and the pipeline's proof data stated with them.
-/
module

public import proofs.«01_k».proof.Proof.KernelIdeal.Runs

@[expose] public section

set_option maxRecDepth 16384
set_option Elab.async false

noncomputable section

namespace Cert.KernelIdeal.Flash

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

local notation "𝕄" => MT nD τ sig Unit (Elt Ideal) ℕ (UR sig nD τ) ℕ

variable (m : (ℓ : Loc nD τ sig) → Buf (Elt Ideal) ℓ) (c : Dev nD)

/-! ## A step's staging buffers and blocks -/

abbrev ms0 (t : Fin cfgA.N) : Memref sig .tc .vmem S1x2048x512 .bf16 := spec0_0.stage (cfgA.slots t (0 : Fin 5))
abbrev hs0 (t : Fin cfgA.N) : (ms0 t).IsWhole := hstage0_0 ((cfgA.slots t (0 : Fin 5)).cast nbuf0_0)
abbrev ms1 (t : Fin cfgA.N) : Memref sig .tc .vmem S1x512x512 .bf16 := spec0_1.stage (cfgA.slots t (1 : Fin 5))
abbrev hs1 (t : Fin cfgA.N) : (ms1 t).IsWhole := hstage0_1 ((cfgA.slots t (1 : Fin 5)).cast nbuf0_1)
abbrev ms2 (t : Fin cfgA.N) : Memref sig .tc .vmem S1x256x512 .bf16 := spec0_2.stage (cfgA.slots t (2 : Fin 5))
abbrev hs2 (t : Fin cfgA.N) : (ms2 t).IsWhole := hstage0_2 ((cfgA.slots t (2 : Fin 5)).cast nbuf0_2)
abbrev ms3 (t : Fin cfgA.N) : Memref sig .tc .vmem S1x1024x512 .f32 := spec0_3.stage (cfgA.slots t (3 : Fin 5))
abbrev hs3 (t : Fin cfgA.N) : (ms3 t).IsWhole := hstage0_3 ((cfgA.slots t (3 : Fin 5)).cast nbuf0_3)
abbrev ms4 (t : Fin cfgA.N) : Memref sig .tc .vmem S1x1024x512 .bf16 := spec0_4.stage (cfgA.slots t (4 : Fin 5))
abbrev hs4 (t : Fin cfgA.N) : (ms4 t).IsWhole := hstage0_4 ((cfgA.slots t (4 : Fin 5)).cast nbuf0_4)

/-- Window `w`'s block at step `t`, read off its array at launch. -/
def blkAt (w : Fin cfgA.W) (t : Fin cfgA.N) : ((cfgA.win w).xblock (crd t)).Idx → Elt Ideal (cfgA.win w).elt :=
  ((cfgA.win w).blk t).view.read (Elt Ideal) (m ((cfgA.win w).arr.view.loc (c : Thread nD τ)))

/-- The running maximum, sum and product between steps. -/
abbrev St (c : Dev nD) := BufM c × BufL c × BufA c

/-- One staging buffer of the output, through which its contents are stated. -/
abbrev outView : View sig .tc .vmem S1x1024x512 .bf16 := (Memref.whole cc0_stg4_0 : Memref sig .tc .vmem S1x1024x512 .bf16).view
/-- The block a list of stores leaves. -/
def outOf (L : List (View.Piece (Elt Ideal) S1x1024x512 .bf16)) : S1x1024x512.Idx → Elt Ideal .bf16 :=
  outView.read (Elt Ideal) (outView.writes (Elt Ideal) outView.junk L)

/-! ## The four runs at step `t` -/

/-- The run at a row's only step. -/
abbrev stepA (t : Fin cfgA.N) (h0 : AtFirst t) (h1 : ¬AtFull t) :=
  runA c (crd t) (ms0 t) (hs0 t) (ms1 t) (hs1 t) (ms2 t) (hs2 t) (ms3 t) (hs3 t) (ms4 t) (hs4 t) tabQ tabK
    (blkAt m c 0 t) (blkAt m c 1 t) (blkAt m c 2 t) (blkAt m c 3 t) h0 h1 (diag h1)
/-- The run at the first step of a longer row. -/
abbrev stepB (t : Fin cfgA.N) (h0 : AtFirst t) (h1 : AtFull t) :=
  runB c (crd t) (ms0 t) (hs0 t) (ms1 t) (hs1 t) (ms2 t) (hs2 t) (ms3 t) (hs3 t) (ms4 t) (hs4 t) tabQ tabK
    (blkAt m c 0 t) (blkAt m c 1 t) (blkAt m c 2 t) (blkAt m c 3 t) h0 h1 (notDiag h1)
/-- The run at a later step, on the diagonal. -/
abbrev stepC (t : Fin cfgA.N) (s : St c) (h0 : ¬AtFirst t) (h1 : ¬AtFull t) :=
  runC c (crd t) (ms0 t) (hs0 t) (ms1 t) (hs1 t) (ms2 t) (hs2 t) (ms3 t) (hs3 t) (ms4 t) (hs4 t) tabQ tabK
    (blkAt m c 0 t) (blkAt m c 1 t) (blkAt m c 2 t) (blkAt m c 3 t) s.1 s.2.1 s.2.2 h0 h1 (diag h1)
/-- The run at a later step before the diagonal. -/
abbrev stepD (t : Fin cfgA.N) (s : St c) (h0 : ¬AtFirst t) (h1 : AtFull t) :=
  runD c (crd t) (ms0 t) (hs0 t) (ms1 t) (hs1 t) (ms2 t) (hs2 t) (ms3 t) (hs3 t) (ms4 t) (hs4 t) tabQ tabK
    (blkAt m c 0 t) (blkAt m c 1 t) (blkAt m c 2 t) (blkAt m c 3 t) s.1 s.2.1 s.2.2 h0 h1 (notDiag h1)

/-- The scratches after step `t`, from those before. -/
def next (t : Fin cfgA.N) (s : St c) : St c :=
  if h0 : AtFirst t then
    if h1 : AtFull t then ((stepB m c t h0 h1).1, (stepB m c t h0 h1).2.1, (stepB m c t h0 h1).2.2.1)
    else ((stepA m c t h0 h1).2.1, (stepA m c t h0 h1).2.2.1, (stepA m c t h0 h1).2.2.2.1)
  else
    if h1 : AtFull t then ((stepD m c t s h0 h1).1, (stepD m c t s h0 h1).2.1, (stepD m c t s h0 h1).2.2.1)
    else ((stepC m c t s h0 h1).2.1, (stepC m c t s h0 h1).2.2.1, (stepC m c t s h0 h1).2.2.2.1)

/-- The output's block after step `t` (nothing in particular before the diagonal, where it is not stored). -/
def outAt (t : Fin cfgA.N) (s : St c) : S1x1024x512.Idx → Elt Ideal .bf16 :=
  if h0 : AtFirst t then
    if h1 : AtFull t then default else outOf (stepA m c t h0 h1).1
  else
    if h1 : AtFull t then default else outOf (stepC m c t s h0 h1).1

/-- The scratches before step `n`. -/
def stAt : (n : ℕ) → n ≤ cfgA.N → St c
  | 0, _ => default
  | n + 1, h => next m c ⟨n, h⟩ (stAt n (Nat.le_of_succ_le h))

/-! ## The pipeline's proof data -/

/-- Between steps: the scratches hold `stAt`'s contents (anything, before the first), the body holds its halves of the
    tables. -/
def Phi (t : Fin (cfgA.N + 1)) : sProp 𝕄 :=
  iprop(∃ s : St c, ⌜t.val ≠ 0 → s = stAt m c t.val (Nat.le_of_lt_succ t.isLt)⌝ ∗ Scr c s.1 s.2.1 s.2.2
    ∗ (tbQ.view.loc (c : Thread nD τ) ↦{fullShare.right} tabQ) ∗ (tbK.view.loc (c : Thread nD τ) ↦{fullShare.right} tabK))

/-- The proof data of the one pipeline on core `c`. -/
def dats (_ : Fin 1) (c : Dev nD) : Dat τ (Elt Ideal) Unit ℕ (UR sig nD τ) ℕ cfgA c where
  A w := m ((cfgA.win w).arr.view.loc (c : Thread nD τ))
  after w t := match w with
    | ⟨0, _⟩ => blkAt m c (0 : Fin 5) t
    | ⟨1, _⟩ => blkAt m c (1 : Fin 5) t
    | ⟨2, _⟩ => blkAt m c (2 : Fin 5) t
    | ⟨3, _⟩ => blkAt m c (3 : Fin 5) t
    | ⟨4, _⟩ => outAt m c t (stAt m c t.val t.isLt.le)
  Φ t := Phi m c t
  q _ := fullShare
  owed _ := 0

theorem after0 (t : Fin cfgA.N) : (dats m 0 c).after (0 : Fin 5) t = blkAt m c (0 : Fin 5) t := rfl
theorem after1 (t : Fin cfgA.N) : (dats m 0 c).after (1 : Fin 5) t = blkAt m c (1 : Fin 5) t := rfl
theorem after2 (t : Fin cfgA.N) : (dats m 0 c).after (2 : Fin 5) t = blkAt m c (2 : Fin 5) t := rfl
theorem after3 (t : Fin cfgA.N) : (dats m 0 c).after (3 : Fin 5) t = blkAt m c (3 : Fin 5) t := rfl
theorem after4 (t : Fin cfgA.N) : (dats m 0 c).after (4 : Fin 5) t = outAt m c t (stAt m c t.val t.isLt.le) := rfl

/-! ## What each staging buffer holds when the body runs: an input's block, and nothing in particular for the output -/

theorem before0 (t : Fin cfgA.N) (d) : (dats m 0 c).before (0 : Fin 5) t d = blkAt m c (0 : Fin 5) t :=
  ((dats m 0 c).before_in_eq_fetched (0 : Fin 5) rfl (fun _ => rfl) (fun _ _ _ => rfl)
    (fun t => by rw [after0]; unfold Dat.blockOf blkAt; rfl) t d).trans (by unfold Dat.fetched Dat.blockOf blkAt; rfl)
theorem before1 (t : Fin cfgA.N) (d) : (dats m 0 c).before (1 : Fin 5) t d = blkAt m c (1 : Fin 5) t :=
  ((dats m 0 c).before_in_eq_fetched (1 : Fin 5) rfl (fun _ => rfl) (fun _ _ _ => rfl)
    (fun t => by rw [after1]; unfold Dat.blockOf blkAt; rfl) t d).trans (by unfold Dat.fetched Dat.blockOf blkAt; rfl)
theorem before2 (t : Fin cfgA.N) (d) : (dats m 0 c).before (2 : Fin 5) t d = blkAt m c (2 : Fin 5) t :=
  ((dats m 0 c).before_in_eq_fetched (2 : Fin 5) rfl (fun _ => rfl) (fun _ _ _ => rfl)
    (fun t => by rw [after2]; unfold Dat.blockOf blkAt; rfl) t d).trans (by unfold Dat.fetched Dat.blockOf blkAt; rfl)
theorem before3 (t : Fin cfgA.N) (d) : (dats m 0 c).before (3 : Fin 5) t d = blkAt m c (3 : Fin 5) t :=
  ((dats m 0 c).before_in_eq_fetched (3 : Fin 5) rfl (fun _ => rfl) (fun _ _ _ => rfl)
    (fun t => by rw [after3]; unfold Dat.blockOf blkAt; rfl) t d).trans (by unfold Dat.fetched Dat.blockOf blkAt; rfl)
theorem before4 (t : Fin cfgA.N) (d) : (dats m 0 c).before (4 : Fin 5) t d = d := by
  rw [(dats m 0 c).before_out_traj (4 : Fin 5) rfl (fun _ _ => rfl)
    (fun t ht _ hf => absurd (hf.symm.trans (fresh_out t.val t.isLt.le)) Bool.false_ne_true) t.val t rfl d]
  simp only [fresh_out t.val t.isLt.le, ↓reduceIte]

end Cert.KernelIdeal.Flash

end
-- ==== Proof.KernelIdeal.Head.lean ====
/-
  One head's step of the online softmax, as a function of the head's blocks: the scores, the mask of the diagonal, the
  new maximum, sum and product, and the gated output; and each of them at an index.
-/
module

public import proofs.«01_k».proof.Proof.KernelIdeal.Runs
public import Idealize.ShloMosaic.Lib.Pointwise

@[expose] public section

set_option maxRecDepth 16384
set_option Elab.async false

noncomputable section

namespace Cert.KernelIdeal.Flash

open Cert.KernelIdeal Cert.KernelIdeal.Gen
open Idealize.ShloMosaic

/-! ## The operations -/

/-- The scores of a block of keys against a block of queries: keys by queries. -/
def hScore (kb : S1x512x128.Idx → Elt Ideal .bf16) (qb : S1x128x512.Idx → Elt Ideal .bf16) : FVec Ideal S512x512 .f32 :=
  matmul dot_S512x128_S128x512_S512x512_1_0_0_1_n_n none
    (shapeCast S512x128 kb shapeCasts_S1x512x128_S512x128 : FVec Ideal S512x128 .bf16)
    (shapeCast S128x512 qb shapeCasts_S1x128x512_S128x512 : FVec Ideal S128x512 .bf16) (constant S512x512 .f32 0x00000000#32)

/-- The diagonal block's scores, those of keys after their query masked. -/
def hMask (s : FVec Ideal S512x512 .f32) : FVec Ideal S512x512 .f32 :=
  select (cmpi .sle (iota .tc S512x512 32 [0] iota_S512x512_d0_w32) (iota .tc S512x512 32 [1] iota_S512x512_d1_w32)) s
    (broadcast S512x512 (Named.named κ "mask" 0xF149F2CA#32))

/-- The new maximum as a row. -/
def hTop (s : FVec Ideal S512x512 .f32) (mb : S1x1x512.Idx → Elt Ideal .f32) : FVec Ideal S1x512 .f32 :=
  maximumf (shapeCast S1x512 mb shapeCasts_S1x1x512_S1x512 : FVec Ideal S1x512 .f32)
    (shapeCast S1x512 (multiReduction .maximumf [0] S512 s 0xFF800000#32 reduces_S512x512_S512 (.inl rfl) rfl) shapeCasts_S512_S1x512)
/-- What the old sum and product are multiplied by. -/
def hAlpha (s : FVec Ideal S512x512 .f32) (mb : S1x1x512.Idx → Elt Ideal .f32) : FVec Ideal S1x512 .f32 :=
  exp2 (subf (shapeCast S1x512 mb shapeCasts_S1x1x512_S1x512 : FVec Ideal S1x512 .f32) (hTop s mb))
/-- The block's weights. -/
def hP (s : FVec Ideal S512x512 .f32) (mb : S1x1x512.Idx → Elt Ideal .f32) : FVec Ideal S512x512 .f32 :=
  exp2 (subf s (broadcastTo S512x512 (hTop s mb) broadcasts_S1x512_S512x512))
/-- The new maximum, as it is stored. -/
def hM (s : FVec Ideal S512x512 .f32) (mb : S1x1x512.Idx → Elt Ideal .f32) : FVec Ideal S1x1x512 .f32 :=
  shapeCast S1x1x512 (hTop s mb) shapeCasts_S1x512_S1x1x512
/-- The new sum, as it is stored. -/
def hL (s : FVec Ideal S512x512 .f32) (mb lb : S1x1x512.Idx → Elt Ideal .f32) : FVec Ideal S1x1x512 .f32 :=
  shapeCast S1x1x512
    (addf (mulf (hAlpha s mb) (shapeCast S1x512 lb shapeCasts_S1x1x512_S1x512))
      (shapeCast S1x512 (multiReduction .add [0] S512 (hP s mb) 0x00000000#32 reduces_S512x512_S512 (.inl rfl) rfl) shapeCasts_S512_S1x512))
    shapeCasts_S1x512_S1x1x512
/-- The new product, as it is stored. -/
def hA (s : FVec Ideal S512x512 .f32) (mb : S1x1x512.Idx → Elt Ideal .f32) (vb : S1x64x512.Idx → Elt Ideal .bf16)
    (ab : S1x64x512.Idx → Elt Ideal .f32) : FVec Ideal S1x64x512 .f32 :=
  shapeCast S1x64x512
    (addf (mulf (broadcastTo S64x512 (hAlpha s mb) broadcasts_S1x512_S64x512) (shapeCast S64x512 ab shapeCasts_S1x64x512_S64x512))
      (matmul dot_S64x512_S512x512_S64x512_1_0_0_1_n_n none
        (shapeCast S64x512 vb shapeCasts_S1x64x512_S64x512 : FVec Ideal S64x512 .bf16)
        (truncf .bf16 (hP s mb) bitsLt_bf16_f32) (constant S64x512 .f32 0x00000000#32)))
    shapeCasts_S64x512_S1x64x512
/-- The gate's factor. -/
def hGate (gb : S1x64x512.Idx → Elt Ideal .f32) : FVec Ideal S64x512 .f32 :=
  mulf (shapeCast S64x512 gb shapeCasts_S1x64x512_S64x512 : FVec Ideal S64x512 .f32)
    (divf (broadcast S64x512 (FloatOps.ofBits .f32 0x3F800000#32))
      (addf (broadcast S64x512 (FloatOps.ofBits .f32 0x3F800000#32))
        (exp (subf (broadcast S64x512 (FloatOps.ofBits .f32 0x00000000#32)) (shapeCast S64x512 gb shapeCasts_S1x64x512_S64x512 : FVec Ideal S64x512 .f32)))))
/-- The head's output: the product over the sum, gated. -/
def hO (ab : S1x64x512.Idx → Elt Ideal .f32) (lb : S1x1x512.Idx → Elt Ideal .f32) (gb : S1x64x512.Idx → Elt Ideal .f32) :
    FVec Ideal S1x64x512 .bf16 :=
  shapeCast S1x64x512
    (truncf .bf16
      (mulf (divf (shapeCast S64x512 ab shapeCasts_S1x64x512_S64x512 : FVec Ideal S64x512 .f32)
          (broadcastTo S64x512 (shapeCast S1x512 lb shapeCasts_S1x1x512_S1x512 : FVec Ideal S1x512 .f32) broadcasts_S1x512_S64x512)) (hGate gb)) bitsLt_bf16_f32)
    shapeCasts_S64x512_S1x64x512

/-! ## At an index -/

theorem hScore_at (kb : S1x512x128.Idx → Elt Ideal .bf16) (qb : S1x128x512.Idx → Elt Ideal .bf16) (k q : Fin 512) :
    hScore kb qb (ix2 k q) = ∑ d : Fin 128, kb (ix3 0 k d) * qb (ix3 0 d q) := by
  unfold hScore
  pointwise

theorem hMask_at (s : FVec Ideal S512x512 .f32) (k q : Fin 512) :
    hMask s (ix2 k q) = if k.val ≤ q.val then s (ix2 k q) else ⊥ := by
  unfold hMask
  pointwise
  rw [IdealRules.named_const.ideal_named_scalar κ "mask" _ ⊥ rfl]
  have hk : (BitVec.ofNat 32 k.val).toInt = k.val := by
    have h := k.isLt
    rw [BitVec.toInt_eq_toNat_of_lt (by rw [BitVec.toNat_ofNat]; omega), BitVec.toNat_ofNat, Nat.mod_eq_of_lt (by omega)]
  have hq : (BitVec.ofNat 32 q.val).toInt = q.val := by
    have h := q.isLt
    rw [BitVec.toInt_eq_toNat_of_lt (by rw [BitVec.toNat_ofNat]; omega), BitVec.toNat_ofNat, Nat.mod_eq_of_lt (by omega)]
  by_cases h : k.val ≤ q.val
  · rw [if_pos h]
    exact if_pos (IntOp.cmpi_sle.2 (by rw [hk, hq]; exact_mod_cast h))
  · rw [if_neg h]
    exact if_neg fun h' => h (by have := IntOp.cmpi_sle.1 h'; rw [hk, hq] at this; exact_mod_cast this)

theorem hTop_at (s : FVec Ideal S512x512 .f32) (mb : S1x1x512.Idx → Elt Ideal .f32) (q : Fin 512) :
    hTop s mb (ix2 0 q) = max (mb (ix3 0 0 q)) (Finset.univ.sup fun k : Fin 512 => s (ix2 k q)) := by
  unfold hTop
  pointwise
  have e : Ideal.ofBits FTy.f32 0xFF800000#32 = ⊥ := by simp [Ideal.ofBits, Ideal.ieee]
  rw [e]
  rfl

theorem hAlpha_at (s : FVec Ideal S512x512 .f32) (mb : S1x1x512.Idx → Elt Ideal .f32) (q : Fin 512) :
    hAlpha s mb (ix2 0 q) = Ideal.exp2 (mb (ix3 0 0 q) - hTop s mb (ix2 0 q)) := by
  unfold hAlpha
  pointwise
  rfl

theorem hP_at (s : FVec Ideal S512x512 .f32) (mb : S1x1x512.Idx → Elt Ideal .f32) (k q : Fin 512) :
    hP s mb (ix2 k q) = Ideal.exp2 (s (ix2 k q) - hTop s mb (ix2 0 q)) := by
  unfold hP
  pointwise
  rfl

theorem hM_at (s : FVec Ideal S512x512 .f32) (mb : S1x1x512.Idx → Elt Ideal .f32) (q : Fin 512) :
    hM s mb (ix3 0 0 q) = hTop s mb (ix2 0 q) := by
  unfold hM
  pointwise

theorem hL_at (s : FVec Ideal S512x512 .f32) (mb lb : S1x1x512.Idx → Elt Ideal .f32) (q : Fin 512) :
    hL s mb lb (ix3 0 0 q) = hAlpha s mb (ix2 0 q) * lb (ix3 0 0 q) + ∑ k : Fin 512, hP s mb (ix2 k q) := by
  unfold hL
  pointwise

theorem hA_at (s : FVec Ideal S512x512 .f32) (mb : S1x1x512.Idx → Elt Ideal .f32) (vb : S1x64x512.Idx → Elt Ideal .bf16)
    (ab : S1x64x512.Idx → Elt Ideal .f32) (d : Fin 64) (q : Fin 512) :
    hA s mb vb ab (ix3 0 d q)
      = hAlpha s mb (ix2 0 q) * ab (ix3 0 d q) + ∑ k : Fin 512, vb (ix3 0 d k) * hP s mb (ix2 k q) := by
  unfold hA
  pointwise

theorem hO_at (ab : S1x64x512.Idx → Elt Ideal .f32) (lb : S1x1x512.Idx → Elt Ideal .f32) (gb : S1x64x512.Idx → Elt Ideal .f32)
    (d : Fin 64) (q : Fin 512) :
    hO ab lb gb (ix3 0 d q)
      = Ideal.div (ab (ix3 0 d q)) (lb (ix3 0 0 q)) * (gb (ix3 0 d q) * Ideal.div 1 (1 + Ideal.exp (0 - gb (ix3 0 d q)))) := by
  unfold hO hGate
  pointwise

end Cert.KernelIdeal.Flash

end
-- ==== Proof.KernelIdeal.Stores.lean ====
/-
  What the body's stores leave, head by head. The stores of a scratch go up the heads; after those of heads below `n`
  the scratch holds the update `G` there and what it held before, `Z`, above. Stated for the three scratches and the
  output's block, with the loads of one head.
-/
module

public import proofs.«01_k».proof.Proof.KernelIdeal.Head
public import Idealize.ShloMosaic.Lib.Pipeline.ValueKit

@[expose] public section

set_option maxRecDepth 16384
set_option Elab.async false

noncomputable section

namespace Cert.KernelIdeal.Flash

open Cert.KernelIdeal Cert.KernelIdeal.Gen
open Idealize.ShloMosaic

/-! ## One head's part of each buffer -/

/-- Head `h`'s row of a maximum or sum. -/
def hRow (x : S16x1x512.Idx → Elt Ideal .f32) (h : Fin 16) : S1x1x512.Idx → Elt Ideal .f32 := fun j => x (ix3 h 0 (j 2))
/-- Head `h`'s slab of the product. -/
def hSlab (x : S16x64x512.Idx → Elt Ideal .f32) (h : Fin 16) : S1x64x512.Idx → Elt Ideal .f32 := fun j => x (ix3 h (j 1) (j 2))
/-- Head `h`'s queries. -/
def qB (x : S1x2048x512.Idx → Elt Ideal .bf16) (h : Fin 16) : S1x128x512.Idx → Elt Ideal .bf16 := fun j =>
  x (ix3 0 ⟨128 * h.val + (j 1 : Fin 128).val, by have := h.isLt; have : (j 1 : Fin 128).val < 128 := (j 1 : Fin 128).isLt; omega⟩ (j 2))
/-- The keys of head `h`'s group. -/
def kB (x : S1x512x512.Idx → Elt Ideal .bf16) (h : Fin 16) : S1x512x128.Idx → Elt Ideal .bf16 := fun j =>
  x (ix3 0 (j 1) ⟨128 * (h.val / 4) + (j 2 : Fin 128).val, by have := h.isLt; have : (j 2 : Fin 128).val < 128 := (j 2 : Fin 128).isLt; omega⟩)
/-- The values of head `h`'s group. -/
def vB (x : S1x256x512.Idx → Elt Ideal .bf16) (h : Fin 16) : S1x64x512.Idx → Elt Ideal .bf16 := fun j =>
  x (ix3 0 ⟨64 * (h.val / 4) + (j 1 : Fin 64).val, by have := h.isLt; have : (j 1 : Fin 64).val < 64 := (j 1 : Fin 64).isLt; omega⟩ (j 2))
/-- Head `h`'s gate. -/
def gB (x : S1x1024x512.Idx → Elt Ideal .f32) (h : Fin 16) : S1x64x512.Idx → Elt Ideal .f32 := fun j =>
  x (ix3 0 ⟨64 * h.val + (j 1 : Fin 64).val, by have := h.isLt; have : (j 1 : Fin 64).val < 64 := (j 1 : Fin 64).isLt; omega⟩ (j 2))

/-! ## The updates of whole buffers -/

variable (s : Fin 16 → FVec Ideal S512x512 .f32)

/-- The maxima after the step. -/
def upM (m0 : S16x1x512.Idx → Elt Ideal .f32) : S16x1x512.Idx → Elt Ideal .f32 := fun y =>
  hM (s (y 0)) (hRow m0 (y 0)) (ix3 0 0 (y 2))
/-- The sums after the step. -/
def upL (m0 l0 : S16x1x512.Idx → Elt Ideal .f32) : S16x1x512.Idx → Elt Ideal .f32 := fun y =>
  hL (s (y 0)) (hRow m0 (y 0)) (hRow l0 (y 0)) (ix3 0 0 (y 2))
/-- The products after the step. -/
def upA (m0 : S16x1x512.Idx → Elt Ideal .f32) (v : Fin 16 → S1x64x512.Idx → Elt Ideal .bf16) (a0 : S16x64x512.Idx → Elt Ideal .f32) :
    S16x64x512.Idx → Elt Ideal .f32 := fun y =>
  hA (s (y 0)) (hRow m0 (y 0)) (v (y 0)) (hSlab a0 (y 0)) (ix3 0 (y 1) (y 2))
/-- The output's block. -/
def upO (a : S16x64x512.Idx → Elt Ideal .f32) (l : S16x1x512.Idx → Elt Ideal .f32) (g : Fin 16 → S1x64x512.Idx → Elt Ideal .f32) :
    S1x1024x512.Idx → Elt Ideal .bf16 := fun y =>
  let h : Fin 16 := ⟨(y 1 : Fin 1024).val / 64, by have : (y 1 : Fin 1024).val < 1024 := (y 1 : Fin 1024).isLt; omega⟩
  hO (hSlab a h) (hRow l h) (g h) (ix3 0 ⟨(y 1 : Fin 1024).val % 64, Nat.mod_lt _ (by omega)⟩ (y 2))

/-! ## A head's rectangle -/

theorem inbRow (n : ℕ) (h : n < 16) : ∀ a, (![n, 0, 0] : Fin 3 → ℕ) a + S1x1x512.size a ≤ S16x1x512.size a := by
  intro a; fin_cases a <;> simp [S1x1x512, S16x1x512] <;> omega
theorem inbSlab (n : ℕ) (h : n < 16) : ∀ a, (![n, 0, 0] : Fin 3 → ℕ) a + S1x64x512.size a ≤ S16x64x512.size a := by
  intro a; fin_cases a <;> simp [S1x64x512, S16x64x512] <;> omega
theorem inbQ (n : ℕ) (h : n < 16) : ∀ a, (![0, 128 * n, 0] : Fin 3 → ℕ) a + S1x128x512.size a ≤ S1x2048x512.size a := by
  intro a; fin_cases a <;> simp [S1x128x512, S1x2048x512] <;> omega
theorem inbK (n : ℕ) (h : n < 16) : ∀ a, (![0, 0, 128 * (n / 4)] : Fin 3 → ℕ) a + S1x512x128.size a ≤ S1x512x512.size a := by
  intro a; fin_cases a <;> simp [S1x512x128, S1x512x512] <;> omega
theorem inbV (n : ℕ) (h : n < 16) : ∀ a, (![0, 64 * (n / 4), 0] : Fin 3 → ℕ) a + S1x64x512.size a ≤ S1x256x512.size a := by
  intro a; fin_cases a <;> simp [S1x64x512, S1x256x512] <;> omega
theorem inbO (n : ℕ) (h : n < 16) : ∀ a, (![0, 64 * n, 0] : Fin 3 → ℕ) a + S1x64x512.size a ≤ S1x1024x512.size a := by
  intro a; fin_cases a <;> simp [S1x64x512, S1x1024x512] <;> omega

abbrev rectRow (n : ℕ) (h : n < 16) : Rect S16x1x512 := Rect.unit ![n, 0, 0] S1x1x512.size (inbRow n h)
abbrev rectSlab (n : ℕ) (h : n < 16) : Rect S16x64x512 := Rect.unit ![n, 0, 0] S1x64x512.size (inbSlab n h)
abbrev rectO (n : ℕ) (h : n < 16) : Rect S1x1024x512 := Rect.unit ![0, 64 * n, 0] S1x64x512.size (inbO n h)

theorem emb_row (n : ℕ) (h : n < 16) (x : S1x1x512.Idx) : (rectRow n h).emb x = ix3 ⟨n, h⟩ 0 (x 2) := by
  funext a
  apply Fin.ext
  refine (Rect.idx_unit_val _ _ _ x a).trans ?_
  have h0 : (x 0 : Fin 1).val = 0 := Nat.lt_one_iff.1 (x 0 : Fin 1).isLt
  have h1 : (x 1 : Fin 1).val = 0 := Nat.lt_one_iff.1 (x 1 : Fin 1).isLt
  fin_cases a
  · show n + (x 0 : Fin 1).val = n; omega
  · show 0 + (x 1 : Fin 1).val = 0; omega
  · show 0 + (x 2 : Fin 512).val = (x 2 : Fin 512).val; omega
theorem emb_slab (n : ℕ) (h : n < 16) (x : S1x64x512.Idx) : (rectSlab n h).emb x = ix3 ⟨n, h⟩ (x 1) (x 2) := by
  funext a
  apply Fin.ext
  refine (Rect.idx_unit_val _ _ _ x a).trans ?_
  have h0 : (x 0 : Fin 1).val = 0 := Nat.lt_one_iff.1 (x 0 : Fin 1).isLt
  fin_cases a
  · show n + (x 0 : Fin 1).val = n; omega
  · show 0 + (x 1 : Fin 64).val = (x 1 : Fin 64).val; omega
  · show 0 + (x 2 : Fin 512).val = (x 2 : Fin 512).val; omega
theorem emb_O (n : ℕ) (h : n < 16) (x : S1x64x512.Idx) : (rectO n h).emb x
    = ix3 0 ⟨64 * n + (x 1 : Fin 64).val, by have : (x 1 : Fin 64).val < 64 := (x 1 : Fin 64).isLt; omega⟩ (x 2) := by
  funext a
  apply Fin.ext
  refine (Rect.idx_unit_val _ _ _ x a).trans ?_
  have h0 : (x 0 : Fin 1).val = 0 := Nat.lt_one_iff.1 (x 0 : Fin 1).isLt
  fin_cases a
  · show 0 + (x 0 : Fin 1).val = 0; omega
  · rfl
  · show 0 + (x 2 : Fin 512).val = (x 2 : Fin 512).val; omega

theorem idx_row (x : S1x1x512.Idx) : x = ix3 0 0 (x 2) := by
  rw [eq_ix3 x]; congr 1 <;> exact Subsingleton.elim (α := Fin 1) _ _
theorem idx_slab (x : S1x64x512.Idx) : x = ix3 0 (x 1) (x 2) := by
  rw [eq_ix3 x]; congr 1; exact Subsingleton.elim (α := Fin 1) _ _

/-! ## The stores so far -/

/-- After the stores `L`, heads below `n` hold `G` and the others `Z`: rows. -/
def DoneR (G Z : S16x1x512.Idx → Elt Ideal .f32) (n : ℕ) (L : List (View.Piece (Elt Ideal) S16x1x512 .f32)) : Prop :=
  ∀ y, View.canon L y = if (y 0 : Fin 16).val < n then G y else Z y
/-- The same: slabs. -/
def DoneS (G Z : S16x64x512.Idx → Elt Ideal .f32) (n : ℕ) (L : List (View.Piece (Elt Ideal) S16x64x512 .f32)) : Prop :=
  ∀ y, View.canon L y = if (y 0 : Fin 16).val < n then G y else Z y
/-- The same: the output's block. -/
def DoneO (G Z : S1x1024x512.Idx → Elt Ideal .bf16) (n : ℕ) (L : List (View.Piece (Elt Ideal) S1x1024x512 .bf16)) : Prop :=
  ∀ y, View.canon L y = if (y 1 : Fin 1024).val < 64 * n then G y else Z y

variable {G Z : S16x1x512.Idx → Elt Ideal .f32}

theorem DoneR.start (G : S16x1x512.Idx → Elt Ideal .f32) (L) : DoneR G (View.canon L) 0 L := fun y => (if_neg (Nat.not_lt_zero _)).symm
theorem DoneS.start (G : S16x64x512.Idx → Elt Ideal .f32) (L) : DoneS G (View.canon L) 0 L := fun y => (if_neg (Nat.not_lt_zero _)).symm
theorem DoneO.start (G : S1x1024x512.Idx → Elt Ideal .bf16) (L) : DoneO G (View.canon L) 0 L := fun y => (if_neg (by omega)).symm

theorem DoneR.step {n : ℕ} (hn : n < 16) {L} (hd : DoneR G Z n L) {inb} {w : S1x1x512.Idx → Elt Ideal .f32}
    (hw : ∀ x : S1x1x512.Idx, w x = G (ix3 ⟨n, hn⟩ 0 (x 2))) :
    DoneR G Z (n + 1) (⟨Rect.unit ![n, 0, 0] S1x1x512.size inb, w⟩ :: L) := by
  intro y
  by_cases h : (y 0 : Fin 16).val = n
  · obtain ⟨x, rfl⟩ : ∃ x, y = (rectRow n hn).emb x := by
      refine ⟨(ix3 0 0 (y 2) : S1x1x512.Idx), ?_⟩
      rw [emb_row]; conv_lhs => rw [eq_ix3 y]
      congr 1
      · exact Fin.ext h
      · exact Subsingleton.elim (α := Fin 1) _ _
    rw [if_pos (by omega)]
    exact (View.canon_cons_emb (rectRow n hn) w L x).trans ((hw x).trans (congrArg G (emb_row n hn x).symm))
  · rw [View.canon_cons_of_not_mem, hd y]
    · by_cases h' : (y 0 : Fin 16).val < n
      · rw [if_pos h', if_pos (by omega)]
      · rw [if_neg h', if_neg (by omega)]
    · intro hm
      have := ((Rect.mem_set_unit (inb := inb)).1 hm) 0
      have h1 : n ≤ (y 0 : Fin 16).val := this.1
      have h2 : (y 0 : Fin 16).val < n + 1 := this.2
      omega

theorem DoneS.step {G Z : S16x64x512.Idx → Elt Ideal .f32} {n : ℕ} (hn : n < 16) {L} (hd : DoneS G Z n L) {inb} {w : S1x64x512.Idx → Elt Ideal .f32}
    (hw : ∀ x : S1x64x512.Idx, w x = G (ix3 ⟨n, hn⟩ (x 1) (x 2))) :
    DoneS G Z (n + 1) (⟨Rect.unit ![n, 0, 0] S1x64x512.size inb, w⟩ :: L) := by
  intro y
  by_cases h : (y 0 : Fin 16).val = n
  · obtain ⟨x, rfl⟩ : ∃ x, y = (rectSlab n hn).emb x := by
      refine ⟨(ix3 0 (y 1) (y 2) : S1x64x512.Idx), ?_⟩
      rw [emb_slab]; conv_lhs => rw [eq_ix3 y]
      congr 1
      exact Fin.ext h
    rw [if_pos (by omega)]
    exact (View.canon_cons_emb (rectSlab n hn) w L x).trans ((hw x).trans (congrArg G (emb_slab n hn x).symm))
  · rw [View.canon_cons_of_not_mem, hd y]
    · by_cases h' : (y 0 : Fin 16).val < n
      · rw [if_pos h', if_pos (by omega)]
      · rw [if_neg h', if_neg (by omega)]
    · intro hm
      have := ((Rect.mem_set_unit (inb := inb)).1 hm) 0
      have h1 : n ≤ (y 0 : Fin 16).val := this.1
      have h2 : (y 0 : Fin 16).val < n + 1 := this.2
      omega

theorem DoneO.step {G Z : S1x1024x512.Idx → Elt Ideal .bf16} {n o : ℕ} (hn : n < 16) (ho : o = 64 * n) {L} (hd : DoneO G Z n L) {inb}
    {w : S1x64x512.Idx → Elt Ideal .bf16}
    (hw : ∀ x : S1x64x512.Idx, w x = G (ix3 0 ⟨64 * n + (x 1 : Fin 64).val, by have : (x 1 : Fin 64).val < 64 := (x 1 : Fin 64).isLt; omega⟩ (x 2))) :
    DoneO G Z (n + 1) (⟨Rect.unit ![0, o, 0] S1x64x512.size inb, w⟩ :: L) := by
  subst ho
  intro y
  have hlt : (y 1 : Fin 1024).val < 1024 := (y 1 : Fin 1024).isLt
  by_cases h : (y 1 : Fin 1024).val / 64 = n
  · obtain ⟨x, rfl⟩ : ∃ x, y = (rectO n hn).emb x := by
      refine ⟨(ix3 0 ⟨(y 1 : Fin 1024).val % 64, Nat.mod_lt _ (by omega)⟩ (y 2) : S1x64x512.Idx), ?_⟩
      rw [emb_O]; conv_lhs => rw [eq_ix3 y]
      congr 1
      · exact Subsingleton.elim (α := Fin 1) _ _
      · apply Fin.ext; show (y 1 : Fin 1024).val = 64 * n + (y 1 : Fin 1024).val % 64; omega
    rw [if_pos (by omega)]
    exact (View.canon_cons_emb (rectO n hn) w L x).trans ((hw x).trans (congrArg G (emb_O n hn x).symm))
  · rw [View.canon_cons_of_not_mem, hd y]
    · by_cases h' : (y 1 : Fin 1024).val < 64 * n
      · rw [if_pos h', if_pos (by omega)]
      · rw [if_neg h', if_neg (by omega)]
    · intro hm
      have := ((Rect.mem_set_unit (inb := inb)).1 hm) 1
      have h1 : 64 * n ≤ (y 1 : Fin 1024).val := this.1
      have h2 : (y 1 : Fin 1024).val < 64 * n + 64 := this.2
      omega

theorem DoneR.all {L} (h : DoneR G Z 16 L) : View.canon L = G := by
  funext y; exact (h y).trans (if_pos (y 0 : Fin 16).isLt)
theorem DoneS.all {G Z : S16x64x512.Idx → Elt Ideal .f32} {L} (h : DoneS G Z 16 L) : View.canon L = G := by
  funext y; exact (h y).trans (if_pos (y 0 : Fin 16).isLt)
theorem DoneO.all {G Z : S1x1024x512.Idx → Elt Ideal .bf16} {L} (h : DoneO G Z 16 L) : View.canon L = G := by
  funext y; exact (h y).trans (if_pos (y 1 : Fin 1024).isLt)

/-! ## A head's load after the stores so far, and from a scratch's old contents -/

theorem DoneR.read {κ sp} (v : View sig κ sp S16x1x512 .f32) {n : ℕ} (hn : n < 16) {L} (hd : DoneR G Z n L) (inb) :
    v.readCov L (Rect.unit (s := S16x1x512) ![n, 0, 0] S1x1x512.size inb).toLoadRect = hRow Z ⟨n, hn⟩ := by
  rw [View.readCov_eq_canon']
  funext x
  have e : (rectRow n hn).emb x = ix3 ⟨n, hn⟩ 0 (x 2) := emb_row n hn x
  have e0 : ((rectRow n hn).emb x 0 : Fin 16).val = n := congrArg (fun z => (z 0 : Fin 16).val) e
  exact (hd ((rectRow n hn).emb x)).trans ((if_neg (by omega)).trans (congrArg Z e))
theorem DoneS.read {G Z : S16x64x512.Idx → Elt Ideal .f32} {κ sp} (v : View sig κ sp S16x64x512 .f32) {n : ℕ} (hn : n < 16) {L}
    (hd : DoneS G Z n L) (inb) :
    v.readCov L (Rect.unit (s := S16x64x512) ![n, 0, 0] S1x64x512.size inb).toLoadRect = hSlab Z ⟨n, hn⟩ := by
  rw [View.readCov_eq_canon']
  funext x
  have e : (rectSlab n hn).emb x = ix3 ⟨n, hn⟩ (x 1) (x 2) := emb_slab n hn x
  have e0 : ((rectSlab n hn).emb x 0 : Fin 16).val = n := congrArg (fun z => (z 0 : Fin 16).val) e
  exact (hd ((rectSlab n hn).emb x)).trans ((if_neg (by omega)).trans (congrArg Z e))

theorem DoneR.readAll {κ sp} (v : View sig κ sp S16x1x512 .f32) {n : ℕ} (hn : n < 16) {L} (hd : DoneR G Z 16 L) (inb) :
    v.readCov L (Rect.unit (s := S16x1x512) ![n, 0, 0] S1x1x512.size inb).toLoadRect = hRow G ⟨n, hn⟩ := by
  rw [View.readCov_eq_canon', hd.all]
  funext x
  exact congrArg G (emb_row n hn x)
theorem DoneS.readAll {G Z : S16x64x512.Idx → Elt Ideal .f32} {κ sp} (v : View sig κ sp S16x64x512 .f32) {n : ℕ} (hn : n < 16) {L}
    (hd : DoneS G Z 16 L) (inb) :
    v.readCov L (Rect.unit (s := S16x64x512) ![n, 0, 0] S1x64x512.size inb).toLoadRect = hSlab G ⟨n, hn⟩ := by
  rw [View.readCov_eq_canon', hd.all]
  funext x
  exact congrArg G (emb_slab n hn x)

theorem read_row (x : S16x1x512.Idx → Elt Ideal .f32) (n : ℕ) (hn : n < 16) (inb) :
    View.readAt (Elt Ideal) (Memref.whole cc0_scratch0 : Memref sig .tc .vmem S16x1x512 .f32).view
      (Rect.unit (s := S16x1x512) ![n, 0, 0] S1x1x512.size inb).toLoadRect x = hRow x ⟨n, hn⟩ := by
  funext j
  exact congrArg x (emb_row n hn j)

theorem blk_q (a : Memref sig .tc .vmem S1x2048x512 .bf16) (x : S1x2048x512.Idx → Elt Ideal .bf16) (h : Fin 16) (inb) :
    View.readAt (Elt Ideal) a.view (Rect.unit (s := S1x2048x512) ![0, 128 * h.val, 0] S1x128x512.size inb).toLoadRect (a.view.rep x) = qB x h := by
  rw [View.readAt_rep]
  funext j
  refine congrArg x (funext fun d => Fin.ext ?_)
  refine (Rect.idx_unit_val _ _ _ j d).trans ?_
  have h0 : (j 0 : Fin 1).val = 0 := Nat.lt_one_iff.1 (j 0 : Fin 1).isLt
  fin_cases d
  · show 0 + (j 0 : Fin 1).val = 0; omega
  · rfl
  · exact Nat.zero_add _
theorem blk_k (a : Memref sig .tc .vmem S1x512x512 .bf16) (x : S1x512x512.Idx → Elt Ideal .bf16) (h : Fin 16) (inb) :
    View.readAt (Elt Ideal) a.view (Rect.unit (s := S1x512x512) ![0, 0, 128 * (h.val / 4)] S1x512x128.size inb).toLoadRect (a.view.rep x) = kB x h := by
  rw [View.readAt_rep]
  funext j
  refine congrArg x (funext fun d => Fin.ext ?_)
  refine (Rect.idx_unit_val _ _ _ j d).trans ?_
  have h0 : (j 0 : Fin 1).val = 0 := Nat.lt_one_iff.1 (j 0 : Fin 1).isLt
  fin_cases d
  · show 0 + (j 0 : Fin 1).val = 0; omega
  · exact Nat.zero_add _
  · rfl
theorem blk_v (a : Memref sig .tc .vmem S1x256x512 .bf16) (x : S1x256x512.Idx → Elt Ideal .bf16) (h : Fin 16) (inb) :
    View.readAt (Elt Ideal) a.view (Rect.unit (s := S1x256x512) ![0, 64 * (h.val / 4), 0] S1x64x512.size inb).toLoadRect (a.view.rep x) = vB x h := by
  rw [View.readAt_rep]
  funext j
  refine congrArg x (funext fun d => Fin.ext ?_)
  refine (Rect.idx_unit_val _ _ _ j d).trans ?_
  have h0 : (j 0 : Fin 1).val = 0 := Nat.lt_one_iff.1 (j 0 : Fin 1).isLt
  fin_cases d
  · show 0 + (j 0 : Fin 1).val = 0; omega
  · rfl
  · exact Nat.zero_add _
theorem blk_g (a : Memref sig .tc .vmem S1x1024x512 .f32) (x : S1x1024x512.Idx → Elt Ideal .f32) (h : Fin 16) (inb) :
    View.readAt (Elt Ideal) a.view (Rect.unit (s := S1x1024x512) ![0, 64 * h.val, 0] S1x64x512.size inb).toLoadRect (a.view.rep x) = gB x h := by
  rw [View.readAt_rep]
  funext j
  refine congrArg x (funext fun d => Fin.ext ?_)
  refine (Rect.idx_unit_val _ _ _ j d).trans ?_
  have h0 : (j 0 : Fin 1).val = 0 := Nat.lt_one_iff.1 (j 0 : Fin 1).isLt
  fin_cases d
  · show 0 + (j 0 : Fin 1).val = 0; omega
  · rfl
  · exact Nat.zero_add _

/-! ## A head's blocks as the body loads them -/

/-- The scores of head `h`, from the staging buffers. -/
def sRead (a5 : Memref sig .tc .vmem S1x2048x512 .bf16) (a6 : Memref sig .tc .vmem S1x512x512 .bf16)
    (x0 : S1x2048x512.Idx → Elt Ideal .bf16) (x1 : S1x512x512.Idx → Elt Ideal .bf16) (n : ℕ) (h : n < 16) : FVec Ideal S512x512 .f32 :=
  hScore (View.readAt (Elt Ideal) a6.view (Rect.unit (s := S1x512x512) ![0, 0, 128 * (n / 4)] S1x512x128.size (inbK n h)).toLoadRect (a6.view.rep x1))
    (View.readAt (Elt Ideal) a5.view (Rect.unit (s := S1x2048x512) ![0, 128 * n, 0] S1x128x512.size (inbQ n h)).toLoadRect (a5.view.rep x0))
/-- The values of head `h`, from the staging buffer. -/
def vRead (a7 : Memref sig .tc .vmem S1x256x512 .bf16) (x2 : S1x256x512.Idx → Elt Ideal .bf16) (n : ℕ) (h : n < 16) :
    S1x64x512.Idx → Elt Ideal .bf16 :=
  View.readAt (Elt Ideal) a7.view (Rect.unit (s := S1x256x512) ![0, 64 * (n / 4), 0] S1x64x512.size (inbV n h)).toLoadRect (a7.view.rep x2)
/-- The gate of head `h`, from the staging buffer. -/
def gRead (a8 : Memref sig .tc .vmem S1x1024x512 .f32) (x3 : S1x1024x512.Idx → Elt Ideal .f32) (n : ℕ) (h : n < 16) :
    S1x64x512.Idx → Elt Ideal .f32 :=
  View.readAt (Elt Ideal) a8.view (Rect.unit (s := S1x1024x512) ![0, 64 * n, 0] S1x64x512.size (inbO n h)).toLoadRect (a8.view.rep x3)

/-- Head `h`'s scores of the blocks. -/
def sB (x0 : S1x2048x512.Idx → Elt Ideal .bf16) (x1 : S1x512x512.Idx → Elt Ideal .bf16) (h : Fin 16) : FVec Ideal S512x512 .f32 :=
  hScore (kB x1 h) (qB x0 h)

theorem sRead_eq (a5 a6 x0 x1 n h) : sRead a5 a6 x0 x1 n h = sB x0 x1 ⟨n, h⟩ :=
  congrArg₂ hScore (blk_k a6 x1 ⟨n, h⟩ _) (blk_q a5 x0 ⟨n, h⟩ _)
theorem vRead_eq (a7 x2 n h) : vRead a7 x2 n h = vB x2 ⟨n, h⟩ := blk_v a7 x2 ⟨n, h⟩ _
theorem gRead_eq (a8 x3 n h) : gRead a8 x3 n h = gB x3 ⟨n, h⟩ := blk_g a8 x3 ⟨n, h⟩ _

/-! ## One head's store -/

theorem put_m (m0 : S16x1x512.Idx → Elt Ideal .f32) (n : ℕ) (h : n < 16) {sn mb} (hs : sn = s ⟨n, h⟩) (hm : mb = hRow m0 ⟨n, h⟩)
    (x : S1x1x512.Idx) : hM sn mb x = upM s m0 (ix3 ⟨n, h⟩ 0 (x 2)) := by
  subst hs hm; exact congrArg _ (idx_row x)
theorem put_l (m0 l0 : S16x1x512.Idx → Elt Ideal .f32) (n : ℕ) (h : n < 16) {sn mb lb} (hs : sn = s ⟨n, h⟩) (hm : mb = hRow m0 ⟨n, h⟩)
    (hl : lb = hRow l0 ⟨n, h⟩) (x : S1x1x512.Idx) : hL sn mb lb x = upL s m0 l0 (ix3 ⟨n, h⟩ 0 (x 2)) := by
  subst hs hm hl; exact congrArg _ (idx_row x)
theorem put_a (m0 : S16x1x512.Idx → Elt Ideal .f32) (v : Fin 16 → S1x64x512.Idx → Elt Ideal .bf16) (a0 : S16x64x512.Idx → Elt Ideal .f32)
    (n : ℕ) (h : n < 16) {sn mb vb ab} (hs : sn = s ⟨n, h⟩) (hm : mb = hRow m0 ⟨n, h⟩) (hv : vb = v ⟨n, h⟩) (ha : ab = hSlab a0 ⟨n, h⟩)
    (x : S1x64x512.Idx) : hA sn mb vb ab x = upA s m0 v a0 (ix3 ⟨n, h⟩ (x 1) (x 2)) := by
  subst hs hm hv ha; exact congrArg _ (idx_slab x)
theorem put_o (a : S16x64x512.Idx → Elt Ideal .f32) (l : S16x1x512.Idx → Elt Ideal .f32) (g : Fin 16 → S1x64x512.Idx → Elt Ideal .f32)
    (n : ℕ) (h : n < 16) {ab lb gb} (ha : ab = hSlab a ⟨n, h⟩) (hl : lb = hRow l ⟨n, h⟩) (hg : gb = g ⟨n, h⟩) (x : S1x64x512.Idx) :
    hO ab lb gb x = upO a l g (ix3 0 ⟨64 * n + (x 1 : Fin 64).val, by have : (x 1 : Fin 64).val < 64 := (x 1 : Fin 64).isLt; omega⟩ (x 2)) := by
  subst ha hl hg
  have hx : (x 1 : Fin 64).val < 64 := (x 1 : Fin 64).isLt
  have e1 : (64 * n + (x 1 : Fin 64).val) / 64 = n := by omega
  have e2 : (64 * n + (x 1 : Fin 64).val) % 64 = (x 1 : Fin 64).val := by omega
  show _ = hO (hSlab a ⟨(64 * n + (x 1 : Fin 64).val) / 64, _⟩) (hRow l ⟨(64 * n + (x 1 : Fin 64).val) / 64, _⟩)
    (g ⟨(64 * n + (x 1 : Fin 64).val) / 64, _⟩) (ix3 0 ⟨(64 * n + (x 1 : Fin 64).val) % 64, _⟩ (x 2))
  simp only [e1, e2]
  exact congrArg _ (idx_slab x)

theorem read_rowL (x : S16x1x512.Idx → Elt Ideal .f32) (n : ℕ) (hn : n < 16) (inb) :
    View.readAt (Elt Ideal) (Memref.whole cc0_scratch1 : Memref sig .tc .vmem S16x1x512 .f32).view
      (Rect.unit (s := S16x1x512) ![n, 0, 0] S1x1x512.size inb).toLoadRect x = hRow x ⟨n, hn⟩ := by
  funext j
  exact congrArg x (emb_row n hn j)
theorem read_slab (x : S16x64x512.Idx → Elt Ideal .f32) (n : ℕ) (hn : n < 16) (inb) :
    View.readAt (Elt Ideal) (Memref.whole cc0_scratch2 : Memref sig .tc .vmem S16x64x512 .f32).view
      (Rect.unit (s := S16x64x512) ![n, 0, 0] S1x64x512.size inb).toLoadRect x = hSlab x ⟨n, hn⟩ := by
  funext j
  exact congrArg x (emb_slab n hn j)

/-! ## The fills of a row's first step -/

/-- Every maximum starts at the mask's value. -/
def fillM : S16x1x512.Idx → Elt Ideal .f32 := fun _ => ⊥
/-- Every sum starts at zero. -/
def fillL : S16x1x512.Idx → Elt Ideal .f32 := fun _ => 0
/-- Every product starts at zero. -/
def fillA : S16x64x512.Idx → Elt Ideal .f32 := fun _ => 0

theorem pay_m : (k0_pay1 : FVec Ideal S16x1x512 .f32) = fillM := by
  funext y
  unfold k0_pay1
  pointwise
  exact IdealRules.named_const.ideal_named_scalar κ "mask" _ ⊥ rfl
theorem pay_l : (k0_pay2 : FVec Ideal S16x1x512 .f32) = fillL := by
  funext y
  unfold k0_pay2 fillL
  pointwise
theorem pay_a : (k0_pay3 : FVec Ideal S16x64x512 .f32) = fillA := by
  funext y
  unfold k0_pay3 fillA
  pointwise

theorem start_m (G : S16x1x512.Idx → Elt Ideal .f32) {inb} :
    DoneR G fillM 0 [⟨Rect.unit ![0, 0, 0] S16x1x512.size inb, (k0_pay1 : FVec Ideal S16x1x512 .f32)⟩] := by
  rw [pay_m]
  exact fun y => (congrFun (View.canon_cons_unit_lit (Val := Elt Ideal) (S := S16x1x512) (e := .f32) inb fillM [] (by decide)) y).trans
    (if_neg (Nat.not_lt_zero _)).symm
theorem start_l (G : S16x1x512.Idx → Elt Ideal .f32) {inb} :
    DoneR G fillL 0 [⟨Rect.unit ![0, 0, 0] S16x1x512.size inb, (k0_pay2 : FVec Ideal S16x1x512 .f32)⟩] := by
  rw [pay_l]
  exact fun y => (congrFun (View.canon_cons_unit_lit (Val := Elt Ideal) (S := S16x1x512) (e := .f32) inb fillL [] (by decide)) y).trans
    (if_neg (Nat.not_lt_zero _)).symm
theorem start_a (G : S16x64x512.Idx → Elt Ideal .f32) {inb} :
    DoneS G fillA 0 [⟨Rect.unit ![0, 0, 0] S16x64x512.size inb, (k0_pay3 : FVec Ideal S16x64x512 .f32)⟩] := by
  rw [pay_a]
  exact fun y => (congrFun (View.canon_cons_unit_lit (Val := Elt Ideal) (S := S16x64x512) (e := .f32) inb fillA [] (by decide)) y).trans
    (if_neg (Nat.not_lt_zero _)).symm

/-- Head `h`'s scores of the diagonal's blocks. -/
def sDiag (x0 : S1x2048x512.Idx → Elt Ideal .bf16) (x1 : S1x512x512.Idx → Elt Ideal .bf16) (h : Fin 16) : FVec Ideal S512x512 .f32 :=
  hMask (sB x0 x1 h)

end Cert.KernelIdeal.Flash

end
-- ==== Proof.KernelIdeal.LeftA.lean ====
/-
  What a row's only step leaves in the scratches and the output.
-/
module

public import proofs.«01_k».proof.Proof.KernelIdeal.Stores

@[expose] public section

set_option maxRecDepth 65536
set_option Elab.async false
set_option maxHeartbeats 4000000

noncomputable section

namespace Cert.KernelIdeal.Flash

open Cert.KernelIdeal Cert.KernelIdeal.Gen
open Idealize.ShloMosaic

attribute [local irreducible] View.readCov

variable (c : Dev nD) (a5 : Memref sig .tc .vmem S1x2048x512 .bf16) (a6 : Memref sig .tc .vmem S1x512x512 .bf16)
  (a7 : Memref sig .tc .vmem S1x256x512 .bf16) (a8 : Memref sig .tc .vmem S1x1024x512 .f32)
  (x0 : S1x2048x512.Idx → Elt Ideal .bf16) (x1 : S1x512x512.Idx → Elt Ideal .bf16)
  (x2 : S1x256x512.Idx → Elt Ideal .bf16) (x3 : S1x1024x512.Idx → Elt Ideal .f32)

/-! The maxima, the sums and the products, after the heads below each number. -/

theorem runA_m0 : DoneR (upM (sDiag x0 x1) fillM) fillM 0 (runA.sl.HM_1) := start_m _
theorem runA_l0 : DoneR (upL (sDiag x0 x1) fillM fillL) fillL 0 (runA.sl.HL_1) := start_l _
theorem runA_a0 : DoneS (upA (sDiag x0 x1) fillM (vB x2) fillA) fillA 0 (runA.sl.HA_1) := start_a _
theorem runA_m1 : DoneR (upM (sDiag x0 x1) fillM) fillM 1 (runA.sl.HM_2 a5 a6 x0 x1) :=
  DoneR.step (by omega : 0 < 16) (runA_m0 x0 x1) (fun x => put_m (sDiag x0 x1) fillM 0 (by omega) (congrArg hMask (sRead_eq a5 a6 x0 x1 0 (by omega))) (DoneR.read scM.view (by omega) (runA_m0 x0 x1) (inbRow 0 (by omega))) x)
theorem runA_l1 : DoneR (upL (sDiag x0 x1) fillM fillL) fillL 1 (runA.sl.HL_2 a5 a6 x0 x1) :=
  DoneR.step (by omega : 0 < 16) (runA_l0 x0 x1) (fun x => put_l (sDiag x0 x1) fillM fillL 0 (by omega) (congrArg hMask (sRead_eq a5 a6 x0 x1 0 (by omega))) (DoneR.read scM.view (by omega) (runA_m0 x0 x1) (inbRow 0 (by omega))) (DoneR.read scL.view (by omega) (runA_l0 x0 x1) (inbRow 0 (by omega))) x)
theorem runA_m2 : DoneR (upM (sDiag x0 x1) fillM) fillM 2 (runA.sl.HM_3 a5 a6 x0 x1) :=
  DoneR.step (by omega : 1 < 16) (runA_m1 a5 a6 x0 x1) (fun x => put_m (sDiag x0 x1) fillM 1 (by omega) (congrArg hMask (sRead_eq a5 a6 x0 x1 1 (by omega))) (DoneR.read scM.view (by omega) (runA_m1 a5 a6 x0 x1) (inbRow 1 (by omega))) x)
theorem runA_l2 : DoneR (upL (sDiag x0 x1) fillM fillL) fillL 2 (runA.sl.HL_3 a5 a6 x0 x1) :=
  DoneR.step (by omega : 1 < 16) (runA_l1 a5 a6 x0 x1) (fun x => put_l (sDiag x0 x1) fillM fillL 1 (by omega) (congrArg hMask (sRead_eq a5 a6 x0 x1 1 (by omega))) (DoneR.read scM.view (by omega) (runA_m1 a5 a6 x0 x1) (inbRow 1 (by omega))) (DoneR.read scL.view (by omega) (runA_l1 a5 a6 x0 x1) (inbRow 1 (by omega))) x)
theorem runA_m3 : DoneR (upM (sDiag x0 x1) fillM) fillM 3 (runA.sl.HM_4 a5 a6 x0 x1) :=
  DoneR.step (by omega : 2 < 16) (runA_m2 a5 a6 x0 x1) (fun x => put_m (sDiag x0 x1) fillM 2 (by omega) (congrArg hMask (sRead_eq a5 a6 x0 x1 2 (by omega))) (DoneR.read scM.view (by omega) (runA_m2 a5 a6 x0 x1) (inbRow 2 (by omega))) x)
theorem runA_l3 : DoneR (upL (sDiag x0 x1) fillM fillL) fillL 3 (runA.sl.HL_4 a5 a6 x0 x1) :=
  DoneR.step (by omega : 2 < 16) (runA_l2 a5 a6 x0 x1) (fun x => put_l (sDiag x0 x1) fillM fillL 2 (by omega) (congrArg hMask (sRead_eq a5 a6 x0 x1 2 (by omega))) (DoneR.read scM.view (by omega) (runA_m2 a5 a6 x0 x1) (inbRow 2 (by omega))) (DoneR.read scL.view (by omega) (runA_l2 a5 a6 x0 x1) (inbRow 2 (by omega))) x)
theorem runA_m4 : DoneR (upM (sDiag x0 x1) fillM) fillM 4 (runA.sl.HM_5 a5 a6 x0 x1) :=
  DoneR.step (by omega : 3 < 16) (runA_m3 a5 a6 x0 x1) (fun x => put_m (sDiag x0 x1) fillM 3 (by omega) (congrArg hMask (sRead_eq a5 a6 x0 x1 3 (by omega))) (DoneR.read scM.view (by omega) (runA_m3 a5 a6 x0 x1) (inbRow 3 (by omega))) x)
theorem runA_l4 : DoneR (upL (sDiag x0 x1) fillM fillL) fillL 4 (runA.sl.HL_5 a5 a6 x0 x1) :=
  DoneR.step (by omega : 3 < 16) (runA_l3 a5 a6 x0 x1) (fun x => put_l (sDiag x0 x1) fillM fillL 3 (by omega) (congrArg hMask (sRead_eq a5 a6 x0 x1 3 (by omega))) (DoneR.read scM.view (by omega) (runA_m3 a5 a6 x0 x1) (inbRow 3 (by omega))) (DoneR.read scL.view (by omega) (runA_l3 a5 a6 x0 x1) (inbRow 3 (by omega))) x)
theorem runA_m5 : DoneR (upM (sDiag x0 x1) fillM) fillM 5 (runA.sl.HM_6 a5 a6 x0 x1) :=
  DoneR.step (by omega : 4 < 16) (runA_m4 a5 a6 x0 x1) (fun x => put_m (sDiag x0 x1) fillM 4 (by omega) (congrArg hMask (sRead_eq a5 a6 x0 x1 4 (by omega))) (DoneR.read scM.view (by omega) (runA_m4 a5 a6 x0 x1) (inbRow 4 (by omega))) x)
theorem runA_l5 : DoneR (upL (sDiag x0 x1) fillM fillL) fillL 5 (runA.sl.HL_6 a5 a6 x0 x1) :=
  DoneR.step (by omega : 4 < 16) (runA_l4 a5 a6 x0 x1) (fun x => put_l (sDiag x0 x1) fillM fillL 4 (by omega) (congrArg hMask (sRead_eq a5 a6 x0 x1 4 (by omega))) (DoneR.read scM.view (by omega) (runA_m4 a5 a6 x0 x1) (inbRow 4 (by omega))) (DoneR.read scL.view (by omega) (runA_l4 a5 a6 x0 x1) (inbRow 4 (by omega))) x)
theorem runA_m6 : DoneR (upM (sDiag x0 x1) fillM) fillM 6 (runA.sl.HM_7 a5 a6 x0 x1) :=
  DoneR.step (by omega : 5 < 16) (runA_m5 a5 a6 x0 x1) (fun x => put_m (sDiag x0 x1) fillM 5 (by omega) (congrArg hMask (sRead_eq a5 a6 x0 x1 5 (by omega))) (DoneR.read scM.view (by omega) (runA_m5 a5 a6 x0 x1) (inbRow 5 (by omega))) x)
theorem runA_l6 : DoneR (upL (sDiag x0 x1) fillM fillL) fillL 6 (runA.sl.HL_7 a5 a6 x0 x1) :=
  DoneR.step (by omega : 5 < 16) (runA_l5 a5 a6 x0 x1) (fun x => put_l (sDiag x0 x1) fillM fillL 5 (by omega) (congrArg hMask (sRead_eq a5 a6 x0 x1 5 (by omega))) (DoneR.read scM.view (by omega) (runA_m5 a5 a6 x0 x1) (inbRow 5 (by omega))) (DoneR.read scL.view (by omega) (runA_l5 a5 a6 x0 x1) (inbRow 5 (by omega))) x)
theorem runA_m7 : DoneR (upM (sDiag x0 x1) fillM) fillM 7 (runA.sl.HM_8 a5 a6 x0 x1) :=
  DoneR.step (by omega : 6 < 16) (runA_m6 a5 a6 x0 x1) (fun x => put_m (sDiag x0 x1) fillM 6 (by omega) (congrArg hMask (sRead_eq a5 a6 x0 x1 6 (by omega))) (DoneR.read scM.view (by omega) (runA_m6 a5 a6 x0 x1) (inbRow 6 (by omega))) x)
theorem runA_l7 : DoneR (upL (sDiag x0 x1) fillM fillL) fillL 7 (runA.sl.HL_8 a5 a6 x0 x1) :=
  DoneR.step (by omega : 6 < 16) (runA_l6 a5 a6 x0 x1) (fun x => put_l (sDiag x0 x1) fillM fillL 6 (by omega) (congrArg hMask (sRead_eq a5 a6 x0 x1 6 (by omega))) (DoneR.read scM.view (by omega) (runA_m6 a5 a6 x0 x1) (inbRow 6 (by omega))) (DoneR.read scL.view (by omega) (runA_l6 a5 a6 x0 x1) (inbRow 6 (by omega))) x)
theorem runA_m8 : DoneR (upM (sDiag x0 x1) fillM) fillM 8 (runA.sl.HM_9 a5 a6 x0 x1) :=
  DoneR.step (by omega : 7 < 16) (runA_m7 a5 a6 x0 x1) (fun x => put_m (sDiag x0 x1) fillM 7 (by omega) (congrArg hMask (sRead_eq a5 a6 x0 x1 7 (by omega))) (DoneR.read scM.view (by omega) (runA_m7 a5 a6 x0 x1) (inbRow 7 (by omega))) x)
theorem runA_l8 : DoneR (upL (sDiag x0 x1) fillM fillL) fillL 8 (runA.sl.HL_9 a5 a6 x0 x1) :=
  DoneR.step (by omega : 7 < 16) (runA_l7 a5 a6 x0 x1) (fun x => put_l (sDiag x0 x1) fillM fillL 7 (by omega) (congrArg hMask (sRead_eq a5 a6 x0 x1 7 (by omega))) (DoneR.read scM.view (by omega) (runA_m7 a5 a6 x0 x1) (inbRow 7 (by omega))) (DoneR.read scL.view (by omega) (runA_l7 a5 a6 x0 x1) (inbRow 7 (by omega))) x)
theorem runA_m9 : DoneR (upM (sDiag x0 x1) fillM) fillM 9 (runA.sl.HM_10 a5 a6 x0 x1) :=
  DoneR.step (by omega : 8 < 16) (runA_m8 a5 a6 x0 x1) (fun x => put_m (sDiag x0 x1) fillM 8 (by omega) (congrArg hMask (sRead_eq a5 a6 x0 x1 8 (by omega))) (DoneR.read scM.view (by omega) (runA_m8 a5 a6 x0 x1) (inbRow 8 (by omega))) x)
theorem runA_l9 : DoneR (upL (sDiag x0 x1) fillM fillL) fillL 9 (runA.sl.HL_10 a5 a6 x0 x1) :=
  DoneR.step (by omega : 8 < 16) (runA_l8 a5 a6 x0 x1) (fun x => put_l (sDiag x0 x1) fillM fillL 8 (by omega) (congrArg hMask (sRead_eq a5 a6 x0 x1 8 (by omega))) (DoneR.read scM.view (by omega) (runA_m8 a5 a6 x0 x1) (inbRow 8 (by omega))) (DoneR.read scL.view (by omega) (runA_l8 a5 a6 x0 x1) (inbRow 8 (by omega))) x)
theorem runA_m10 : DoneR (upM (sDiag x0 x1) fillM) fillM 10 (runA.sl.HM_11 a5 a6 x0 x1) :=
  DoneR.step (by omega : 9 < 16) (runA_m9 a5 a6 x0 x1) (fun x => put_m (sDiag x0 x1) fillM 9 (by omega) (congrArg hMask (sRead_eq a5 a6 x0 x1 9 (by omega))) (DoneR.read scM.view (by omega) (runA_m9 a5 a6 x0 x1) (inbRow 9 (by omega))) x)
theorem runA_l10 : DoneR (upL (sDiag x0 x1) fillM fillL) fillL 10 (runA.sl.HL_11 a5 a6 x0 x1) :=
  DoneR.step (by omega : 9 < 16) (runA_l9 a5 a6 x0 x1) (fun x => put_l (sDiag x0 x1) fillM fillL 9 (by omega) (congrArg hMask (sRead_eq a5 a6 x0 x1 9 (by omega))) (DoneR.read scM.view (by omega) (runA_m9 a5 a6 x0 x1) (inbRow 9 (by omega))) (DoneR.read scL.view (by omega) (runA_l9 a5 a6 x0 x1) (inbRow 9 (by omega))) x)
theorem runA_m11 : DoneR (upM (sDiag x0 x1) fillM) fillM 11 (runA.sl.HM_12 a5 a6 x0 x1) :=
  DoneR.step (by omega : 10 < 16) (runA_m10 a5 a6 x0 x1) (fun x => put_m (sDiag x0 x1) fillM 10 (by omega) (congrArg hMask (sRead_eq a5 a6 x0 x1 10 (by omega))) (DoneR.read scM.view (by omega) (runA_m10 a5 a6 x0 x1) (inbRow 10 (by omega))) x)
theorem runA_l11 : DoneR (upL (sDiag x0 x1) fillM fillL) fillL 11 (runA.sl.HL_12 a5 a6 x0 x1) :=
  DoneR.step (by omega : 10 < 16) (runA_l10 a5 a6 x0 x1) (fun x => put_l (sDiag x0 x1) fillM fillL 10 (by omega) (congrArg hMask (sRead_eq a5 a6 x0 x1 10 (by omega))) (DoneR.read scM.view (by omega) (runA_m10 a5 a6 x0 x1) (inbRow 10 (by omega))) (DoneR.read scL.view (by omega) (runA_l10 a5 a6 x0 x1) (inbRow 10 (by omega))) x)
theorem runA_m12 : DoneR (upM (sDiag x0 x1) fillM) fillM 12 (runA.sl.HM_13 a5 a6 x0 x1) :=
  DoneR.step (by omega : 11 < 16) (runA_m11 a5 a6 x0 x1) (fun x => put_m (sDiag x0 x1) fillM 11 (by omega) (congrArg hMask (sRead_eq a5 a6 x0 x1 11 (by omega))) (DoneR.read scM.view (by omega) (runA_m11 a5 a6 x0 x1) (inbRow 11 (by omega))) x)
theorem runA_l12 : DoneR (upL (sDiag x0 x1) fillM fillL) fillL 12 (runA.sl.HL_13 a5 a6 x0 x1) :=
  DoneR.step (by omega : 11 < 16) (runA_l11 a5 a6 x0 x1) (fun x => put_l (sDiag x0 x1) fillM fillL 11 (by omega) (congrArg hMask (sRead_eq a5 a6 x0 x1 11 (by omega))) (DoneR.read scM.view (by omega) (runA_m11 a5 a6 x0 x1) (inbRow 11 (by omega))) (DoneR.read scL.view (by omega) (runA_l11 a5 a6 x0 x1) (inbRow 11 (by omega))) x)
theorem runA_m13 : DoneR (upM (sDiag x0 x1) fillM) fillM 13 (runA.sl.HM_14 a5 a6 x0 x1) :=
  DoneR.step (by omega : 12 < 16) (runA_m12 a5 a6 x0 x1) (fun x => put_m (sDiag x0 x1) fillM 12 (by omega) (congrArg hMask (sRead_eq a5 a6 x0 x1 12 (by omega))) (DoneR.read scM.view (by omega) (runA_m12 a5 a6 x0 x1) (inbRow 12 (by omega))) x)
theorem runA_l13 : DoneR (upL (sDiag x0 x1) fillM fillL) fillL 13 (runA.sl.HL_14 a5 a6 x0 x1) :=
  DoneR.step (by omega : 12 < 16) (runA_l12 a5 a6 x0 x1) (fun x => put_l (sDiag x0 x1) fillM fillL 12 (by omega) (congrArg hMask (sRead_eq a5 a6 x0 x1 12 (by omega))) (DoneR.read scM.view (by omega) (runA_m12 a5 a6 x0 x1) (inbRow 12 (by omega))) (DoneR.read scL.view (by omega) (runA_l12 a5 a6 x0 x1) (inbRow 12 (by omega))) x)
theorem runA_m14 : DoneR (upM (sDiag x0 x1) fillM) fillM 14 (runA.sl.HM_15 a5 a6 x0 x1) :=
  DoneR.step (by omega : 13 < 16) (runA_m13 a5 a6 x0 x1) (fun x => put_m (sDiag x0 x1) fillM 13 (by omega) (congrArg hMask (sRead_eq a5 a6 x0 x1 13 (by omega))) (DoneR.read scM.view (by omega) (runA_m13 a5 a6 x0 x1) (inbRow 13 (by omega))) x)
theorem runA_l14 : DoneR (upL (sDiag x0 x1) fillM fillL) fillL 14 (runA.sl.HL_15 a5 a6 x0 x1) :=
  DoneR.step (by omega : 13 < 16) (runA_l13 a5 a6 x0 x1) (fun x => put_l (sDiag x0 x1) fillM fillL 13 (by omega) (congrArg hMask (sRead_eq a5 a6 x0 x1 13 (by omega))) (DoneR.read scM.view (by omega) (runA_m13 a5 a6 x0 x1) (inbRow 13 (by omega))) (DoneR.read scL.view (by omega) (runA_l13 a5 a6 x0 x1) (inbRow 13 (by omega))) x)
theorem runA_m15 : DoneR (upM (sDiag x0 x1) fillM) fillM 15 (runA.sl.HM_16 a5 a6 x0 x1) :=
  DoneR.step (by omega : 14 < 16) (runA_m14 a5 a6 x0 x1) (fun x => put_m (sDiag x0 x1) fillM 14 (by omega) (congrArg hMask (sRead_eq a5 a6 x0 x1 14 (by omega))) (DoneR.read scM.view (by omega) (runA_m14 a5 a6 x0 x1) (inbRow 14 (by omega))) x)
theorem runA_l15 : DoneR (upL (sDiag x0 x1) fillM fillL) fillL 15 (runA.sl.HL_16 a5 a6 x0 x1) :=
  DoneR.step (by omega : 14 < 16) (runA_l14 a5 a6 x0 x1) (fun x => put_l (sDiag x0 x1) fillM fillL 14 (by omega) (congrArg hMask (sRead_eq a5 a6 x0 x1 14 (by omega))) (DoneR.read scM.view (by omega) (runA_m14 a5 a6 x0 x1) (inbRow 14 (by omega))) (DoneR.read scL.view (by omega) (runA_l14 a5 a6 x0 x1) (inbRow 14 (by omega))) x)
theorem runA_m16 : DoneR (upM (sDiag x0 x1) fillM) fillM 16 (runA.sl.HM_17 a5 a6 x0 x1) :=
  DoneR.step (by omega : 15 < 16) (runA_m15 a5 a6 x0 x1) (fun x => put_m (sDiag x0 x1) fillM 15 (by omega) (congrArg hMask (sRead_eq a5 a6 x0 x1 15 (by omega))) (DoneR.read scM.view (by omega) (runA_m15 a5 a6 x0 x1) (inbRow 15 (by omega))) x)
theorem runA_l16 : DoneR (upL (sDiag x0 x1) fillM fillL) fillL 16 (runA.sl.HL_17 a5 a6 x0 x1) :=
  DoneR.step (by omega : 15 < 16) (runA_l15 a5 a6 x0 x1) (fun x => put_l (sDiag x0 x1) fillM fillL 15 (by omega) (congrArg hMask (sRead_eq a5 a6 x0 x1 15 (by omega))) (DoneR.read scM.view (by omega) (runA_m15 a5 a6 x0 x1) (inbRow 15 (by omega))) (DoneR.read scL.view (by omega) (runA_l15 a5 a6 x0 x1) (inbRow 15 (by omega))) x)
theorem runA_a1 : DoneS (upA (sDiag x0 x1) fillM (vB x2) fillA) fillA 1 (runA.sl.HA_2 a5 a6 a7 x0 x1 x2) :=
  DoneS.step (by omega : 0 < 16) (runA_a0 x0 x1 x2)
    (fun x => put_a (sDiag x0 x1) fillM (vB x2) fillA 0 (by omega) (congrArg hMask (sRead_eq a5 a6 x0 x1 0 (by omega))) (DoneR.read scM.view (by omega) (runA_m0 x0 x1) (inbRow 0 (by omega))) (vRead_eq a7 x2 0 (by omega)) (DoneS.read scA.view (by omega) (runA_a0 x0 x1 x2) (inbSlab 0 (by omega))) x)
theorem runA_a2 : DoneS (upA (sDiag x0 x1) fillM (vB x2) fillA) fillA 2 (runA.sl.HA_3 a5 a6 a7 x0 x1 x2) :=
  DoneS.step (by omega : 1 < 16) (runA_a1 a5 a6 a7 x0 x1 x2)
    (fun x => put_a (sDiag x0 x1) fillM (vB x2) fillA 1 (by omega) (congrArg hMask (sRead_eq a5 a6 x0 x1 1 (by omega))) (DoneR.read scM.view (by omega) (runA_m1 a5 a6 x0 x1) (inbRow 1 (by omega))) (vRead_eq a7 x2 1 (by omega)) (DoneS.read scA.view (by omega) (runA_a1 a5 a6 a7 x0 x1 x2) (inbSlab 1 (by omega))) x)
theorem runA_a3 : DoneS (upA (sDiag x0 x1) fillM (vB x2) fillA) fillA 3 (runA.sl.HA_4 a5 a6 a7 x0 x1 x2) :=
  DoneS.step (by omega : 2 < 16) (runA_a2 a5 a6 a7 x0 x1 x2)
    (fun x => put_a (sDiag x0 x1) fillM (vB x2) fillA 2 (by omega) (congrArg hMask (sRead_eq a5 a6 x0 x1 2 (by omega))) (DoneR.read scM.view (by omega) (runA_m2 a5 a6 x0 x1) (inbRow 2 (by omega))) (vRead_eq a7 x2 2 (by omega)) (DoneS.read scA.view (by omega) (runA_a2 a5 a6 a7 x0 x1 x2) (inbSlab 2 (by omega))) x)
theorem runA_a4 : DoneS (upA (sDiag x0 x1) fillM (vB x2) fillA) fillA 4 (runA.sl.HA_5 a5 a6 a7 x0 x1 x2) :=
  DoneS.step (by omega : 3 < 16) (runA_a3 a5 a6 a7 x0 x1 x2)
    (fun x => put_a (sDiag x0 x1) fillM (vB x2) fillA 3 (by omega) (congrArg hMask (sRead_eq a5 a6 x0 x1 3 (by omega))) (DoneR.read scM.view (by omega) (runA_m3 a5 a6 x0 x1) (inbRow 3 (by omega))) (vRead_eq a7 x2 3 (by omega)) (DoneS.read scA.view (by omega) (runA_a3 a5 a6 a7 x0 x1 x2) (inbSlab 3 (by omega))) x)
theorem runA_a5 : DoneS (upA (sDiag x0 x1) fillM (vB x2) fillA) fillA 5 (runA.sl.HA_6 a5 a6 a7 x0 x1 x2) :=
  DoneS.step (by omega : 4 < 16) (runA_a4 a5 a6 a7 x0 x1 x2)
    (fun x => put_a (sDiag x0 x1) fillM (vB x2) fillA 4 (by omega) (congrArg hMask (sRead_eq a5 a6 x0 x1 4 (by omega))) (DoneR.read scM.view (by omega) (runA_m4 a5 a6 x0 x1) (inbRow 4 (by omega))) (vRead_eq a7 x2 4 (by omega)) (DoneS.read scA.view (by omega) (runA_a4 a5 a6 a7 x0 x1 x2) (inbSlab 4 (by omega))) x)
theorem runA_a6 : DoneS (upA (sDiag x0 x1) fillM (vB x2) fillA) fillA 6 (runA.sl.HA_7 a5 a6 a7 x0 x1 x2) :=
  DoneS.step (by omega : 5 < 16) (runA_a5 a5 a6 a7 x0 x1 x2)
    (fun x => put_a (sDiag x0 x1) fillM (vB x2) fillA 5 (by omega) (congrArg hMask (sRead_eq a5 a6 x0 x1 5 (by omega))) (DoneR.read scM.view (by omega) (runA_m5 a5 a6 x0 x1) (inbRow 5 (by omega))) (vRead_eq a7 x2 5 (by omega)) (DoneS.read scA.view (by omega) (runA_a5 a5 a6 a7 x0 x1 x2) (inbSlab 5 (by omega))) x)
theorem runA_a7 : DoneS (upA (sDiag x0 x1) fillM (vB x2) fillA) fillA 7 (runA.sl.HA_8 a5 a6 a7 x0 x1 x2) :=
  DoneS.step (by omega : 6 < 16) (runA_a6 a5 a6 a7 x0 x1 x2)
    (fun x => put_a (sDiag x0 x1) fillM (vB x2) fillA 6 (by omega) (congrArg hMask (sRead_eq a5 a6 x0 x1 6 (by omega))) (DoneR.read scM.view (by omega) (runA_m6 a5 a6 x0 x1) (inbRow 6 (by omega))) (vRead_eq a7 x2 6 (by omega)) (DoneS.read scA.view (by omega) (runA_a6 a5 a6 a7 x0 x1 x2) (inbSlab 6 (by omega))) x)
theorem runA_a8 : DoneS (upA (sDiag x0 x1) fillM (vB x2) fillA) fillA 8 (runA.sl.HA_9 a5 a6 a7 x0 x1 x2) :=
  DoneS.step (by omega : 7 < 16) (runA_a7 a5 a6 a7 x0 x1 x2)
    (fun x => put_a (sDiag x0 x1) fillM (vB x2) fillA 7 (by omega) (congrArg hMask (sRead_eq a5 a6 x0 x1 7 (by omega))) (DoneR.read scM.view (by omega) (runA_m7 a5 a6 x0 x1) (inbRow 7 (by omega))) (vRead_eq a7 x2 7 (by omega)) (DoneS.read scA.view (by omega) (runA_a7 a5 a6 a7 x0 x1 x2) (inbSlab 7 (by omega))) x)
theorem runA_a9 : DoneS (upA (sDiag x0 x1) fillM (vB x2) fillA) fillA 9 (runA.sl.HA_10 a5 a6 a7 x0 x1 x2) :=
  DoneS.step (by omega : 8 < 16) (runA_a8 a5 a6 a7 x0 x1 x2)
    (fun x => put_a (sDiag x0 x1) fillM (vB x2) fillA 8 (by omega) (congrArg hMask (sRead_eq a5 a6 x0 x1 8 (by omega))) (DoneR.read scM.view (by omega) (runA_m8 a5 a6 x0 x1) (inbRow 8 (by omega))) (vRead_eq a7 x2 8 (by omega)) (DoneS.read scA.view (by omega) (runA_a8 a5 a6 a7 x0 x1 x2) (inbSlab 8 (by omega))) x)
theorem runA_a10 : DoneS (upA (sDiag x0 x1) fillM (vB x2) fillA) fillA 10 (runA.sl.HA_11 a5 a6 a7 x0 x1 x2) :=
  DoneS.step (by omega : 9 < 16) (runA_a9 a5 a6 a7 x0 x1 x2)
    (fun x => put_a (sDiag x0 x1) fillM (vB x2) fillA 9 (by omega) (congrArg hMask (sRead_eq a5 a6 x0 x1 9 (by omega))) (DoneR.read scM.view (by omega) (runA_m9 a5 a6 x0 x1) (inbRow 9 (by omega))) (vRead_eq a7 x2 9 (by omega)) (DoneS.read scA.view (by omega) (runA_a9 a5 a6 a7 x0 x1 x2) (inbSlab 9 (by omega))) x)
theorem runA_a11 : DoneS (upA (sDiag x0 x1) fillM (vB x2) fillA) fillA 11 (runA.sl.HA_12 a5 a6 a7 x0 x1 x2) :=
  DoneS.step (by omega : 10 < 16) (runA_a10 a5 a6 a7 x0 x1 x2)
    (fun x => put_a (sDiag x0 x1) fillM (vB x2) fillA 10 (by omega) (congrArg hMask (sRead_eq a5 a6 x0 x1 10 (by omega))) (DoneR.read scM.view (by omega) (runA_m10 a5 a6 x0 x1) (inbRow 10 (by omega))) (vRead_eq a7 x2 10 (by omega)) (DoneS.read scA.view (by omega) (runA_a10 a5 a6 a7 x0 x1 x2) (inbSlab 10 (by omega))) x)
theorem runA_a12 : DoneS (upA (sDiag x0 x1) fillM (vB x2) fillA) fillA 12 (runA.sl.HA_13 a5 a6 a7 x0 x1 x2) :=
  DoneS.step (by omega : 11 < 16) (runA_a11 a5 a6 a7 x0 x1 x2)
    (fun x => put_a (sDiag x0 x1) fillM (vB x2) fillA 11 (by omega) (congrArg hMask (sRead_eq a5 a6 x0 x1 11 (by omega))) (DoneR.read scM.view (by omega) (runA_m11 a5 a6 x0 x1) (inbRow 11 (by omega))) (vRead_eq a7 x2 11 (by omega)) (DoneS.read scA.view (by omega) (runA_a11 a5 a6 a7 x0 x1 x2) (inbSlab 11 (by omega))) x)
theorem runA_a13 : DoneS (upA (sDiag x0 x1) fillM (vB x2) fillA) fillA 13 (runA.sl.HA_14 a5 a6 a7 x0 x1 x2) :=
  DoneS.step (by omega : 12 < 16) (runA_a12 a5 a6 a7 x0 x1 x2)
    (fun x => put_a (sDiag x0 x1) fillM (vB x2) fillA 12 (by omega) (congrArg hMask (sRead_eq a5 a6 x0 x1 12 (by omega))) (DoneR.read scM.view (by omega) (runA_m12 a5 a6 x0 x1) (inbRow 12 (by omega))) (vRead_eq a7 x2 12 (by omega)) (DoneS.read scA.view (by omega) (runA_a12 a5 a6 a7 x0 x1 x2) (inbSlab 12 (by omega))) x)
theorem runA_a14 : DoneS (upA (sDiag x0 x1) fillM (vB x2) fillA) fillA 14 (runA.sl.HA_15 a5 a6 a7 x0 x1 x2) :=
  DoneS.step (by omega : 13 < 16) (runA_a13 a5 a6 a7 x0 x1 x2)
    (fun x => put_a (sDiag x0 x1) fillM (vB x2) fillA 13 (by omega) (congrArg hMask (sRead_eq a5 a6 x0 x1 13 (by omega))) (DoneR.read scM.view (by omega) (runA_m13 a5 a6 x0 x1) (inbRow 13 (by omega))) (vRead_eq a7 x2 13 (by omega)) (DoneS.read scA.view (by omega) (runA_a13 a5 a6 a7 x0 x1 x2) (inbSlab 13 (by omega))) x)
theorem runA_a15 : DoneS (upA (sDiag x0 x1) fillM (vB x2) fillA) fillA 15 (runA.sl.HA_16 a5 a6 a7 x0 x1 x2) :=
  DoneS.step (by omega : 14 < 16) (runA_a14 a5 a6 a7 x0 x1 x2)
    (fun x => put_a (sDiag x0 x1) fillM (vB x2) fillA 14 (by omega) (congrArg hMask (sRead_eq a5 a6 x0 x1 14 (by omega))) (DoneR.read scM.view (by omega) (runA_m14 a5 a6 x0 x1) (inbRow 14 (by omega))) (vRead_eq a7 x2 14 (by omega)) (DoneS.read scA.view (by omega) (runA_a14 a5 a6 a7 x0 x1 x2) (inbSlab 14 (by omega))) x)
theorem runA_a16 : DoneS (upA (sDiag x0 x1) fillM (vB x2) fillA) fillA 16 (runA.sl.HA_17 a5 a6 a7 x0 x1 x2) :=
  DoneS.step (by omega : 15 < 16) (runA_a15 a5 a6 a7 x0 x1 x2)
    (fun x => put_a (sDiag x0 x1) fillM (vB x2) fillA 15 (by omega) (congrArg hMask (sRead_eq a5 a6 x0 x1 15 (by omega))) (DoneR.read scM.view (by omega) (runA_m15 a5 a6 x0 x1) (inbRow 15 (by omega))) (vRead_eq a7 x2 15 (by omega)) (DoneS.read scA.view (by omega) (runA_a15 a5 a6 a7 x0 x1 x2) (inbSlab 15 (by omega))) x)

/-- The output. -/
theorem runA_o : DoneO (upO (upA (sDiag x0 x1) fillM (vB x2) fillA) (upL (sDiag x0 x1) fillM fillL) (gB x3)) (View.canon []) 16
    (runA.sl.HO_16 a5 a6 a7 a8 x0 x1 x2 x3) :=
  DoneO.step (by omega : 15 < 16) rfl
    (DoneO.step (by omega : 14 < 16) rfl
    (DoneO.step (by omega : 13 < 16) rfl
    (DoneO.step (by omega : 12 < 16) rfl
    (DoneO.step (by omega : 11 < 16) rfl
    (DoneO.step (by omega : 10 < 16) rfl
    (DoneO.step (by omega : 9 < 16) rfl
    (DoneO.step (by omega : 8 < 16) rfl
    (DoneO.step (by omega : 7 < 16) rfl
    (DoneO.step (by omega : 6 < 16) rfl
    (DoneO.step (by omega : 5 < 16) rfl
    (DoneO.step (by omega : 4 < 16) rfl
    (DoneO.step (by omega : 3 < 16) rfl
    (DoneO.step (by omega : 2 < 16) rfl
    (DoneO.step (by omega : 1 < 16) rfl
    (DoneO.step (by omega : 0 < 16) rfl
    (DoneO.start _ [])
    (fun x => put_o _ _ (gB x3) 0 (by omega)
      ((runA_a16 a5 a6 a7 x0 x1 x2).readAll scA.view (by omega) (inbSlab 0 (by omega)))
      ((runA_l16 a5 a6 x0 x1).readAll scL.view (by omega) (inbRow 0 (by omega))) (gRead_eq a8 x3 0 (by omega)) x))
    (fun x => put_o _ _ (gB x3) 1 (by omega)
      ((runA_a16 a5 a6 a7 x0 x1 x2).readAll scA.view (by omega) (inbSlab 1 (by omega)))
      ((runA_l16 a5 a6 x0 x1).readAll scL.view (by omega) (inbRow 1 (by omega))) (gRead_eq a8 x3 1 (by omega)) x))
    (fun x => put_o _ _ (gB x3) 2 (by omega)
      ((runA_a16 a5 a6 a7 x0 x1 x2).readAll scA.view (by omega) (inbSlab 2 (by omega)))
      ((runA_l16 a5 a6 x0 x1).readAll scL.view (by omega) (inbRow 2 (by omega))) (gRead_eq a8 x3 2 (by omega)) x))
    (fun x => put_o _ _ (gB x3) 3 (by omega)
      ((runA_a16 a5 a6 a7 x0 x1 x2).readAll scA.view (by omega) (inbSlab 3 (by omega)))
      ((runA_l16 a5 a6 x0 x1).readAll scL.view (by omega) (inbRow 3 (by omega))) (gRead_eq a8 x3 3 (by omega)) x))
    (fun x => put_o _ _ (gB x3) 4 (by omega)
      ((runA_a16 a5 a6 a7 x0 x1 x2).readAll scA.view (by omega) (inbSlab 4 (by omega)))
      ((runA_l16 a5 a6 x0 x1).readAll scL.view (by omega) (inbRow 4 (by omega))) (gRead_eq a8 x3 4 (by omega)) x))
    (fun x => put_o _ _ (gB x3) 5 (by omega)
      ((runA_a16 a5 a6 a7 x0 x1 x2).readAll scA.view (by omega) (inbSlab 5 (by omega)))
      ((runA_l16 a5 a6 x0 x1).readAll scL.view (by omega) (inbRow 5 (by omega))) (gRead_eq a8 x3 5 (by omega)) x))
    (fun x => put_o _ _ (gB x3) 6 (by omega)
      ((runA_a16 a5 a6 a7 x0 x1 x2).readAll scA.view (by omega) (inbSlab 6 (by omega)))
      ((runA_l16 a5 a6 x0 x1).readAll scL.view (by omega) (inbRow 6 (by omega))) (gRead_eq a8 x3 6 (by omega)) x))
    (fun x => put_o _ _ (gB x3) 7 (by omega)
      ((runA_a16 a5 a6 a7 x0 x1 x2).readAll scA.view (by omega) (inbSlab 7 (by omega)))
      ((runA_l16 a5 a6 x0 x1).readAll scL.view (by omega) (inbRow 7 (by omega))) (gRead_eq a8 x3 7 (by omega)) x))
    (fun x => put_o _ _ (gB x3) 8 (by omega)
      ((runA_a16 a5 a6 a7 x0 x1 x2).readAll scA.view (by omega) (inbSlab 8 (by omega)))
      ((runA_l16 a5 a6 x0 x1).readAll scL.view (by omega) (inbRow 8 (by omega))) (gRead_eq a8 x3 8 (by omega)) x))
    (fun x => put_o _ _ (gB x3) 9 (by omega)
      ((runA_a16 a5 a6 a7 x0 x1 x2).readAll scA.view (by omega) (inbSlab 9 (by omega)))
      ((runA_l16 a5 a6 x0 x1).readAll scL.view (by omega) (inbRow 9 (by omega))) (gRead_eq a8 x3 9 (by omega)) x))
    (fun x => put_o _ _ (gB x3) 10 (by omega)
      ((runA_a16 a5 a6 a7 x0 x1 x2).readAll scA.view (by omega) (inbSlab 10 (by omega)))
      ((runA_l16 a5 a6 x0 x1).readAll scL.view (by omega) (inbRow 10 (by omega))) (gRead_eq a8 x3 10 (by omega)) x))
    (fun x => put_o _ _ (gB x3) 11 (by omega)
      ((runA_a16 a5 a6 a7 x0 x1 x2).readAll scA.view (by omega) (inbSlab 11 (by omega)))
      ((runA_l16 a5 a6 x0 x1).readAll scL.view (by omega) (inbRow 11 (by omega))) (gRead_eq a8 x3 11 (by omega)) x))
    (fun x => put_o _ _ (gB x3) 12 (by omega)
      ((runA_a16 a5 a6 a7 x0 x1 x2).readAll scA.view (by omega) (inbSlab 12 (by omega)))
      ((runA_l16 a5 a6 x0 x1).readAll scL.view (by omega) (inbRow 12 (by omega))) (gRead_eq a8 x3 12 (by omega)) x))
    (fun x => put_o _ _ (gB x3) 13 (by omega)
      ((runA_a16 a5 a6 a7 x0 x1 x2).readAll scA.view (by omega) (inbSlab 13 (by omega)))
      ((runA_l16 a5 a6 x0 x1).readAll scL.view (by omega) (inbRow 13 (by omega))) (gRead_eq a8 x3 13 (by omega)) x))
    (fun x => put_o _ _ (gB x3) 14 (by omega)
      ((runA_a16 a5 a6 a7 x0 x1 x2).readAll scA.view (by omega) (inbSlab 14 (by omega)))
      ((runA_l16 a5 a6 x0 x1).readAll scL.view (by omega) (inbRow 14 (by omega))) (gRead_eq a8 x3 14 (by omega)) x))
    (fun x => put_o _ _ (gB x3) 15 (by omega)
      ((runA_a16 a5 a6 a7 x0 x1 x2).readAll scA.view (by omega) (inbSlab 15 (by omega)))
      ((runA_l16 a5 a6 x0 x1).readAll scL.view (by omega) (inbRow 15 (by omega))) (gRead_eq a8 x3 15 (by omega)) x)

end Cert.KernelIdeal.Flash

end
-- ==== Proof.KernelIdeal.LeftB.lean ====
/-
  What the first step of a longer row leaves in the scratches.
-/
module

public import proofs.«01_k».proof.Proof.KernelIdeal.Stores

@[expose] public section

set_option maxRecDepth 65536
set_option Elab.async false
set_option maxHeartbeats 4000000

noncomputable section

namespace Cert.KernelIdeal.Flash

open Cert.KernelIdeal Cert.KernelIdeal.Gen
open Idealize.ShloMosaic

attribute [local irreducible] View.readCov

variable (c : Dev nD) (a5 : Memref sig .tc .vmem S1x2048x512 .bf16) (a6 : Memref sig .tc .vmem S1x512x512 .bf16)
  (a7 : Memref sig .tc .vmem S1x256x512 .bf16) (a8 : Memref sig .tc .vmem S1x1024x512 .f32)
  (x0 : S1x2048x512.Idx → Elt Ideal .bf16) (x1 : S1x512x512.Idx → Elt Ideal .bf16)
  (x2 : S1x256x512.Idx → Elt Ideal .bf16) (x3 : S1x1024x512.Idx → Elt Ideal .f32)

/-! The maxima, the sums and the products, after the heads below each number. -/

theorem runB_m0 : DoneR (upM (sB x0 x1) fillM) fillM 0 (runB.sl.HM_1) := start_m _
theorem runB_l0 : DoneR (upL (sB x0 x1) fillM fillL) fillL 0 (runB.sl.HL_1) := start_l _
theorem runB_a0 : DoneS (upA (sB x0 x1) fillM (vB x2) fillA) fillA 0 (runB.sl.HA_1) := start_a _
theorem runB_m1 : DoneR (upM (sB x0 x1) fillM) fillM 1 (runB.sl.HM_2 a5 a6 x0 x1) :=
  DoneR.step (by omega : 0 < 16) (runB_m0 x0 x1) (fun x => put_m (sB x0 x1) fillM 0 (by omega) (sRead_eq a5 a6 x0 x1 0 (by omega)) (DoneR.read scM.view (by omega) (runB_m0 x0 x1) (inbRow 0 (by omega))) x)
theorem runB_l1 : DoneR (upL (sB x0 x1) fillM fillL) fillL 1 (runB.sl.HL_2 a5 a6 x0 x1) :=
  DoneR.step (by omega : 0 < 16) (runB_l0 x0 x1) (fun x => put_l (sB x0 x1) fillM fillL 0 (by omega) (sRead_eq a5 a6 x0 x1 0 (by omega)) (DoneR.read scM.view (by omega) (runB_m0 x0 x1) (inbRow 0 (by omega))) (DoneR.read scL.view (by omega) (runB_l0 x0 x1) (inbRow 0 (by omega))) x)
theorem runB_m2 : DoneR (upM (sB x0 x1) fillM) fillM 2 (runB.sl.HM_3 a5 a6 x0 x1) :=
  DoneR.step (by omega : 1 < 16) (runB_m1 a5 a6 x0 x1) (fun x => put_m (sB x0 x1) fillM 1 (by omega) (sRead_eq a5 a6 x0 x1 1 (by omega)) (DoneR.read scM.view (by omega) (runB_m1 a5 a6 x0 x1) (inbRow 1 (by omega))) x)
theorem runB_l2 : DoneR (upL (sB x0 x1) fillM fillL) fillL 2 (runB.sl.HL_3 a5 a6 x0 x1) :=
  DoneR.step (by omega : 1 < 16) (runB_l1 a5 a6 x0 x1) (fun x => put_l (sB x0 x1) fillM fillL 1 (by omega) (sRead_eq a5 a6 x0 x1 1 (by omega)) (DoneR.read scM.view (by omega) (runB_m1 a5 a6 x0 x1) (inbRow 1 (by omega))) (DoneR.read scL.view (by omega) (runB_l1 a5 a6 x0 x1) (inbRow 1 (by omega))) x)
theorem runB_m3 : DoneR (upM (sB x0 x1) fillM) fillM 3 (runB.sl.HM_4 a5 a6 x0 x1) :=
  DoneR.step (by omega : 2 < 16) (runB_m2 a5 a6 x0 x1) (fun x => put_m (sB x0 x1) fillM 2 (by omega) (sRead_eq a5 a6 x0 x1 2 (by omega)) (DoneR.read scM.view (by omega) (runB_m2 a5 a6 x0 x1) (inbRow 2 (by omega))) x)
theorem runB_l3 : DoneR (upL (sB x0 x1) fillM fillL) fillL 3 (runB.sl.HL_4 a5 a6 x0 x1) :=
  DoneR.step (by omega : 2 < 16) (runB_l2 a5 a6 x0 x1) (fun x => put_l (sB x0 x1) fillM fillL 2 (by omega) (sRead_eq a5 a6 x0 x1 2 (by omega)) (DoneR.read scM.view (by omega) (runB_m2 a5 a6 x0 x1) (inbRow 2 (by omega))) (DoneR.read scL.view (by omega) (runB_l2 a5 a6 x0 x1) (inbRow 2 (by omega))) x)
theorem runB_m4 : DoneR (upM (sB x0 x1) fillM) fillM 4 (runB.sl.HM_5 a5 a6 x0 x1) :=
  DoneR.step (by omega : 3 < 16) (runB_m3 a5 a6 x0 x1) (fun x => put_m (sB x0 x1) fillM 3 (by omega) (sRead_eq a5 a6 x0 x1 3 (by omega)) (DoneR.read scM.view (by omega) (runB_m3 a5 a6 x0 x1) (inbRow 3 (by omega))) x)
theorem runB_l4 : DoneR (upL (sB x0 x1) fillM fillL) fillL 4 (runB.sl.HL_5 a5 a6 x0 x1) :=
  DoneR.step (by omega : 3 < 16) (runB_l3 a5 a6 x0 x1) (fun x => put_l (sB x0 x1) fillM fillL 3 (by omega) (sRead_eq a5 a6 x0 x1 3 (by omega)) (DoneR.read scM.view (by omega) (runB_m3 a5 a6 x0 x1) (inbRow 3 (by omega))) (DoneR.read scL.view (by omega) (runB_l3 a5 a6 x0 x1) (inbRow 3 (by omega))) x)
theorem runB_m5 : DoneR (upM (sB x0 x1) fillM) fillM 5 (runB.sl.HM_6 a5 a6 x0 x1) :=
  DoneR.step (by omega : 4 < 16) (runB_m4 a5 a6 x0 x1) (fun x => put_m (sB x0 x1) fillM 4 (by omega) (sRead_eq a5 a6 x0 x1 4 (by omega)) (DoneR.read scM.view (by omega) (runB_m4 a5 a6 x0 x1) (inbRow 4 (by omega))) x)
theorem runB_l5 : DoneR (upL (sB x0 x1) fillM fillL) fillL 5 (runB.sl.HL_6 a5 a6 x0 x1) :=
  DoneR.step (by omega : 4 < 16) (runB_l4 a5 a6 x0 x1) (fun x => put_l (sB x0 x1) fillM fillL 4 (by omega) (sRead_eq a5 a6 x0 x1 4 (by omega)) (DoneR.read scM.view (by omega) (runB_m4 a5 a6 x0 x1) (inbRow 4 (by omega))) (DoneR.read scL.view (by omega) (runB_l4 a5 a6 x0 x1) (inbRow 4 (by omega))) x)
theorem runB_m6 : DoneR (upM (sB x0 x1) fillM) fillM 6 (runB.sl.HM_7 a5 a6 x0 x1) :=
  DoneR.step (by omega : 5 < 16) (runB_m5 a5 a6 x0 x1) (fun x => put_m (sB x0 x1) fillM 5 (by omega) (sRead_eq a5 a6 x0 x1 5 (by omega)) (DoneR.read scM.view (by omega) (runB_m5 a5 a6 x0 x1) (inbRow 5 (by omega))) x)
theorem runB_l6 : DoneR (upL (sB x0 x1) fillM fillL) fillL 6 (runB.sl.HL_7 a5 a6 x0 x1) :=
  DoneR.step (by omega : 5 < 16) (runB_l5 a5 a6 x0 x1) (fun x => put_l (sB x0 x1) fillM fillL 5 (by omega) (sRead_eq a5 a6 x0 x1 5 (by omega)) (DoneR.read scM.view (by omega) (runB_m5 a5 a6 x0 x1) (inbRow 5 (by omega))) (DoneR.read scL.view (by omega) (runB_l5 a5 a6 x0 x1) (inbRow 5 (by omega))) x)
theorem runB_m7 : DoneR (upM (sB x0 x1) fillM) fillM 7 (runB.sl.HM_8 a5 a6 x0 x1) :=
  DoneR.step (by omega : 6 < 16) (runB_m6 a5 a6 x0 x1) (fun x => put_m (sB x0 x1) fillM 6 (by omega) (sRead_eq a5 a6 x0 x1 6 (by omega)) (DoneR.read scM.view (by omega) (runB_m6 a5 a6 x0 x1) (inbRow 6 (by omega))) x)
theorem runB_l7 : DoneR (upL (sB x0 x1) fillM fillL) fillL 7 (runB.sl.HL_8 a5 a6 x0 x1) :=
  DoneR.step (by omega : 6 < 16) (runB_l6 a5 a6 x0 x1) (fun x => put_l (sB x0 x1) fillM fillL 6 (by omega) (sRead_eq a5 a6 x0 x1 6 (by omega)) (DoneR.read scM.view (by omega) (runB_m6 a5 a6 x0 x1) (inbRow 6 (by omega))) (DoneR.read scL.view (by omega) (runB_l6 a5 a6 x0 x1) (inbRow 6 (by omega))) x)
theorem runB_m8 : DoneR (upM (sB x0 x1) fillM) fillM 8 (runB.sl.HM_9 a5 a6 x0 x1) :=
  DoneR.step (by omega : 7 < 16) (runB_m7 a5 a6 x0 x1) (fun x => put_m (sB x0 x1) fillM 7 (by omega) (sRead_eq a5 a6 x0 x1 7 (by omega)) (DoneR.read scM.view (by omega) (runB_m7 a5 a6 x0 x1) (inbRow 7 (by omega))) x)
theorem runB_l8 : DoneR (upL (sB x0 x1) fillM fillL) fillL 8 (runB.sl.HL_9 a5 a6 x0 x1) :=
  DoneR.step (by omega : 7 < 16) (runB_l7 a5 a6 x0 x1) (fun x => put_l (sB x0 x1) fillM fillL 7 (by omega) (sRead_eq a5 a6 x0 x1 7 (by omega)) (DoneR.read scM.view (by omega) (runB_m7 a5 a6 x0 x1) (inbRow 7 (by omega))) (DoneR.read scL.view (by omega) (runB_l7 a5 a6 x0 x1) (inbRow 7 (by omega))) x)
theorem runB_m9 : DoneR (upM (sB x0 x1) fillM) fillM 9 (runB.sl.HM_10 a5 a6 x0 x1) :=
  DoneR.step (by omega : 8 < 16) (runB_m8 a5 a6 x0 x1) (fun x => put_m (sB x0 x1) fillM 8 (by omega) (sRead_eq a5 a6 x0 x1 8 (by omega)) (DoneR.read scM.view (by omega) (runB_m8 a5 a6 x0 x1) (inbRow 8 (by omega))) x)
theorem runB_l9 : DoneR (upL (sB x0 x1) fillM fillL) fillL 9 (runB.sl.HL_10 a5 a6 x0 x1) :=
  DoneR.step (by omega : 8 < 16) (runB_l8 a5 a6 x0 x1) (fun x => put_l (sB x0 x1) fillM fillL 8 (by omega) (sRead_eq a5 a6 x0 x1 8 (by omega)) (DoneR.read scM.view (by omega) (runB_m8 a5 a6 x0 x1) (inbRow 8 (by omega))) (DoneR.read scL.view (by omega) (runB_l8 a5 a6 x0 x1) (inbRow 8 (by omega))) x)
theorem runB_m10 : DoneR (upM (sB x0 x1) fillM) fillM 10 (runB.sl.HM_11 a5 a6 x0 x1) :=
  DoneR.step (by omega : 9 < 16) (runB_m9 a5 a6 x0 x1) (fun x => put_m (sB x0 x1) fillM 9 (by omega) (sRead_eq a5 a6 x0 x1 9 (by omega)) (DoneR.read scM.view (by omega) (runB_m9 a5 a6 x0 x1) (inbRow 9 (by omega))) x)
theorem runB_l10 : DoneR (upL (sB x0 x1) fillM fillL) fillL 10 (runB.sl.HL_11 a5 a6 x0 x1) :=
  DoneR.step (by omega : 9 < 16) (runB_l9 a5 a6 x0 x1) (fun x => put_l (sB x0 x1) fillM fillL 9 (by omega) (sRead_eq a5 a6 x0 x1 9 (by omega)) (DoneR.read scM.view (by omega) (runB_m9 a5 a6 x0 x1) (inbRow 9 (by omega))) (DoneR.read scL.view (by omega) (runB_l9 a5 a6 x0 x1) (inbRow 9 (by omega))) x)
theorem runB_m11 : DoneR (upM (sB x0 x1) fillM) fillM 11 (runB.sl.HM_12 a5 a6 x0 x1) :=
  DoneR.step (by omega : 10 < 16) (runB_m10 a5 a6 x0 x1) (fun x => put_m (sB x0 x1) fillM 10 (by omega) (sRead_eq a5 a6 x0 x1 10 (by omega)) (DoneR.read scM.view (by omega) (runB_m10 a5 a6 x0 x1) (inbRow 10 (by omega))) x)
theorem runB_l11 : DoneR (upL (sB x0 x1) fillM fillL) fillL 11 (runB.sl.HL_12 a5 a6 x0 x1) :=
  DoneR.step (by omega : 10 < 16) (runB_l10 a5 a6 x0 x1) (fun x => put_l (sB x0 x1) fillM fillL 10 (by omega) (sRead_eq a5 a6 x0 x1 10 (by omega)) (DoneR.read scM.view (by omega) (runB_m10 a5 a6 x0 x1) (inbRow 10 (by omega))) (DoneR.read scL.view (by omega) (runB_l10 a5 a6 x0 x1) (inbRow 10 (by omega))) x)
theorem runB_m12 : DoneR (upM (sB x0 x1) fillM) fillM 12 (runB.sl.HM_13 a5 a6 x0 x1) :=
  DoneR.step (by omega : 11 < 16) (runB_m11 a5 a6 x0 x1) (fun x => put_m (sB x0 x1) fillM 11 (by omega) (sRead_eq a5 a6 x0 x1 11 (by omega)) (DoneR.read scM.view (by omega) (runB_m11 a5 a6 x0 x1) (inbRow 11 (by omega))) x)
theorem runB_l12 : DoneR (upL (sB x0 x1) fillM fillL) fillL 12 (runB.sl.HL_13 a5 a6 x0 x1) :=
  DoneR.step (by omega : 11 < 16) (runB_l11 a5 a6 x0 x1) (fun x => put_l (sB x0 x1) fillM fillL 11 (by omega) (sRead_eq a5 a6 x0 x1 11 (by omega)) (DoneR.read scM.view (by omega) (runB_m11 a5 a6 x0 x1) (inbRow 11 (by omega))) (DoneR.read scL.view (by omega) (runB_l11 a5 a6 x0 x1) (inbRow 11 (by omega))) x)
theorem runB_m13 : DoneR (upM (sB x0 x1) fillM) fillM 13 (runB.sl.HM_14 a5 a6 x0 x1) :=
  DoneR.step (by omega : 12 < 16) (runB_m12 a5 a6 x0 x1) (fun x => put_m (sB x0 x1) fillM 12 (by omega) (sRead_eq a5 a6 x0 x1 12 (by omega)) (DoneR.read scM.view (by omega) (runB_m12 a5 a6 x0 x1) (inbRow 12 (by omega))) x)
theorem runB_l13 : DoneR (upL (sB x0 x1) fillM fillL) fillL 13 (runB.sl.HL_14 a5 a6 x0 x1) :=
  DoneR.step (by omega : 12 < 16) (runB_l12 a5 a6 x0 x1) (fun x => put_l (sB x0 x1) fillM fillL 12 (by omega) (sRead_eq a5 a6 x0 x1 12 (by omega)) (DoneR.read scM.view (by omega) (runB_m12 a5 a6 x0 x1) (inbRow 12 (by omega))) (DoneR.read scL.view (by omega) (runB_l12 a5 a6 x0 x1) (inbRow 12 (by omega))) x)
theorem runB_m14 : DoneR (upM (sB x0 x1) fillM) fillM 14 (runB.sl.HM_15 a5 a6 x0 x1) :=
  DoneR.step (by omega : 13 < 16) (runB_m13 a5 a6 x0 x1) (fun x => put_m (sB x0 x1) fillM 13 (by omega) (sRead_eq a5 a6 x0 x1 13 (by omega)) (DoneR.read scM.view (by omega) (runB_m13 a5 a6 x0 x1) (inbRow 13 (by omega))) x)
theorem runB_l14 : DoneR (upL (sB x0 x1) fillM fillL) fillL 14 (runB.sl.HL_15 a5 a6 x0 x1) :=
  DoneR.step (by omega : 13 < 16) (runB_l13 a5 a6 x0 x1) (fun x => put_l (sB x0 x1) fillM fillL 13 (by omega) (sRead_eq a5 a6 x0 x1 13 (by omega)) (DoneR.read scM.view (by omega) (runB_m13 a5 a6 x0 x1) (inbRow 13 (by omega))) (DoneR.read scL.view (by omega) (runB_l13 a5 a6 x0 x1) (inbRow 13 (by omega))) x)
theorem runB_m15 : DoneR (upM (sB x0 x1) fillM) fillM 15 (runB.sl.HM_16 a5 a6 x0 x1) :=
  DoneR.step (by omega : 14 < 16) (runB_m14 a5 a6 x0 x1) (fun x => put_m (sB x0 x1) fillM 14 (by omega) (sRead_eq a5 a6 x0 x1 14 (by omega)) (DoneR.read scM.view (by omega) (runB_m14 a5 a6 x0 x1) (inbRow 14 (by omega))) x)
theorem runB_l15 : DoneR (upL (sB x0 x1) fillM fillL) fillL 15 (runB.sl.HL_16 a5 a6 x0 x1) :=
  DoneR.step (by omega : 14 < 16) (runB_l14 a5 a6 x0 x1) (fun x => put_l (sB x0 x1) fillM fillL 14 (by omega) (sRead_eq a5 a6 x0 x1 14 (by omega)) (DoneR.read scM.view (by omega) (runB_m14 a5 a6 x0 x1) (inbRow 14 (by omega))) (DoneR.read scL.view (by omega) (runB_l14 a5 a6 x0 x1) (inbRow 14 (by omega))) x)
theorem runB_m16 : DoneR (upM (sB x0 x1) fillM) fillM 16 (runB.sl.HM_17 a5 a6 x0 x1) :=
  DoneR.step (by omega : 15 < 16) (runB_m15 a5 a6 x0 x1) (fun x => put_m (sB x0 x1) fillM 15 (by omega) (sRead_eq a5 a6 x0 x1 15 (by omega)) (DoneR.read scM.view (by omega) (runB_m15 a5 a6 x0 x1) (inbRow 15 (by omega))) x)
theorem runB_l16 : DoneR (upL (sB x0 x1) fillM fillL) fillL 16 (runB.sl.HL_17 a5 a6 x0 x1) :=
  DoneR.step (by omega : 15 < 16) (runB_l15 a5 a6 x0 x1) (fun x => put_l (sB x0 x1) fillM fillL 15 (by omega) (sRead_eq a5 a6 x0 x1 15 (by omega)) (DoneR.read scM.view (by omega) (runB_m15 a5 a6 x0 x1) (inbRow 15 (by omega))) (DoneR.read scL.view (by omega) (runB_l15 a5 a6 x0 x1) (inbRow 15 (by omega))) x)
theorem runB_a1 : DoneS (upA (sB x0 x1) fillM (vB x2) fillA) fillA 1 (runB.sl.HA_2 a5 a6 a7 x0 x1 x2) :=
  DoneS.step (by omega : 0 < 16) (runB_a0 x0 x1 x2)
    (fun x => put_a (sB x0 x1) fillM (vB x2) fillA 0 (by omega) (sRead_eq a5 a6 x0 x1 0 (by omega)) (DoneR.read scM.view (by omega) (runB_m0 x0 x1) (inbRow 0 (by omega))) (vRead_eq a7 x2 0 (by omega)) (DoneS.read scA.view (by omega) (runB_a0 x0 x1 x2) (inbSlab 0 (by omega))) x)
theorem runB_a2 : DoneS (upA (sB x0 x1) fillM (vB x2) fillA) fillA 2 (runB.sl.HA_3 a5 a6 a7 x0 x1 x2) :=
  DoneS.step (by omega : 1 < 16) (runB_a1 a5 a6 a7 x0 x1 x2)
    (fun x => put_a (sB x0 x1) fillM (vB x2) fillA 1 (by omega) (sRead_eq a5 a6 x0 x1 1 (by omega)) (DoneR.read scM.view (by omega) (runB_m1 a5 a6 x0 x1) (inbRow 1 (by omega))) (vRead_eq a7 x2 1 (by omega)) (DoneS.read scA.view (by omega) (runB_a1 a5 a6 a7 x0 x1 x2) (inbSlab 1 (by omega))) x)
theorem runB_a3 : DoneS (upA (sB x0 x1) fillM (vB x2) fillA) fillA 3 (runB.sl.HA_4 a5 a6 a7 x0 x1 x2) :=
  DoneS.step (by omega : 2 < 16) (runB_a2 a5 a6 a7 x0 x1 x2)
    (fun x => put_a (sB x0 x1) fillM (vB x2) fillA 2 (by omega) (sRead_eq a5 a6 x0 x1 2 (by omega)) (DoneR.read scM.view (by omega) (runB_m2 a5 a6 x0 x1) (inbRow 2 (by omega))) (vRead_eq a7 x2 2 (by omega)) (DoneS.read scA.view (by omega) (runB_a2 a5 a6 a7 x0 x1 x2) (inbSlab 2 (by omega))) x)
theorem runB_a4 : DoneS (upA (sB x0 x1) fillM (vB x2) fillA) fillA 4 (runB.sl.HA_5 a5 a6 a7 x0 x1 x2) :=
  DoneS.step (by omega : 3 < 16) (runB_a3 a5 a6 a7 x0 x1 x2)
    (fun x => put_a (sB x0 x1) fillM (vB x2) fillA 3 (by omega) (sRead_eq a5 a6 x0 x1 3 (by omega)) (DoneR.read scM.view (by omega) (runB_m3 a5 a6 x0 x1) (inbRow 3 (by omega))) (vRead_eq a7 x2 3 (by omega)) (DoneS.read scA.view (by omega) (runB_a3 a5 a6 a7 x0 x1 x2) (inbSlab 3 (by omega))) x)
theorem runB_a5 : DoneS (upA (sB x0 x1) fillM (vB x2) fillA) fillA 5 (runB.sl.HA_6 a5 a6 a7 x0 x1 x2) :=
  DoneS.step (by omega : 4 < 16) (runB_a4 a5 a6 a7 x0 x1 x2)
    (fun x => put_a (sB x0 x1) fillM (vB x2) fillA 4 (by omega) (sRead_eq a5 a6 x0 x1 4 (by omega)) (DoneR.read scM.view (by omega) (runB_m4 a5 a6 x0 x1) (inbRow 4 (by omega))) (vRead_eq a7 x2 4 (by omega)) (DoneS.read scA.view (by omega) (runB_a4 a5 a6 a7 x0 x1 x2) (inbSlab 4 (by omega))) x)
theorem runB_a6 : DoneS (upA (sB x0 x1) fillM (vB x2) fillA) fillA 6 (runB.sl.HA_7 a5 a6 a7 x0 x1 x2) :=
  DoneS.step (by omega : 5 < 16) (runB_a5 a5 a6 a7 x0 x1 x2)
    (fun x => put_a (sB x0 x1) fillM (vB x2) fillA 5 (by omega) (sRead_eq a5 a6 x0 x1 5 (by omega)) (DoneR.read scM.view (by omega) (runB_m5 a5 a6 x0 x1) (inbRow 5 (by omega))) (vRead_eq a7 x2 5 (by omega)) (DoneS.read scA.view (by omega) (runB_a5 a5 a6 a7 x0 x1 x2) (inbSlab 5 (by omega))) x)
theorem runB_a7 : DoneS (upA (sB x0 x1) fillM (vB x2) fillA) fillA 7 (runB.sl.HA_8 a5 a6 a7 x0 x1 x2) :=
  DoneS.step (by omega : 6 < 16) (runB_a6 a5 a6 a7 x0 x1 x2)
    (fun x => put_a (sB x0 x1) fillM (vB x2) fillA 6 (by omega) (sRead_eq a5 a6 x0 x1 6 (by omega)) (DoneR.read scM.view (by omega) (runB_m6 a5 a6 x0 x1) (inbRow 6 (by omega))) (vRead_eq a7 x2 6 (by omega)) (DoneS.read scA.view (by omega) (runB_a6 a5 a6 a7 x0 x1 x2) (inbSlab 6 (by omega))) x)
theorem runB_a8 : DoneS (upA (sB x0 x1) fillM (vB x2) fillA) fillA 8 (runB.sl.HA_9 a5 a6 a7 x0 x1 x2) :=
  DoneS.step (by omega : 7 < 16) (runB_a7 a5 a6 a7 x0 x1 x2)
    (fun x => put_a (sB x0 x1) fillM (vB x2) fillA 7 (by omega) (sRead_eq a5 a6 x0 x1 7 (by omega)) (DoneR.read scM.view (by omega) (runB_m7 a5 a6 x0 x1) (inbRow 7 (by omega))) (vRead_eq a7 x2 7 (by omega)) (DoneS.read scA.view (by omega) (runB_a7 a5 a6 a7 x0 x1 x2) (inbSlab 7 (by omega))) x)
theorem runB_a9 : DoneS (upA (sB x0 x1) fillM (vB x2) fillA) fillA 9 (runB.sl.HA_10 a5 a6 a7 x0 x1 x2) :=
  DoneS.step (by omega : 8 < 16) (runB_a8 a5 a6 a7 x0 x1 x2)
    (fun x => put_a (sB x0 x1) fillM (vB x2) fillA 8 (by omega) (sRead_eq a5 a6 x0 x1 8 (by omega)) (DoneR.read scM.view (by omega) (runB_m8 a5 a6 x0 x1) (inbRow 8 (by omega))) (vRead_eq a7 x2 8 (by omega)) (DoneS.read scA.view (by omega) (runB_a8 a5 a6 a7 x0 x1 x2) (inbSlab 8 (by omega))) x)
theorem runB_a10 : DoneS (upA (sB x0 x1) fillM (vB x2) fillA) fillA 10 (runB.sl.HA_11 a5 a6 a7 x0 x1 x2) :=
  DoneS.step (by omega : 9 < 16) (runB_a9 a5 a6 a7 x0 x1 x2)
    (fun x => put_a (sB x0 x1) fillM (vB x2) fillA 9 (by omega) (sRead_eq a5 a6 x0 x1 9 (by omega)) (DoneR.read scM.view (by omega) (runB_m9 a5 a6 x0 x1) (inbRow 9 (by omega))) (vRead_eq a7 x2 9 (by omega)) (DoneS.read scA.view (by omega) (runB_a9 a5 a6 a7 x0 x1 x2) (inbSlab 9 (by omega))) x)
theorem runB_a11 : DoneS (upA (sB x0 x1) fillM (vB x2) fillA) fillA 11 (runB.sl.HA_12 a5 a6 a7 x0 x1 x2) :=
  DoneS.step (by omega : 10 < 16) (runB_a10 a5 a6 a7 x0 x1 x2)
    (fun x => put_a (sB x0 x1) fillM (vB x2) fillA 10 (by omega) (sRead_eq a5 a6 x0 x1 10 (by omega)) (DoneR.read scM.view (by omega) (runB_m10 a5 a6 x0 x1) (inbRow 10 (by omega))) (vRead_eq a7 x2 10 (by omega)) (DoneS.read scA.view (by omega) (runB_a10 a5 a6 a7 x0 x1 x2) (inbSlab 10 (by omega))) x)
theorem runB_a12 : DoneS (upA (sB x0 x1) fillM (vB x2) fillA) fillA 12 (runB.sl.HA_13 a5 a6 a7 x0 x1 x2) :=
  DoneS.step (by omega : 11 < 16) (runB_a11 a5 a6 a7 x0 x1 x2)
    (fun x => put_a (sB x0 x1) fillM (vB x2) fillA 11 (by omega) (sRead_eq a5 a6 x0 x1 11 (by omega)) (DoneR.read scM.view (by omega) (runB_m11 a5 a6 x0 x1) (inbRow 11 (by omega))) (vRead_eq a7 x2 11 (by omega)) (DoneS.read scA.view (by omega) (runB_a11 a5 a6 a7 x0 x1 x2) (inbSlab 11 (by omega))) x)
theorem runB_a13 : DoneS (upA (sB x0 x1) fillM (vB x2) fillA) fillA 13 (runB.sl.HA_14 a5 a6 a7 x0 x1 x2) :=
  DoneS.step (by omega : 12 < 16) (runB_a12 a5 a6 a7 x0 x1 x2)
    (fun x => put_a (sB x0 x1) fillM (vB x2) fillA 12 (by omega) (sRead_eq a5 a6 x0 x1 12 (by omega)) (DoneR.read scM.view (by omega) (runB_m12 a5 a6 x0 x1) (inbRow 12 (by omega))) (vRead_eq a7 x2 12 (by omega)) (DoneS.read scA.view (by omega) (runB_a12 a5 a6 a7 x0 x1 x2) (inbSlab 12 (by omega))) x)
theorem runB_a14 : DoneS (upA (sB x0 x1) fillM (vB x2) fillA) fillA 14 (runB.sl.HA_15 a5 a6 a7 x0 x1 x2) :=
  DoneS.step (by omega : 13 < 16) (runB_a13 a5 a6 a7 x0 x1 x2)
    (fun x => put_a (sB x0 x1) fillM (vB x2) fillA 13 (by omega) (sRead_eq a5 a6 x0 x1 13 (by omega)) (DoneR.read scM.view (by omega) (runB_m13 a5 a6 x0 x1) (inbRow 13 (by omega))) (vRead_eq a7 x2 13 (by omega)) (DoneS.read scA.view (by omega) (runB_a13 a5 a6 a7 x0 x1 x2) (inbSlab 13 (by omega))) x)
theorem runB_a15 : DoneS (upA (sB x0 x1) fillM (vB x2) fillA) fillA 15 (runB.sl.HA_16 a5 a6 a7 x0 x1 x2) :=
  DoneS.step (by omega : 14 < 16) (runB_a14 a5 a6 a7 x0 x1 x2)
    (fun x => put_a (sB x0 x1) fillM (vB x2) fillA 14 (by omega) (sRead_eq a5 a6 x0 x1 14 (by omega)) (DoneR.read scM.view (by omega) (runB_m14 a5 a6 x0 x1) (inbRow 14 (by omega))) (vRead_eq a7 x2 14 (by omega)) (DoneS.read scA.view (by omega) (runB_a14 a5 a6 a7 x0 x1 x2) (inbSlab 14 (by omega))) x)
theorem runB_a16 : DoneS (upA (sB x0 x1) fillM (vB x2) fillA) fillA 16 (runB.sl.HA_17 a5 a6 a7 x0 x1 x2) :=
  DoneS.step (by omega : 15 < 16) (runB_a15 a5 a6 a7 x0 x1 x2)
    (fun x => put_a (sB x0 x1) fillM (vB x2) fillA 15 (by omega) (sRead_eq a5 a6 x0 x1 15 (by omega)) (DoneR.read scM.view (by omega) (runB_m15 a5 a6 x0 x1) (inbRow 15 (by omega))) (vRead_eq a7 x2 15 (by omega)) (DoneS.read scA.view (by omega) (runB_a15 a5 a6 a7 x0 x1 x2) (inbSlab 15 (by omega))) x)

end Cert.KernelIdeal.Flash

end
-- ==== Proof.KernelIdeal.LeftC.lean ====
/-
  What the last step of a longer row leaves in the scratches and the output.
-/
module

public import proofs.«01_k».proof.Proof.KernelIdeal.Stores

@[expose] public section

set_option maxRecDepth 65536
set_option Elab.async false
set_option maxHeartbeats 4000000

noncomputable section

namespace Cert.KernelIdeal.Flash

open Cert.KernelIdeal Cert.KernelIdeal.Gen
open Idealize.ShloMosaic

attribute [local irreducible] View.readCov

variable (c : Dev nD) (a5 : Memref sig .tc .vmem S1x2048x512 .bf16) (a6 : Memref sig .tc .vmem S1x512x512 .bf16)
  (a7 : Memref sig .tc .vmem S1x256x512 .bf16) (a8 : Memref sig .tc .vmem S1x1024x512 .f32)
  (x0 : S1x2048x512.Idx → Elt Ideal .bf16) (x1 : S1x512x512.Idx → Elt Ideal .bf16)
  (x2 : S1x256x512.Idx → Elt Ideal .bf16) (x3 : S1x1024x512.Idx → Elt Ideal .f32)
variable (xm : BufM c) (xl : BufL c) (xa : BufA c)

/-- The maxima. -/
theorem runC_m : DoneR (upM (sDiag x0 x1) xm) (View.canon []) 16 (runC.sl.HM_16 c a5 a6 x0 x1 xm) :=
  DoneR.step (by omega : 15 < 16)
    (DoneR.step (by omega : 14 < 16)
    (DoneR.step (by omega : 13 < 16)
    (DoneR.step (by omega : 12 < 16)
    (DoneR.step (by omega : 11 < 16)
    (DoneR.step (by omega : 10 < 16)
    (DoneR.step (by omega : 9 < 16)
    (DoneR.step (by omega : 8 < 16)
    (DoneR.step (by omega : 7 < 16)
    (DoneR.step (by omega : 6 < 16)
    (DoneR.step (by omega : 5 < 16)
    (DoneR.step (by omega : 4 < 16)
    (DoneR.step (by omega : 3 < 16)
    (DoneR.step (by omega : 2 < 16)
    (DoneR.step (by omega : 1 < 16)
    (DoneR.step (by omega : 0 < 16)
    (DoneR.start _ [])
    (fun x => put_m (sDiag x0 x1) xm 0 (by omega) (congrArg hMask (sRead_eq a5 a6 x0 x1 0 (by omega))) (read_row xm 0 (by omega) (inbRow 0 (by omega))) x))
    (fun x => put_m (sDiag x0 x1) xm 1 (by omega) (congrArg hMask (sRead_eq a5 a6 x0 x1 1 (by omega))) (read_row xm 1 (by omega) (inbRow 1 (by omega))) x))
    (fun x => put_m (sDiag x0 x1) xm 2 (by omega) (congrArg hMask (sRead_eq a5 a6 x0 x1 2 (by omega))) (read_row xm 2 (by omega) (inbRow 2 (by omega))) x))
    (fun x => put_m (sDiag x0 x1) xm 3 (by omega) (congrArg hMask (sRead_eq a5 a6 x0 x1 3 (by omega))) (read_row xm 3 (by omega) (inbRow 3 (by omega))) x))
    (fun x => put_m (sDiag x0 x1) xm 4 (by omega) (congrArg hMask (sRead_eq a5 a6 x0 x1 4 (by omega))) (read_row xm 4 (by omega) (inbRow 4 (by omega))) x))
    (fun x => put_m (sDiag x0 x1) xm 5 (by omega) (congrArg hMask (sRead_eq a5 a6 x0 x1 5 (by omega))) (read_row xm 5 (by omega) (inbRow 5 (by omega))) x))
    (fun x => put_m (sDiag x0 x1) xm 6 (by omega) (congrArg hMask (sRead_eq a5 a6 x0 x1 6 (by omega))) (read_row xm 6 (by omega) (inbRow 6 (by omega))) x))
    (fun x => put_m (sDiag x0 x1) xm 7 (by omega) (congrArg hMask (sRead_eq a5 a6 x0 x1 7 (by omega))) (read_row xm 7 (by omega) (inbRow 7 (by omega))) x))
    (fun x => put_m (sDiag x0 x1) xm 8 (by omega) (congrArg hMask (sRead_eq a5 a6 x0 x1 8 (by omega))) (read_row xm 8 (by omega) (inbRow 8 (by omega))) x))
    (fun x => put_m (sDiag x0 x1) xm 9 (by omega) (congrArg hMask (sRead_eq a5 a6 x0 x1 9 (by omega))) (read_row xm 9 (by omega) (inbRow 9 (by omega))) x))
    (fun x => put_m (sDiag x0 x1) xm 10 (by omega) (congrArg hMask (sRead_eq a5 a6 x0 x1 10 (by omega))) (read_row xm 10 (by omega) (inbRow 10 (by omega))) x))
    (fun x => put_m (sDiag x0 x1) xm 11 (by omega) (congrArg hMask (sRead_eq a5 a6 x0 x1 11 (by omega))) (read_row xm 11 (by omega) (inbRow 11 (by omega))) x))
    (fun x => put_m (sDiag x0 x1) xm 12 (by omega) (congrArg hMask (sRead_eq a5 a6 x0 x1 12 (by omega))) (read_row xm 12 (by omega) (inbRow 12 (by omega))) x))
    (fun x => put_m (sDiag x0 x1) xm 13 (by omega) (congrArg hMask (sRead_eq a5 a6 x0 x1 13 (by omega))) (read_row xm 13 (by omega) (inbRow 13 (by omega))) x))
    (fun x => put_m (sDiag x0 x1) xm 14 (by omega) (congrArg hMask (sRead_eq a5 a6 x0 x1 14 (by omega))) (read_row xm 14 (by omega) (inbRow 14 (by omega))) x))
    (fun x => put_m (sDiag x0 x1) xm 15 (by omega) (congrArg hMask (sRead_eq a5 a6 x0 x1 15 (by omega))) (read_row xm 15 (by omega) (inbRow 15 (by omega))) x)

/-- The sums. -/
theorem runC_l : DoneR (upL (sDiag x0 x1) xm xl) (View.canon []) 16 (runC.sl.HL_16 c a5 a6 x0 x1 xm xl) :=
  DoneR.step (by omega : 15 < 16)
    (DoneR.step (by omega : 14 < 16)
    (DoneR.step (by omega : 13 < 16)
    (DoneR.step (by omega : 12 < 16)
    (DoneR.step (by omega : 11 < 16)
    (DoneR.step (by omega : 10 < 16)
    (DoneR.step (by omega : 9 < 16)
    (DoneR.step (by omega : 8 < 16)
    (DoneR.step (by omega : 7 < 16)
    (DoneR.step (by omega : 6 < 16)
    (DoneR.step (by omega : 5 < 16)
    (DoneR.step (by omega : 4 < 16)
    (DoneR.step (by omega : 3 < 16)
    (DoneR.step (by omega : 2 < 16)
    (DoneR.step (by omega : 1 < 16)
    (DoneR.step (by omega : 0 < 16)
    (DoneR.start _ [])
    (fun x => put_l (sDiag x0 x1) xm xl 0 (by omega) (congrArg hMask (sRead_eq a5 a6 x0 x1 0 (by omega))) (read_row xm 0 (by omega) (inbRow 0 (by omega))) (read_rowL xl 0 (by omega) (inbRow 0 (by omega))) x))
    (fun x => put_l (sDiag x0 x1) xm xl 1 (by omega) (congrArg hMask (sRead_eq a5 a6 x0 x1 1 (by omega))) (read_row xm 1 (by omega) (inbRow 1 (by omega))) (read_rowL xl 1 (by omega) (inbRow 1 (by omega))) x))
    (fun x => put_l (sDiag x0 x1) xm xl 2 (by omega) (congrArg hMask (sRead_eq a5 a6 x0 x1 2 (by omega))) (read_row xm 2 (by omega) (inbRow 2 (by omega))) (read_rowL xl 2 (by omega) (inbRow 2 (by omega))) x))
    (fun x => put_l (sDiag x0 x1) xm xl 3 (by omega) (congrArg hMask (sRead_eq a5 a6 x0 x1 3 (by omega))) (read_row xm 3 (by omega) (inbRow 3 (by omega))) (read_rowL xl 3 (by omega) (inbRow 3 (by omega))) x))
    (fun x => put_l (sDiag x0 x1) xm xl 4 (by omega) (congrArg hMask (sRead_eq a5 a6 x0 x1 4 (by omega))) (read_row xm 4 (by omega) (inbRow 4 (by omega))) (read_rowL xl 4 (by omega) (inbRow 4 (by omega))) x))
    (fun x => put_l (sDiag x0 x1) xm xl 5 (by omega) (congrArg hMask (sRead_eq a5 a6 x0 x1 5 (by omega))) (read_row xm 5 (by omega) (inbRow 5 (by omega))) (read_rowL xl 5 (by omega) (inbRow 5 (by omega))) x))
    (fun x => put_l (sDiag x0 x1) xm xl 6 (by omega) (congrArg hMask (sRead_eq a5 a6 x0 x1 6 (by omega))) (read_row xm 6 (by omega) (inbRow 6 (by omega))) (read_rowL xl 6 (by omega) (inbRow 6 (by omega))) x))
    (fun x => put_l (sDiag x0 x1) xm xl 7 (by omega) (congrArg hMask (sRead_eq a5 a6 x0 x1 7 (by omega))) (read_row xm 7 (by omega) (inbRow 7 (by omega))) (read_rowL xl 7 (by omega) (inbRow 7 (by omega))) x))
    (fun x => put_l (sDiag x0 x1) xm xl 8 (by omega) (congrArg hMask (sRead_eq a5 a6 x0 x1 8 (by omega))) (read_row xm 8 (by omega) (inbRow 8 (by omega))) (read_rowL xl 8 (by omega) (inbRow 8 (by omega))) x))
    (fun x => put_l (sDiag x0 x1) xm xl 9 (by omega) (congrArg hMask (sRead_eq a5 a6 x0 x1 9 (by omega))) (read_row xm 9 (by omega) (inbRow 9 (by omega))) (read_rowL xl 9 (by omega) (inbRow 9 (by omega))) x))
    (fun x => put_l (sDiag x0 x1) xm xl 10 (by omega) (congrArg hMask (sRead_eq a5 a6 x0 x1 10 (by omega))) (read_row xm 10 (by omega) (inbRow 10 (by omega))) (read_rowL xl 10 (by omega) (inbRow 10 (by omega))) x))
    (fun x => put_l (sDiag x0 x1) xm xl 11 (by omega) (congrArg hMask (sRead_eq a5 a6 x0 x1 11 (by omega))) (read_row xm 11 (by omega) (inbRow 11 (by omega))) (read_rowL xl 11 (by omega) (inbRow 11 (by omega))) x))
    (fun x => put_l (sDiag x0 x1) xm xl 12 (by omega) (congrArg hMask (sRead_eq a5 a6 x0 x1 12 (by omega))) (read_row xm 12 (by omega) (inbRow 12 (by omega))) (read_rowL xl 12 (by omega) (inbRow 12 (by omega))) x))
    (fun x => put_l (sDiag x0 x1) xm xl 13 (by omega) (congrArg hMask (sRead_eq a5 a6 x0 x1 13 (by omega))) (read_row xm 13 (by omega) (inbRow 13 (by omega))) (read_rowL xl 13 (by omega) (inbRow 13 (by omega))) x))
    (fun x => put_l (sDiag x0 x1) xm xl 14 (by omega) (congrArg hMask (sRead_eq a5 a6 x0 x1 14 (by omega))) (read_row xm 14 (by omega) (inbRow 14 (by omega))) (read_rowL xl 14 (by omega) (inbRow 14 (by omega))) x))
    (fun x => put_l (sDiag x0 x1) xm xl 15 (by omega) (congrArg hMask (sRead_eq a5 a6 x0 x1 15 (by omega))) (read_row xm 15 (by omega) (inbRow 15 (by omega))) (read_rowL xl 15 (by omega) (inbRow 15 (by omega))) x)

/-- The products. -/
theorem runC_a : DoneS (upA (sDiag x0 x1) xm (vB x2) xa) (View.canon []) 16 (runC.sl.HA_16 c a5 a6 a7 x0 x1 x2 xm xa) :=
  DoneS.step (by omega : 15 < 16)
    (DoneS.step (by omega : 14 < 16)
    (DoneS.step (by omega : 13 < 16)
    (DoneS.step (by omega : 12 < 16)
    (DoneS.step (by omega : 11 < 16)
    (DoneS.step (by omega : 10 < 16)
    (DoneS.step (by omega : 9 < 16)
    (DoneS.step (by omega : 8 < 16)
    (DoneS.step (by omega : 7 < 16)
    (DoneS.step (by omega : 6 < 16)
    (DoneS.step (by omega : 5 < 16)
    (DoneS.step (by omega : 4 < 16)
    (DoneS.step (by omega : 3 < 16)
    (DoneS.step (by omega : 2 < 16)
    (DoneS.step (by omega : 1 < 16)
    (DoneS.step (by omega : 0 < 16)
    (DoneS.start _ [])
    (fun x => put_a (sDiag x0 x1) xm (vB x2) xa 0 (by omega) (congrArg hMask (sRead_eq a5 a6 x0 x1 0 (by omega))) (read_row xm 0 (by omega) (inbRow 0 (by omega))) (vRead_eq a7 x2 0 (by omega)) (read_slab xa 0 (by omega) (inbSlab 0 (by omega))) x))
    (fun x => put_a (sDiag x0 x1) xm (vB x2) xa 1 (by omega) (congrArg hMask (sRead_eq a5 a6 x0 x1 1 (by omega))) (read_row xm 1 (by omega) (inbRow 1 (by omega))) (vRead_eq a7 x2 1 (by omega)) (read_slab xa 1 (by omega) (inbSlab 1 (by omega))) x))
    (fun x => put_a (sDiag x0 x1) xm (vB x2) xa 2 (by omega) (congrArg hMask (sRead_eq a5 a6 x0 x1 2 (by omega))) (read_row xm 2 (by omega) (inbRow 2 (by omega))) (vRead_eq a7 x2 2 (by omega)) (read_slab xa 2 (by omega) (inbSlab 2 (by omega))) x))
    (fun x => put_a (sDiag x0 x1) xm (vB x2) xa 3 (by omega) (congrArg hMask (sRead_eq a5 a6 x0 x1 3 (by omega))) (read_row xm 3 (by omega) (inbRow 3 (by omega))) (vRead_eq a7 x2 3 (by omega)) (read_slab xa 3 (by omega) (inbSlab 3 (by omega))) x))
    (fun x => put_a (sDiag x0 x1) xm (vB x2) xa 4 (by omega) (congrArg hMask (sRead_eq a5 a6 x0 x1 4 (by omega))) (read_row xm 4 (by omega) (inbRow 4 (by omega))) (vRead_eq a7 x2 4 (by omega)) (read_slab xa 4 (by omega) (inbSlab 4 (by omega))) x))
    (fun x => put_a (sDiag x0 x1) xm (vB x2) xa 5 (by omega) (congrArg hMask (sRead_eq a5 a6 x0 x1 5 (by omega))) (read_row xm 5 (by omega) (inbRow 5 (by omega))) (vRead_eq a7 x2 5 (by omega)) (read_slab xa 5 (by omega) (inbSlab 5 (by omega))) x))
    (fun x => put_a (sDiag x0 x1) xm (vB x2) xa 6 (by omega) (congrArg hMask (sRead_eq a5 a6 x0 x1 6 (by omega))) (read_row xm 6 (by omega) (inbRow 6 (by omega))) (vRead_eq a7 x2 6 (by omega)) (read_slab xa 6 (by omega) (inbSlab 6 (by omega))) x))
    (fun x => put_a (sDiag x0 x1) xm (vB x2) xa 7 (by omega) (congrArg hMask (sRead_eq a5 a6 x0 x1 7 (by omega))) (read_row xm 7 (by omega) (inbRow 7 (by omega))) (vRead_eq a7 x2 7 (by omega)) (read_slab xa 7 (by omega) (inbSlab 7 (by omega))) x))
    (fun x => put_a (sDiag x0 x1) xm (vB x2) xa 8 (by omega) (congrArg hMask (sRead_eq a5 a6 x0 x1 8 (by omega))) (read_row xm 8 (by omega) (inbRow 8 (by omega))) (vRead_eq a7 x2 8 (by omega)) (read_slab xa 8 (by omega) (inbSlab 8 (by omega))) x))
    (fun x => put_a (sDiag x0 x1) xm (vB x2) xa 9 (by omega) (congrArg hMask (sRead_eq a5 a6 x0 x1 9 (by omega))) (read_row xm 9 (by omega) (inbRow 9 (by omega))) (vRead_eq a7 x2 9 (by omega)) (read_slab xa 9 (by omega) (inbSlab 9 (by omega))) x))
    (fun x => put_a (sDiag x0 x1) xm (vB x2) xa 10 (by omega) (congrArg hMask (sRead_eq a5 a6 x0 x1 10 (by omega))) (read_row xm 10 (by omega) (inbRow 10 (by omega))) (vRead_eq a7 x2 10 (by omega)) (read_slab xa 10 (by omega) (inbSlab 10 (by omega))) x))
    (fun x => put_a (sDiag x0 x1) xm (vB x2) xa 11 (by omega) (congrArg hMask (sRead_eq a5 a6 x0 x1 11 (by omega))) (read_row xm 11 (by omega) (inbRow 11 (by omega))) (vRead_eq a7 x2 11 (by omega)) (read_slab xa 11 (by omega) (inbSlab 11 (by omega))) x))
    (fun x => put_a (sDiag x0 x1) xm (vB x2) xa 12 (by omega) (congrArg hMask (sRead_eq a5 a6 x0 x1 12 (by omega))) (read_row xm 12 (by omega) (inbRow 12 (by omega))) (vRead_eq a7 x2 12 (by omega)) (read_slab xa 12 (by omega) (inbSlab 12 (by omega))) x))
    (fun x => put_a (sDiag x0 x1) xm (vB x2) xa 13 (by omega) (congrArg hMask (sRead_eq a5 a6 x0 x1 13 (by omega))) (read_row xm 13 (by omega) (inbRow 13 (by omega))) (vRead_eq a7 x2 13 (by omega)) (read_slab xa 13 (by omega) (inbSlab 13 (by omega))) x))
    (fun x => put_a (sDiag x0 x1) xm (vB x2) xa 14 (by omega) (congrArg hMask (sRead_eq a5 a6 x0 x1 14 (by omega))) (read_row xm 14 (by omega) (inbRow 14 (by omega))) (vRead_eq a7 x2 14 (by omega)) (read_slab xa 14 (by omega) (inbSlab 14 (by omega))) x))
    (fun x => put_a (sDiag x0 x1) xm (vB x2) xa 15 (by omega) (congrArg hMask (sRead_eq a5 a6 x0 x1 15 (by omega))) (read_row xm 15 (by omega) (inbRow 15 (by omega))) (vRead_eq a7 x2 15 (by omega)) (read_slab xa 15 (by omega) (inbSlab 15 (by omega))) x)

/-- The output. -/
theorem runC_o : DoneO (upO (upA (sDiag x0 x1) xm (vB x2) xa) (upL (sDiag x0 x1) xm xl) (gB x3)) (View.canon []) 16
    (runC.sl.HO_16 c a5 a6 a7 a8 x0 x1 x2 x3 xm xl xa) :=
  DoneO.step (by omega : 15 < 16) rfl
    (DoneO.step (by omega : 14 < 16) rfl
    (DoneO.step (by omega : 13 < 16) rfl
    (DoneO.step (by omega : 12 < 16) rfl
    (DoneO.step (by omega : 11 < 16) rfl
    (DoneO.step (by omega : 10 < 16) rfl
    (DoneO.step (by omega : 9 < 16) rfl
    (DoneO.step (by omega : 8 < 16) rfl
    (DoneO.step (by omega : 7 < 16) rfl
    (DoneO.step (by omega : 6 < 16) rfl
    (DoneO.step (by omega : 5 < 16) rfl
    (DoneO.step (by omega : 4 < 16) rfl
    (DoneO.step (by omega : 3 < 16) rfl
    (DoneO.step (by omega : 2 < 16) rfl
    (DoneO.step (by omega : 1 < 16) rfl
    (DoneO.step (by omega : 0 < 16) rfl
    (DoneO.start _ [])
    (fun x => put_o _ _ (gB x3) 0 (by omega)
      ((runC_a c a5 a6 a7 x0 x1 x2 xm xa).readAll scA.view (by omega) (inbSlab 0 (by omega)))
      ((runC_l c a5 a6 x0 x1 xm xl).readAll scL.view (by omega) (inbRow 0 (by omega))) (gRead_eq a8 x3 0 (by omega)) x))
    (fun x => put_o _ _ (gB x3) 1 (by omega)
      ((runC_a c a5 a6 a7 x0 x1 x2 xm xa).readAll scA.view (by omega) (inbSlab 1 (by omega)))
      ((runC_l c a5 a6 x0 x1 xm xl).readAll scL.view (by omega) (inbRow 1 (by omega))) (gRead_eq a8 x3 1 (by omega)) x))
    (fun x => put_o _ _ (gB x3) 2 (by omega)
      ((runC_a c a5 a6 a7 x0 x1 x2 xm xa).readAll scA.view (by omega) (inbSlab 2 (by omega)))
      ((runC_l c a5 a6 x0 x1 xm xl).readAll scL.view (by omega) (inbRow 2 (by omega))) (gRead_eq a8 x3 2 (by omega)) x))
    (fun x => put_o _ _ (gB x3) 3 (by omega)
      ((runC_a c a5 a6 a7 x0 x1 x2 xm xa).readAll scA.view (by omega) (inbSlab 3 (by omega)))
      ((runC_l c a5 a6 x0 x1 xm xl).readAll scL.view (by omega) (inbRow 3 (by omega))) (gRead_eq a8 x3 3 (by omega)) x))
    (fun x => put_o _ _ (gB x3) 4 (by omega)
      ((runC_a c a5 a6 a7 x0 x1 x2 xm xa).readAll scA.view (by omega) (inbSlab 4 (by omega)))
      ((runC_l c a5 a6 x0 x1 xm xl).readAll scL.view (by omega) (inbRow 4 (by omega))) (gRead_eq a8 x3 4 (by omega)) x))
    (fun x => put_o _ _ (gB x3) 5 (by omega)
      ((runC_a c a5 a6 a7 x0 x1 x2 xm xa).readAll scA.view (by omega) (inbSlab 5 (by omega)))
      ((runC_l c a5 a6 x0 x1 xm xl).readAll scL.view (by omega) (inbRow 5 (by omega))) (gRead_eq a8 x3 5 (by omega)) x))
    (fun x => put_o _ _ (gB x3) 6 (by omega)
      ((runC_a c a5 a6 a7 x0 x1 x2 xm xa).readAll scA.view (by omega) (inbSlab 6 (by omega)))
      ((runC_l c a5 a6 x0 x1 xm xl).readAll scL.view (by omega) (inbRow 6 (by omega))) (gRead_eq a8 x3 6 (by omega)) x))
    (fun x => put_o _ _ (gB x3) 7 (by omega)
      ((runC_a c a5 a6 a7 x0 x1 x2 xm xa).readAll scA.view (by omega) (inbSlab 7 (by omega)))
      ((runC_l c a5 a6 x0 x1 xm xl).readAll scL.view (by omega) (inbRow 7 (by omega))) (gRead_eq a8 x3 7 (by omega)) x))
    (fun x => put_o _ _ (gB x3) 8 (by omega)
      ((runC_a c a5 a6 a7 x0 x1 x2 xm xa).readAll scA.view (by omega) (inbSlab 8 (by omega)))
      ((runC_l c a5 a6 x0 x1 xm xl).readAll scL.view (by omega) (inbRow 8 (by omega))) (gRead_eq a8 x3 8 (by omega)) x))
    (fun x => put_o _ _ (gB x3) 9 (by omega)
      ((runC_a c a5 a6 a7 x0 x1 x2 xm xa).readAll scA.view (by omega) (inbSlab 9 (by omega)))
      ((runC_l c a5 a6 x0 x1 xm xl).readAll scL.view (by omega) (inbRow 9 (by omega))) (gRead_eq a8 x3 9 (by omega)) x))
    (fun x => put_o _ _ (gB x3) 10 (by omega)
      ((runC_a c a5 a6 a7 x0 x1 x2 xm xa).readAll scA.view (by omega) (inbSlab 10 (by omega)))
      ((runC_l c a5 a6 x0 x1 xm xl).readAll scL.view (by omega) (inbRow 10 (by omega))) (gRead_eq a8 x3 10 (by omega)) x))
    (fun x => put_o _ _ (gB x3) 11 (by omega)
      ((runC_a c a5 a6 a7 x0 x1 x2 xm xa).readAll scA.view (by omega) (inbSlab 11 (by omega)))
      ((runC_l c a5 a6 x0 x1 xm xl).readAll scL.view (by omega) (inbRow 11 (by omega))) (gRead_eq a8 x3 11 (by omega)) x))
    (fun x => put_o _ _ (gB x3) 12 (by omega)
      ((runC_a c a5 a6 a7 x0 x1 x2 xm xa).readAll scA.view (by omega) (inbSlab 12 (by omega)))
      ((runC_l c a5 a6 x0 x1 xm xl).readAll scL.view (by omega) (inbRow 12 (by omega))) (gRead_eq a8 x3 12 (by omega)) x))
    (fun x => put_o _ _ (gB x3) 13 (by omega)
      ((runC_a c a5 a6 a7 x0 x1 x2 xm xa).readAll scA.view (by omega) (inbSlab 13 (by omega)))
      ((runC_l c a5 a6 x0 x1 xm xl).readAll scL.view (by omega) (inbRow 13 (by omega))) (gRead_eq a8 x3 13 (by omega)) x))
    (fun x => put_o _ _ (gB x3) 14 (by omega)
      ((runC_a c a5 a6 a7 x0 x1 x2 xm xa).readAll scA.view (by omega) (inbSlab 14 (by omega)))
      ((runC_l c a5 a6 x0 x1 xm xl).readAll scL.view (by omega) (inbRow 14 (by omega))) (gRead_eq a8 x3 14 (by omega)) x))
    (fun x => put_o _ _ (gB x3) 15 (by omega)
      ((runC_a c a5 a6 a7 x0 x1 x2 xm xa).readAll scA.view (by omega) (inbSlab 15 (by omega)))
      ((runC_l c a5 a6 x0 x1 xm xl).readAll scL.view (by omega) (inbRow 15 (by omega))) (gRead_eq a8 x3 15 (by omega)) x)

end Cert.KernelIdeal.Flash

end
-- ==== Proof.KernelIdeal.LeftD.lean ====
/-
  What a step inside a row leaves in the scratches.
-/
module

public import proofs.«01_k».proof.Proof.KernelIdeal.Stores

@[expose] public section

set_option maxRecDepth 65536
set_option Elab.async false
set_option maxHeartbeats 4000000

noncomputable section

namespace Cert.KernelIdeal.Flash

open Cert.KernelIdeal Cert.KernelIdeal.Gen
open Idealize.ShloMosaic

attribute [local irreducible] View.readCov

variable (c : Dev nD) (a5 : Memref sig .tc .vmem S1x2048x512 .bf16) (a6 : Memref sig .tc .vmem S1x512x512 .bf16)
  (a7 : Memref sig .tc .vmem S1x256x512 .bf16) (a8 : Memref sig .tc .vmem S1x1024x512 .f32)
  (x0 : S1x2048x512.Idx → Elt Ideal .bf16) (x1 : S1x512x512.Idx → Elt Ideal .bf16)
  (x2 : S1x256x512.Idx → Elt Ideal .bf16) (x3 : S1x1024x512.Idx → Elt Ideal .f32)
variable (xm : BufM c) (xl : BufL c) (xa : BufA c)

/-- The maxima. -/
theorem runD_m : DoneR (upM (sB x0 x1) xm) (View.canon []) 16 (runD.sl.HM_16 c a5 a6 x0 x1 xm) :=
  DoneR.step (by omega : 15 < 16)
    (DoneR.step (by omega : 14 < 16)
    (DoneR.step (by omega : 13 < 16)
    (DoneR.step (by omega : 12 < 16)
    (DoneR.step (by omega : 11 < 16)
    (DoneR.step (by omega : 10 < 16)
    (DoneR.step (by omega : 9 < 16)
    (DoneR.step (by omega : 8 < 16)
    (DoneR.step (by omega : 7 < 16)
    (DoneR.step (by omega : 6 < 16)
    (DoneR.step (by omega : 5 < 16)
    (DoneR.step (by omega : 4 < 16)
    (DoneR.step (by omega : 3 < 16)
    (DoneR.step (by omega : 2 < 16)
    (DoneR.step (by omega : 1 < 16)
    (DoneR.step (by omega : 0 < 16)
    (DoneR.start _ [])
    (fun x => put_m (sB x0 x1) xm 0 (by omega) (sRead_eq a5 a6 x0 x1 0 (by omega)) (read_row xm 0 (by omega) (inbRow 0 (by omega))) x))
    (fun x => put_m (sB x0 x1) xm 1 (by omega) (sRead_eq a5 a6 x0 x1 1 (by omega)) (read_row xm 1 (by omega) (inbRow 1 (by omega))) x))
    (fun x => put_m (sB x0 x1) xm 2 (by omega) (sRead_eq a5 a6 x0 x1 2 (by omega)) (read_row xm 2 (by omega) (inbRow 2 (by omega))) x))
    (fun x => put_m (sB x0 x1) xm 3 (by omega) (sRead_eq a5 a6 x0 x1 3 (by omega)) (read_row xm 3 (by omega) (inbRow 3 (by omega))) x))
    (fun x => put_m (sB x0 x1) xm 4 (by omega) (sRead_eq a5 a6 x0 x1 4 (by omega)) (read_row xm 4 (by omega) (inbRow 4 (by omega))) x))
    (fun x => put_m (sB x0 x1) xm 5 (by omega) (sRead_eq a5 a6 x0 x1 5 (by omega)) (read_row xm 5 (by omega) (inbRow 5 (by omega))) x))
    (fun x => put_m (sB x0 x1) xm 6 (by omega) (sRead_eq a5 a6 x0 x1 6 (by omega)) (read_row xm 6 (by omega) (inbRow 6 (by omega))) x))
    (fun x => put_m (sB x0 x1) xm 7 (by omega) (sRead_eq a5 a6 x0 x1 7 (by omega)) (read_row xm 7 (by omega) (inbRow 7 (by omega))) x))
    (fun x => put_m (sB x0 x1) xm 8 (by omega) (sRead_eq a5 a6 x0 x1 8 (by omega)) (read_row xm 8 (by omega) (inbRow 8 (by omega))) x))
    (fun x => put_m (sB x0 x1) xm 9 (by omega) (sRead_eq a5 a6 x0 x1 9 (by omega)) (read_row xm 9 (by omega) (inbRow 9 (by omega))) x))
    (fun x => put_m (sB x0 x1) xm 10 (by omega) (sRead_eq a5 a6 x0 x1 10 (by omega)) (read_row xm 10 (by omega) (inbRow 10 (by omega))) x))
    (fun x => put_m (sB x0 x1) xm 11 (by omega) (sRead_eq a5 a6 x0 x1 11 (by omega)) (read_row xm 11 (by omega) (inbRow 11 (by omega))) x))
    (fun x => put_m (sB x0 x1) xm 12 (by omega) (sRead_eq a5 a6 x0 x1 12 (by omega)) (read_row xm 12 (by omega) (inbRow 12 (by omega))) x))
    (fun x => put_m (sB x0 x1) xm 13 (by omega) (sRead_eq a5 a6 x0 x1 13 (by omega)) (read_row xm 13 (by omega) (inbRow 13 (by omega))) x))
    (fun x => put_m (sB x0 x1) xm 14 (by omega) (sRead_eq a5 a6 x0 x1 14 (by omega)) (read_row xm 14 (by omega) (inbRow 14 (by omega))) x))
    (fun x => put_m (sB x0 x1) xm 15 (by omega) (sRead_eq a5 a6 x0 x1 15 (by omega)) (read_row xm 15 (by omega) (inbRow 15 (by omega))) x)

/-- The sums. -/
theorem runD_l : DoneR (upL (sB x0 x1) xm xl) (View.canon []) 16 (runD.sl.HL_16 c a5 a6 x0 x1 xm xl) :=
  DoneR.step (by omega : 15 < 16)
    (DoneR.step (by omega : 14 < 16)
    (DoneR.step (by omega : 13 < 16)
    (DoneR.step (by omega : 12 < 16)
    (DoneR.step (by omega : 11 < 16)
    (DoneR.step (by omega : 10 < 16)
    (DoneR.step (by omega : 9 < 16)
    (DoneR.step (by omega : 8 < 16)
    (DoneR.step (by omega : 7 < 16)
    (DoneR.step (by omega : 6 < 16)
    (DoneR.step (by omega : 5 < 16)
    (DoneR.step (by omega : 4 < 16)
    (DoneR.step (by omega : 3 < 16)
    (DoneR.step (by omega : 2 < 16)
    (DoneR.step (by omega : 1 < 16)
    (DoneR.step (by omega : 0 < 16)
    (DoneR.start _ [])
    (fun x => put_l (sB x0 x1) xm xl 0 (by omega) (sRead_eq a5 a6 x0 x1 0 (by omega)) (read_row xm 0 (by omega) (inbRow 0 (by omega))) (read_rowL xl 0 (by omega) (inbRow 0 (by omega))) x))
    (fun x => put_l (sB x0 x1) xm xl 1 (by omega) (sRead_eq a5 a6 x0 x1 1 (by omega)) (read_row xm 1 (by omega) (inbRow 1 (by omega))) (read_rowL xl 1 (by omega) (inbRow 1 (by omega))) x))
    (fun x => put_l (sB x0 x1) xm xl 2 (by omega) (sRead_eq a5 a6 x0 x1 2 (by omega)) (read_row xm 2 (by omega) (inbRow 2 (by omega))) (read_rowL xl 2 (by omega) (inbRow 2 (by omega))) x))
    (fun x => put_l (sB x0 x1) xm xl 3 (by omega) (sRead_eq a5 a6 x0 x1 3 (by omega)) (read_row xm 3 (by omega) (inbRow 3 (by omega))) (read_rowL xl 3 (by omega) (inbRow 3 (by omega))) x))
    (fun x => put_l (sB x0 x1) xm xl 4 (by omega) (sRead_eq a5 a6 x0 x1 4 (by omega)) (read_row xm 4 (by omega) (inbRow 4 (by omega))) (read_rowL xl 4 (by omega) (inbRow 4 (by omega))) x))
    (fun x => put_l (sB x0 x1) xm xl 5 (by omega) (sRead_eq a5 a6 x0 x1 5 (by omega)) (read_row xm 5 (by omega) (inbRow 5 (by omega))) (read_rowL xl 5 (by omega) (inbRow 5 (by omega))) x))
    (fun x => put_l (sB x0 x1) xm xl 6 (by omega) (sRead_eq a5 a6 x0 x1 6 (by omega)) (read_row xm 6 (by omega) (inbRow 6 (by omega))) (read_rowL xl 6 (by omega) (inbRow 6 (by omega))) x))
    (fun x => put_l (sB x0 x1) xm xl 7 (by omega) (sRead_eq a5 a6 x0 x1 7 (by omega)) (read_row xm 7 (by omega) (inbRow 7 (by omega))) (read_rowL xl 7 (by omega) (inbRow 7 (by omega))) x))
    (fun x => put_l (sB x0 x1) xm xl 8 (by omega) (sRead_eq a5 a6 x0 x1 8 (by omega)) (read_row xm 8 (by omega) (inbRow 8 (by omega))) (read_rowL xl 8 (by omega) (inbRow 8 (by omega))) x))
    (fun x => put_l (sB x0 x1) xm xl 9 (by omega) (sRead_eq a5 a6 x0 x1 9 (by omega)) (read_row xm 9 (by omega) (inbRow 9 (by omega))) (read_rowL xl 9 (by omega) (inbRow 9 (by omega))) x))
    (fun x => put_l (sB x0 x1) xm xl 10 (by omega) (sRead_eq a5 a6 x0 x1 10 (by omega)) (read_row xm 10 (by omega) (inbRow 10 (by omega))) (read_rowL xl 10 (by omega) (inbRow 10 (by omega))) x))
    (fun x => put_l (sB x0 x1) xm xl 11 (by omega) (sRead_eq a5 a6 x0 x1 11 (by omega)) (read_row xm 11 (by omega) (inbRow 11 (by omega))) (read_rowL xl 11 (by omega) (inbRow 11 (by omega))) x))
    (fun x => put_l (sB x0 x1) xm xl 12 (by omega) (sRead_eq a5 a6 x0 x1 12 (by omega)) (read_row xm 12 (by omega) (inbRow 12 (by omega))) (read_rowL xl 12 (by omega) (inbRow 12 (by omega))) x))
    (fun x => put_l (sB x0 x1) xm xl 13 (by omega) (sRead_eq a5 a6 x0 x1 13 (by omega)) (read_row xm 13 (by omega) (inbRow 13 (by omega))) (read_rowL xl 13 (by omega) (inbRow 13 (by omega))) x))
    (fun x => put_l (sB x0 x1) xm xl 14 (by omega) (sRead_eq a5 a6 x0 x1 14 (by omega)) (read_row xm 14 (by omega) (inbRow 14 (by omega))) (read_rowL xl 14 (by omega) (inbRow 14 (by omega))) x))
    (fun x => put_l (sB x0 x1) xm xl 15 (by omega) (sRead_eq a5 a6 x0 x1 15 (by omega)) (read_row xm 15 (by omega) (inbRow 15 (by omega))) (read_rowL xl 15 (by omega) (inbRow 15 (by omega))) x)

/-- The products. -/
theorem runD_a : DoneS (upA (sB x0 x1) xm (vB x2) xa) (View.canon []) 16 (runD.sl.HA_16 c a5 a6 a7 x0 x1 x2 xm xa) :=
  DoneS.step (by omega : 15 < 16)
    (DoneS.step (by omega : 14 < 16)
    (DoneS.step (by omega : 13 < 16)
    (DoneS.step (by omega : 12 < 16)
    (DoneS.step (by omega : 11 < 16)
    (DoneS.step (by omega : 10 < 16)
    (DoneS.step (by omega : 9 < 16)
    (DoneS.step (by omega : 8 < 16)
    (DoneS.step (by omega : 7 < 16)
    (DoneS.step (by omega : 6 < 16)
    (DoneS.step (by omega : 5 < 16)
    (DoneS.step (by omega : 4 < 16)
    (DoneS.step (by omega : 3 < 16)
    (DoneS.step (by omega : 2 < 16)
    (DoneS.step (by omega : 1 < 16)
    (DoneS.step (by omega : 0 < 16)
    (DoneS.start _ [])
    (fun x => put_a (sB x0 x1) xm (vB x2) xa 0 (by omega) (sRead_eq a5 a6 x0 x1 0 (by omega)) (read_row xm 0 (by omega) (inbRow 0 (by omega))) (vRead_eq a7 x2 0 (by omega)) (read_slab xa 0 (by omega) (inbSlab 0 (by omega))) x))
    (fun x => put_a (sB x0 x1) xm (vB x2) xa 1 (by omega) (sRead_eq a5 a6 x0 x1 1 (by omega)) (read_row xm 1 (by omega) (inbRow 1 (by omega))) (vRead_eq a7 x2 1 (by omega)) (read_slab xa 1 (by omega) (inbSlab 1 (by omega))) x))
    (fun x => put_a (sB x0 x1) xm (vB x2) xa 2 (by omega) (sRead_eq a5 a6 x0 x1 2 (by omega)) (read_row xm 2 (by omega) (inbRow 2 (by omega))) (vRead_eq a7 x2 2 (by omega)) (read_slab xa 2 (by omega) (inbSlab 2 (by omega))) x))
    (fun x => put_a (sB x0 x1) xm (vB x2) xa 3 (by omega) (sRead_eq a5 a6 x0 x1 3 (by omega)) (read_row xm 3 (by omega) (inbRow 3 (by omega))) (vRead_eq a7 x2 3 (by omega)) (read_slab xa 3 (by omega) (inbSlab 3 (by omega))) x))
    (fun x => put_a (sB x0 x1) xm (vB x2) xa 4 (by omega) (sRead_eq a5 a6 x0 x1 4 (by omega)) (read_row xm 4 (by omega) (inbRow 4 (by omega))) (vRead_eq a7 x2 4 (by omega)) (read_slab xa 4 (by omega) (inbSlab 4 (by omega))) x))
    (fun x => put_a (sB x0 x1) xm (vB x2) xa 5 (by omega) (sRead_eq a5 a6 x0 x1 5 (by omega)) (read_row xm 5 (by omega) (inbRow 5 (by omega))) (vRead_eq a7 x2 5 (by omega)) (read_slab xa 5 (by omega) (inbSlab 5 (by omega))) x))
    (fun x => put_a (sB x0 x1) xm (vB x2) xa 6 (by omega) (sRead_eq a5 a6 x0 x1 6 (by omega)) (read_row xm 6 (by omega) (inbRow 6 (by omega))) (vRead_eq a7 x2 6 (by omega)) (read_slab xa 6 (by omega) (inbSlab 6 (by omega))) x))
    (fun x => put_a (sB x0 x1) xm (vB x2) xa 7 (by omega) (sRead_eq a5 a6 x0 x1 7 (by omega)) (read_row xm 7 (by omega) (inbRow 7 (by omega))) (vRead_eq a7 x2 7 (by omega)) (read_slab xa 7 (by omega) (inbSlab 7 (by omega))) x))
    (fun x => put_a (sB x0 x1) xm (vB x2) xa 8 (by omega) (sRead_eq a5 a6 x0 x1 8 (by omega)) (read_row xm 8 (by omega) (inbRow 8 (by omega))) (vRead_eq a7 x2 8 (by omega)) (read_slab xa 8 (by omega) (inbSlab 8 (by omega))) x))
    (fun x => put_a (sB x0 x1) xm (vB x2) xa 9 (by omega) (sRead_eq a5 a6 x0 x1 9 (by omega)) (read_row xm 9 (by omega) (inbRow 9 (by omega))) (vRead_eq a7 x2 9 (by omega)) (read_slab xa 9 (by omega) (inbSlab 9 (by omega))) x))
    (fun x => put_a (sB x0 x1) xm (vB x2) xa 10 (by omega) (sRead_eq a5 a6 x0 x1 10 (by omega)) (read_row xm 10 (by omega) (inbRow 10 (by omega))) (vRead_eq a7 x2 10 (by omega)) (read_slab xa 10 (by omega) (inbSlab 10 (by omega))) x))
    (fun x => put_a (sB x0 x1) xm (vB x2) xa 11 (by omega) (sRead_eq a5 a6 x0 x1 11 (by omega)) (read_row xm 11 (by omega) (inbRow 11 (by omega))) (vRead_eq a7 x2 11 (by omega)) (read_slab xa 11 (by omega) (inbSlab 11 (by omega))) x))
    (fun x => put_a (sB x0 x1) xm (vB x2) xa 12 (by omega) (sRead_eq a5 a6 x0 x1 12 (by omega)) (read_row xm 12 (by omega) (inbRow 12 (by omega))) (vRead_eq a7 x2 12 (by omega)) (read_slab xa 12 (by omega) (inbSlab 12 (by omega))) x))
    (fun x => put_a (sB x0 x1) xm (vB x2) xa 13 (by omega) (sRead_eq a5 a6 x0 x1 13 (by omega)) (read_row xm 13 (by omega) (inbRow 13 (by omega))) (vRead_eq a7 x2 13 (by omega)) (read_slab xa 13 (by omega) (inbSlab 13 (by omega))) x))
    (fun x => put_a (sB x0 x1) xm (vB x2) xa 14 (by omega) (sRead_eq a5 a6 x0 x1 14 (by omega)) (read_row xm 14 (by omega) (inbRow 14 (by omega))) (vRead_eq a7 x2 14 (by omega)) (read_slab xa 14 (by omega) (inbSlab 14 (by omega))) x))
    (fun x => put_a (sB x0 x1) xm (vB x2) xa 15 (by omega) (sRead_eq a5 a6 x0 x1 15 (by omega)) (read_row xm 15 (by omega) (inbRow 15 (by omega))) (vRead_eq a7 x2 15 (by omega)) (read_slab xa 15 (by omega) (inbSlab 15 (by omega))) x)

end Cert.KernelIdeal.Flash

end
-- ==== Proof.KernelIdeal.Steps.lean ====
/-
  One step of the flash call as a function of its blocks: the scratches after it from those before, and the output's
  block at a row's last step.
-/
module

public import proofs.«01_k».proof.Proof.KernelIdeal.Traj
public import proofs.«01_k».proof.Proof.KernelIdeal.LeftA
public import proofs.«01_k».proof.Proof.KernelIdeal.LeftB
public import proofs.«01_k».proof.Proof.KernelIdeal.LeftC
public import proofs.«01_k».proof.Proof.KernelIdeal.LeftD

@[expose] public section

set_option maxRecDepth 65536
set_option Elab.async false

noncomputable section

namespace Cert.KernelIdeal.Flash

open Cert.KernelIdeal Cert.KernelIdeal.Gen
open Idealize.ShloMosaic
open Idealize.ShloMosaic.TcCoe

attribute [local irreducible] View.readCov

variable (m : (ℓ : Loc nD τ sig) → Buf (Elt Ideal) ℓ) (c : Dev nD)

/-- The three scratches' contents. -/
abbrev Tri := (S16x1x512.Idx → Elt Ideal .f32) × (S16x1x512.Idx → Elt Ideal .f32) × (S16x64x512.Idx → Elt Ideal .f32)

/-- The scratches after a step with scores `s` and values `v`. -/
def upd (s : Fin 16 → FVec Ideal S512x512 .f32) (v : Fin 16 → S1x64x512.Idx → Elt Ideal .bf16) (p : Tri) : Tri :=
  (upM s p.1, upL s p.1 p.2.1, upA s p.1 v p.2.2)
/-- The scratches a row starts from. -/
def fill : Tri := (fillM, fillL, fillA)

/-- Step `t`'s queries, keys, values and gate. -/
def qAt (t : Fin cfgA.N) : S1x2048x512.Idx → Elt Ideal .bf16 := blkAt m c (0 : Fin 5) t
def kAt (t : Fin cfgA.N) : S1x512x512.Idx → Elt Ideal .bf16 := blkAt m c (1 : Fin 5) t
def vAt (t : Fin cfgA.N) : S1x256x512.Idx → Elt Ideal .bf16 := blkAt m c (2 : Fin 5) t
def gAt (t : Fin cfgA.N) : S1x1024x512.Idx → Elt Ideal .f32 := blkAt m c (3 : Fin 5) t

/-- Contents written over nothing in particular, as the whole buffer reads them. -/
theorem whole_m {c : Dev nD} (L : List (View.Piece (Elt Ideal) S16x1x512 .f32)) :
    (scM.view.writes (Elt Ideal) scM.view.junk L : BufM c) = View.canon L := View.read_writes_junk_eq_canon scM.view L
theorem whole_l {c : Dev nD} (L : List (View.Piece (Elt Ideal) S16x1x512 .f32)) :
    (scL.view.writes (Elt Ideal) scL.view.junk L : BufL c) = View.canon L := View.read_writes_junk_eq_canon scL.view L
theorem whole_a {c : Dev nD} (L : List (View.Piece (Elt Ideal) S16x64x512 .f32)) :
    (scA.view.writes (Elt Ideal) scA.view.junk L : BufA c) = View.canon L := View.read_writes_junk_eq_canon scA.view L

theorem next_B (t : Fin cfgA.N) (s : St c) (h0 : AtFirst t) (h1 : AtFull t) :
    next m c t s = upd (sB (qAt m c t) (kAt m c t)) (vB (vAt m c t)) fill := by
  unfold next
  rw [dif_pos h0, dif_pos h1]
  dsimp only [stepB, runB]
  exact congrArg₂ Prod.mk ((whole_m (c := c) _).trans (runB_m16 (ms0 t) (ms1 t) (qAt m c t) (kAt m c t)).all)
    (congrArg₂ Prod.mk ((whole_l (c := c) _).trans (runB_l16 (ms0 t) (ms1 t) (qAt m c t) (kAt m c t)).all)
      ((whole_a (c := c) _).trans (runB_a16 (ms0 t) (ms1 t) (ms2 t) (qAt m c t) (kAt m c t) (vAt m c t)).all))

theorem next_A (t : Fin cfgA.N) (s : St c) (h0 : AtFirst t) (h1 : ¬AtFull t) :
    next m c t s = upd (sDiag (qAt m c t) (kAt m c t)) (vB (vAt m c t)) fill := by
  unfold next
  rw [dif_pos h0, dif_neg h1]
  dsimp only [stepA, runA]
  exact congrArg₂ Prod.mk ((whole_m (c := c) _).trans (runA_m16 (ms0 t) (ms1 t) (qAt m c t) (kAt m c t)).all)
    (congrArg₂ Prod.mk ((whole_l (c := c) _).trans (runA_l16 (ms0 t) (ms1 t) (qAt m c t) (kAt m c t)).all)
      ((whole_a (c := c) _).trans (runA_a16 (ms0 t) (ms1 t) (ms2 t) (qAt m c t) (kAt m c t) (vAt m c t)).all))

theorem next_C (t : Fin cfgA.N) (s : St c) (h0 : ¬AtFirst t) (h1 : ¬AtFull t) :
    next m c t s = upd (sDiag (qAt m c t) (kAt m c t)) (vB (vAt m c t)) s := by
  unfold next
  rw [dif_neg h0, dif_neg h1]
  dsimp only [stepC, runC]
  exact congrArg₂ Prod.mk ((whole_m (c := c) _).trans (runC_m c (ms0 t) (ms1 t) (qAt m c t) (kAt m c t) s.1).all)
    (congrArg₂ Prod.mk ((whole_l (c := c) _).trans (runC_l c (ms0 t) (ms1 t) (qAt m c t) (kAt m c t) s.1 s.2.1).all)
      ((whole_a (c := c) _).trans (runC_a c (ms0 t) (ms1 t) (ms2 t) (qAt m c t) (kAt m c t) (vAt m c t) s.1 s.2.2).all))

theorem next_D (t : Fin cfgA.N) (s : St c) (h0 : ¬AtFirst t) (h1 : AtFull t) :
    next m c t s = upd (sB (qAt m c t) (kAt m c t)) (vB (vAt m c t)) s := by
  unfold next
  rw [dif_neg h0, dif_pos h1]
  dsimp only [stepD, runD]
  exact congrArg₂ Prod.mk ((whole_m (c := c) _).trans (runD_m c (ms0 t) (ms1 t) (qAt m c t) (kAt m c t) s.1).all)
    (congrArg₂ Prod.mk ((whole_l (c := c) _).trans (runD_l c (ms0 t) (ms1 t) (qAt m c t) (kAt m c t) s.1 s.2.1).all)
      ((whole_a (c := c) _).trans (runD_a c (ms0 t) (ms1 t) (ms2 t) (qAt m c t) (kAt m c t) (vAt m c t) s.1 s.2.2).all))

/-- At a row's last step the output's block is the gated quotient of the scratches after it. -/
theorem out_last (t : Fin cfgA.N) (s : St c) (h1 : ¬AtFull t) :
    outAt m c t s = upO (next m c t s).2.2 (next m c t s).2.1 (gB (gAt m c t)) := by
  by_cases h0 : AtFirst t
  · rw [next_A m c t s h0 h1]
    unfold outAt outOf
    rw [dif_pos h0, dif_neg h1]
    exact (View.read_writes_junk_eq_canon outView _).trans
      (runA_o (ms0 t) (ms1 t) (ms2 t) (ms3 t) (qAt m c t) (kAt m c t) (vAt m c t) (gAt m c t)).all
  · rw [next_C m c t s h0 h1]
    unfold outAt outOf
    rw [dif_neg h0, dif_neg h1]
    exact (View.read_writes_junk_eq_canon outView _).trans
      (runC_o c (ms0 t) (ms1 t) (ms2 t) (ms3 t) (qAt m c t) (kAt m c t) (vAt m c t) (gAt m c t) s.1 s.2.1 s.2.2).all

end Cert.KernelIdeal.Flash

end
-- ==== Proof.KernelIdeal.Blocks.lean ====
/-
  Which parts of the arguments a step works on: its batch, its row and its column of the lower triangle, and each
  block's elements as elements of the launch arrays, counted in natural numbers.
-/
module

public import proofs.«01_k».proof.Proof.KernelIdeal.Steps
public import Idealize.ShloMosaic.Lib.Pipeline.ValueKit

@[expose] public section

set_option maxRecDepth 16384
set_option Elab.async false

noncomputable section

namespace Cert.KernelIdeal.Flash

open Cert.KernelIdeal Cert.KernelIdeal.Gen
open Idealize.ShloMosaic
open Idealize.ShloMosaic.TcCoe

/-- A three-axis array read at natural numbers (zero outside). -/
def rd3 {a b c : ℕ} (f : Shape.Idx ⟨3, ![a, b, c]⟩ → EReal) (x y z : ℕ) : EReal :=
  if h : x < a ∧ y < b ∧ z < c then f (ix3 ⟨x, h.1⟩ ⟨y, h.2.1⟩ ⟨z, h.2.2⟩) else 0

theorem rd3_ix3 {a b c : ℕ} (f : Shape.Idx ⟨3, ![a, b, c]⟩ → EReal) (x : Fin a) (y : Fin b) (z : Fin c) :
    rd3 f x.val y.val z.val = f (ix3 x y z) := dif_pos ⟨x.isLt, y.isLt, z.isLt⟩

/-- Step `t`'s batch, row and column. -/
def bOf (t : ℕ) : ℕ := t / 136
def iOf (t : ℕ) : ℕ := rowOf (t % 136)
def jOf (t : ℕ) : ℕ := colOf (t % 136)

/-- What is decided of every step: how its two decisions read its row and column, and that a step that isn't a row's
    first follows the step of the column before. -/
theorem sched : ∀ t : Fin cfgA.N, (AtFirst t ↔ jOf t.val = 0) ∧ (AtFull t ↔ jOf t.val < iOf t.val) ∧ jOf t.val ≤ iOf t.val
    ∧ iOf t.val < 16 ∧ bOf t.val < 2
    ∧ (jOf t.val ≠ 0 → t.val ≠ 0 ∧ bOf (t.val - 1) = bOf t.val ∧ iOf (t.val - 1) = iOf t.val ∧ jOf (t.val - 1) + 1 = jOf t.val) := by
  decide +kernel

theorem idx0 : ∀ t : Fin cfgA.N, (cfgA.win (0 : Fin 5)).index t = ![bOf t.val, 0, iOf t.val] := by decide +kernel
theorem idx1 : ∀ t : Fin cfgA.N, (cfgA.win (1 : Fin 5)).index t = ![bOf t.val, jOf t.val, 0] := by decide +kernel
theorem idx2 : ∀ t : Fin cfgA.N, (cfgA.win (2 : Fin 5)).index t = ![bOf t.val, 0, jOf t.val] := by decide +kernel
theorem idx3 : ∀ t : Fin cfgA.N, (cfgA.win (3 : Fin 5)).index t = ![bOf t.val, 0, iOf t.val] := by decide +kernel
theorem idx4 : ∀ t : Fin cfgA.N, (cfgA.win (4 : Fin 5)).index t = ![bOf t.val, 0, iOf t.val] := by decide +kernel

variable (m : (ℓ : Loc nD τ sig) → Buf (Elt Ideal) ℓ) (c : Dev nD)

/-- The arguments at launch. -/
def argQ : S2x2048x8192.Idx → EReal := m ((c.tc : Thread nD τ).loc main_arg0)
def argK : S2x8192x512.Idx → EReal := m ((c.tc : Thread nD τ).loc main_arg1)
def argV : S2x256x8192.Idx → EReal := m ((c.tc : Thread nD τ).loc main_arg2)
def argG : S2x1024x8192.Idx → EReal := m ((c.tc : Thread nD τ).loc main_arg3)

theorem qAt_at (t : Fin cfgA.N) (x : S1x2048x512.Idx) :
    qAt m c t x = rd3 (argQ m c) (bOf t.val) (x 1).val (512 * iOf t.val + (x 2).val) := by
  have h := sched t
  have h1 : (x 1).val < 2048 := (x 1 : Fin 2048).isLt
  have h2 : (x 2).val < 512 := (x 2 : Fin 512).isLt
  unfold rd3
  rw [dif_pos ⟨h.2.2.2.2.1, h1, by omega⟩]
  unfold qAt blkAt argQ
  blk_ext [idx0 t]

theorem kAt_at (t : Fin cfgA.N) (x : S1x512x512.Idx) :
    kAt m c t x = rd3 (argK m c) (bOf t.val) (512 * jOf t.val + (x 1).val) (x 2).val := by
  have h := sched t
  have h1 : (x 1).val < 512 := (x 1 : Fin 512).isLt
  have h2 : (x 2).val < 512 := (x 2 : Fin 512).isLt
  unfold rd3
  rw [dif_pos ⟨h.2.2.2.2.1, by omega, h2⟩]
  unfold kAt blkAt argK
  blk_ext [idx1 t]

theorem vAt_at (t : Fin cfgA.N) (x : S1x256x512.Idx) :
    vAt m c t x = rd3 (argV m c) (bOf t.val) (x 1).val (512 * jOf t.val + (x 2).val) := by
  have h := sched t
  have h1 : (x 1).val < 256 := (x 1 : Fin 256).isLt
  have h2 : (x 2).val < 512 := (x 2 : Fin 512).isLt
  unfold rd3
  rw [dif_pos ⟨h.2.2.2.2.1, h1, by omega⟩]
  unfold vAt blkAt argV
  blk_ext [idx2 t]

theorem gAt_at (t : Fin cfgA.N) (x : S1x1024x512.Idx) :
    gAt m c t x = rd3 (argG m c) (bOf t.val) (x 1).val (512 * iOf t.val + (x 2).val) := by
  have h := sched t
  have h1 : (x 1).val < 1024 := (x 1 : Fin 1024).isLt
  have h2 : (x 2).val < 512 := (x 2 : Fin 512).isLt
  unfold rd3
  rw [dif_pos ⟨h.2.2.2.2.1, h1, by omega⟩]
  unfold gAt blkAt argG
  blk_ext [idx3 t]

end Cert.KernelIdeal.Flash

end
-- ==== Proof.Math.Softmax.lean ====
/-
  The mathematics of the online softmax over the extended reals: sums of weights `2 ^ (s k - maximum)` over the first
  `n` keys, how one more block of keys changes them, and the quotient as the softmax to the base `e` of the scores
  times `log 2`.
-/
module

public import Idealize.ShloMosaic.PureOps.Ideal
public import Mathlib.Analysis.SpecialFunctions.Pow.Real

@[expose] public section

set_option Elab.async false

noncomputable section

namespace Cert.Softmax

open Idealize.ShloMosaic Finset

/-- A score: a real number, or `⊥` for a key that the query does not see. -/
abbrev Score (x : EReal) : Prop := x ≠ ⊤

variable (s v : ℕ → EReal)

/-- The largest of the first `n` scores, the sum of their weights, and the weighted sum of the values. -/
def top (n : ℕ) : EReal := (range n).sup s
def den (n : ℕ) : EReal := ∑ k ∈ range n, Ideal.exp2 (s k - top s n)
def num (n : ℕ) : EReal := ∑ k ∈ range n, v k * Ideal.exp2 (s k - top s n)

@[simp] theorem top_zero : top s 0 = ⊥ := by simp [top]
@[simp] theorem den_zero : den s 0 = 0 := by simp [den]
@[simp] theorem num_zero : num s v 0 = 0 := by simp [num]

theorem exists_real {x : EReal} (h : x ≠ ⊤) (h' : x ≠ ⊥) : ∃ r : ℝ, x = r :=
  ⟨x.toReal, (EReal.coe_toReal h h').symm⟩

theorem top_real {n : ℕ} (hs : ∀ k, s k ≠ ⊤) (h0 : s 0 ≠ ⊥) (hn : 0 < n) : ∃ r : ℝ, top s n = r := by
  refine exists_real ?_ ?_
  · exact ((Finset.sup_lt_iff bot_lt_top).2 fun k _ => lt_top_iff_ne_top.2 (hs k)).ne
  · intro h
    have : s 0 ≤ top s n := Finset.le_sup (f := s) (mem_range.2 hn)
    rw [h] at this
    exact h0 (le_bot_iff.1 this)

/-- A weight is a nonnegative real. -/
theorem weight_real {x : EReal} (hx : x ≠ ⊤) (m : ℝ) :
    ∃ r : ℝ, 0 ≤ r ∧ (x ≠ ⊥ → 0 < r) ∧ Ideal.exp2 (x - m) = r := by
  induction x with
  | bot => exact ⟨0, le_rfl, fun h => absurd rfl h, by simp⟩
  | coe a =>
    refine ⟨Real.rpow 2 (a - m), (Real.rpow_pos_of_pos two_pos _).le, fun _ => Real.rpow_pos_of_pos two_pos _, ?_⟩
    rw [← EReal.coe_sub, Ideal.exp2_coe]
  | top => exact absurd rfl hx

theorem weight_mul {x : EReal} (hx : x ≠ ⊤) (m m' : ℝ) :
    Ideal.exp2 ((m : EReal) - m') * Ideal.exp2 (x - m) = Ideal.exp2 (x - m') := by
  induction x with
  | bot => simp
  | coe a =>
    rw [← EReal.coe_sub, ← EReal.coe_sub, ← EReal.coe_sub, Ideal.exp2_coe, Ideal.exp2_coe, Ideal.exp2_coe, ← EReal.coe_mul]
    congr 1
    exact (Real.rpow_add two_pos _ _).symm.trans (congrArg (Real.rpow 2) (by ring))
  | top => exact absurd rfl hx

/-- A nonnegative real distributes over any sum. -/
theorem mul_sum_real {ι : Type*} (t : Finset ι) (f : ι → EReal) {a : ℝ} (ha : 0 ≤ a) :
    (a : EReal) * ∑ k ∈ t, f k = ∑ k ∈ t, (a : EReal) * f k := by
  classical
  induction t using Finset.induction_on with
  | empty => simp
  | insert i t hi ih =>
    rw [sum_insert hi, sum_insert hi, EReal.left_distrib_of_nonneg_of_ne_top (EReal.coe_nonneg.2 ha) (EReal.coe_ne_top a), ih]

/-- One more block of keys: the maximum. -/
theorem top_add (n T : ℕ) : top s (n + T) = max (top s n) (univ.sup fun k : Fin T => s (n + k.val)) := by
  apply le_antisymm
  · refine Finset.sup_le fun k hk => ?_
    by_cases h : k < n
    · exact le_max_of_le_left (Finset.le_sup (f := s) (mem_range.2 h))
    · have hk' := mem_range.1 hk
      refine le_max_of_le_right ?_
      have := Finset.le_sup (f := fun k : Fin T => s (n + k.val)) (mem_univ (⟨k - n, by omega⟩ : Fin T))
      simpa [show n + (k - n) = k by omega] using this
  · refine max_le (Finset.sup_mono (range_mono (Nat.le_add_right _ _))) (Finset.sup_le fun k _ => ?_)
    exact Finset.le_sup (f := s) (mem_range.2 (by have := k.isLt; omega))

/-- One more block of keys: the weighted sum. -/
theorem num_add (hs : ∀ k, s k ≠ ⊤) (h0 : s 0 ≠ ⊥) (n T : ℕ) (hT : 0 < T) :
    num s v (n + T) = Ideal.exp2 (top s n - top s (n + T)) * num s v n
      + ∑ k : Fin T, v (n + k.val) * Ideal.exp2 (s (n + k.val) - top s (n + T)) := by
  obtain ⟨m', hm'⟩ := top_real s hs h0 (n := n + T) (by omega)
  unfold num
  rw [Finset.sum_range_add, Finset.sum_range (fun x => v (n + x) * Ideal.exp2 (s (n + x) - top s (n + T)))]
  congr 1
  rcases Nat.eq_zero_or_pos n with rfl | hn
  · simp
  · obtain ⟨m, hm⟩ := top_real s hs h0 hn
    rw [hm, hm']
    obtain ⟨a, ha, -, he⟩ := weight_real (EReal.coe_ne_top m) m'
    rw [he, mul_sum_real _ _ ha]
    refine sum_congr rfl fun k _ => ?_
    rw [← he, ← weight_mul (hs k) m m', mul_left_comm]

/-- One more block of keys: the sum of the weights. -/
theorem den_add (hs : ∀ k, s k ≠ ⊤) (h0 : s 0 ≠ ⊥) (n T : ℕ) (hT : 0 < T) :
    den s (n + T) = Ideal.exp2 (top s n - top s (n + T)) * den s n
      + ∑ k : Fin T, Ideal.exp2 (s (n + k.val) - top s (n + T)) := by
  have h := num_add s (fun _ => 1) hs h0 n T hT
  simpa only [num, den, one_mul] using h

/-- Keys that the query does not see change nothing. -/
theorem top_of_bot {n N : ℕ} (h : n ≤ N) (hb : ∀ k, n ≤ k → s k = ⊥) : top s N = top s n := by
  refine le_antisymm (Finset.sup_le fun k _ => ?_) (Finset.sup_mono (range_mono h))
  by_cases hk : k < n
  · exact Finset.le_sup (f := s) (mem_range.2 hk)
  · rw [hb k (by omega)]; exact bot_le

theorem num_of_bot (hs : ∀ k, s k ≠ ⊤) (h0 : s 0 ≠ ⊥) {n N : ℕ} (hn : 0 < n) (h : n ≤ N) (hb : ∀ k, n ≤ k → s k = ⊥) :
    num s v N = num s v n := by
  obtain ⟨m, hm⟩ := top_real s hs h0 hn
  unfold num
  rw [top_of_bot s h hb, hm]
  refine (sum_subset (range_mono h) fun k _ hk => ?_).symm
  rw [hb k (by simpa using hk)]
  simp

theorem den_of_bot (hs : ∀ k, s k ≠ ⊤) (h0 : s 0 ≠ ⊥) {n N : ℕ} (hn : 0 < n) (h : n ≤ N) (hb : ∀ k, n ≤ k → s k = ⊥) :
    den s N = den s n := by
  have h := num_of_bot s (fun _ => 1) hs h0 hn h hb
  simpa only [num, den, one_mul] using h

/-- The sum of the weights is a positive real. -/
theorem den_real (hs : ∀ k, s k ≠ ⊤) (h0 : s 0 ≠ ⊥) {n : ℕ} (hn : 0 < n) : ∃ r : ℝ, 0 < r ∧ den s n = r := by
  obtain ⟨m, hm⟩ := top_real s hs h0 hn
  choose w hw hp he using fun k => weight_real (hs k) m
  have hcoe : ∀ t : Finset ℕ, ∑ k ∈ t, Ideal.exp2 (s k - m) = ((∑ k ∈ t, w k : ℝ) : EReal) := by
    intro t
    induction t using Finset.induction_on with
    | empty => simp
    | insert i t hi ih => rw [sum_insert hi, sum_insert hi, EReal.coe_add, ih, he]
  refine ⟨∑ k ∈ range n, w k, ?_, ?_⟩
  · exact lt_of_lt_of_le (hp 0 h0) (single_le_sum (f := w) (fun k _ => hw k) (mem_range.2 hn))
  · unfold den; rw [hm]; exact hcoe _

/-- The quotient of the two sums is the sum of the values under the normalized weights. -/
theorem quotient (hs : ∀ k, s k ≠ ⊤) (h0 : s 0 ≠ ⊥) {n : ℕ} (hn : 0 < n) :
    Ideal.div (num s v n) (den s n) = ∑ k ∈ range n, v k * Ideal.div (Ideal.exp2 (s k - top s n)) (den s n) := by
  obtain ⟨d, hd, e⟩ := den_real s hs h0 hn
  rw [e]
  simp only [Ideal.div_coe hd.ne']
  rw [mul_comm, num, mul_sum_real _ _ (one_div_pos.2 hd).le]
  refine sum_congr rfl fun k _ => ?_
  rw [mul_comm, mul_assoc]

/-- The scores to the base `e`: the maximum, and a weight. -/
theorem top_log (hs : ∀ k, s k ≠ ⊤) (n : ℕ) :
    (range n).sup (fun k => s k * ((Real.log 2 : ℝ) : EReal)) = top s n * ((Real.log 2 : ℝ) : EReal) := by
  have hL : (0 : ℝ) < Real.log 2 := Real.log_pos one_lt_two
  induction n with
  | zero => simp [EReal.bot_mul_coe_of_pos hL]
  | succ n ih =>
    have e : top s (n + 1) = s n ⊔ top s n := by unfold top; rw [range_add_one, sup_insert]
    rw [range_add_one, sup_insert, ih, e]
    exact (Monotone.map_max (f := fun x : EReal => x * ((Real.log 2 : ℝ) : EReal))
      (fun a b h => mul_le_mul_of_nonneg_right h (EReal.coe_nonneg.2 hL.le))).symm

theorem weight_log {x : EReal} (hx : x ≠ ⊤) (m : ℝ) :
    Ideal.exp (x * ((Real.log 2 : ℝ) : EReal) - (m : EReal) * ((Real.log 2 : ℝ) : EReal)) = Ideal.exp2 (x - m) := by
  have hL : (0 : ℝ) < Real.log 2 := Real.log_pos one_lt_two
  induction x with
  | bot => rw [EReal.bot_mul_coe_of_pos hL, ← EReal.coe_mul]; simp
  | coe a =>
    rw [← EReal.coe_mul, ← EReal.coe_mul, ← EReal.coe_sub, ← EReal.coe_sub, Ideal.exp_coe, Ideal.exp2_coe]
    congr 1
    refine Eq.trans ?_ (Real.rpow_def_of_pos two_pos (a - m)).symm
    congr 1; ring
  | top => exact absurd rfl hx

end Cert.Softmax

end
-- ==== Proof.KernelIdeal.Invariant.lean ====
/-
  What the scratches hold after every step: for each head and each of the row's queries the maximum of the scores of
  the keys seen so far, the sum of their weights and the weighted sums of the values.
-/
module

public import proofs.«01_k».proof.Proof.KernelIdeal.Blocks
public import proofs.«01_k».proof.Proof.Math.Softmax

@[expose] public section

set_option maxRecDepth 16384
set_option Elab.async false

noncomputable section

namespace Cert.KernelIdeal.Flash

open Cert.KernelIdeal Cert.KernelIdeal.Gen
open Idealize.ShloMosaic
open Idealize.ShloMosaic.TcCoe
open Cert.Softmax

/-- The score of key `k` for head `h`'s query `q` in batch `b`: `⊥` where the key comes after the query. -/
def scr (Q : S2x2048x8192.Idx → EReal) (K : S2x8192x512.Idx → EReal) (b h q k : ℕ) : EReal :=
  if k ≤ q then ∑ d : Fin 128, rd3 K b k (128 * (h / 4) + d.val) * rd3 Q b (128 * h + d.val) q else ⊥
/-- Lane `d` of key `k`'s value for head `h`. -/
def vlu (V : S2x256x8192.Idx → EReal) (b h d k : ℕ) : EReal := rd3 V b (64 * (h / 4) + d) k

/-- The scratches `p` hold the sums over the first `n` keys, of scores `S` and values `V`. -/
def Inv (S : Fin 16 → Fin 512 → ℕ → EReal) (V : Fin 16 → Fin 64 → ℕ → EReal) (n : ℕ) (p : Tri) : Prop :=
  ∀ (h : Fin 16) (q : Fin 512), p.1 (ix3 h 0 q) = top (S h q) n ∧ p.2.1 (ix3 h 0 q) = den (S h q) n
    ∧ ∀ d : Fin 64, p.2.2 (ix3 h d q) = num (S h q) (V h d) n

theorem inv_fill (S : Fin 16 → Fin 512 → ℕ → EReal) (V : Fin 16 → Fin 64 → ℕ → EReal) : Inv S V 0 fill := fun h q => by
  refine ⟨?_, ?_, fun d => ?_⟩
  · rw [top_zero]; rfl
  · rw [den_zero]; rfl
  · rw [num_zero]; rfl

/-- One step: 512 more keys. -/
theorem inv_upd {S : Fin 16 → Fin 512 → ℕ → EReal} {V : Fin 16 → Fin 64 → ℕ → EReal} (hs : ∀ h q k, S h q k ≠ ⊤)
    (h0 : ∀ h q, S h q 0 ≠ ⊥) {n : ℕ} {p : Tri} (hp : Inv S V n p) (s : Fin 16 → FVec Ideal S512x512 .f32)
    (v : Fin 16 → S1x64x512.Idx → Elt Ideal .bf16) (es : ∀ h (k q : Fin 512), s h (ix2 k q) = S h q (n + k.val))
    (ev : ∀ h (d : Fin 64) (k : Fin 512), v h (ix3 0 d k) = V h d (n + k.val)) : Inv S V (n + 512) (upd s v p) := fun h q => by
  obtain ⟨e1, e2, e3⟩ := hp h q
  have eT : hTop (s h) (hRow p.1 h) (ix2 0 q) = top (S h q) (n + 512) := by
    rw [hTop_at, top_add]
    refine congrArg₂ max e1 (congrArg (Finset.univ.sup) (funext fun k => es h k q))
  have eA : hAlpha (s h) (hRow p.1 h) (ix2 0 q) = Ideal.exp2 (top (S h q) n - top (S h q) (n + 512)) := by
    rw [hAlpha_at, eT]
    exact congrArg (fun x => Ideal.exp2 (x - top (S h q) (n + 512))) e1
  have eP : ∀ k : Fin 512, hP (s h) (hRow p.1 h) (ix2 k q) = Ideal.exp2 (S h q (n + k.val) - top (S h q) (n + 512)) := fun k => by
    rw [hP_at, eT, es]
  refine ⟨?_, ?_, fun d => ?_⟩
  · exact (hM_at (s h) (hRow p.1 h) q).trans eT
  · refine (hL_at (s h) (hRow p.1 h) (hRow p.2.1 h) q).trans ?_
    rw [eA, den_add _ (hs h q) (h0 h q) n 512 (by omega)]
    simp only [eP]
    exact congrArg (fun x => Ideal.exp2 (top (S h q) n - top (S h q) (n + 512)) * x + _) e2
  · refine (hA_at (s h) (hRow p.1 h) (v h) (hSlab p.2.2 h) d q).trans ?_
    rw [eA, num_add _ _ (hs h q) (h0 h q) n 512 (by omega)]
    simp only [eP, ev]
    exact congrArg (fun x => Ideal.exp2 (top (S h q) n - top (S h q) (n + 512)) * x + _) (e3 d)

variable (m : (ℓ : Loc nD τ sig) → Buf (Elt Ideal) ℓ) (c : Dev nD)

/-- Every query and key that an argument holds is a real number. -/
def Reals : Prop := (∀ x, argQ m c x ≠ ⊤ ∧ argQ m c x ≠ ⊥) ∧ ∀ x, argK m c x ≠ ⊤ ∧ argK m c x ≠ ⊥

variable {m c}

theorem rd3_real {a b c : ℕ} {f : Shape.Idx ⟨3, ![a, b, c]⟩ → EReal} (h : ∀ x, f x ≠ ⊤ ∧ f x ≠ ⊥) (x y z : ℕ) :
    ∃ r : ℝ, rd3 f x y z = r := by
  unfold rd3
  split
  · exact exists_real (h _).1 (h _).2
  · exact ⟨0, rfl⟩

theorem sum_real {ι : Type*} (t : Finset ι) (f : ι → EReal) (h : ∀ i, ∃ r : ℝ, f i = r) : ∃ r : ℝ, ∑ i ∈ t, f i = r := by
  classical
  choose w hw using h
  refine ⟨∑ i ∈ t, w i, ?_⟩
  induction t using Finset.induction_on with
  | empty => simp
  | insert i t hi ih => rw [Finset.sum_insert hi, Finset.sum_insert hi, EReal.coe_add, ih, hw]

theorem dot_real (H : Reals m c) (b h q k : ℕ) :
    ∃ r : ℝ, ∑ d : Fin 128, rd3 (argK m c) b k (128 * (h / 4) + d.val) * rd3 (argQ m c) b (128 * h + d.val) q = r :=
  sum_real _ _ fun d => by
    obtain ⟨x, hx⟩ := rd3_real H.2 b k (128 * (h / 4) + d.val)
    obtain ⟨y, hy⟩ := rd3_real H.1 b (128 * h + d.val) q
    exact ⟨x * y, by rw [hx, hy, EReal.coe_mul]⟩

theorem scr_ne_top (H : Reals m c) (b h q k : ℕ) : scr (argQ m c) (argK m c) b h q k ≠ ⊤ := by
  unfold scr
  split
  · obtain ⟨r, hr⟩ := dot_real H b h q k
    rw [hr]; exact EReal.coe_ne_top r
  · exact bot_ne_top
theorem scr_zero (H : Reals m c) (b h q : ℕ) : scr (argQ m c) (argK m c) b h q 0 ≠ ⊥ := by
  unfold scr
  rw [if_pos (Nat.zero_le q)]
  obtain ⟨r, hr⟩ := dot_real H b h q 0
  rw [hr]; exact EReal.coe_ne_bot r

/-- The scores and values of step `t`'s row. -/
def Sof (m : (ℓ : Loc nD τ sig) → Buf (Elt Ideal) ℓ) (c : Dev nD) (b i : ℕ) : Fin 16 → Fin 512 → ℕ → EReal :=
  fun h q k => scr (argQ m c) (argK m c) b h.val (512 * i + q.val) k
def Vof (m : (ℓ : Loc nD τ sig) → Buf (Elt Ideal) ℓ) (c : Dev nD) (b : ℕ) : Fin 16 → Fin 64 → ℕ → EReal :=
  fun h d k => vlu (argV m c) b h.val d.val k

theorem sB_at (t : Fin cfgA.N) (h : Fin 16) (k q : Fin 512) : sB (qAt m c t) (kAt m c t) h (ix2 k q)
    = ∑ d : Fin 128, rd3 (argK m c) (bOf t.val) (512 * jOf t.val + k.val) (128 * (h.val / 4) + d.val)
        * rd3 (argQ m c) (bOf t.val) (128 * h.val + d.val) (512 * iOf t.val + q.val) := by
  refine (hScore_at _ _ k q).trans (Finset.sum_congr rfl fun d _ => ?_)
  exact congrArg₂ (· * ·) (kAt_at m c t _) (qAt_at m c t _)

theorem full_at (t : Fin cfgA.N) (h1 : AtFull t) (h : Fin 16) (k q : Fin 512) :
    sB (qAt m c t) (kAt m c t) h (ix2 k q) = Sof m c (bOf t.val) (iOf t.val) h q (512 * jOf t.val + k.val) := by
  have hf := (sched t).2.1.1 h1
  rw [sB_at]; unfold Sof scr
  rw [if_pos (by have := k.isLt; omega)]

theorem diag_at (t : Fin cfgA.N) (h1 : ¬AtFull t) (h : Fin 16) (k q : Fin 512) :
    sDiag (qAt m c t) (kAt m c t) h (ix2 k q) = Sof m c (bOf t.val) (iOf t.val) h q (512 * jOf t.val + k.val) := by
  have e : jOf t.val = iOf t.val := le_antisymm (sched t).2.2.1 (not_lt.1 fun h => h1 ((sched t).2.1.2 h))
  refine (hMask_at _ k q).trans ?_
  rw [sB_at]; unfold Sof scr
  rw [e]
  by_cases hk : k.val ≤ q.val
  · rw [if_pos hk, if_pos (by omega)]
  · rw [if_neg hk, if_neg (by omega)]

theorem v_at (t : Fin cfgA.N) (h : Fin 16) (d : Fin 64) (k : Fin 512) :
    vB (vAt m c t) h (ix3 0 d k) = Vof m c (bOf t.val) h d (512 * jOf t.val + k.val) := vAt_at m c t _

/-- After step `t` the scratches hold the sums over the keys up to the end of its column. -/
theorem inv_at (H : Reals m c) : ∀ (n : ℕ) (hn : n < cfgA.N),
    Inv (Sof m c (bOf n) (iOf n)) (Vof m c (bOf n)) (512 * jOf n + 512) (stAt m c (n + 1) hn) := by
  have hs := fun b i (h : Fin 16) (q : Fin 512) k => scr_ne_top H b h.val (512 * i + q.val) k
  have h0 := fun b i (h : Fin 16) (q : Fin 512) => scr_zero H b h.val (512 * i + q.val)
  intro n
  induction n with
  | zero =>
    intro hn
    have S := sched ⟨0, hn⟩
    have hj : jOf 0 = 0 := S.1.1 ((stepFacts ⟨0, hn⟩).2.2.2.2.2 rfl)
    have hF : AtFirst (⟨0, hn⟩ : Fin cfgA.N) := S.1.2 hj
    by_cases h1 : AtFull (⟨0, hn⟩ : Fin cfgA.N)
    · rw [show stAt m c (0 + 1) hn = _ from next_B m c ⟨0, hn⟩ _ hF h1]
      exact inv_upd (hs _ _) (h0 _ _) (by rw [hj]; exact inv_fill _ _) _ _ (full_at ⟨0, hn⟩ h1) (v_at ⟨0, hn⟩)
    · rw [show stAt m c (0 + 1) hn = _ from next_A m c ⟨0, hn⟩ _ hF h1]
      exact inv_upd (hs _ _) (h0 _ _) (by rw [hj]; exact inv_fill _ _) _ _ (diag_at ⟨0, hn⟩ h1) (v_at ⟨0, hn⟩)
  | succ n ih =>
    intro hn
    have S := sched ⟨n + 1, hn⟩
    by_cases hF : AtFirst (⟨n + 1, hn⟩ : Fin cfgA.N)
    · have hj : jOf (n + 1) = 0 := S.1.1 hF
      by_cases h1 : AtFull (⟨n + 1, hn⟩ : Fin cfgA.N)
      · rw [show stAt m c (n + 1 + 1) hn = _ from next_B m c ⟨n + 1, hn⟩ _ hF h1]
        exact inv_upd (hs _ _) (h0 _ _) (by rw [hj]; exact inv_fill _ _) _ _ (full_at ⟨n + 1, hn⟩ h1) (v_at ⟨n + 1, hn⟩)
      · rw [show stAt m c (n + 1 + 1) hn = _ from next_A m c ⟨n + 1, hn⟩ _ hF h1]
        exact inv_upd (hs _ _) (h0 _ _) (by rw [hj]; exact inv_fill _ _) _ _ (diag_at ⟨n + 1, hn⟩ h1) (v_at ⟨n + 1, hn⟩)
    · obtain ⟨-, eb, ei, ej⟩ := S.2.2.2.2.2 fun h => hF (S.1.2 h)
      have hp := ih (by omega)
      have eb' : bOf n = bOf (n + 1) := eb
      have ei' : iOf n = iOf (n + 1) := ei
      have ej' : 512 * jOf n + 512 = 512 * jOf (n + 1) := by
        have : jOf n + 1 = jOf (n + 1) := ej
        omega
      rw [eb', ei', ej'] at hp
      by_cases h1 : AtFull (⟨n + 1, hn⟩ : Fin cfgA.N)
      · rw [show stAt m c (n + 1 + 1) hn = _ from next_D m c ⟨n + 1, hn⟩ _ hF h1]
        exact inv_upd (hs _ _) (h0 _ _) hp _ _ (full_at ⟨n + 1, hn⟩ h1) (v_at ⟨n + 1, hn⟩)
      · rw [show stAt m c (n + 1 + 1) hn = _ from next_C m c ⟨n + 1, hn⟩ _ hF h1]
        exact inv_upd (hs _ _) (h0 _ _) hp _ _ (diag_at ⟨n + 1, hn⟩ h1) (v_at ⟨n + 1, hn⟩)

end Cert.KernelIdeal.Flash

end
-- ==== Proof.KernelIdeal.Body.lean ====
/-
  The body's obligation at every step of the flash call, by its decisions there.
-/
module

public import proofs.«01_k».proof.Proof.KernelIdeal.Traj

@[expose] public section

set_option maxRecDepth 16384
set_option Elab.async false

noncomputable section

namespace Cert.KernelIdeal.Flash

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

local notation "𝕄" => MT nD τ sig Unit (Elt Ideal) ℕ (UR sig nD τ) ℕ

variable (m : (ℓ : Loc nD τ sig) → Buf (Elt Ideal) ℓ) (c : Dev nD)

/-- The body at step `t`, from what the pipeline hands it to what the pipeline takes back. -/
def Oblig (t : Fin cfgA.N) : Prop :=
    iprop((dats m 0 c).Φ t.castSucc ∗ (dats m 0 c).owesAt () t.castSucc
        ∗ (∃ d, owns (c : Thread nD τ) (ms0 t) fullShare ((dats m 0 c).before (0 : Fin 5) t d))
        ∗ (∃ d, owns (c : Thread nD τ) (ms1 t) fullShare ((dats m 0 c).before (1 : Fin 5) t d))
        ∗ (∃ d, owns (c : Thread nD τ) (ms2 t) fullShare ((dats m 0 c).before (2 : Fin 5) t d))
        ∗ (∃ d, owns (c : Thread nD τ) (ms3 t) fullShare ((dats m 0 c).before (3 : Fin 5) t d))
        ∗ (∃ d, owns (c : Thread nD τ) (ms4 t) fullShare ((dats m 0 c).before (4 : Fin 5) t d)))
      ⊢ wp frame (wpE (defs₀ (F := Ideal)) Variants.none c none) Set.univ
          (body (crd t) (ms0 t) (hs0 t) (ms1 t) (hs1 t) (ms2 t) (hs2 t) (ms3 t) (hs3 t) (ms4 t) (hs4 t)) fun _ =>
          iprop((dats m 0 c).Φ t.succ ∗ (dats m 0 c).owesAt () t.succ
            ∗ bigSep Finset.univ fun w : Fin cfgA.W =>
                match cfgA.idle w (cfgA.grid.coords t) with
                | true =>
                  match (cfgA.win w).flush t with
                  | false => iprop(∃ d, owns (c : Thread nD τ) ((cfgA.win w).stage (cfgA.slots t w)) fullShare ((dats m 0 c).before w t d))
                  | true => owns (c : Thread nD τ) ((cfgA.win w).stage (cfgA.slots t w)) fullShare ((dats m 0 c).after w t)
                | false => owns (c : Thread nD τ) ((cfgA.win w).stage (cfgA.slots t w)) fullShare ((dats m 0 c).after w t))

set_option maxHeartbeats 4000000

/-- The obligation at a row's only step. -/
theorem bodyA (t : Fin cfgA.N) (h0 : AtFirst t) (h1 : ¬AtFull t) : Oblig m c t := by
  unfold Oblig
  rw [bigSep_W0]
  have hi : cfgA.idle (4 : Fin 5) (cfgA.grid.coords t) = false := idle_diag h1
  rewrite [hi]
  simp only [before0, before1, before2, before3, before4, after0, after1, after2, after3, after4]
  rewrite [show (dats m 0 c).Φ t.succ = Phi m c t.succ from rfl, show (dats m 0 c).Φ t.castSucc = Phi m c t.castSucc from rfl,
    show (dats m 0 c).owesAt () t.succ = (dats m 0 c).owesAt () t.castSucc from rfl]
  unfold Phi
  iintro ⟨⟨%s, %hs, ⟨HM, HL, HA⟩, HT0, HT1⟩, Ho, ⟨%d0, H0⟩, ⟨%d1, H1⟩, ⟨%d2, H2⟩, ⟨%d3, H3⟩, ⟨%d4, H4⟩⟩
  iapply ((stepA m c t h0 h1).2.2.2.2 s.1 s.2.1 s.2.2 _)
  isplitl [H0 H1 H2 H3 HT0 HT1]
  · isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    iexact HT1
  isplitl [H4]; · iexists d4; iexact H4
  isplitl [HM HL HA]
  · isplitl [HM]; · iexact HM
    isplitl [HL]; · iexact HL
    iexact HA
  iintro ⟨⟨H0, H1, H2, H3, HT0, HT1⟩, H4, ⟨HM, HL, HA⟩⟩
  isplitl [HM HL HA HT0 HT1]
  · iexists next m c t (stAt m c t.val t.isLt.le)
    isplitr
    · ipureintro; intro _; rfl
    isplitl [HM HL HA]
    · unfold next; simp only [dif_pos h0, dif_neg h1]
      isplitl [HM]; · iexact HM
      isplitl [HL]; · iexact HL
      iexact HA
    isplitl [HT0]; · iexact HT0
    iexact HT1
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  icases H4 with ⟨%f, H4⟩
  unfold owns; iexists _; isplitr; swap
  · iexact H4
  · ipureintro
    unfold outAt; simp only [dif_pos h0, dif_neg h1]
    exact View.read_writes_of_cover _ _ _ _ _ (coverA c _ _ _ _ _ _ _ _ _ _ _ _ _ _ _ _ _ _ _ _)

/-- The obligation at the first step of a longer row. -/
theorem bodyB (t : Fin cfgA.N) (h0 : AtFirst t) (h1 : AtFull t) : Oblig m c t := by
  unfold Oblig
  rw [bigSep_W0]
  have hi : cfgA.idle (4 : Fin 5) (cfgA.grid.coords t) = true := idle_full h1
  rewrite [hi]
  simp only [before0, before1, before2, before3, before4, after0, after1, after2, after3, after4, flush_full h1]
  rewrite [show (dats m 0 c).Φ t.succ = Phi m c t.succ from rfl, show (dats m 0 c).Φ t.castSucc = Phi m c t.castSucc from rfl,
    show (dats m 0 c).owesAt () t.succ = (dats m 0 c).owesAt () t.castSucc from rfl]
  unfold Phi
  iintro ⟨⟨%s, %hs, ⟨HM, HL, HA⟩, HT0, HT1⟩, Ho, ⟨%d0, H0⟩, ⟨%d1, H1⟩, ⟨%d2, H2⟩, ⟨%d3, H3⟩, ⟨%d4, H4⟩⟩
  iapply ((stepB m c t h0 h1).2.2.2 _ s.1 s.2.1 s.2.2 _)
  isplitl [H0 H1 H2 H3 HT0 HT1]
  · isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    iexact HT1
  isplitl [H4]; · iexact H4
  isplitl [HM HL HA]
  · isplitl [HM]; · iexact HM
    isplitl [HL]; · iexact HL
    iexact HA
  iintro ⟨⟨H0, H1, H2, H3, HT0, HT1⟩, H4, ⟨HM, HL, HA⟩⟩
  isplitl [HM HL HA HT0 HT1]
  · iexists next m c t (stAt m c t.val t.isLt.le)
    isplitr
    · ipureintro; intro _; rfl
    isplitl [HM HL HA]
    · unfold next; simp only [dif_pos h0, dif_pos h1]
      isplitl [HM]; · iexact HM
      isplitl [HL]; · iexact HL
      iexact HA
    isplitl [HT0]; · iexact HT0
    iexact HT1
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  iexists d4; iexact H4

/-- The obligation at a later step on the diagonal. -/
theorem bodyC (t : Fin cfgA.N) (h0 : ¬AtFirst t) (h1 : ¬AtFull t) : Oblig m c t := by
  unfold Oblig
  rw [bigSep_W0]
  have hi : cfgA.idle (4 : Fin 5) (cfgA.grid.coords t) = false := idle_diag h1
  rewrite [hi]
  simp only [before0, before1, before2, before3, before4, after0, after1, after2, after3, after4]
  rewrite [show (dats m 0 c).Φ t.succ = Phi m c t.succ from rfl, show (dats m 0 c).Φ t.castSucc = Phi m c t.castSucc from rfl,
    show (dats m 0 c).owesAt () t.succ = (dats m 0 c).owesAt () t.castSucc from rfl]
  unfold Phi
  iintro ⟨⟨%s, %hs, ⟨HM, HL, HA⟩, HT0, HT1⟩, Ho, ⟨%d0, H0⟩, ⟨%d1, H1⟩, ⟨%d2, H2⟩, ⟨%d3, H3⟩, ⟨%d4, H4⟩⟩
  obtain rfl : s = stAt m c t.val t.isLt.le := hs (pos_of_notFirst h0)
  iapply ((stepC m c t (stAt m c t.val t.isLt.le) h0 h1).2.2.2.2 _)
  isplitl [H0 H1 H2 H3 HT0 HT1]
  · isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    iexact HT1
  isplitl [H4]; · iexists d4; iexact H4
  isplitl [HM HL HA]
  · isplitl [HM]; · iexact HM
    isplitl [HL]; · iexact HL
    iexact HA
  iintro ⟨⟨H0, H1, H2, H3, HT0, HT1⟩, H4, ⟨HM, HL, HA⟩⟩
  isplitl [HM HL HA HT0 HT1]
  · iexists next m c t (stAt m c t.val t.isLt.le)
    isplitr
    · ipureintro; intro _; rfl
    isplitl [HM HL HA]
    · unfold next; simp only [dif_neg h0, dif_neg h1]
      isplitl [HM]; · iexact HM
      isplitl [HL]; · iexact HL
      iexact HA
    isplitl [HT0]; · iexact HT0
    iexact HT1
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  icases H4 with ⟨%f, H4⟩
  unfold owns; iexists _; isplitr; swap
  · iexact H4
  · ipureintro
    unfold outAt; simp only [dif_neg h0, dif_neg h1]
    exact View.read_writes_of_cover _ _ _ _ _ (coverC c _ _ _ _ _ _ _ _ _ _ _ _ _ _ _ _ _ _ _ _ _ _ _)

/-- The obligation at a later step before the diagonal. -/
theorem bodyD (t : Fin cfgA.N) (h0 : ¬AtFirst t) (h1 : AtFull t) : Oblig m c t := by
  unfold Oblig
  rw [bigSep_W0]
  have hi : cfgA.idle (4 : Fin 5) (cfgA.grid.coords t) = true := idle_full h1
  rewrite [hi]
  simp only [before0, before1, before2, before3, before4, after0, after1, after2, after3, after4, flush_full h1]
  rewrite [show (dats m 0 c).Φ t.succ = Phi m c t.succ from rfl, show (dats m 0 c).Φ t.castSucc = Phi m c t.castSucc from rfl,
    show (dats m 0 c).owesAt () t.succ = (dats m 0 c).owesAt () t.castSucc from rfl]
  unfold Phi
  iintro ⟨⟨%s, %hs, ⟨HM, HL, HA⟩, HT0, HT1⟩, Ho, ⟨%d0, H0⟩, ⟨%d1, H1⟩, ⟨%d2, H2⟩, ⟨%d3, H3⟩, ⟨%d4, H4⟩⟩
  obtain rfl : s = stAt m c t.val t.isLt.le := hs (pos_of_notFirst h0)
  iapply ((stepD m c t (stAt m c t.val t.isLt.le) h0 h1).2.2.2 _ _)
  isplitl [H0 H1 H2 H3 HT0 HT1]
  · isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    iexact HT1
  isplitl [H4]; · iexact H4
  isplitl [HM HL HA]
  · isplitl [HM]; · iexact HM
    isplitl [HL]; · iexact HL
    iexact HA
  iintro ⟨⟨H0, H1, H2, H3, HT0, HT1⟩, H4, ⟨HM, HL, HA⟩⟩
  isplitl [HM HL HA HT0 HT1]
  · iexists next m c t (stAt m c t.val t.isLt.le)
    isplitr
    · ipureintro; intro _; rfl
    isplitl [HM HL HA]
    · unfold next; simp only [dif_neg h0, dif_pos h1]
      isplitl [HM]; · iexact HM
      isplitl [HL]; · iexact HL
      iexact HA
    isplitl [HT0]; · iexact HT0
    iexact HT1
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  iexists d4; iexact H4

/-- The obligation at every step. -/
theorem body_obligation : Pipeline.BodyObligation (dats m 0 c) (defs₀ (F := Ideal)) Variants.none () Set.univ := fun t => by
  have h : Oblig m c t := by
    by_cases h0 : AtFirst t
    · by_cases h1 : AtFull t
      · exact bodyB m c t h0 h1
      · exact bodyA m c t h0 h1
    · by_cases h1 : AtFull t
      · exact bodyD m c t h0 h1
      · exact bodyC m c t h0 h1
  unfold Oblig at h
  rw [bigSep_W0]
  exact h

end Cert.KernelIdeal.Flash

end
-- ==== Proof.KernelIdeal.Launch.lean ====
/-
  The flash call launched after the host has written its two tables: every execution ends, with each array at what
  the pipeline computes, the arguments unchanged and every counter at zero.
-/
module

public import proofs.«01_k».proof.Proof.KernelIdeal.Body
public import Idealize.ShloMosaic.Lib.Pipeline.Quiescent
public import Idealize.ShloMosaic.Lib.Pipeline.Frame

@[expose] public section

set_option maxRecDepth 16384
set_option Elab.async false

noncomputable section

namespace Cert.KernelIdeal.Flash

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

local notation "𝕄" => MT nD τ sig Unit (Elt Ideal) ℕ (UR sig nD τ) ℕ

variable (m : (ℓ : Loc nD τ sig) → Buf (Elt Ideal) ℓ) (ρ : Dev nD → PrngReg)

abbrev EP : Emb (UR sig nD τ) 𝕄 := emb₁

/-- The launch element of the rounds library. -/
def u₀ : UR sig nD τ :=
  initOf (Pipeline.cells pcs ((launch0 (F := Ideal)).cellOf_inj fun _ => adm))
    (Pipeline.launchToks pcs ((launch0 (F := Ideal)).cellOf_inj fun _ => adm))

theorem share_eq (c : Dev nD) (w : Fin cfgA.W) : (dats m 0 c).share w = fullShare := by unfold Dat.share; split <;> rfl

/-- The two tables, one by one. -/
theorem tables_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide,
    bigSep_insert (by decide), bigSep_singleton]
  rfl

/-- Before the first step: the scratches hold anything. -/
theorem enter (c : Dev nD) :
    iprop(BI.emp ∗ Pipeline.prefHeld pre0 c (fun _ => fullShare.right) adm.1 ∗ Pipeline.scopedRest spec0 c) ⊢ (dats m 0 c).Φ 0 := by
  rw [tables_eq, scopedRest0_eq, show (dats m 0 c).Φ 0 = Phi m c 0 from rfl]
  unfold Phi
  iintro ⟨-, ⟨HT0, HT1⟩, ⟨%a0, HM⟩, ⟨%a1, HL⟩, ⟨%a2, HA⟩⟩
  iexists (⟨a0, a1, a2⟩ : St c)
  isplitr
  · ipureintro; intro h; exact absurd rfl h
  isplitl [HM HL HA]
  · isplitl [HM]; · iexact HM
    isplitl [HL]; · iexact HL
    iexact HA
  isplitl [HT0]; · iexact HT0
  iexact HT1

/-- After the last step: the scratches are given back. -/
theorem leave (c : Dev nD) : (dats m 0 c).Φ (Fin.last cfgA.N) ⊢ iprop(BI.emp ∗ Pipeline.scopedRest spec0 c) := by
  rw [scopedRest0_eq, show (dats m 0 c).Φ (Fin.last cfgA.N) = Phi m c (Fin.last _) from rfl]
  unfold Phi
  iintro ⟨%s, -, ⟨HM, HL, HA⟩, -, -⟩
  isplitr; · iempintro
  isplitl [HM]; · iexists s.1; iexact HM
  isplitl [HL]; · iexists s.2.1; iexact HL
  iexists s.2.2; iexact HA

/-- What core `c`'s buffers hold when the call begins: the host has written the tables. -/
abbrev atCall (c : Dev nD) (b : Ref sig .tc) : Buf (Elt Ideal) ((c : Thread nD τ).loc b) :=
  StableHlo.after (hostOps0 (F := Ideal)) (fun b => m (c, b)) b

theorem atCall_c (c : Dev nD) : atCall m c main_c = (fun i => lit0 (S136.rowMajor i)) ∧ atCall m c main_c_0 = (fun i => lit1 (S136.rowMajor i)) := by
  refine ⟨?_, ?_⟩ <;> (unfold atCall hostOps0; after_results; rfl)

theorem atCall_table (c : Dev nD) : ∀ j : Fin 2, atCall m c (pre0.ref j) = adm.1 j
  | ⟨0, _⟩ => (atCall_c m c).1.trans tabQ_eq
  | ⟨1, _⟩ => (atCall_c m c).2.trans tabK_eq

theorem atCall_arg (c : Dev nD) : atCall m c main_arg0 = m ((c : Thread nD τ).loc main_arg0) ∧ atCall m c main_arg1 = m ((c : Thread nD τ).loc main_arg1)
    ∧ atCall m c main_arg2 = m ((c : Thread nD τ).loc main_arg2) ∧ atCall m c main_arg3 = m ((c : Thread nD τ).loc main_arg3)
    ∧ atCall m c main_v0 = m ((c : Thread nD τ).loc main_v0) := by
  refine ⟨?_, ?_, ?_, ?_, ?_⟩ <;> (unfold atCall hostOps0; after_results)

theorem atCall_array (c : Dev nD) : ∀ w : Fin 5, m ((cfgA.win w).arr.view.loc (c : Thread nD τ)) = atCall m c (Pipeline.arrRef spec0 w)
  | ⟨0, _⟩ => (atCall_arg m c).1.symm
  | ⟨1, _⟩ => (atCall_arg m c).2.1.symm
  | ⟨2, _⟩ => (atCall_arg m c).2.2.1.symm
  | ⟨3, _⟩ => (atCall_arg m c).2.2.2.1.symm
  | ⟨4, _⟩ => (atCall_arg m c).2.2.2.2.symm

/-- Every array at what the pipeline computes. -/
def Ends : PUnit × MemSt nD τ sig (Elt Ideal) → Prop := fun r =>
  ∀ c : Dev nD, ∀ w : Fin cfgA.W, r.2.mem ((cfgA.win w).arr.view.loc (c : Thread nD τ)) = (dats m 0 c).arrAt w cfgA.N

set_option backward.isDefEq.respectTransparency.types false in
set_option maxHeartbeats 4000000 in
/-- Every weakly fair execution terminates, every array then at its computed contents and every counter at zero. -/
theorem run_main : θ_run (defs (F := Ideal)) (onTc (τ := τ) (main (F := Ideal))) ⟨m, fun _ => 0, ρ⟩ (fun r => Ends m r ∧ r.2.sem = fun _ => 0) :=
  Pipeline.θ_run_region_noSem_pf_quiescent pcfgs (fun _ => adm) (dats m) () ((launch0 (F := Ideal)).cellOf_inj fun _ => adm) (0 : Fin 1)
    (launch0 (F := Ideal)).win.to₀ (launch0 (F := Ideal)).pre EP defs₀ Variants.none m ρ main
    (hbody := fun c => (body_obligation m c).loose) (hne := (launch0 (F := Ideal)).block_pos)
    (harr := (launch0 (F := Ideal)).arr_whole) (hstage := (launch0 (F := Ideal)).stage_whole) (howed := fun _ _ => rfl)
    (u₀ := u₀) (hu₀ := .rfl)
    (V := atCall m)
    (hmain := Pipeline.hmainP_prefix pcfgs (0 : Fin 1) defs₀ Variants.none m main hostOps0 hostOps0_sub ⟨rfl, rfl⟩ main_chain)
    (hsplit := fun c => Pipeline.arrays_split pcs (dats m) 0 (launch0 (F := Ideal)).win.arr_inj c (launch0 (F := Ideal)).arr_whole
      (share_eq m c) _ _ fun w => atCall_array m c w)
    (hpf := atCall_table m)
    (X := fun _ => iprop(emp)) (Y := fun _ => iprop(emp)) (Z := fun _ => iprop(emp))
    (hX := fun c => by rw [unscopedRestP0_eq]; iintro -; isplitr <;> iempintro)
    (hin := enter m)
    (hout := leave m)
    (QY := fun _ _ => True)
    (hY := fun c s' => by
      iintro ⟨-, -, HSI⟩; imodintro
      isplitr; · ipureintro; trivial
      iexact HSI)
    (hQ := fun _ h hz => ⟨fun c => (h c).1, hz⟩)

/-- The arguments end as they began. -/
theorem kept {r : PUnit × MemSt nD τ sig (Elt Ideal)} (h : Ends m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨(h c (0 : Fin 5)).trans ((dats m 0 c).arrAt_in (0 : Fin 5) rfl _), (h c (1 : Fin 5)).trans ((dats m 0 c).arrAt_in (1 : Fin 5) rfl _),
   (h c (2 : Fin 5)).trans ((dats m 0 c).arrAt_in (2 : Fin 5) rfl _), (h c (3 : Fin 5)).trans ((dats m 0 c).arrAt_in (3 : Fin 5) rfl _)⟩

/-- The frame: every weakly fair execution terminates, the arguments unchanged and every counter at zero. -/
theorem frame : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨kept m h.1, h.2⟩) (run_main m ρ)

end Cert.KernelIdeal.Flash

end
-- ==== Proof.KernelIdeal.Output.lean ====
/-
  The flash call's result as one function of its arguments: the gated quotient of the weighted sum of all the values
  by the sum of the weights.
-/
module

public import proofs.«01_k».proof.Proof.KernelIdeal.Invariant
public import proofs.«01_k».proof.Proof.KernelIdeal.Launch

@[expose] public section

set_option maxRecDepth 16384
set_option Elab.async false

noncomputable section

namespace Cert.KernelIdeal.Flash

open Cert.KernelIdeal Cert.KernelIdeal.Gen
open Idealize.ShloMosaic
open Idealize.ShloMosaic.TcCoe
open Cert.Softmax

/-- The gate's factor. -/
def silu (g : EReal) : EReal := g * Ideal.div 1 (1 + Ideal.exp (0 - g))

/-- The result's row `r` at query `q` of batch `b`. -/
def attn (Q : S2x2048x8192.Idx → EReal) (K : S2x8192x512.Idx → EReal) (V : S2x256x8192.Idx → EReal) (G : S2x1024x8192.Idx → EReal)
    (b r q : ℕ) : EReal :=
  Ideal.div (num (scr Q K b (r / 64) q) (vlu V b (r / 64) (r % 64)) 8192) (den (scr Q K b (r / 64) q) 8192) * silu (rd3 G b r q)

variable (m : (ℓ : Loc nD τ sig) → Buf (Elt Ideal) ℓ) (c : Dev nD)

/-- The whole result. -/
def outG : S2x1024x8192.Idx → EReal := fun y =>
  attn (argQ m c) (argK m c) (argV m c) (argG m c) (y 0).val (y 1).val (y 2).val

variable {m c}

/-- A row's last step stores the result's block. -/
theorem block_at (H : Reals m c) (t : Fin cfgA.N) (h1 : ¬AtFull t) (y : S1x1024x512.Idx) :
    outAt m c t (stAt m c t.val t.isLt.le) y
      = attn (argQ m c) (argK m c) (argV m c) (argG m c) (bOf t.val) (y 1).val (512 * iOf t.val + (y 2).val) := by
  have S := sched t
  have e : jOf t.val = iOf t.val := le_antisymm S.2.2.1 (not_lt.1 fun h => h1 (S.2.1.2 h))
  have hy1 : (y 1 : Fin 1024).val < 1024 := (y 1 : Fin 1024).isLt
  have hy2 : (y 2 : Fin 512).val < 512 := (y 2 : Fin 512).isLt
  have hi := inv_at H t.val t.isLt
  rw [out_last m c t _ h1]
  have hn : next m c t (stAt m c t.val t.isLt.le) = stAt m c (t.val + 1) t.isLt := rfl
  rw [hn]
  obtain ⟨-, e2, e3⟩ := hi ⟨(y 1 : Fin 1024).val / 64, by omega⟩ (y 2)
  refine (hO_at (hSlab (stAt m c (t.val + 1) t.isLt).2.2 ⟨(y 1 : Fin 1024).val / 64, by omega⟩)
    (hRow (stAt m c (t.val + 1) t.isLt).2.1 ⟨(y 1 : Fin 1024).val / 64, by omega⟩)
    (gB (gAt m c t) ⟨(y 1 : Fin 1024).val / 64, by omega⟩) ⟨(y 1 : Fin 1024).val % 64, Nat.mod_lt _ (by omega)⟩ (y 2)).trans ?_
  have eg : gB (gAt m c t) ⟨(y 1 : Fin 1024).val / 64, by omega⟩ (ix3 0 ⟨(y 1 : Fin 1024).val % 64, Nat.mod_lt _ (by omega)⟩ (y 2))
      = rd3 (argG m c) (bOf t.val) (y 1 : Fin 1024).val (512 * iOf t.val + (y 2 : Fin 512).val) := by
    refine (gAt_at m c t _).trans (congrArg (fun r => rd3 (argG m c) (bOf t.val) r (512 * iOf t.val + (y 2 : Fin 512).val)) ?_)
    exact Nat.div_add_mod (y 1 : Fin 1024).val 64
  have hs := fun k => scr_ne_top H (bOf t.val) ((y 1 : Fin 1024).val / 64) (512 * iOf t.val + (y 2 : Fin 512).val) k
  have h0 := scr_zero H (bOf t.val) ((y 1 : Fin 1024).val / 64) (512 * iOf t.val + (y 2 : Fin 512).val)
  have hb : ∀ k, 512 * jOf t.val + 512 ≤ k → scr (argQ m c) (argK m c) (bOf t.val) ((y 1 : Fin 1024).val / 64) (512 * iOf t.val + (y 2 : Fin 512).val) k = ⊥ :=
    fun k hk => if_neg (by omega)
  have hle : 512 * jOf t.val + 512 ≤ 8192 := by have := S.2.2.2.1; omega
  rw [eg]
  unfold attn silu
  rw [num_of_bot _ _ hs h0 (by omega) hle hb, den_of_bot _ hs h0 (by omega) hle hb]
  exact congrArg₂ (fun a b => Ideal.div a b * _) (e3 ⟨(y 1 : Fin 1024).val % 64, Nat.mod_lt _ (by omega)⟩) e2

/-- The output array after the run. -/
theorem arr_out (H : Reals m c) : (dats m 0 c).arrAt (4 : Fin 5) cfgA.N = outG m c := by
  refine (dats m 0 c).arrAt_eq_of_covers (4 : Fin 5) (outG m c) (by decide +kernel) fun t hf y => ?_
  have h1 : ¬AtFull t := fun h => by rw [flush_full h] at hf; exact Bool.false_ne_true hf
  have S := sched t
  rw [after4]
  refine Eq.trans ?_ ((block_at H t h1 y).trans ?_)
  · rfl
  · unfold outG
    have e0 : ((((cfgA.win (4 : Fin 5)).blk t).view.emb y) 0 : Fin 2).val = bOf t.val := by
      blk_simp [idx4 t]
    have e1 : ((((cfgA.win (4 : Fin 5)).blk t).view.emb y) 1 : Fin 1024).val = (y 1).val := by
      blk_simp [idx4 t]
    have e2 : ((((cfgA.win (4 : Fin 5)).blk t).view.emb y) 2 : Fin 8192).val = 512 * iOf t.val + (y 2).val := by
      blk_simp [idx4 t]; omega
    rw [← e0, ← e1, ← e2]

end Cert.KernelIdeal.Flash

end
-- ==== Proof.ReferenceIdeal.Stages.lean ====
/-
  The reference's composed term in stages — the masked scores, their maximum, the weights, their sum, the normalized
  weights, the weighted sum, the gate — and each stage at an index.
-/
module

public import proofs.«01_k».proof.Proof.Gen.ReferenceIdeal
public import proofs.«01_k».proof.Proof.Gen.ReferenceIdeal.Run
public import Idealize.ShloMosaic.Lib.Pointwise
public import Idealize.ShloMosaic.Lib.Pipeline.ValueKit

@[expose] public section

set_option maxRecDepth 16384
set_option Elab.async false

noncomputable section

namespace Cert.ReferenceIdeal.Attn

open Cert.ReferenceIdeal Cert.ReferenceIdeal.Gen Idealize.ShloMosaic Idealize.ShloMosaic.TcCoe

variable (Q : FVec Ideal S2x2048x8192 .bf16) (K : FVec Ideal S2x8192x512 .bf16) (V : FVec Ideal S2x256x8192 .bf16) (G : FVec Ideal S2x1024x8192 .f32)

/-- The scores times `log 2`. -/
def rDot : FVec Ideal S2x4x4x8192x8192 .f32 :=
  Host.dotGeneral dot_S2x4x4x128x8192_S2x8192x4x128_S2x4x4x8192x8192_3_3_24_1_01_02 none
    (shapeCast S2x4x4x128x8192 (extf .f32 Q bitsLt_bf16_f32) shapeCasts_S2x2048x8192_S2x4x4x128x8192)
    (shapeCast S2x8192x4x128 (extf .f32 K bitsLt_bf16_f32) shapeCasts_S2x8192x512_S2x8192x4x128)
def rScaled : FVec Ideal S2x4x4x8192x8192 .f32 :=
  mulf (rDot Q K) (broadcastInDim S2x4x4x8192x8192 ![] bcast_S_S2x4x4x8192x8192 (Host.log (constant S_ .f32 0x40000000#32)))
/-- Which keys a query sees. -/
def rKeep : IVec S2x4x4x8192x8192 1 :=
  broadcastInDim S2x4x4x8192x8192 ![0, 1, 2, 3, 4] bcast_S1x1x1x8192x8192_S2x4x4x8192x8192_0_1_2_3_4
    (broadcastInDim S1x1x1x8192x8192 ![3, 4] bcast_S8192x8192_S1x1x1x8192x8192_3_4
      (cmpi .sge (broadcastInDim S8192x8192 ![0, 1] bcast_S8192x1_S8192x8192_0_1 (broadcastInDim S8192x1 ![0] bcast_S8192_S8192x1_0 (iotaInDim S8192 32 0)))
        (broadcastInDim S8192x8192 ![0, 1] bcast_S1x8192_S8192x8192_0_1 (broadcastInDim S1x8192 ![1] bcast_S8192_S1x8192_1 (iotaInDim S8192 32 0)))))
/-- The masked scores. -/
def rT : FVec Ideal S2x4x4x8192x8192 .f32 :=
  select rKeep (rScaled Q K) (broadcastInDim S2x4x4x8192x8192 ![] bcast_S_S2x4x4x8192x8192 (id (constant S_ .f32 0xFF800000#32)))

variable (T : FVec Ideal S2x4x4x8192x8192 .f32)

/-- Each query's largest score. -/
def rMax : FVec Ideal S2x4x4x8192 .f32 :=
  maximumf (broadcastInDim S2x4x4x8192 ![] bcast_S_S2x4x4x8192 (constant S_ .f32 0xFF800000#32))
    (Host.reduce FloatOps.maximumf T (constant S_ .f32 0xFF800000#32) reducesTo_S2x4x4x8192x8192_S2x4x4x8192_d4 h_S_)
/-- One number per query, over the keys. -/
def rSpread (x : FVec Ideal S2x4x4x8192 .f32) : FVec Ideal S2x4x4x8192x8192 .f32 :=
  broadcastInDim S2x4x4x8192x8192 ![0, 1, 2, 3, 4] bcast_S2x4x4x8192x1_S2x4x4x8192x8192_0_1_2_3_4
    (broadcastInDim S2x4x4x8192x1 ![0, 1, 2, 3] bcast_S2x4x4x8192_S2x4x4x8192x1_0_1_2_3 x)
/-- The weights, their sums, and the weights over their sums. -/
def rE : FVec Ideal S2x4x4x8192x8192 .f32 := Host.exp (subf T (rSpread (rMax T)))
def rSum : FVec Ideal S2x4x4x8192 .f32 :=
  Host.reduceAdd (rE T) (constant S_ .f32 0x00000000#32) reducesTo_S2x4x4x8192x8192_S2x4x4x8192_d4 h_S_
def rP : FVec Ideal S2x4x4x8192x8192 .f32 := Host.divf (rE T) (rSpread (rSum T))
/-- The weighted sums of the values. -/
def rO (P : FVec Ideal S2x4x4x8192x8192 .f32) : FVec Ideal S2x4x64x4x8192 .f32 :=
  Host.dotGeneral dot_S2x4x64x8192_S2x4x4x8192x8192_S2x4x64x4x8192_3_4_2_23_01_01 none
    (shapeCast S2x4x64x8192 (extf .f32 V bitsLt_bf16_f32) shapeCasts_S2x256x8192_S2x4x64x8192) P
/-- The gate's factor. -/
def rGate : FVec Ideal S2x1024x8192 .f32 :=
  mulf G (Host.divf (broadcastInDim S2x1024x8192 ![] bcast_S_S2x1024x8192 (constant S_ .f32 0x3F800000#32))
    (addf (broadcastInDim S2x1024x8192 ![] bcast_S_S2x1024x8192 (constant S_ .f32 0x3F800000#32)) (Host.exp (Host.negf G))))
/-- The result. -/
def rOut (O : FVec Ideal S2x4x64x4x8192 .f32) : FVec Ideal S2x1024x8192 .bf16 :=
  truncf .bf16 (mulf (shapeCast S2x1024x8192 (transpose S2x4x4x64x8192 [0, 1, 3, 2, 4] O transposes_S2x4x64x4x8192_S2x4x4x64x8192_0_1_3_2_4)
    shapeCasts_S2x4x4x64x8192_S2x1024x8192) (rGate G)) bitsLt_bf16_f32

/-- The reference's result in these stages. -/
theorem res_eq (m : (ℓ : Loc nD τ sig) → Buf (Elt Ideal) ℓ) (c : Dev nD) :
    Cert.ReferenceIdeal.Value.res_out0 m c = rOut (m ((c.tc : Thread nD τ).loc main_arg3))
      (rO (m ((c.tc : Thread nD τ).loc main_arg2)) (rP (rT (m ((c.tc : Thread nD τ).loc main_arg0)) (m ((c.tc : Thread nD τ).loc main_arg1))))) := by
  show Cert.ReferenceIdeal.Value.res_main_v34 m c = _
  unfold Cert.ReferenceIdeal.Value.res_main_v34
  rfl

end Cert.ReferenceIdeal.Attn

end
-- ==== Proof.ReferenceIdeal.Values.lean ====
/-
  The reference's result at an index: the softmax of the masked scores against the values, times the gate's factor. It
  is the function that the flash call leaves in its output array.
-/
module

public import proofs.«01_k».proof.Proof.ReferenceIdeal.Stages
public import proofs.«01_k».proof.Proof.KernelIdeal.Output

@[expose] public section

set_option maxRecDepth 16384
set_option Elab.async false

noncomputable section

namespace Cert.ReferenceIdeal.Attn

open Cert.ReferenceIdeal Cert.ReferenceIdeal.Gen Idealize.ShloMosaic Idealize.ShloMosaic.TcCoe
open Cert.KernelIdeal.Flash (rd3 rd3_ix3 scr vlu silu attn)
open Cert.Softmax

/-! ## Maxima and sums over a last axis, in natural numbers -/

theorem max_last {n0 n1 n2 n3 n4 : ℕ} (T : FVec Ideal ⟨5, ![n0, n1, n2, n3, n4]⟩ .f32) (z : FVec Ideal S_ .f32)
    (h : Shape.ReducesTo ⟨5, ![n0, n1, n2, n3, n4]⟩ [4] ⟨4, ![n0, n1, n2, n3]⟩) (hu : 0 < S_.numel) (y : Shape.Idx ⟨4, ![n0, n1, n2, n3]⟩) :
    Host.reduce FloatOps.maximumf T z h hu y
      = (Finset.univ : Finset (Fin n4)).fold max (z (Shape.Idx.first hu)) fun k => T (ix5 (y 0) (y 1) (y 2) (y 3) k) := by
  rw [Host.reduce_eq_fold]
  exact Shape.ReducesTo.fold_fiber_r5_a4 h y _ _ _

/-- Against and from `⊥`, the maximum is the supremum. -/
theorem sup_last {n0 n1 n2 n3 n4 : ℕ} (T : FVec Ideal ⟨5, ![n0, n1, n2, n3, n4]⟩ .f32) (z : FVec Ideal S_ .f32)
    (b : FVec Ideal ⟨4, ![n0, n1, n2, n3]⟩ .f32) (h : Shape.ReducesTo ⟨5, ![n0, n1, n2, n3, n4]⟩ [4] ⟨4, ![n0, n1, n2, n3]⟩)
    (hu : 0 < S_.numel) (y : Shape.Idx ⟨4, ![n0, n1, n2, n3]⟩) (hb : b y = ⊥) (hz : z (Shape.Idx.first hu) = ⊥) :
    maximumf b (Host.reduce FloatOps.maximumf T z h hu) y
      = (Finset.univ : Finset (Fin n4)).sup fun k => T (ix5 (y 0) (y 1) (y 2) (y 3) k) := by
  show max (b y) (Host.reduce FloatOps.maximumf T z h hu y) = _
  rw [max_last, hb, hz, bot_sup_eq]; rfl

theorem sup_fin (n : ℕ) (f : ℕ → EReal) : ((Finset.univ : Finset (Fin n)).sup fun k => f k.val) = (Finset.range n).sup f := by
  apply le_antisymm
  · exact Finset.sup_le fun k _ => Finset.le_sup (f := f) (Finset.mem_range.2 k.isLt)
  · exact Finset.sup_le fun k hk => Finset.le_sup (f := fun k : Fin n => f k.val) (Finset.mem_univ (⟨k, Finset.mem_range.1 hk⟩ : Fin n))

theorem sup_congr_fin (n : ℕ) (g : Fin n → EReal) (f : ℕ → EReal) (h : ∀ k, g k = f k.val) :
    (Finset.univ : Finset (Fin n)).sup g = (Finset.range n).sup f :=
  (congrArg (Finset.univ.sup) (funext h)).trans (sup_fin n f)
theorem sum_congr_fin (n : ℕ) (g : Fin n → EReal) (f : ℕ → EReal) (h : ∀ k, g k = f k.val) : ∑ k, g k = ∑ k ∈ Finset.range n, f k :=
  (Finset.sum_congr rfl fun k _ => h k).trans (Finset.sum_range f).symm

/-! ## The stages -/

variable (Q : FVec Ideal S2x2048x8192 .bf16) (K : FVec Ideal S2x8192x512 .bf16) (V : FVec Ideal S2x256x8192 .bf16) (G : FVec Ideal S2x1024x8192 .f32)

theorem dot_at (b : Fin 2) (kh g : Fin 4) (q k : Fin 8192) : rDot Q K (ix5 b kh g q k)
    = ∑ d : Fin 128, rd3 K b.val k.val (128 * ((4 * kh.val + g.val) / 4) + d.val) * rd3 Q b.val (128 * (4 * kh.val + g.val) + d.val) q.val := by
  unfold rDot
  pointwise
  refine Finset.sum_congr rfl fun d _ => ?_
  have h1 := kh.isLt
  have h2 := g.isLt
  have h3 := d.isLt
  rw [mul_comm]
  refine congrArg₂ (· * ·) ?_ ?_
  · refine (rd3_ix3 K b k ⟨kh.val * 128 + d.val, by omega⟩).symm.trans (congrArg (rd3 K b.val k.val) ?_)
    show kh.val * 128 + d.val = _
    omega
  · refine (rd3_ix3 Q b ⟨kh.val * 512 + g.val * 128 + d.val, by omega⟩ q).symm.trans (congrArg (fun r => rd3 Q b.val r q.val) ?_)
    show kh.val * 512 + g.val * 128 + d.val = _
    omega

theorem keep_at (b : Fin 2) (kh g : Fin 4) (q k : Fin 8192) :
    rKeep (ix5 b kh g q k) = IntOp.cmpi .sge (BitVec.ofNat 32 q.val) (BitVec.ofNat 32 k.val) := by
  unfold rKeep
  pointwise

theorem two_eq : Ideal.log (Ideal.ofBits FTy.f32 0x40000000#32) = ((Real.log 2 : ℝ) : EReal) := by
  have e : Ideal.ofBits FTy.f32 0x40000000#32 = ((2 : ℝ) : EReal) := by
    simp [Ideal.ofBits, Ideal.ieee]
    rw [← EReal.coe_mul]
    norm_num
  rw [e, Ideal.log_coe, if_neg (by norm_num)]

theorem T_at (b : Fin 2) (kh g : Fin 4) (q k : Fin 8192) : rT Q K (ix5 b kh g q k)
    = scr Q K b.val (4 * kh.val + g.val) q.val k.val * ((Real.log 2 : ℝ) : EReal) := by
  have hL : (0 : ℝ) < Real.log 2 := Real.log_pos one_lt_two
  unfold rT rScaled
  pointwise
  rw [keep_at, dot_at, two_eq]
  have hk : (BitVec.ofNat 32 k.val).toInt = k.val := by
    have h := k.isLt
    rw [BitVec.toInt_eq_toNat_of_lt (by rw [BitVec.toNat_ofNat]; omega), BitVec.toNat_ofNat, Nat.mod_eq_of_lt (by omega)]
  have hq : (BitVec.ofNat 32 q.val).toInt = q.val := by
    have h := q.isLt
    rw [BitVec.toInt_eq_toNat_of_lt (by rw [BitVec.toNat_ofNat]; omega), BitVec.toNat_ofNat, Nat.mod_eq_of_lt (by omega)]
  unfold scr
  by_cases h : k.val ≤ q.val
  · rw [if_pos h]
    exact if_pos (IntOp.cmpi_sge.2 (by rw [hk, hq]; exact_mod_cast h))
  · rw [if_neg h, EReal.bot_mul_coe_of_pos hL]
    refine (if_neg fun h' => h (by have := IntOp.cmpi_sge.1 h'; rw [hk, hq] at this; exact_mod_cast this)).trans ?_
    show Ideal.ofBits FTy.f32 0xFF800000#32 = ⊥
    simp [Ideal.ofBits, Ideal.ieee]

variable {Q K}

/-- Scores of a batch and head: none is `⊤`, and the first key's is never masked. -/
abbrev Fine (Q : FVec Ideal S2x2048x8192 .bf16) (K : FVec Ideal S2x8192x512 .bf16) : Prop :=
  ∀ b h q, (∀ k, scr Q K b h q k ≠ ⊤) ∧ scr Q K b h q 0 ≠ ⊥

theorem max_at (H : Fine Q K) (b : Fin 2) (kh g : Fin 4) (q : Fin 8192) : rMax (rT Q K) (ix4 b kh g q)
    = top (scr Q K b.val (4 * kh.val + g.val) q.val) 8192 * ((Real.log 2 : ℝ) : EReal) := by
  refine (sup_last (rT Q K) _ _ _ _ (ix4 b kh g q) (by pointwise; simp [Ideal.ofBits, Ideal.ieee])
    (by pointwise; simp [Ideal.ofBits, Ideal.ieee])).trans ?_
  rw [← top_log _ (H _ _ _).1]
  exact sup_congr_fin _ _ _ fun k => T_at Q K b kh g q k

theorem spread_at (x : FVec Ideal S2x4x4x8192 .f32) (b : Fin 2) (kh g : Fin 4) (q k : Fin 8192) :
    rSpread x (ix5 b kh g q k) = x (ix4 b kh g q) := by
  unfold rSpread
  pointwise

theorem E_at (H : Fine Q K) (b : Fin 2) (kh g : Fin 4) (q k : Fin 8192) : rE (rT Q K) (ix5 b kh g q k)
    = Ideal.exp2 (scr Q K b.val (4 * kh.val + g.val) q.val k.val - top (scr Q K b.val (4 * kh.val + g.val) q.val) 8192) := by
  obtain ⟨hs, h0⟩ := H b.val (4 * kh.val + g.val) q.val
  obtain ⟨r, hr⟩ := top_real _ hs h0 (n := 8192) (by omega)
  unfold rE
  pointwise
  rw [spread_at, max_at H, T_at, hr]
  exact weight_log (hs k.val) r

theorem sum_at (H : Fine Q K) (b : Fin 2) (kh g : Fin 4) (q : Fin 8192) : rSum (rT Q K) (ix4 b kh g q)
    = den (scr Q K b.val (4 * kh.val + g.val) q.val) 8192 := by
  unfold rSum
  pointwise
  exact sum_congr_fin _ _ _ fun k => E_at H b kh g q k

theorem P_at (H : Fine Q K) (b : Fin 2) (kh g : Fin 4) (q k : Fin 8192) : rP (rT Q K) (ix5 b kh g q k)
    = Ideal.div (Ideal.exp2 (scr Q K b.val (4 * kh.val + g.val) q.val k.val - top (scr Q K b.val (4 * kh.val + g.val) q.val) 8192))
        (den (scr Q K b.val (4 * kh.val + g.val) q.val) 8192) := by
  unfold rP
  pointwise
  rw [E_at H, spread_at, sum_at H]

theorem O_at (H : Fine Q K) (b : Fin 2) (kh : Fin 4) (d : Fin 64) (g : Fin 4) (q : Fin 8192) :
    rO V (rP (rT Q K)) (ix5 b kh d g q)
      = Ideal.div (num (scr Q K b.val (4 * kh.val + g.val) q.val) (vlu V b.val (4 * kh.val + g.val) d.val) 8192)
          (den (scr Q K b.val (4 * kh.val + g.val) q.val) 8192) := by
  obtain ⟨hs, h0⟩ := H b.val (4 * kh.val + g.val) q.val
  rw [quotient _ _ hs h0 (by omega)]
  unfold rO
  pointwise
  refine sum_congr_fin _ _ _ fun k => ?_
  have h1 := kh.isLt
  have h2 := d.isLt
  have h3 := g.isLt
  refine congrArg₂ (· * ·) ?_ (P_at H b kh g q k)
  unfold vlu
  refine (rd3_ix3 V b ⟨kh.val * 64 + d.val, by omega⟩ k).symm.trans (congrArg (fun r => rd3 V b.val r k.val) ?_)
  show kh.val * 64 + d.val = _
  omega

theorem gate_at (y : S2x1024x8192.Idx) : rGate G y = silu (G y) := by
  unfold rGate silu
  pointwise
  rw [sub_eq_add_neg, zero_add]

/-- The reference's result. -/
theorem out_at (H : Fine Q K) (y : S2x1024x8192.Idx) : rOut G (rO V (rP (rT Q K))) y
    = attn Q K V G (y 0).val (y 1).val (y 2).val := by
  have h1 : (y 1 : Fin 1024).val < 1024 := (y 1 : Fin 1024).isLt
  unfold rOut
  pointwise
  refine (congrArg₂ (· * ·) (O_at V H (y 0 : Fin 2) ⟨(y 1 : Fin 1024).val / 256, by omega⟩
    ⟨(y 1 : Fin 1024).val % 64, Nat.mod_lt _ (by omega)⟩ ⟨(y 1 : Fin 1024).val / 64 % 4, Nat.mod_lt _ (by omega)⟩ (y 2 : Fin 8192)) (gate_at G y)).trans ?_
  have eh : 4 * ((y 1 : Fin 1024).val / 256) + (y 1 : Fin 1024).val / 64 % 4 = (y 1 : Fin 1024).val / 64 := by omega
  have eg : G y = rd3 G (y 0 : Fin 2).val (y 1 : Fin 1024).val (y 2 : Fin 8192).val := by
    rw [rd3_ix3 G (y 0) (y 1) (y 2)]
    exact congrArg G (eq_ix3 y)
  unfold attn
  dsimp only
  rw [eh, eg]

end Cert.ReferenceIdeal.Attn

end
-- ==== Proof.Finite.lean ====
/-
  What the precondition says: every query and every key is a real number.
-/
module

public import proofs.«01_k».proof.Pre_finite
public import proofs.«01_k».proof.Proof.KernelIdeal.Invariant
public import Idealize.ShloMosaic.Lib.ReduceAll
public import Idealize.ShloMosaic.Lib.Pointwise

@[expose] public section

set_option maxRecDepth 16384
set_option Elab.async false

noncomputable section

namespace Cert.Finite

open Idealize.ShloMosaic Cert.Pre_finite

theorem facts : Cert.Pre_finite.Facts where
  bitsLt_bf16_f32 := by decide
  bcast_S_S2x2048x8192 := by decide
  reducesTo_S2x2048x8192_S_d0_1_2 := by decide
  h_S_ := by decide
  bcast_S_S2x8192x512 := by decide
  reducesTo_S2x8192x512_S_d0_1_2 := by decide

instance : Cert.Pre_finite.Facts := facts

/-- An absolute value below `⊤` is a real number's. -/
theorem real_of_abs {x : EReal} (h : Ideal.cmp .olt (max x (-x)) (Ideal.ofBits FTy.f32 0x7F800000#32) = 1#1) : x ≠ ⊤ ∧ x ≠ ⊥ := by
  have e : Ideal.ofBits FTy.f32 0x7F800000#32 = ⊤ := by simp [Ideal.ofBits, Ideal.ieee]
  rw [e] at h
  have hlt : max x (-x) < ⊤ := by
    by_contra hn
    simp [Ideal.cmp, hn] at h
  constructor
  · rintro rfl; simp at hlt
  · rintro rfl; simp at hlt

instance : Subsingleton (Shape.Idx S_) := ⟨fun a b => funext fun i => i.elim0⟩

theorem split (Q : FVec Ideal S2x2048x8192 .bf16) (K : FVec Ideal S2x8192x512 .bf16) (V : FVec Ideal S2x256x8192 .bf16) (G : FVec Ideal S2x1024x8192 .f32)
    (h : fn (F := Ideal) Q K V G = fun _ => 1#1) :
    (∀ x, Q x ≠ (⊤ : EReal) ∧ Q x ≠ (⊥ : EReal)) ∧ ∀ x, K x ≠ (⊤ : EReal) ∧ K x ≠ (⊥ : EReal) := by
  have h0 := congrFun h ix0
  dsimp only [fn] at h0
  obtain ⟨h1, h2⟩ := IntOp.andi_eq_one.1 h0
  exact ⟨fun x => real_of_abs (Host.reduce_andi_all _ _ _ _ _ h1 x), fun x => real_of_abs (Host.reduce_andi_all _ _ _ _ _ h2 x)⟩

end Cert.Finite

end
-- ==== Proof.Math.Rms.lean ====
/-
  A row over the root of its mean square, scaled: the normalization that the projections share.
-/
module

public import Idealize.ShloMosaic.PureOps.Ideal

@[expose] public section

noncomputable section

namespace Cert.Rms

open Idealize.ShloMosaic

/-- The product of two rows. -/
def dotp (u v : Fin 1024 → EReal) : EReal := ∑ d, u d * v d

/-- Entry `n` of the normalized row `f`, with scale `g`. -/
def rms (f : Fin 1024 → EReal) (n : Fin 1024) (g : EReal) : EReal :=
  f n * Ideal.rsqrt (Ideal.div (∑ j, f j * f j) (Ideal.ofBits FTy.f32 0x44800000#32) + Ideal.ofBits FTy.f32 0x358637BD#32) * g

end Cert.Rms

end
-- ==== Proof.OutProj.Value.lean ====
/-
  The output projection: the array that the call leaves, and the reference's result, are the same function of the
  arguments, namely the input plus the normalized row of the gated attention's product with the weights.
-/
module

public import proofs.«01_k».proof.Proof.Gen.OutProjIdeal.Value
public import proofs.«01_k».proof.Proof.Gen.OutProjReferenceIdeal.Run
public import proofs.«01_k».proof.Proof.Math.Rms
public import Idealize.ShloMosaic.Lib.Pipeline.ValueKit
public import Idealize.ShloMosaic.Lib.Pointwise

@[expose] public section

set_option maxRecDepth 16384
set_option Elab.async false

noncomputable section

namespace Cert.OutProjIdeal.Rows

open Cert.OutProjIdeal Cert.OutProjIdeal.Gen
open Idealize.ShloMosaic
open Idealize.ShloMosaic.TcCoe
open Cert.Rms

/-- The result at batch `b`, position `s` and feature `n`. -/
def row (A : Shape.Idx S2x1024x8192 → EReal) (W : Shape.Idx S1024x1024 → EReal) (g : Shape.Idx S1024 → EReal) (X : Shape.Idx S2x8192x1024 → EReal)
    (y : Shape.Idx S2x8192x1024) : EReal :=
  X y + rms (fun n => dotp (fun d => A (ix3 (y 0) d (y 1))) fun d => W (ix2 d n)) (y 2) (g (ix1 (y 2)))

variable (m : (ℓ : Loc nD τ sig) → Buf (Elt Ideal) ℓ) (c : Dev nD)

/-- The weights that the region reads are the argument's: over the reals the cast is the identity. -/
theorem weights (y : S1024x1024.Idx) : V m c main_v0 y = m ((c : Thread nD τ).loc main_arg1) y := by
  have e : V m c main_v0 = (truncf (F := Ideal) (φ := .f32) .bf16 (m ((c : Thread nD τ).loc main_arg1)) bitsLt_bf16_f32 : FVec Ideal S1024x1024 .bf16) := by
    unfold_abbrev_sides
    after_results
  rw [e]
  pointwise

/-- The scale that the region reads is the argument, as one row. -/
theorem scale (y : S1x1024.Idx) : V m c main_v1 y = m ((c : Thread nD τ).loc main_arg2) (ix1 (y 1)) := by
  have e : V m c main_v1 = (shapeCast (α := Ideal .f32) S1x1024 (m ((c : Thread nD τ).loc main_arg2)) shapeCasts_S1024_S1x1024 : FVec Ideal S1x1024 .f32) := by
    unfold_abbrev_sides
    after_results
    rfl
  rw [e]
  pointwise

/-- One step's rows. -/
theorem pay (a : Vec Ideal S1x1024x512 .bf16) (w : Vec Ideal S1024x1024 .bf16) (x : Vec Ideal S1x512x1024 .f32) (g : Vec Ideal S1x1024 .f32)
    (y : S1x512x1024.Idx) : k0_pay1 a w x g y
      = x y + rms (fun n => dotp (fun d => a (ix3 0 d (y 1))) fun d => w (ix2 d n)) (y 2) (g (ix2 0 (y 2))) := by
  unfold k0_pay1 rms dotp
  pointwise

/-- Where each step's blocks lie: step `t` has batch `t / 16` and rows from `512 * (t % 16)`. -/
theorem places : ∀ t : Fin cfg0.N, win0_0.index t = ![t.val / 16, 0, t.val % 16] ∧ win0_1.index t = ![0, 0] ∧ win0_2.index t = ![0, 0]
    ∧ win0_3.index t = ![t.val / 16, t.val % 16, 0] ∧ win0_4.index t = ![t.val / 16, t.val % 16, 0] := by
  decide +kernel

/-- The output array after the run. -/
theorem arr : (dats m 0 c).arrAt (4 : Fin 5) cfg0.N
    = row (m ((c : Thread nD τ).loc main_arg0)) (m ((c : Thread nD τ).loc main_arg1)) (m ((c : Thread nD τ).loc main_arg2))
        (m ((c : Thread nD τ).loc main_arg3)) := by
  refine (dats m 0 c).arrAt_eq_of_covers (4 : Fin 5) _ (by decide +kernel) fun t hf y => ?_
  obtain ⟨p0, p1, p2, p3, p4⟩ := places t
  rw [after0_4]
  frame_out
  refine (pay _ _ _ _ _).trans ?_
  unfold row
  refine congrArg₂ (· + ·) ?_ ?_
  · rw [← V_main_arg3 m c]
    blk_ext [iblk, p3, p4]
  · have ef : ∀ n : Fin 1024, dotp (fun d => iblk m c 0 t (ix3 0 d (y 1))) (fun d => iblk m c 1 t (ix2 d n))
        = dotp (fun d => m ((c : Thread nD τ).loc main_arg0) (ix3 (((cfg0.win (4 : Fin 5)).blk t).view.emb y 0) d (((cfg0.win (4 : Fin 5)).blk t).view.emb y 1)))
            (fun d => m ((c : Thread nD τ).loc main_arg1) (ix2 d n)) := by
      intro n
      refine congrArg₂ dotp (funext fun d => ?_) (funext fun d => ?_)
      · rw [← V_main_arg0 m c]
        blk_ext [iblk, p0, p4]
      · rw [← weights m c]
        blk_ext [iblk, p1]
    have eg : iblk m c 2 t (ix2 0 (y 2)) = m ((c : Thread nD τ).loc main_arg2) (ix1 (((cfg0.win (4 : Fin 5)).blk t).view.emb y 2)) := by
      trans V m c main_v1 (ix2 0 (((cfg0.win (4 : Fin 5)).blk t).view.emb y 2))
      · blk_ext [iblk, p2, p4]
      · exact scale m c _
    have en : y 2 = ((cfg0.win (4 : Fin 5)).blk t).view.emb y 2 := by
      refine Fin.ext ?_
      blk_simp [p4]
      try omega
    rw [funext ef, eg, ← en]

end Cert.OutProjIdeal.Rows

end
-- ==== Proof.OutProj.Claim.lean ====
/-
  The output projection's claims: its frames, and the equality with the reference's result.
-/
module

public import proofs.«01_k».proof.Defs
public import proofs.«01_k».proof.Proof.Gen.OutProj.Frame
public import proofs.«01_k».proof.Proof.OutProj.Value

@[expose] public section

set_option maxRecDepth 16384
set_option Elab.async false

noncomputable section

namespace Cert.OutProjIdeal.Rows

open Idealize.ShloMosaic Idealize.ShloMosaic.TcCoe Idealize.SL.Sem

/-- The reference has no semaphores. -/
theorem no_sems (s : MemSt Cert.OutProjReferenceIdeal.nD Cert.OutProjReferenceIdeal.τ Cert.OutProjReferenceIdeal.sig (Elt Ideal)) : s.sem = fun _ => 0 :=
  funext fun g => by
    obtain ⟨c, sm⟩ := g
    cases sm with
    | reg k => exact k.elim0
    | dma k => exact k.elim0

theorem frame_ref : Cert.quiescent_OutProjReferenceIdeal (hOutProjReferenceIdeal := Cert.OutProjReferenceIdeal.Gen.facts) :=
  fun m g _ => (θ_run Cert.OutProjReferenceIdeal.defs _ _).mono (fun r h => ⟨fun c => (h c).2, no_sems r.2⟩)
    (Cert.OutProjReferenceIdeal.Value.run (F := Ideal) m g)

/-- The call's result is the reference's. -/
theorem algebraic : Cert.algebraic_OutProjIdeal_OutProjReferenceIdeal (hOutProjIdeal := Cert.OutProjIdeal.Gen.facts)
    (hOutProjReferenceIdeal := Cert.OutProjReferenceIdeal.Gen.facts) := by
  intro m g m' g' _ hagree
  refine ⟨fun c => row (m ((c.tc : Thread Cert.OutProjIdeal.nD Cert.OutProjIdeal.τ).loc Cert.OutProjIdeal.main_arg0))
    (m ((c.tc : Thread Cert.OutProjIdeal.nD Cert.OutProjIdeal.τ).loc Cert.OutProjIdeal.main_arg1))
    (m ((c.tc : Thread Cert.OutProjIdeal.nD Cert.OutProjIdeal.τ).loc Cert.OutProjIdeal.main_arg2))
    (m ((c.tc : Thread Cert.OutProjIdeal.nD Cert.OutProjIdeal.τ).loc Cert.OutProjIdeal.main_arg3)), ?_, ?_⟩
  · exact (θ_run Cert.OutProjIdeal.defs _ _).mono (fun r h c => ⟨(h c).1.trans (arr m c), (h c).2⟩) (Cert.OutProjIdeal.Value.run_blocks (F := Ideal) m g)
  · refine (θ_run Cert.OutProjReferenceIdeal.defs _ _).mono (fun r h c => ⟨(h c).1.trans ?_, (h c).2⟩) (Cert.OutProjReferenceIdeal.Value.run (F := Ideal) m' g')
    obtain ⟨e0, e1, e2, e3⟩ := hagree c
    rw [e0, e1, e2, e3]
    funext y
    unfold row Cert.Rms.rms Cert.Rms.dotp
    pointwise

end Cert.OutProjIdeal.Rows

end
-- ==== Proof.SwaProj.Block.lean ====
/-
  The windowed layers' input projection, one step: what the body leaves in each output's block, as a function of the
  blocks that it reads. Feature `n` of row `r` is the product of the normalized row with column `n` of the weights; the
  queries and the keys lie in 128 lanes per head, of which the upper 64 are zero.
-/
module

public import proofs.«01_k».proof.Proof.Gen.SwaProjIdeal.Value
public import proofs.«01_k».proof.Proof.Math.Rms
public import Idealize.ShloMosaic.Lib.Pipeline.ValueKit
public import Idealize.ShloMosaic.Lib.Pointwise

@[expose] public section

set_option maxRecDepth 16384
set_option Elab.async false

noncomputable section

namespace Cert.SwaProjIdeal.Rows

open Cert.SwaProjIdeal Cert.SwaProjIdeal.Gen
open Idealize.ShloMosaic
open Idealize.ShloMosaic.TcCoe
open Cert.Rms

/-- The scale of the queries: the softmax's scale, and the change from `exp` to `exp2`. -/
abbrev qScale : EReal := Ideal.ofBits FTy.f32 0x3E38AA3B#32

variable (x : Vec Ideal S1x256x1024 .f32) (g : Vec Ideal S1x1024 .f32) (w : Vec Ideal S2560x1024 .bf16) (k : Vec Ideal S1024x256 .bf16)

/-- The normalized row `r`. -/
def hrow (r : Fin 256) : Fin 1024 → EReal := fun d => rms (fun j => x (ix3 0 r j)) d (g (ix2 0 d))
/-- Feature `n` of row `r`. -/
def feat (n : Fin 2560) (r : Fin 256) : EReal := dotp (hrow x g r) fun d => w (ix2 n d)

theorem norm_at (y : S256x1024.Idx) : k0_pay6 x g y = hrow x g (y 0) (y 1) := by
  unfold k0_pay6 hrow rms
  pointwise

theorem all_at (y : S2560x256.Idx) : k0_pay7 x g w y = feat x g w (y 0) (y 1) := by
  unfold feat dotp
  trans ∑ d : Fin 1024, w (ix2 (y 0) d) * k0_pay6 x g (ix2 (y 1) d)
  · unfold k0_pay7
    pointwise
  · refine Finset.sum_congr rfl fun d _ => ?_
    rw [norm_at, mul_comm]
    rfl

theorem keys_at (y : S256x256.Idx) : k0_pay8 x g k y = dotp (hrow x g (y 0)) fun d => k (ix2 d (y 1)) := by
  unfold dotp
  trans ∑ d : Fin 1024, k0_pay6 x g (ix2 (y 0) d) * k (ix2 d (y 1))
  · unfold k0_pay8
    pointwise
  · refine Finset.sum_congr rfl fun d _ => ?_
    rw [norm_at]
    rfl

/-! ## The queries -/

/-- The queries' block, from the features `a`. -/
def qBlock (a : S2560x256.Idx → EReal) : Vec Ideal S1x2048x256 .bf16 := fun y =>
  if (y 1 : Fin 2048).val % 128 < 64 then
    a (ix2 ⟨64 * ((y 1 : Fin 2048).val / 128) + (y 1 : Fin 2048).val % 128 % 64, by have : (y 1 : Fin 2048).val < 2048 := (y 1 : Fin 2048).isLt; omega⟩ (y 2)) * qScale
  else 0

theorem inbQ (p : ℕ) (hl : p + 64 ≤ 2048) : ∀ a, (![0, p, 0] : Fin 3 → ℕ) a + S1x64x256.size a ≤ S1x2048x256.size a := by
  intro a; fin_cases a <;> simp [S1x64x256, S1x2048x256] <;> omega

theorem q_low (a : S2560x256.Idx → EReal) (p : ℕ) (hp : p % 128 = 0) (hl : p + 64 ≤ 2048) (u : S1x64x256.Idx → EReal)
    (hu : ∀ z : S1x64x256.Idx, u z = a (ix2 ⟨p / 2 + (z 1 : Fin 64).val, by have : (z 1 : Fin 64).val < 64 := (z 1 : Fin 64).isLt; omega⟩ (z 2)) * qScale)
    (z : S1x64x256.Idx) : u z = qBlock a ((Rect.unit (s := S1x2048x256) ![0, p, 0] S1x64x256.size (inbQ p hl)).emb z) := by
  have hz : (z 1 : Fin 64).val < 64 := (z 1 : Fin 64).isLt
  have e1 : ((Rect.unit (s := S1x2048x256) ![0, p, 0] S1x64x256.size (inbQ p hl)).emb z 1 : Fin 2048).val = p + (z 1 : Fin 64).val :=
    Rect.idx_unit_val (s := S1x2048x256) ![0, p, 0] S1x64x256.size (inbQ p hl) z 1
  have e2 : (Rect.unit (s := S1x2048x256) ![0, p, 0] S1x64x256.size (inbQ p hl)).emb z 2 = z 2 :=
    Fin.ext ((Rect.idx_unit_val (s := S1x2048x256) ![0, p, 0] S1x64x256.size (inbQ p hl) z 2).trans (Nat.zero_add _))
  unfold qBlock
  rw [if_pos (by rw [e1]; omega), hu, e2]
  congr 3
  apply Fin.ext
  show p / 2 + (z 1 : Fin 64).val = 64 * (_ / 128) + _ % 128 % 64
  rw [e1]; omega

theorem q_high (a : S2560x256.Idx → EReal) (p : ℕ) (hp : p % 128 = 64) (hl : p + 64 ≤ 2048) (u : S1x64x256.Idx → EReal)
    (hu : ∀ z : S1x64x256.Idx, u z = 0)
    (z : S1x64x256.Idx) : u z = qBlock a ((Rect.unit (s := S1x2048x256) ![0, p, 0] S1x64x256.size (inbQ p hl)).emb z) := by
  have hz : (z 1 : Fin 64).val < 64 := (z 1 : Fin 64).isLt
  have e1 : ((Rect.unit (s := S1x2048x256) ![0, p, 0] S1x64x256.size (inbQ p hl)).emb z 1 : Fin 2048).val = p + (z 1 : Fin 64).val :=
    Rect.idx_unit_val (s := S1x2048x256) ![0, p, 0] S1x64x256.size (inbQ p hl) z 1
  unfold qBlock
  rw [if_neg (by rw [e1]; omega), hu]

/-- The queries' stores leave `qBlock`. -/
theorem queries (y : S1x2048x256.Idx) : out0_4 x g w k y = qBlock (k0_pay55 x g w k) y := by
  unfold out0_4
  refine View.canon_apply_of_pieces (qBlock (k0_pay55 x g w k)) _ ?_ y (cover0_4 _ _ _ _ _ _ _ _ _ _ _ _ _ _ _ _ _ _ _ _ _ _ _ _ _ _ _ _ _ _ _ _ y)
  repeat' refine List.forall_mem_cons.2 ⟨?_, ?_⟩
  all_goals first
    | exact fun pc h => absurd h List.not_mem_nil
    | refine q_high _ _ (by decide) (by decide) _ fun z => ?_
      unfold_payloads
      pointwise
    | refine q_low _ _ (by decide) (by decide) _ fun z => ?_
      unfold_payloads
      pointwise

/-! ## The keys -/

theorem lanes : ∀ n : Fin 128, IntOp.cmpi .slt (BitVec.ofNat 32 n.val) 64#32 = if n.val < 64 then 1#1 else 0#1 := by
  decide +kernel

/-- The mask is set on the lanes below 64. -/
theorem low_at (z : S256x128.Idx) : k0_pay51 z = if (z 1 : Fin 128).val < 64 then 1#1 else 0#1 := by
  refine Eq.trans ?_ (lanes (z 1))
  unfold k0_pay51
  pointwise

/-- The keys' block, from the keys' rows `a`. -/
def kBlock (a : S256x256.Idx → EReal) : Vec Ideal S1x256x512 .bf16 := fun y =>
  if (y 2 : Fin 512).val % 128 < 64 then
    a (ix2 (y 1) ⟨64 * ((y 2 : Fin 512).val / 128) + (y 2 : Fin 512).val % 128 % 64, by have : (y 2 : Fin 512).val < 512 := (y 2 : Fin 512).isLt; omega⟩)
  else 0

theorem inbK (p : ℕ) (hl : p + 128 ≤ 512) : ∀ a, (![0, 0, p] : Fin 3 → ℕ) a + S1x256x128.size a ≤ S1x256x512.size a := by
  intro a; fin_cases a <;> simp [S1x256x128, S1x256x512] <;> omega

/-- A store of one head's lanes. -/
theorem k_head (a : S256x256.Idx → EReal) (p : ℕ) (hp : p % 128 = 0) (hl : p + 128 ≤ 512) (u : S1x256x128.Idx → EReal)
    (e : Fin 128 → Fin 256) (he : ∀ l : Fin 128, l.val < 64 → (e l).val = p / 2 + l.val)
    (hu : ∀ (z : S1x256x128.Idx), u z = Scalar.select (k0_pay51 (ix2 (z 1) (z 2))) (a (ix2 (z 1) (e (z 2)))) (0 : EReal))
    (z : S1x256x128.Idx) : u z = kBlock a ((Rect.unit (s := S1x256x512) ![0, 0, p] S1x256x128.size (inbK p hl)).emb z) := by
  have hz : (z 2 : Fin 128).val < 128 := (z 2 : Fin 128).isLt
  have e2 : ((Rect.unit (s := S1x256x512) ![0, 0, p] S1x256x128.size (inbK p hl)).emb z 2 : Fin 512).val = p + (z 2 : Fin 128).val :=
    Rect.idx_unit_val (s := S1x256x512) ![0, 0, p] S1x256x128.size (inbK p hl) z 2
  have e1 : (Rect.unit (s := S1x256x512) ![0, 0, p] S1x256x128.size (inbK p hl)).emb z 1 = z 1 :=
    Fin.ext ((Rect.idx_unit_val (s := S1x256x512) ![0, 0, p] S1x256x128.size (inbK p hl) z 1).trans (Nat.zero_add _))
  unfold kBlock
  rw [hu, e1]
  by_cases h : (z 2 : Fin 128).val < 64
  · rw [show k0_pay51 (ix2 (z 1) (z 2)) = 1#1 from (low_at _).trans (if_pos h), if_pos (by rw [e2]; omega)]
    refine congrArg a (congrArg (ix2 (z 1)) (Fin.ext ?_))
    refine (he _ h).trans ?_
    show p / 2 + (z 2 : Fin 128).val = 64 * (_ / 128) + _ % 128 % 64
    rw [e2]; omega
  · rw [show k0_pay51 (ix2 (z 1) (z 2)) = 0#1 from (low_at _).trans (if_neg h), if_neg (by rw [e2]; omega)]
    rfl

/-- The keys' stores leave `kBlock`. -/
theorem keys (y : S1x256x512.Idx) : out0_8 x g w k y = kBlock (k0_pay56 x g w k) y := by
  unfold out0_8
  refine View.canon_apply_of_pieces (kBlock (k0_pay56 x g w k)) _ ?_ y (cover0_8 _ _ _ _ y)
  generalize k0_pay56 x g w k = a
  repeat' refine List.forall_mem_cons.2 ⟨?_, ?_⟩
  · refine k_head _ _ (by decide) (by decide) _ (fun l => ⟨128 + (l.val + 128 - 64) % 128, by omega⟩) (fun l _ => by dsimp only <;> omega) fun z => ?_
    unfold k0_pay5 k0_pay3 k0_pay58
    pointwise
  · refine k_head _ _ (by decide) (by decide) _ (fun l => ⟨128 + l.val, by omega⟩) (fun l _ => by dsimp only <;> omega) fun z => ?_
    unfold k0_pay4 k0_pay3 k0_pay58
    pointwise
  · refine k_head _ _ (by decide) (by decide) _ (fun l => ⟨(l.val + 128 - 64) % 128, by omega⟩) (fun l _ => by dsimp only <;> omega) fun z => ?_
    unfold k0_pay2 k0_pay53 k0_pay52 k0_pay58
    pointwise
  · refine k_head _ _ (by decide) (by decide) _ (fun l => ⟨l.val, by omega⟩) (fun l _ => by dsimp only <;> omega) fun z => ?_
    unfold k0_pay1 k0_pay54 k0_pay52
    pointwise
  · exact fun pc h => absurd h List.not_mem_nil

/-! ## The loads are the blocks -/

theorem unit3 (z : S1x256x1024.Idx) : z = ix3 0 (z 1) (z 2) := by
  rw [eq_ix3 z]; congr 1; exact Subsingleton.elim (α := Fin 1) _ _
theorem unit2 (z : S1x1024.Idx) : z = ix2 0 (z 1) := by
  rw [eq_ix2 z]; congr 1; exact Subsingleton.elim (α := Fin 1) _ _

theorem ld_x : View.ld x r0_0 = x := by
  funext z
  refine Eq.trans ?_ (congrArg x (unit3 z)).symm
  pointwise
theorem ld_g : View.ld g r0_1 = g := by
  funext z
  refine Eq.trans ?_ (congrArg g (unit2 z)).symm
  pointwise
theorem ld_w : View.ld w r0_2 = w := by funext z; pointwise
theorem ld_k : View.ld k r0_3 = k := by funext z; pointwise

theorem features_at (n : Fin 2560) (r : Fin 256) : k0_pay55 x g w k (ix2 n r) = feat x g w n r := by
  unfold k0_pay55
  rw [ld_x, ld_g, ld_w]
  exact all_at x g w _

theorem key_rows_at (r : Fin 256) (n : Fin 256) : k0_pay56 x g w k (ix2 r n) = dotp (hrow x g r) fun d => k (ix2 d n) := by
  unfold k0_pay56
  rw [ld_x, ld_g, ld_k]
  exact keys_at x g k _

/-! ## The other outputs -/

theorem gate_at (y : S1x1024x256.Idx) : k0_pay10 x g w y
    = feat x g w ⟨1536 + (y 1 : Fin 1024).val, by have : (y 1 : Fin 1024).val < 1024 := (y 1 : Fin 1024).isLt; omega⟩ (y 2) := by
  refine Eq.trans ?_ (all_at _ _ _ (ix2 _ _))
  unfold k0_pay10
  pointwise

theorem keyF_at (y : S1x256x256.Idx) : k0_pay11 x g w y
    = feat x g w ⟨1024 + (y 1 : Fin 256).val, by have : (y 1 : Fin 256).val < 256 := (y 1 : Fin 256).isLt; omega⟩ (y 2) := by
  refine Eq.trans ?_ (all_at _ _ _ (ix2 _ _))
  unfold k0_pay11
  pointwise

theorem value_at (y : S1x256x256.Idx) : k0_pay12 (k0_pay57 x g w k) y
    = feat x g w ⟨1280 + (y 1 : Fin 256).val, by have : (y 1 : Fin 256).val < 256 := (y 1 : Fin 256).isLt; omega⟩ (y 2) := by
  refine Eq.trans ?_ (all_at _ _ _ (ix2 _ _))
  unfold k0_pay12 k0_pay57 k0_pay9
  rw [ld_x, ld_g, ld_w]
  pointwise

theorem value16_at (y : S1x256x256.Idx) : k0_pay13 (k0_pay57 x g w k) y
    = feat x g w ⟨1280 + (y 1 : Fin 256).val, by have : (y 1 : Fin 256).val < 256 := (y 1 : Fin 256).isLt; omega⟩ (y 2) := by
  refine Eq.trans ?_ (all_at _ _ _ (ix2 _ _))
  unfold k0_pay13 k0_pay57 k0_pay9
  rw [ld_x, ld_g, ld_w]
  pointwise

end Cert.SwaProjIdeal.Rows

end
-- ==== Proof.SwaProj.Value.lean ====
/-
  The windowed layers' input projection: the six arrays that the call leaves, as functions of the arguments.
-/
module

public import proofs.«01_k».proof.Proof.SwaProj.Block

@[expose] public section

set_option maxRecDepth 16384
set_option Elab.async false

noncomputable section

namespace Cert.SwaProjIdeal.Rows

open Cert.SwaProjIdeal Cert.SwaProjIdeal.Gen
open Idealize.ShloMosaic
open Idealize.ShloMosaic.TcCoe
open Cert.Rms

variable (X : Shape.Idx S2x8192x1024 → EReal) (g : Shape.Idx S1024 → EReal) (W : Shape.Idx S1024x2560 → EReal)

/-- Feature `n` of position `s` in batch `b`. -/
def proj (b : Fin 2) (s : Fin 8192) (n : Fin 2560) : EReal :=
  dotp (fun d => rms (fun j => X (ix3 b s j)) d (g (ix1 d))) fun d => W (ix2 d n)

/-- The queries, scaled, in 128 lanes per head. -/
def qArr (y : Shape.Idx S2x2048x8192) : EReal :=
  if (y 1 : Fin 2048).val % 128 < 64 then
    proj X g W (y 0) (y 2) ⟨64 * ((y 1 : Fin 2048).val / 128) + (y 1 : Fin 2048).val % 128 % 64,
      by have : (y 1 : Fin 2048).val < 2048 := (y 1 : Fin 2048).isLt; omega⟩ * qScale
  else 0
/-- The gate. -/
def gArr (y : Shape.Idx S2x1024x8192) : EReal :=
  proj X g W (y 0) (y 2) ⟨1536 + (y 1 : Fin 1024).val, by have : (y 1 : Fin 1024).val < 1024 := (y 1 : Fin 1024).isLt; omega⟩
/-- The keys, one feature per row. -/
def kArr (y : Shape.Idx S2x256x8192) : EReal :=
  proj X g W (y 0) (y 2) ⟨1024 + (y 1 : Fin 256).val, by have : (y 1 : Fin 256).val < 256 := (y 1 : Fin 256).isLt; omega⟩
/-- The values, one feature per row. -/
def vArr (y : Shape.Idx S2x256x8192) : EReal :=
  proj X g W (y 0) (y 2) ⟨1280 + (y 1 : Fin 256).val, by have : (y 1 : Fin 256).val < 256 := (y 1 : Fin 256).isLt; omega⟩
/-- The keys, one position per row, in 128 lanes per head. -/
def aArr (y : Shape.Idx S2x8192x512) : EReal :=
  if (y 2 : Fin 512).val % 128 < 64 then
    proj X g W (y 0) (y 1) ⟨1024 + (64 * ((y 2 : Fin 512).val / 128) + (y 2 : Fin 512).val % 128 % 64),
      by have : (y 2 : Fin 512).val < 512 := (y 2 : Fin 512).isLt; omega⟩
  else 0

variable (m : (ℓ : Loc nD τ sig) → Buf (Elt Ideal) ℓ) (c : Dev nD)

/-- The scale that the region reads is the argument, as one row. -/
theorem scale (y : S1x1024.Idx) : V m c main_v0 y = m ((c : Thread nD τ).loc main_arg1) (ix1 (y 1)) := by
  have e : V m c main_v0 = (shapeCast (α := Ideal .f32) S1x1024 (m ((c : Thread nD τ).loc main_arg1)) shapeCasts_S1024_S1x1024 : FVec Ideal S1x1024 .f32) := by
    unfold_abbrev_sides
    after_results
    rfl
  rw [e]
  pointwise

/-- The weights that the region reads are the argument's, one feature per row. -/
theorem weights (y : S2560x1024.Idx) : V m c main_v2 y = m ((c : Thread nD τ).loc main_arg2) (ix2 (y 1) (y 0)) := by
  have e : V m c main_v2 = (truncf (F := Ideal) (φ := .f32) .bf16 (transpose S2560x1024 [1, 0] (m ((c : Thread nD τ).loc main_arg2))
      transposes_S1024x2560_S2560x1024_1_0) bitsLt_bf16_f32 : FVec Ideal S2560x1024 .bf16) := by
    unfold_abbrev_sides
    after_results
  rw [e]
  pointwise

/-- The keys' weights. -/
theorem kWeights (y : S1024x256.Idx) : V m c main_v4 y = m ((c : Thread nD τ).loc main_arg2)
    (ix2 (y 0) ⟨1024 + (y 1 : Fin 256).val, by have : (y 1 : Fin 256).val < 256 := (y 1 : Fin 256).isLt; omega⟩) := by
  have e : V m c main_v4 = (truncf (F := Ideal) (φ := .f32) .bf16 (extractStridedSlice S1024x256 ![0, 1024] (m ((c : Thread nD τ).loc main_arg2))
      slices_S1024x2560_S1024x256_0_1024) bitsLt_bf16_f32 : FVec Ideal S1024x256 .bf16) := by
    unfold_abbrev_sides
    after_results
  rw [e]
  pointwise

/-- Where each step's blocks lie: step `t` has batch `t / 32` and rows from `256 * (t % 32)`. -/
theorem places : ∀ t : Fin cfg0.N, win0_0.index t = ![t.val / 32, t.val % 32, 0] ∧ win0_1.index t = ![0, 0] ∧ win0_2.index t = ![0, 0]
    ∧ win0_3.index t = ![0, 0] ∧ win0_4.index t = ![t.val / 32, 0, t.val % 32] ∧ win0_5.index t = ![t.val / 32, 0, t.val % 32]
    ∧ win0_6.index t = ![t.val / 32, 0, t.val % 32] ∧ win0_7.index t = ![t.val / 32, 0, t.val % 32]
    ∧ win0_8.index t = ![t.val / 32, t.val % 32, 0] ∧ win0_9.index t = ![t.val / 32, 0, t.val % 32] := by
  decide +kernel

theorem row_blk (t : Fin cfg0.N) (r : Fin 256) (b : Fin 2) (s : Fin 8192) (hb : b.val = t.val / 32) (hs : s.val = 256 * (t.val % 32) + r.val) :
    hrow (iblk m c 0 t) (iblk m c 1 t) r = fun d => rms (fun j => m ((c : Thread nD τ).loc main_arg0) (ix3 b s j)) d (m ((c : Thread nD τ).loc main_arg1) (ix1 d)) := by
  obtain ⟨p0, p1, -⟩ := places t
  funext d
  unfold hrow
  have ex : ∀ j : Fin 1024, iblk m c 0 t (ix3 0 r j) = m ((c : Thread nD τ).loc main_arg0) (ix3 b s j) := by
    intro j
    rw [← V_main_arg0 m c]
    blk_ext [iblk, p0]
  have eg : iblk m c 1 t (ix2 0 d) = m ((c : Thread nD τ).loc main_arg1) (ix1 d) := by
    trans V m c main_v0 (ix2 0 d)
    · blk_ext [iblk, p1]
    · exact scale m c _
  rw [funext ex, eg]

/-- A step's features are the rows' of its positions. -/
theorem feat_blk (t : Fin cfg0.N) (n : Fin 2560) (r : Fin 256) (b : Fin 2) (s : Fin 8192) (hb : b.val = t.val / 32) (hs : s.val = 256 * (t.val % 32) + r.val) :
    feat (iblk m c 0 t) (iblk m c 1 t) (iblk m c 2 t) n r
      = proj (m ((c : Thread nD τ).loc main_arg0)) (m ((c : Thread nD τ).loc main_arg1)) (m ((c : Thread nD τ).loc main_arg2)) b s n := by
  obtain ⟨-, -, p2, -⟩ := places t
  unfold feat proj
  rw [row_blk m c t r b s hb hs]
  refine congrArg (dotp _) (funext fun d => ?_)
  trans V m c main_v2 (ix2 n d)
  · blk_ext [iblk, p2]
  · exact weights m c _

/-- The same of the keys' rows. -/
theorem key_blk (t : Fin cfg0.N) (n : Fin 256) (r : Fin 256) (b : Fin 2) (s : Fin 8192) (hb : b.val = t.val / 32) (hs : s.val = 256 * (t.val % 32) + r.val) :
    dotp (hrow (iblk m c 0 t) (iblk m c 1 t) r) (fun d => iblk m c 3 t (ix2 d n))
      = proj (m ((c : Thread nD τ).loc main_arg0)) (m ((c : Thread nD τ).loc main_arg1)) (m ((c : Thread nD τ).loc main_arg2)) b s ⟨1024 + n.val, by omega⟩ := by
  obtain ⟨-, -, -, p3, -⟩ := places t
  unfold proj
  rw [row_blk m c t r b s hb hs]
  refine congrArg (dotp _) (funext fun d => ?_)
  trans V m c main_v4 (ix2 d n)
  · blk_ext [iblk, p3]
  · exact kWeights m c _

/-- The gate's array. -/
theorem arr5 : (dats m 0 c).arrAt (5 : Fin 10) cfg0.N
    = gArr (m ((c : Thread nD τ).loc main_arg0)) (m ((c : Thread nD τ).loc main_arg1)) (m ((c : Thread nD τ).loc main_arg2)) := by
  refine (dats m 0 c).arrAt_eq_of_covers (5 : Fin 10) _ (by decide +kernel) fun t hf y => ?_
  obtain ⟨-, -, -, -, p4, p5, p6, p7, p8, p9⟩ := places t
  rw [after0_5]
  frame_out
  refine (gate_at _ _ _ y).trans ?_
  refine (feat_blk m c t _ _ (((cfg0.win (5 : Fin 10)).blk t).view.emb y 0) (((cfg0.win (5 : Fin 10)).blk t).view.emb y 2) ?_ ?_).trans ?_
  · blk_simp [p5]
    try omega
  · blk_simp [p5]
    try omega
  · unfold gArr
    refine congrArg _ (Fin.ext ?_)
    blk_simp [p5]
    try omega

/-- The keys' array, by features. -/
theorem arr6 : (dats m 0 c).arrAt (6 : Fin 10) cfg0.N
    = kArr (m ((c : Thread nD τ).loc main_arg0)) (m ((c : Thread nD τ).loc main_arg1)) (m ((c : Thread nD τ).loc main_arg2)) := by
  refine (dats m 0 c).arrAt_eq_of_covers (6 : Fin 10) _ (by decide +kernel) fun t hf y => ?_
  obtain ⟨-, -, -, -, p4, p5, p6, p7, p8, p9⟩ := places t
  rw [after0_6]
  frame_out
  refine (keyF_at _ _ _ y).trans ?_
  refine (feat_blk m c t _ _ (((cfg0.win (6 : Fin 10)).blk t).view.emb y 0) (((cfg0.win (6 : Fin 10)).blk t).view.emb y 2) ?_ ?_).trans ?_
  · blk_simp [p6]
    try omega
  · blk_simp [p6]
    try omega
  · unfold kArr
    refine congrArg _ (Fin.ext ?_)
    blk_simp [p6]
    try omega

/-- The values' array. -/
theorem arr7 : (dats m 0 c).arrAt (7 : Fin 10) cfg0.N
    = vArr (m ((c : Thread nD τ).loc main_arg0)) (m ((c : Thread nD τ).loc main_arg1)) (m ((c : Thread nD τ).loc main_arg2)) := by
  refine (dats m 0 c).arrAt_eq_of_covers (7 : Fin 10) _ (by decide +kernel) fun t hf y => ?_
  obtain ⟨-, -, -, -, p4, p5, p6, p7, p8, p9⟩ := places t
  rw [after0_7]
  frame_out
  refine (value_at _ _ _ (iblk m c 3 t) y).trans ?_
  refine (feat_blk m c t _ _ (((cfg0.win (7 : Fin 10)).blk t).view.emb y 0) (((cfg0.win (7 : Fin 10)).blk t).view.emb y 2) ?_ ?_).trans ?_
  · blk_simp [p7]
    try omega
  · blk_simp [p7]
    try omega
  · unfold vArr
    refine congrArg _ (Fin.ext ?_)
    blk_simp [p7]
    try omega

/-- The values' array, rounded. -/
theorem arr9 : (dats m 0 c).arrAt (9 : Fin 10) cfg0.N
    = vArr (m ((c : Thread nD τ).loc main_arg0)) (m ((c : Thread nD τ).loc main_arg1)) (m ((c : Thread nD τ).loc main_arg2)) := by
  refine (dats m 0 c).arrAt_eq_of_covers (9 : Fin 10) _ (by decide +kernel) fun t hf y => ?_
  obtain ⟨-, -, -, -, p4, p5, p6, p7, p8, p9⟩ := places t
  rw [after0_9]
  frame_out
  refine (value16_at _ _ _ (iblk m c 3 t) y).trans ?_
  refine (feat_blk m c t _ _ (((cfg0.win (9 : Fin 10)).blk t).view.emb y 0) (((cfg0.win (9 : Fin 10)).blk t).view.emb y 2) ?_ ?_).trans ?_
  · blk_simp [p9]
    try omega
  · blk_simp [p9]
    try omega
  · unfold vArr
    refine congrArg _ (Fin.ext ?_)
    blk_simp [p9]
    try omega

/-- The queries' array. -/
theorem arr4 : (dats m 0 c).arrAt (4 : Fin 10) cfg0.N
    = qArr (m ((c : Thread nD τ).loc main_arg0)) (m ((c : Thread nD τ).loc main_arg1)) (m ((c : Thread nD τ).loc main_arg2)) := by
  refine (dats m 0 c).arrAt_eq_of_covers (4 : Fin 10) _ (by decide +kernel) fun t hf y => ?_
  obtain ⟨-, -, -, -, p4, -⟩ := places t
  rw [after0_4]
  refine (queries _ _ _ _ _).trans ?_
  have e : (((cfg0.win (4 : Fin 10)).blk t).view.emb y 1 : Fin 2048).val = (y 1 : Fin 2048).val := by
    blk_simp [p4]
    try omega
  unfold qBlock qArr
  by_cases h : (y 1 : Fin 2048).val % 128 < 64
  · refine (if_pos h).trans (Eq.trans ?_ (if_pos (by rw [e]; exact h)).symm)
    refine congrArg (· * qScale) ?_
    have hl : (y 1 : Fin 2048).val < 2048 := (y 1 : Fin 2048).isLt
    refine (features_at _ _ _ _ ⟨64 * ((y 1 : Fin 2048).val / 128) + (y 1 : Fin 2048).val % 128 % 64, by omega⟩ (y 2)).trans ?_
    refine (feat_blk m c t _ _ (((cfg0.win (4 : Fin 10)).blk t).view.emb y 0) (((cfg0.win (4 : Fin 10)).blk t).view.emb y 2) ?_ ?_).trans ?_
    · blk_simp [p4]
      try omega
    · blk_simp [p4]
      try omega
    · refine congrArg _ (Fin.ext ?_)
      show _ = 64 * (_ / 128) + _ % 128 % 64
      rw [e]
  · exact (if_neg h).trans (if_neg (by rw [e]; exact h)).symm

/-- The keys' array, by positions. -/
theorem arr8 : (dats m 0 c).arrAt (8 : Fin 10) cfg0.N
    = aArr (m ((c : Thread nD τ).loc main_arg0)) (m ((c : Thread nD τ).loc main_arg1)) (m ((c : Thread nD τ).loc main_arg2)) := by
  refine (dats m 0 c).arrAt_eq_of_covers (8 : Fin 10) _ (by decide +kernel) fun t hf y => ?_
  obtain ⟨-, -, -, -, -, -, -, -, p8, -⟩ := places t
  rw [after0_8]
  refine (keys _ _ _ _ _).trans ?_
  have e : (((cfg0.win (8 : Fin 10)).blk t).view.emb y 2 : Fin 512).val = (y 2 : Fin 512).val := by
    blk_simp [p8]
    try omega
  unfold kBlock aArr
  by_cases h : (y 2 : Fin 512).val % 128 < 64
  · refine (if_pos h).trans (Eq.trans ?_ (if_pos (by rw [e]; exact h)).symm)
    have hl : (y 2 : Fin 512).val < 512 := (y 2 : Fin 512).isLt
    refine (key_rows_at _ _ _ _ (y 1) ⟨64 * ((y 2 : Fin 512).val / 128) + (y 2 : Fin 512).val % 128 % 64, by omega⟩).trans ?_
    refine (key_blk m c t _ _ (((cfg0.win (8 : Fin 10)).blk t).view.emb y 0) (((cfg0.win (8 : Fin 10)).blk t).view.emb y 1) ?_ ?_).trans ?_
    · blk_simp [p8]
      try omega
    · blk_simp [p8]
      try omega
    · refine congrArg _ (Fin.ext ?_)
      show 1024 + _ = 1024 + (64 * (_ / 128) + _ % 128 % 64)
      rw [e]
  · exact (if_neg h).trans (if_neg (by rw [e]; exact h)).symm

end Cert.SwaProjIdeal.Rows

end
-- ==== Proof.SwaProj.Claim.lean ====
/-
  The windowed layers' input projection: its frames, and the equality of its six arrays with the reference's results.
-/
module

public import proofs.«01_k».proof.Defs
public import proofs.«01_k».proof.Proof.Gen.SwaProj.Frame
public import proofs.«01_k».proof.Proof.Gen.SwaProjReferenceIdeal.Run
public import proofs.«01_k».proof.Proof.SwaProj.Value

@[expose] public section

set_option maxRecDepth 16384
set_option Elab.async false

noncomputable section

namespace Cert.SwaProjIdeal.Rows

open Idealize.ShloMosaic Idealize.ShloMosaic.TcCoe Idealize.SL.Sem

/-- The reference has no semaphores. -/
theorem no_sems (s : MemSt Cert.SwaProjReferenceIdeal.nD Cert.SwaProjReferenceIdeal.τ Cert.SwaProjReferenceIdeal.sig (Elt Ideal)) : s.sem = fun _ => 0 :=
  funext fun g => by
    obtain ⟨c, sm⟩ := g
    cases sm with
    | reg k => exact k.elim0
    | dma k => exact k.elim0

theorem frame_ref : Cert.quiescent_SwaProjReferenceIdeal (hSwaProjReferenceIdeal := Cert.SwaProjReferenceIdeal.Gen.facts) :=
  fun m g _ => (θ_run Cert.SwaProjReferenceIdeal.defs _ _).mono (fun r h => ⟨fun c => (h c).2.2.2.2.2.2, no_sems r.2⟩)
    (Cert.SwaProjReferenceIdeal.Value.run (F := Ideal) m g)

/-- The padding is zero. -/
theorem pad_zero : (FloatOps.sitofp (F := Ideal) FTy.f32 0#32 : EReal) = 0 := by
  show (((0#32 : BitVec 32).toInt : ℝ) : EReal) = 0
  simp

/-- The call's results are the reference's. -/
theorem algebraic : Cert.algebraic_SwaProjIdeal_SwaProjReferenceIdeal (hSwaProjIdeal := Cert.SwaProjIdeal.Gen.facts)
    (hSwaProjReferenceIdeal := Cert.SwaProjReferenceIdeal.Gen.facts) := by
  intro m g m' g' _ hagree
  refine ⟨fun c => qArr (m ((c.tc : Thread Cert.SwaProjIdeal.nD Cert.SwaProjIdeal.τ).loc Cert.SwaProjIdeal.main_arg0)) (m ((c.tc : Thread Cert.SwaProjIdeal.nD Cert.SwaProjIdeal.τ).loc Cert.SwaProjIdeal.main_arg1)) (m ((c.tc : Thread Cert.SwaProjIdeal.nD Cert.SwaProjIdeal.τ).loc Cert.SwaProjIdeal.main_arg2)),
    fun c => gArr (m ((c.tc : Thread Cert.SwaProjIdeal.nD Cert.SwaProjIdeal.τ).loc Cert.SwaProjIdeal.main_arg0)) (m ((c.tc : Thread Cert.SwaProjIdeal.nD Cert.SwaProjIdeal.τ).loc Cert.SwaProjIdeal.main_arg1)) (m ((c.tc : Thread Cert.SwaProjIdeal.nD Cert.SwaProjIdeal.τ).loc Cert.SwaProjIdeal.main_arg2)),
    fun c => kArr (m ((c.tc : Thread Cert.SwaProjIdeal.nD Cert.SwaProjIdeal.τ).loc Cert.SwaProjIdeal.main_arg0)) (m ((c.tc : Thread Cert.SwaProjIdeal.nD Cert.SwaProjIdeal.τ).loc Cert.SwaProjIdeal.main_arg1)) (m ((c.tc : Thread Cert.SwaProjIdeal.nD Cert.SwaProjIdeal.τ).loc Cert.SwaProjIdeal.main_arg2)),
    fun c => vArr (m ((c.tc : Thread Cert.SwaProjIdeal.nD Cert.SwaProjIdeal.τ).loc Cert.SwaProjIdeal.main_arg0)) (m ((c.tc : Thread Cert.SwaProjIdeal.nD Cert.SwaProjIdeal.τ).loc Cert.SwaProjIdeal.main_arg1)) (m ((c.tc : Thread Cert.SwaProjIdeal.nD Cert.SwaProjIdeal.τ).loc Cert.SwaProjIdeal.main_arg2)),
    fun c => aArr (m ((c.tc : Thread Cert.SwaProjIdeal.nD Cert.SwaProjIdeal.τ).loc Cert.SwaProjIdeal.main_arg0)) (m ((c.tc : Thread Cert.SwaProjIdeal.nD Cert.SwaProjIdeal.τ).loc Cert.SwaProjIdeal.main_arg1)) (m ((c.tc : Thread Cert.SwaProjIdeal.nD Cert.SwaProjIdeal.τ).loc Cert.SwaProjIdeal.main_arg2)),
    fun c => vArr (m ((c.tc : Thread Cert.SwaProjIdeal.nD Cert.SwaProjIdeal.τ).loc Cert.SwaProjIdeal.main_arg0)) (m ((c.tc : Thread Cert.SwaProjIdeal.nD Cert.SwaProjIdeal.τ).loc Cert.SwaProjIdeal.main_arg1)) (m ((c.tc : Thread Cert.SwaProjIdeal.nD Cert.SwaProjIdeal.τ).loc Cert.SwaProjIdeal.main_arg2)), ?_, ?_⟩
  · refine (θ_run Cert.SwaProjIdeal.defs _ _).mono (fun r h c => ?_) (Cert.SwaProjIdeal.Value.run_blocks (F := Ideal) m g)
    obtain ⟨h4, h5, h6, h7, h8, h9, h⟩ := h c
    exact ⟨h4.trans (arr4 m c), h5.trans (arr5 m c), h6.trans (arr6 m c), h7.trans (arr7 m c), h8.trans (arr8 m c), h9.trans (arr9 m c), h⟩
  · refine (θ_run Cert.SwaProjReferenceIdeal.defs _ _).mono (fun r h c => ?_) (Cert.SwaProjReferenceIdeal.Value.run (F := Ideal) m' g')
    obtain ⟨h4, h5, h6, h7, h8, h9, h⟩ := h c
    obtain ⟨e0, e1, e2⟩ := hagree c
    refine ⟨h4.trans ?_, h5.trans ?_, h6.trans ?_, h7.trans ?_, h8.trans ?_, h9.trans ?_, h⟩
    · rw [e0, e1, e2]
      funext y
      have hl : (y 1 : Fin 2048).val < 2048 := (y 1 : Fin 2048).isLt
      unfold qArr proj Cert.Rms.rms Cert.Rms.dotp
      pointwise
      by_cases h : (y 1 : Fin 2048).val % 128 < 64
      · refine (dif_pos ⟨by omega, h⟩).trans (Eq.trans ?_ (if_pos h).symm)
        refine congrArg (· * _) (Finset.sum_congr rfl fun d _ => congrArg _ (congrArg _ (congrArg (ix2 d) (Fin.ext ?_))))
        dsimp only
        omega
      · exact (dif_neg fun hh => h hh.2).trans (pad_zero.trans (if_neg h).symm)
    · rw [e0, e1, e2]
      funext y
      unfold gArr proj Cert.Rms.rms Cert.Rms.dotp
      pointwise
    · rw [e0, e1, e2]
      funext y
      unfold kArr proj Cert.Rms.rms Cert.Rms.dotp
      pointwise
    · rw [e0, e1, e2]
      funext y
      unfold vArr proj Cert.Rms.rms Cert.Rms.dotp
      pointwise
    · rw [e0, e1, e2]
      funext y
      have hl : (y 2 : Fin 512).val < 512 := (y 2 : Fin 512).isLt
      unfold aArr proj Cert.Rms.rms Cert.Rms.dotp
      pointwise
      by_cases h : (y 2 : Fin 512).val % 128 < 64
      · refine (dif_pos ⟨by omega, h⟩).trans (Eq.trans ?_ (if_pos h).symm)
        refine Finset.sum_congr rfl fun d _ => congrArg _ (congrArg _ (congrArg (ix2 d) (Fin.ext ?_)))
        dsimp only
        omega
      · exact (dif_neg fun hh => h hh.2).trans (pad_zero.trans (if_neg h).symm)
    · rw [e0, e1, e2]
      funext y
      unfold vArr proj Cert.Rms.rms Cert.Rms.dotp
      pointwise

end Cert.SwaProjIdeal.Rows

end
-- ==== Proof.Math.Prefix.lean ====
/-
  Sums up to a position: the logarithm of the sigmoid, a value as the sum of the parts it is split into, running sums
  over blocks of 256 positions, and the host's running sum along the positions.
-/
module

public import Idealize.ShloMosaic.PureOps.Ideal
public import Idealize.ShloMosaic.Lib.Pointwise

@[expose] public section

set_option maxRecDepth 16384

noncomputable section

namespace Cert.Prefix

open Idealize.ShloMosaic Finset

/-- The logarithm of the sigmoid of `z`. -/
def lsig (z : EReal) : EReal := 0 - (max (0 - z) 0 + Ideal.log1p (Ideal.exp (0 - max z (-z))))

theorem log1p_exp_ne_bot (u : EReal) : Ideal.log1p (Ideal.exp u) ≠ ⊥ := by
  induction u with
  | bot =>
    show Ideal.log (1 + 0) ≠ ⊥
    rw [add_zero, ← EReal.coe_one]
    show (if (1 : ℝ) ≤ 0 then (⊥ : EReal) else ((Real.log 1 : ℝ) : EReal)) ≠ ⊥
    rw [if_neg (by norm_num)]
    exact EReal.coe_ne_bot _
  | top =>
    show Ideal.log (1 + ⊤) ≠ ⊥
    rw [← EReal.coe_one, EReal.coe_add_top]
    exact top_ne_bot
  | coe r =>
    show Ideal.log (1 + ((Real.exp r : ℝ) : EReal)) ≠ ⊥
    rw [← EReal.coe_one, ← EReal.coe_add]
    show (if (1 + Real.exp r : ℝ) ≤ 0 then (⊥ : EReal) else ((Real.log (1 + Real.exp r) : ℝ) : EReal)) ≠ ⊥
    rw [if_neg (by have := Real.exp_pos r; linarith)]
    exact EReal.coe_ne_bot _

/-- It is never `⊤`. -/
theorem lsig_ne_top (z : EReal) : lsig z ≠ ⊤ := by
  unfold lsig
  intro h
  have hm : max (0 - z) 0 ≠ ⊥ := fun e => by
    have : (0 : EReal) ≤ ⊥ := e ▸ le_max_right (0 - z) 0
    simp at this
  have hw : max (0 - z) 0 + Ideal.log1p (Ideal.exp (0 - max z (-z))) ≠ ⊥ := by
    rw [Ne, EReal.add_eq_bot_iff]
    exact fun e => e.elim hm (log1p_exp_ne_bot _)
  rw [zero_sub, EReal.neg_eq_top_iff] at h
  exact hw h

/-- A value that is not `⊤` is the sum of itself and the differences that a split leaves. -/
theorem parts_sum (v : EReal) (hv : v ≠ ⊤) : v + (v - v) + (v - v - (v - v)) = v := by
  induction v with
  | bot => rw [EReal.bot_add, EReal.bot_add]
  | top => exact absurd rfl hv
  | coe r =>
    rw [← EReal.coe_sub, ← EReal.coe_add, ← EReal.coe_sub, ← EReal.coe_add]
    congr 1
    ring

/-- A sum against a mask of zeros and ones, part by part. -/
theorem masked_parts (c : EReal) (p : Fin 256 → Prop) [DecidablePred p] (a T : Fin 256 → EReal) (hT : ∀ x, T x = if p x then 1 else 0) (ha : ∀ x, a x ≠ ⊤) :
    c + ∑ x, T x * a x + ∑ x, T x * (a x - a x) + ∑ x, T x * (a x - a x - (a x - a x)) = c + ∑ x, if p x then a x else 0 := by
  rw [add_assoc, add_assoc, ← Finset.sum_add_distrib, ← Finset.sum_add_distrib]
  refine congrArg (c + ·) (Finset.sum_congr rfl fun x _ => ?_)
  rw [hT]
  by_cases h : p x
  · rw [if_pos h, if_pos h, one_mul, one_mul, one_mul, ← add_assoc]
    exact parts_sum _ (ha x)
  · rw [if_neg h, if_neg h, zero_mul, zero_mul, zero_mul, add_zero, add_zero]

theorem bit_value (n : BitVec 1) (p : Prop) [Decidable p] (h : n = if p then 1#1 else 0#1) :
    (FloatOps.sitofp (F := Ideal) FTy.f32 (BitVec.setWidth 32 n) : EReal) = if p then 1 else 0 := by
  subst h
  by_cases hp : p
  · rw [if_pos hp, if_pos hp]
    show (((BitVec.setWidth 32 1#1).toInt : ℝ) : EReal) = 1
    simp
  · rw [if_neg hp, if_neg hp]
    show (((BitVec.setWidth 32 0#1).toInt : ℝ) : EReal) = 0
    simp

theorem at_least : ∀ r x : Fin 256, IntOp.cmpi .sge (BitVec.ofNat 32 r.val) (BitVec.ofNat 32 x.val) = if x ≤ r then 1#1 else 0#1 := by
  decide +kernel

theorem at_most : ∀ x r : Fin 256, IntOp.cmpi .sle (BitVec.ofNat 32 x.val) (BitVec.ofNat 32 r.val) = if x ≤ r then 1#1 else 0#1 := by
  decide +kernel

/-- The positions of a block up to `r`. -/
theorem block_prefix (f : ℕ → EReal) (r : Fin 256) : (∑ x : Fin 256, if x ≤ r then f x.val else 0) = ∑ i ∈ range (r.val + 1), f i := by
  have e : ∀ x : Fin 256, (if x ≤ r then f x.val else 0) = (fun n : ℕ => if n ≤ r.val then f n else 0) x.val := fun x => rfl
  rw [Finset.sum_congr rfl fun x _ => e x, Fin.sum_univ_eq_sum_range (fun n : ℕ => if n ≤ r.val then f n else 0) 256, ← Finset.sum_filter]
  refine Finset.sum_congr (Finset.ext fun n => ?_) fun _ _ => rfl
  have := r.isLt
  rw [mem_filter, mem_range, mem_range]
  omega

/-- Whole blocks. -/
theorem whole_blocks (f : ℕ → EReal) (q : ℕ) : (∑ k ∈ range q, ∑ x : Fin 256, f (256 * k + x.val)) = ∑ i ∈ range (256 * q), f i := by
  induction q with
  | zero => rfl
  | succ q ih =>
    rw [sum_range_succ, ih, Nat.mul_succ, Finset.sum_range_add f (256 * q) 256, Fin.sum_univ_eq_sum_range (fun n => f (256 * q + n)) 256]

/-- Whole blocks and a part of the next. -/
theorem prefix_blocks (f : ℕ → EReal) (q : ℕ) (r : Fin 256) :
    ((∑ k ∈ range q, ∑ x : Fin 256, f (256 * k + x.val)) + ∑ x : Fin 256, if x ≤ r then f (256 * q + x.val) else 0) = ∑ i ∈ range (256 * q + r.val + 1), f i := by
  rw [whole_blocks, block_prefix fun n => f (256 * q + n), add_assoc (256 * q), Finset.sum_range_add f (256 * q)]

theorem foldl_sum {N : ℕ} (g : Fin N → EReal) (v : EReal) (l : List (Fin N)) : l.foldl (fun r n => r + g n) v = v + (l.map g).sum := by
  induction l generalizing v with
  | nil => simp
  | cons a l ih => rw [List.foldl_cons, ih, List.map_cons, List.sum_cons, add_assoc]

/-- A window of `N + 1` positions that ends at `s`. -/
theorem window_sum (f : ℕ → EReal) (N s : ℕ) (hs : s ≤ N) : (∑ w ∈ range (N + 1), if N ≤ s + w then f (s + w - N) else 0) = ∑ i ∈ range (s + 1), f i := by
  obtain ⟨d, rfl⟩ := Nat.exists_eq_add_of_le hs
  have e : s + d + 1 = d + (s + 1) := by omega
  rw [e, Finset.sum_range_add, Finset.sum_eq_zero, zero_add]
  · refine Finset.sum_congr rfl fun i hi => ?_
    rw [if_pos (by omega)]
    congr 1
    omega
  · intro w hw
    rw [mem_range] at hw
    rw [if_neg (by omega)]

abbrev T : Shape := ⟨3, ![2, 8192, 16]⟩

theorem ext3 {n : Fin 3 → ℕ} (u v : (k : Fin 3) → Fin (n k)) (h0 : (u 0).val = (v 0).val) (h1 : (u 1).val = (v 1).val) (h2 : (u 2).val = (v 2).val) : u = v :=
  funext fun k => Fin.ext (match k with | 0 => h0 | 1 => h1 | 2 => h2)

theorem all3 {p : Fin 3 → Prop} (h0 : p 0) (h1 : p 1) (h2 : p 2) : ∀ k, p k :=
  fun k => match k with | 0 => h0 | 1 => h1 | 2 => h2

/-- The host's running sum along the middle axis. -/
theorem running_sum (x : T.Idx → EReal) (h : T.ReduceWindows ![1, 8192, 1] ![1, 1, 1] ![0, 8191, 0] ![0, 0, 0] T) (y : T.Idx) :
    Ideal.hostReduceWindowAdd ![1, 8192, 1] ![1, 1, 1] ![0, 8191, 0] ![0, 0, 0] h x 0 y
      = ∑ i ∈ range ((y 1 : Fin 8192).val + 1), if hi : i < 8192 then x (ix3 (y 0) ⟨i, hi⟩ (y 2)) else 0 := by
  have hy : (y 1 : Fin 8192).val < 8192 := (y 1 : Fin 8192).isLt
  have hy0 : (y 0 : Fin 2).val < 2 := (y 0 : Fin 2).isLt
  have hy2 : (y 2 : Fin 16).val < 16 := (y 2 : Fin 16).isLt
  unfold Ideal.hostReduceWindowAdd Host.reduceWindow
  dsimp only
  rw [foldl_sum, zero_add, ← Fin.sum_univ_def]
  have hN : Shape.numel ⟨3, ![1, 8192, 1]⟩ = 8192 := by decide
  let f : ℕ → EReal := fun i => if hi : i < 8192 then x (ix3 (y 0) ⟨i, hi⟩ (y 2)) else 0
  let g : ℕ → EReal := fun w => if 8191 ≤ (y 1 : Fin 8192).val + w then f ((y 1 : Fin 8192).val + w - 8191) else 0
  refine Eq.trans ?_ (window_sum f 8191 (y 1 : Fin 8192).val (by omega))
  refine Eq.trans ?_ (Fin.sum_univ_eq_sum_range g (8191 + 1))
  refine Fintype.sum_equiv (finCongr hN) _ _ fun n => ?_
  show _ = g n.val
  have hn : n.val < 8192 := lt_of_lt_of_eq n.isLt hN
  obtain ⟨a, ha⟩ : ∃ a, a = (Shape.rowMajor ⟨3, ![1, 8192, 1]⟩).symm n := ⟨_, rfl⟩
  have hr := rowMajor_val3 a 8192 1 rfl rfl
  have ha0 : (a 0 : Fin 1).val < 1 := (a 0 : Fin 1).isLt
  have ha2 : (a 2 : Fin 1).val < 1 := (a 2 : Fin 1).isLt
  have hn' : (Shape.rowMajor ⟨3, ![1, 8192, 1]⟩) a = n := by rw [ha, Equiv.apply_symm_apply]
  rw [hn'] at hr
  simp only [← ha]
  have e1 : (a 1 : Fin 8192).val = n.val := by
    have : (a 0 : Fin 1).val * 8192 + (a 1 : Fin 8192).val * 1 + (a 2 : Fin 1).val = n.val := hr.symm
    omega
  by_cases hc : 8191 ≤ (y 1 : Fin 8192).val + n.val
  · have hlt : (y 1 : Fin 8192).val + n.val - 8191 < 8192 := by omega
    have hg : g n.val = x (ix3 (y 0) ⟨(y 1 : Fin 8192).val + n.val - 8191, hlt⟩ (y 2)) := by
      show (if _ then (if hi : _ then _ else _) else _) = _
      rw [if_pos hc, dif_pos hlt]
    rw [hg, dif_pos]
    · refine congrArg x (ext3 (n := ![2, 8192, 16]) _ _ ?_ ?_ ?_)
      · show (y 0 : Fin 2).val * 1 + (a 0 : Fin 1).val - 0 = (y 0 : Fin 2).val
        omega
      · show (y 1 : Fin 8192).val * 1 + (a 1 : Fin 8192).val - 8191 = (y 1 : Fin 8192).val + n.val - 8191
        omega
      · show (y 2 : Fin 16).val * 1 + (a 2 : Fin 1).val - 0 = (y 2 : Fin 16).val
        omega
    · refine all3 ?_ ?_ ?_
      · show 0 ≤ (y 0 : Fin 2).val * 1 + (a 0 : Fin 1).val ∧ (y 0 : Fin 2).val * 1 + (a 0 : Fin 1).val - 0 < 2
        omega
      · show 8191 ≤ (y 1 : Fin 8192).val * 1 + (a 1 : Fin 8192).val ∧ (y 1 : Fin 8192).val * 1 + (a 1 : Fin 8192).val - 8191 < 8192
        omega
      · show 0 ≤ (y 2 : Fin 16).val * 1 + (a 2 : Fin 1).val ∧ (y 2 : Fin 16).val * 1 + (a 2 : Fin 1).val - 0 < 16
        omega
  · have hg : g n.val = 0 := by
      show (if _ then _ else _) = _
      rw [if_neg hc]
    rw [hg, dif_neg]
    intro hall
    have h1 : 8191 ≤ (y 1 : Fin 8192).val * 1 + (a 1 : Fin 8192).val := (hall 1).1
    omega

end Cert.Prefix

end
-- ==== Proof.FoxProj.Block.lean ====
/-
  The forgetting layers' input projection, one step: what the body leaves in each output's block, as a function of the
  blocks that it reads and of the running sums that it was handed. The queries and the keys lie in 128 lanes per head,
  of which the upper 64 hold the parts of the running sums.
-/
module

public import proofs.«01_k».proof.Proof.Gen.FoxProjIdeal.Value
public import proofs.«01_k».proof.Proof.Math.Rms
public import proofs.«01_k».proof.Proof.Math.Prefix
public import Idealize.ShloMosaic.Lib.Pipeline.ValueKit
public import Idealize.ShloMosaic.Lib.Pipeline.ReadBack
public import Idealize.ShloMosaic.Lib.Pointwise

@[expose] public section

set_option maxRecDepth 16384
set_option Elab.async false

noncomputable section

namespace Cert.FoxProjIdeal.Rows

open Cert.FoxProjIdeal Cert.FoxProjIdeal.Gen
open Idealize.ShloMosaic
open Idealize.ShloMosaic.TcCoe
open Cert.Rms Cert.Prefix

/-- The scale of the queries: the softmax's scale, and the change from `exp` to `exp2`. -/
abbrev qScale : EReal := Ideal.ofBits FTy.f32 0x3E38AA3B#32
/-- The change from `exp` to `exp2`. -/
abbrev lScale : EReal := Ideal.ofBits FTy.f32 0x3FB8AA3B#32

section blocks

variable (x : Vec Ideal S1x256x1024 .f32) (g : Vec Ideal S1x1024 .f32) (w : Vec Ideal S2560x1024 .bf16) (k : Vec Ideal S1024x256 .bf16)

/-- The normalized row `r`. -/
def hrow (r : Fin 256) : Fin 1024 → EReal := fun d => rms (fun j => x (ix3 0 r j)) d (g (ix2 0 d))
/-- Feature `n` of row `r`. -/
def feat (n : Fin 2560) (r : Fin 256) : EReal := dotp (hrow x g r) fun d => w (ix2 n d)

theorem norm_at (y : S256x1024.Idx) : k0_pay6 x g y = hrow x g (y 0) (y 1) := by
  unfold k0_pay6 hrow rms
  pointwise

theorem all_at (y : S2560x256.Idx) : k0_pay7 x g w y = feat x g w (y 0) (y 1) := by
  unfold feat dotp
  trans ∑ d : Fin 1024, w (ix2 (y 0) d) * k0_pay6 x g (ix2 (y 1) d)
  · unfold k0_pay7
    pointwise
  · refine Finset.sum_congr rfl fun d _ => ?_
    rw [norm_at, mul_comm]
    rfl

theorem keys_at (y : S256x256.Idx) : k0_pay8 x g k y = dotp (hrow x g (y 0)) fun d => k (ix2 d (y 1)) := by
  unfold dotp
  trans ∑ d : Fin 1024, k0_pay6 x g (ix2 (y 0) d) * k (ix2 d (y 1))
  · unfold k0_pay8
    pointwise
  · refine Finset.sum_congr rfl fun d _ => ?_
    rw [norm_at]
    rfl

theorem gate_at (y : S1x1024x256.Idx) : k0_pay10 x g w y
    = feat x g w ⟨1536 + (y 1 : Fin 1024).val, by have : (y 1 : Fin 1024).val < 1024 := (y 1 : Fin 1024).isLt; omega⟩ (y 2) := by
  refine Eq.trans ?_ (all_at _ _ _ (ix2 _ _))
  unfold k0_pay10
  pointwise

theorem keyF_at (y : S1x256x256.Idx) : k0_pay11 x g w y
    = feat x g w ⟨1024 + (y 1 : Fin 256).val, by have : (y 1 : Fin 256).val < 256 := (y 1 : Fin 256).isLt; omega⟩ (y 2) := by
  refine Eq.trans ?_ (all_at _ _ _ (ix2 _ _))
  unfold k0_pay11
  pointwise

theorem value_at (y : S1x256x256.Idx) : k0_pay12 (k0_pay9 x g w) y
    = feat x g w ⟨1280 + (y 1 : Fin 256).val, by have : (y 1 : Fin 256).val < 256 := (y 1 : Fin 256).isLt; omega⟩ (y 2) := by
  refine Eq.trans ?_ (all_at _ _ _ (ix2 _ _))
  unfold k0_pay12 k0_pay9
  pointwise

theorem value16_at (y : S1x256x256.Idx) : k0_pay13 (k0_pay9 x g w) y
    = feat x g w ⟨1280 + (y 1 : Fin 256).val, by have : (y 1 : Fin 256).val < 256 := (y 1 : Fin 256).isLt; omega⟩ (y 2) := by
  refine Eq.trans ?_ (all_at _ _ _ (ix2 _ _))
  unfold k0_pay13 k0_pay9
  pointwise

/-! ## The logarithms of the forget gates, by rows and by features -/

variable (wf : Vec Ideal S1024x128 .bf16) (bf : Vec Ideal S1x128 .f32) (wt : Vec Ideal S16x1024 .bf16) (bt : Vec Ideal S16x1 .f32)

/-- The rows' logarithms. -/
abbrev lrow : Vec Ideal S256x128 .f32 := k0_pay16 (k0_pay6 x g) wf bf
/-- The features' logarithms. -/
abbrev lcol : Vec Ideal S16x256 .f32 := k0_pay19 (k0_pay17 (k0_pay6 x g) wt bt) (k0_pay18 (k0_pay6 x g) wt bt)

theorem lrow_at (y : S256x128.Idx) : lrow x g wf bf y = lsig (dotp (hrow x g (y 0)) (fun d => wf (ix2 d (y 1))) + bf (ix2 0 (y 1))) := by
  have e : dotp (hrow x g (y 0)) (fun d => wf (ix2 d (y 1))) = ∑ d : Fin 1024, k0_pay6 x g (ix2 (y 0) d) * wf (ix2 d (y 1)) := by
    unfold dotp
    refine Finset.sum_congr rfl fun d _ => ?_
    rw [norm_at]
    rfl
  rw [e]
  unfold lsig lrow
  generalize k0_pay6 x g = h
  unfold k0_pay16
  pointwise
  try rfl

theorem pre_at (y : S16x256.Idx) : k0_pay17 (k0_pay6 x g) wt bt y = dotp (hrow x g (y 1)) (fun d => wt (ix2 (y 0) d)) + bt (ix2 (y 0) 0) := by
  have e : dotp (hrow x g (y 1)) (fun d => wt (ix2 (y 0) d)) = ∑ d : Fin 1024, wt (ix2 (y 0) d) * k0_pay6 x g (ix2 (y 1) d) := by
    unfold dotp
    refine Finset.sum_congr rfl fun d _ => ?_
    rw [norm_at, mul_comm]
    rfl
  rw [e]
  generalize k0_pay6 x g = h
  unfold k0_pay17
  pointwise

theorem lcol_at (y : S16x256.Idx) : lcol x g wt bt y = lsig (dotp (hrow x g (y 1)) (fun d => wt (ix2 (y 0) d)) + bt (ix2 (y 0) 0)) := by
  rw [← pre_at]
  have e : k0_pay18 (k0_pay6 x g) wt bt y = 0 - k0_pay17 (k0_pay6 x g) wt bt y := by
    unfold k0_pay18
    pointwise
  have e2 : lcol x g wt bt y = 0 - (max (k0_pay18 (k0_pay6 x g) wt bt y) 0 + Ideal.log1p (Ideal.exp (0 - FloatOps.absf (k0_pay17 (k0_pay6 x g) wt bt y)))) := by
    unfold lcol
    generalize k0_pay17 (k0_pay6 x g) wt bt = h
    generalize k0_pay18 (k0_pay6 x g) wt bt = b
    unfold k0_pay19
    pointwise
  rw [e2, e]
  rfl

/-- The features' logarithms, stored. -/
theorem logf_at (y : S1x16x256.Idx) : k0_pay20 (k0_pay17 (k0_pay6 x g) wt bt) (k0_pay18 (k0_pay6 x g) wt bt) y
    = lsig (dotp (hrow x g (y 2)) (fun d => wt (ix2 (y 1) d)) + bt (ix2 (y 1) 0)) := by
  refine Eq.trans ?_ (lcol_at x g wt bt (ix2 (y 1) (y 2)))
  unfold k0_pay20
  pointwise

end blocks

/-! ## The running sums -/

theorem rows_sum (v : Vec Ideal S256x128 .f32) (hv : ∀ y, v y ≠ ⊤) (b : Vec Ideal S1x128 .f32) (y : S256x128.Idx) :
    k0_pay22 v b y = b (ix2 0 (y 1)) + ∑ r : Fin 256, if r ≤ (y 0 : Fin 256) then v (ix2 r (y 1)) else 0 := by
  refine Eq.trans ?_ (masked_parts (b (ix2 0 (y 1))) (fun r => r ≤ (y 0 : Fin 256)) (fun r => v (ix2 r (y 1))) _
    (fun r => bit_value _ _ (at_least (y 0) r)) fun r => hv _)
  unfold k0_pay22
  pointwise

theorem rows_last (v : Vec Ideal S256x128 .f32) (hv : ∀ y, v y ≠ ⊤) (b : Vec Ideal S1x128 .f32) (y : S1x128.Idx) :
    k0_pay23 v b y = b (ix2 0 (y 1)) + ∑ r : Fin 256, v (ix2 r (y 1)) := by
  trans k0_pay22 v b (ix2 255 (y 1))
  · unfold k0_pay23
    pointwise
  · rw [rows_sum v hv]
    refine congrArg (_ + ·) (Finset.sum_congr rfl fun r _ => if_pos ?_)
    exact Fin.le_last r

theorem mask_at (y : S256x256.Idx) : (k0_pay21 (F := Ideal) : Vec Ideal S256x256 .bf16) y = if (y 0 : Fin 256) ≤ (y 1 : Fin 256) then 1 else 0 := by
  refine Eq.trans ?_ (bit_value _ _ (at_most (y 0) (y 1)))
  unfold k0_pay21
  pointwise

theorem cols_sum (v : Vec Ideal S16x256 .f32) (hv : ∀ y, v y ≠ ⊤) (b : Vec Ideal S16x1 .f32) (y : S16x256.Idx) :
    k0_pay27 v k0_pay21 b y = (b (ix2 (y 0) 0) + ∑ r : Fin 256, if r ≤ (y 1 : Fin 256) then v (ix2 (y 0) r) else 0) * lScale := by
  refine Eq.trans ?_ (congrArg (· * lScale) (masked_parts (b (ix2 (y 0) 0)) (fun r => r ≤ (y 1 : Fin 256)) (fun r => v (ix2 (y 0) r))
    (fun r => (k0_pay21 (F := Ideal) : Vec Ideal S256x256 .bf16) (ix2 r (y 1))) (fun r => mask_at _) fun r => hv _))
  generalize (k0_pay21 (F := Ideal) : Vec Ideal S256x256 .bf16) = w
  simp only [mul_comm (w _)]
  unfold k0_pay27
  pointwise

theorem cols_last (v : Vec Ideal S16x256 .f32) (b : Vec Ideal S16x1 .f32) (y : S16x1.Idx) :
    k0_pay24 v b y = b y + ∑ r : Fin 256, v (ix2 (y 0) r) := by
  unfold k0_pay24
  pointwise

/-- The three parts of a value. -/
def part (v : EReal) : Fin 3 → EReal := ![v, v - v, v - v - (v - v)]

/-! ## The spare lanes -/

theorem spare_k (v : Vec Ideal S256x128 .f32) (p : Vec Ideal S384x512 .bf16) (q : Vec Ideal S1x512 .f32) (y : S256x512.Idx) :
    k0_pay25 v p q y = (∑ n : Fin 384, part (v (ix2 (y 0) ⟨n.val % 128, by omega⟩) * lScale) ⟨n.val / 128, by omega⟩ * p (ix2 n (y 1))) + q (ix2 0 (y 1)) := by
  unfold k0_pay25
  pointwise
  refine congrArg (· + _) (Finset.sum_congr rfl fun n _ => congrArg (· * _) ?_)
  by_cases h1 : n.val < 128
  · have e : (⟨n.val / 128, by omega⟩ : Fin 3) = 0 := Fin.ext (show n.val / 128 = 0 by omega)
    have f : (⟨n.val % 128, by omega⟩ : Fin 128) = ⟨n.val, h1⟩ := Fin.ext (show n.val % 128 = n.val by omega)
    rw [dif_pos h1, e, f]
    rfl
  · rw [dif_neg h1]
    by_cases h2 : n.val - 128 < 128
    · have e : (⟨n.val / 128, by omega⟩ : Fin 3) = 1 := Fin.ext (show n.val / 128 = 1 by omega)
      have f : (⟨n.val % 128, by omega⟩ : Fin 128) = ⟨n.val - 128, h2⟩ := Fin.ext (show n.val % 128 = n.val - 128 by omega)
      rw [dif_pos h2, e, f]
      rfl
    · have e : (⟨n.val / 128, by omega⟩ : Fin 3) = 2 := Fin.ext (show n.val / 128 = 2 by omega)
      have f : (⟨n.val % 128, by omega⟩ : Fin 128) = ⟨n.val - 128 - 128, by omega⟩ := Fin.ext (show n.val % 128 = n.val - 128 - 128 by omega)
      rw [dif_neg h2, e, f]
      rfl

/-- What the spare rows select from. -/
def pick (v : S16x256.Idx → EReal) (r : Fin 256) (n : Fin 128) : EReal :=
  if n.val < 48 then part (v (ix2 ⟨n.val % 16, by omega⟩ r)) ⟨n.val / 16 % 3, by omega⟩ else 0

theorem pick_0 (v : S16x256.Idx → EReal) (r : Fin 256) (n : Fin 128) (h : n.val < 16) : pick v r n = v (ix2 ⟨n.val, h⟩ r) := by
  have e : (⟨n.val / 16 % 3, by omega⟩ : Fin 3) = 0 := Fin.ext (show n.val / 16 % 3 = 0 by omega)
  have f : (⟨n.val % 16, by omega⟩ : Fin 16) = ⟨n.val, h⟩ := Fin.ext (show n.val % 16 = n.val by omega)
  unfold pick
  rw [if_pos (by omega), e, f]
  rfl

theorem pick_1 (v : S16x256.Idx → EReal) (r : Fin 256) (n : Fin 128) (h1 : ¬ n.val < 16) (h : n.val - 16 < 16) :
    pick v r n = v (ix2 ⟨n.val - 16, h⟩ r) - v (ix2 ⟨n.val - 16, h⟩ r) := by
  have e : (⟨n.val / 16 % 3, by omega⟩ : Fin 3) = 1 := Fin.ext (show n.val / 16 % 3 = 1 by omega)
  have f : (⟨n.val % 16, by omega⟩ : Fin 16) = ⟨n.val - 16, h⟩ := Fin.ext (show n.val % 16 = n.val - 16 by omega)
  unfold pick
  rw [if_pos (by omega), e, f]
  rfl

theorem pick_2 (v : S16x256.Idx → EReal) (r : Fin 256) (n : Fin 128) (h1 : ¬ n.val - 16 < 16) (h : n.val - 16 - 16 < 16) :
    pick v r n = v (ix2 ⟨n.val - 16 - 16, h⟩ r) - v (ix2 ⟨n.val - 16 - 16, h⟩ r) - (v (ix2 ⟨n.val - 16 - 16, h⟩ r) - v (ix2 ⟨n.val - 16 - 16, h⟩ r)) := by
  have e : (⟨n.val / 16 % 3, by omega⟩ : Fin 3) = 2 := Fin.ext (show n.val / 16 % 3 = 2 by omega)
  have f : (⟨n.val % 16, by omega⟩ : Fin 16) = ⟨n.val - 16 - 16, h⟩ := Fin.ext (show n.val % 16 = n.val - 16 - 16 by omega)
  unfold pick
  rw [if_pos (by omega), e, f]
  rfl

theorem pick_3 (v : S16x256.Idx → EReal) (r : Fin 256) (n : Fin 128) (h : ¬ n.val - 16 - 16 < 16) : pick v r n = 0 := by
  unfold pick
  rw [if_neg (by omega)]

theorem spare_q (v : Vec Ideal S16x256 .f32) (hi : Vec Ideal S16x256 .bf16) (ex : Vec Ideal S16x256 .f32) (hh : ∀ y, hi y = v y) (he : ∀ y, ex y = v y)
    (p : Vec Ideal S1024x128 .bf16) (q : Vec Ideal S1024x1 .f32) (y : S1024x256.Idx) :
    k0_pay30 k0_pay26 v hi ex p q y = (∑ n : Fin 128, p (ix2 (y 0) n) * pick v (y 1) n) + q (ix2 (y 0) 0) := by
  unfold k0_pay30 k0_pay26
  pointwise
  refine congrArg (· + _) (Finset.sum_congr rfl fun n _ => congrArg (_ * ·) ?_)
  by_cases h1 : n.val < 16
  · exact (dif_pos h1).trans ((hh _).trans (pick_0 v (y 1) n h1).symm)
  · refine (dif_neg h1).trans ?_
    by_cases h2 : n.val - 16 < 16
    · refine (dif_pos h2).trans (Eq.trans ?_ (pick_1 v (y 1) n h1 h2).symm)
      exact congrArg (v (ix2 ⟨n.val - 16, h2⟩ (y 1)) - ·) (he _)
    · refine (dif_neg h2).trans ?_
      by_cases h3 : n.val - 16 - 16 < 16
      · refine (dif_pos h3).trans (Eq.trans ?_ (pick_2 v (y 1) n h2 h3).symm)
        exact congrArg (fun t => v (ix2 ⟨n.val - 16 - 16, h3⟩ (y 1)) - t - (v (ix2 ⟨n.val - 16 - 16, h3⟩ (y 1)) - t)) (he _)
      · exact (dif_neg h3).trans (pick_3 v (y 1) n h3).symm

/-- The queries' block, from the features `a` and the spare rows `s`. -/
def qBlock (a : S2560x256.Idx → EReal) (s : S1024x256.Idx → EReal) : Vec Ideal S1x2048x256 .bf16 := fun y =>
  if (y 1 : Fin 2048).val % 128 < 64 then
    a (ix2 ⟨64 * ((y 1 : Fin 2048).val / 128) + (y 1 : Fin 2048).val % 128 % 64, by have : (y 1 : Fin 2048).val < 2048 := (y 1 : Fin 2048).isLt; omega⟩ (y 2)) * qScale
  else s (ix2 ⟨64 * ((y 1 : Fin 2048).val / 128) + (y 1 : Fin 2048).val % 128 % 64, by have : (y 1 : Fin 2048).val < 2048 := (y 1 : Fin 2048).isLt; omega⟩ (y 2))

theorem inbQ (p : ℕ) (hl : p + 64 ≤ 2048) : ∀ a, (![0, p, 0] : Fin 3 → ℕ) a + S1x64x256.size a ≤ S1x2048x256.size a := by
  intro a; fin_cases a <;> simp [S1x64x256, S1x2048x256] <;> omega

theorem q_low (a : S2560x256.Idx → EReal) (s : S1024x256.Idx → EReal) (p : ℕ) (hp : p % 128 = 0) (hl : p + 64 ≤ 2048) (u : S1x64x256.Idx → EReal)
    (hu : ∀ z : S1x64x256.Idx, u z = a (ix2 ⟨p / 2 + (z 1 : Fin 64).val, by have : (z 1 : Fin 64).val < 64 := (z 1 : Fin 64).isLt; omega⟩ (z 2)) * qScale)
    (z : S1x64x256.Idx) : u z = qBlock a s ((Rect.unit (s := S1x2048x256) ![0, p, 0] S1x64x256.size (inbQ p hl)).emb z) := by
  have hz : (z 1 : Fin 64).val < 64 := (z 1 : Fin 64).isLt
  have e1 : ((Rect.unit (s := S1x2048x256) ![0, p, 0] S1x64x256.size (inbQ p hl)).emb z 1 : Fin 2048).val = p + (z 1 : Fin 64).val :=
    Rect.idx_unit_val (s := S1x2048x256) ![0, p, 0] S1x64x256.size (inbQ p hl) z 1
  have e2 : (Rect.unit (s := S1x2048x256) ![0, p, 0] S1x64x256.size (inbQ p hl)).emb z 2 = z 2 :=
    Fin.ext ((Rect.idx_unit_val (s := S1x2048x256) ![0, p, 0] S1x64x256.size (inbQ p hl) z 2).trans (Nat.zero_add _))
  unfold qBlock
  rw [if_pos (by rw [e1]; omega), hu, e2]
  congr 3
  apply Fin.ext
  show p / 2 + (z 1 : Fin 64).val = 64 * (_ / 128) + _ % 128 % 64
  rw [e1]; omega

theorem q_high (a : S2560x256.Idx → EReal) (s : S1024x256.Idx → EReal) (p : ℕ) (hp : p % 128 = 64) (hl : p + 64 ≤ 2048) (u : S1x64x256.Idx → EReal)
    (hu : ∀ z : S1x64x256.Idx, u z = s (ix2 ⟨p / 2 - 32 + (z 1 : Fin 64).val, by have : (z 1 : Fin 64).val < 64 := (z 1 : Fin 64).isLt; omega⟩ (z 2)))
    (z : S1x64x256.Idx) : u z = qBlock a s ((Rect.unit (s := S1x2048x256) ![0, p, 0] S1x64x256.size (inbQ p hl)).emb z) := by
  have hz : (z 1 : Fin 64).val < 64 := (z 1 : Fin 64).isLt
  have e1 : ((Rect.unit (s := S1x2048x256) ![0, p, 0] S1x64x256.size (inbQ p hl)).emb z 1 : Fin 2048).val = p + (z 1 : Fin 64).val :=
    Rect.idx_unit_val (s := S1x2048x256) ![0, p, 0] S1x64x256.size (inbQ p hl) z 1
  have e2 : (Rect.unit (s := S1x2048x256) ![0, p, 0] S1x64x256.size (inbQ p hl)).emb z 2 = z 2 :=
    Fin.ext ((Rect.idx_unit_val (s := S1x2048x256) ![0, p, 0] S1x64x256.size (inbQ p hl) z 2).trans (Nat.zero_add _))
  unfold qBlock
  rw [if_neg (by rw [e1]; omega), hu, e2]
  refine congrArg s (congrArg (fun i => ix2 i (z 2)) (Fin.ext ?_))
  show p / 2 - 32 + (z 1 : Fin 64).val = 64 * (_ / 128) + _ % 128 % 64
  rw [e1]; omega

/-- The queries' stores, the last one first. -/
def qPieces (a : Vec Ideal S2560x256 .f32) (z : Vec Ideal S80x256 .bf16) (v : Vec Ideal S16x256 .f32) (u : Vec Ideal S16x256 .bf16) (e : Vec Ideal S16x256 .f32)
    (p : Vec Ideal S1024x128 .bf16) (q : Vec Ideal S1024x1 .f32) : List (View.Piece (Elt Ideal) S1x2048x256 .bf16) :=
  [⟨Rect.unit ![0, 1984, 0] ![1, 64, 256] inb_S1x2048x256_S1x64x256_0_1984_0, k0_pay65 (F := Ideal) (k0_pay30 z v u e p q)⟩,
        ⟨Rect.unit ![0, 1920, 0] ![1, 64, 256] inb_S1x2048x256_S1x64x256_0_1920_0, k0_pay64 (F := Ideal) a⟩,
        ⟨Rect.unit ![0, 1856, 0] ![1, 64, 256] inb_S1x2048x256_S1x64x256_0_1856_0, k0_pay63 (F := Ideal) (k0_pay30 z v u e p q)⟩,
        ⟨Rect.unit ![0, 1792, 0] ![1, 64, 256] inb_S1x2048x256_S1x64x256_0_1792_0, k0_pay62 (F := Ideal) a⟩,
        ⟨Rect.unit ![0, 1728, 0] ![1, 64, 256] inb_S1x2048x256_S1x64x256_0_1728_0, k0_pay61 (F := Ideal) (k0_pay30 z v u e p q)⟩,
        ⟨Rect.unit ![0, 1664, 0] ![1, 64, 256] inb_S1x2048x256_S1x64x256_0_1664_0, k0_pay60 (F := Ideal) (k0_pay59 a)⟩,
        ⟨Rect.unit ![0, 1600, 0] ![1, 64, 256] inb_S1x2048x256_S1x64x256_0_1600_0, k0_pay58 (F := Ideal) (k0_pay30 z v u e p q)⟩,
        ⟨Rect.unit ![0, 1536, 0] ![1, 64, 256] inb_S1x2048x256_S1x64x256_0_1536_0, k0_pay57 (F := Ideal) a⟩,
        ⟨Rect.unit ![0, 1472, 0] ![1, 64, 256] inb_S1x2048x256_S1x64x256_0_1472_0, k0_pay56 (F := Ideal) (k0_pay30 z v u e p q)⟩,
        ⟨Rect.unit ![0, 1408, 0] ![1, 64, 256] inb_S1x2048x256_S1x64x256_0_1408_0, k0_pay55 (F := Ideal) a⟩,
        ⟨Rect.unit ![0, 1344, 0] ![1, 64, 256] inb_S1x2048x256_S1x64x256_0_1344_0, k0_pay54 (F := Ideal) (k0_pay30 z v u e p q)⟩,
        ⟨Rect.unit ![0, 1280, 0] ![1, 64, 256] inb_S1x2048x256_S1x64x256_0_1280_0, k0_pay53 (F := Ideal) a⟩,
        ⟨Rect.unit ![0, 1216, 0] ![1, 64, 256] inb_S1x2048x256_S1x64x256_0_1216_0, k0_pay52 (F := Ideal) (k0_pay30 z v u e p q)⟩,
        ⟨Rect.unit ![0, 1152, 0] ![1, 64, 256] inb_S1x2048x256_S1x64x256_0_1152_0, k0_pay51 (F := Ideal) a⟩,
        ⟨Rect.unit ![0, 1088, 0] ![1, 64, 256] inb_S1x2048x256_S1x64x256_0_1088_0, k0_pay50 (F := Ideal) (k0_pay30 z v u e p q)⟩,
        ⟨Rect.unit ![0, 1024, 0] ![1, 64, 256] inb_S1x2048x256_S1x64x256_0_1024_0, k0_pay49 (F := Ideal) a⟩,
        ⟨Rect.unit ![0, 960, 0] ![1, 64, 256] inb_S1x2048x256_S1x64x256_0_960_0, k0_pay48 (F := Ideal) (k0_pay47 (k0_pay30 z v u e p q))⟩,
        ⟨Rect.unit ![0, 896, 0] ![1, 64, 256] inb_S1x2048x256_S1x64x256_0_896_0, k0_pay46 (F := Ideal) a⟩,
        ⟨Rect.unit ![0, 832, 0] ![1, 64, 256] inb_S1x2048x256_S1x64x256_0_832_0, k0_pay45 (F := Ideal) (k0_pay30 z v u e p q)⟩,
        ⟨Rect.unit ![0, 768, 0] ![1, 64, 256] inb_S1x2048x256_S1x64x256_0_768_0, k0_pay44 (F := Ideal) a⟩,
        ⟨Rect.unit ![0, 704, 0] ![1, 64, 256] inb_S1x2048x256_S1x64x256_0_704_0, k0_pay43 (F := Ideal) (k0_pay30 z v u e p q)⟩,
        ⟨Rect.unit ![0, 640, 0] ![1, 64, 256] inb_S1x2048x256_S1x64x256_0_640_0, k0_pay42 (F := Ideal) a⟩,
        ⟨Rect.unit ![0, 576, 0] ![1, 64, 256] inb_S1x2048x256_S1x64x256_0_576_0, k0_pay41 (F := Ideal) (k0_pay40 (k0_pay30 z v u e p q))⟩,
        ⟨Rect.unit ![0, 512, 0] ![1, 64, 256] inb_S1x2048x256_S1x64x256_0_512_0, k0_pay39 (F := Ideal) a⟩,
        ⟨Rect.unit ![0, 448, 0] ![1, 64, 256] inb_S1x2048x256_S1x64x256_0_448_0, k0_pay38 (F := Ideal) (k0_pay30 z v u e p q)⟩,
        ⟨Rect.unit ![0, 384, 0] ![1, 64, 256] inb_S1x2048x256_S1x64x256_0_384_0, k0_pay37 (F := Ideal) a⟩,
        ⟨Rect.unit ![0, 320, 0] ![1, 64, 256] inb_S1x2048x256_S1x64x256_0_320_0, k0_pay36 (F := Ideal) (k0_pay30 z v u e p q)⟩,
        ⟨Rect.unit ![0, 256, 0] ![1, 64, 256] inb_S1x2048x256_S1x64x256_0_256_0, k0_pay35 (F := Ideal) a⟩,
        ⟨Rect.unit ![0, 192, 0] ![1, 64, 256] inb_S1x2048x256_S1x64x256_0_192_0, k0_pay34 (F := Ideal) z v u e p q⟩,
        ⟨Rect.unit ![0, 128, 0] ![1, 64, 256] inb_S1x2048x256_S1x64x256_0_128_0, k0_pay33 (F := Ideal) a⟩,
        ⟨Rect.unit ![0, 64, 0] ![1, 64, 256] inb_S1x2048x256_S1x64x256_0_64_0, k0_pay32 (F := Ideal) z v u e p q⟩,
        ⟨Rect.unit ![0, 0, 0] ![1, 64, 256] inb_S1x2048x256_S1x64x256_0_0_0, k0_pay31 (F := Ideal) a⟩]

theorem qCover (a : Vec Ideal S2560x256 .f32) (z : Vec Ideal S80x256 .bf16) (v : Vec Ideal S16x256 .f32) (u : Vec Ideal S16x256 .bf16) (e : Vec Ideal S16x256 .f32)
    (p : Vec Ideal S1024x128 .bf16) (q : Vec Ideal S1024x1 .f32) (y : S1x2048x256.Idx) : ∃ pc ∈ qPieces a z v u e p q, y ∈ pc.1.set :=
  View.cover_of_tiledL (qPieces a z v u e p q) S1x64x256.size (by sl_kernel_rfl) y

theorem q_pieces (a : Vec Ideal S2560x256 .f32) (z : Vec Ideal S80x256 .bf16) (v : Vec Ideal S16x256 .f32) (u : Vec Ideal S16x256 .bf16) (e : Vec Ideal S16x256 .f32)
    (p : Vec Ideal S1024x128 .bf16) (q : Vec Ideal S1024x1 .f32) (s : Vec Ideal S1024x256 .f32) (hs : k0_pay30 (F := Ideal) z v u e p q = s) :
    ∀ pc ∈ qPieces a z v u e p q, ∀ i : pc.1.shape.Idx, pc.2 i = qBlock a s (pc.1.emb i) := by
  delta qPieces
  unfold k0_pay32 k0_pay34
  rw [hs]
  repeat' refine List.forall_mem_cons.2 ⟨?_, ?_⟩
  · refine q_high _ _ _ (by decide) (by decide) _ fun z => ?_
    unfold k0_pay65
    pointwise
  · refine q_low _ _ _ (by decide) (by decide) _ fun z => ?_
    unfold k0_pay64
    pointwise
  · refine q_high _ _ _ (by decide) (by decide) _ fun z => ?_
    unfold k0_pay63
    pointwise
  · refine q_low _ _ _ (by decide) (by decide) _ fun z => ?_
    unfold k0_pay62
    pointwise
  · refine q_high _ _ _ (by decide) (by decide) _ fun z => ?_
    unfold k0_pay61
    pointwise
  · refine q_low _ _ _ (by decide) (by decide) _ fun z => ?_
    unfold k0_pay60 k0_pay59
    pointwise
  · refine q_high _ _ _ (by decide) (by decide) _ fun z => ?_
    unfold k0_pay58
    pointwise
  · refine q_low _ _ _ (by decide) (by decide) _ fun z => ?_
    unfold k0_pay57
    pointwise
  · refine q_high _ _ _ (by decide) (by decide) _ fun z => ?_
    unfold k0_pay56
    pointwise
  · refine q_low _ _ _ (by decide) (by decide) _ fun z => ?_
    unfold k0_pay55
    pointwise
  · refine q_high _ _ _ (by decide) (by decide) _ fun z => ?_
    unfold k0_pay54
    pointwise
  · refine q_low _ _ _ (by decide) (by decide) _ fun z => ?_
    unfold k0_pay53
    pointwise
  · refine q_high _ _ _ (by decide) (by decide) _ fun z => ?_
    unfold k0_pay52
    pointwise
  · refine q_low _ _ _ (by decide) (by decide) _ fun z => ?_
    unfold k0_pay51
    pointwise
  · refine q_high _ _ _ (by decide) (by decide) _ fun z => ?_
    unfold k0_pay50
    pointwise
  · refine q_low _ _ _ (by decide) (by decide) _ fun z => ?_
    unfold k0_pay49
    pointwise
  · refine q_high _ _ _ (by decide) (by decide) _ fun z => ?_
    unfold k0_pay48 k0_pay47
    pointwise
  · refine q_low _ _ _ (by decide) (by decide) _ fun z => ?_
    unfold k0_pay46
    pointwise
  · refine q_high _ _ _ (by decide) (by decide) _ fun z => ?_
    unfold k0_pay45
    pointwise
  · refine q_low _ _ _ (by decide) (by decide) _ fun z => ?_
    unfold k0_pay44
    pointwise
  · refine q_high _ _ _ (by decide) (by decide) _ fun z => ?_
    unfold k0_pay43
    pointwise
  · refine q_low _ _ _ (by decide) (by decide) _ fun z => ?_
    unfold k0_pay42
    pointwise
  · refine q_high _ _ _ (by decide) (by decide) _ fun z => ?_
    unfold k0_pay41 k0_pay40
    pointwise
  · refine q_low _ _ _ (by decide) (by decide) _ fun z => ?_
    unfold k0_pay39
    pointwise
  · refine q_high _ _ _ (by decide) (by decide) _ fun z => ?_
    unfold k0_pay38
    pointwise
  · refine q_low _ _ _ (by decide) (by decide) _ fun z => ?_
    unfold k0_pay37
    pointwise
  · refine q_high _ _ _ (by decide) (by decide) _ fun z => ?_
    unfold k0_pay36
    pointwise
  · refine q_low _ _ _ (by decide) (by decide) _ fun z => ?_
    unfold k0_pay35
    pointwise
  · refine q_high _ _ _ (by decide) (by decide) _ fun z => ?_
    pointwise
  · refine q_low _ _ _ (by decide) (by decide) _ fun z => ?_
    unfold k0_pay33
    pointwise
  · refine q_high _ _ _ (by decide) (by decide) _ fun z => ?_
    pointwise
  · refine q_low _ _ _ (by decide) (by decide) _ fun z => ?_
    unfold k0_pay31
    pointwise
  · exact fun pc h => absurd h List.not_mem_nil

/-- The queries' stores leave `qBlock`. -/
theorem queries (a : Vec Ideal S2560x256 .f32) (z : Vec Ideal S80x256 .bf16) (v : Vec Ideal S16x256 .f32) (u : Vec Ideal S16x256 .bf16) (e : Vec Ideal S16x256 .f32)
    (p : Vec Ideal S1024x128 .bf16) (q : Vec Ideal S1024x1 .f32) (s : Vec Ideal S1024x256 .f32) (hs : k0_pay30 (F := Ideal) z v u e p q = s) (y : S1x2048x256.Idx) :
    View.canon (qPieces a z v u e p q) y = qBlock a s y := by
  exact View.canon_apply_of_pieces (qBlock a s) _ (q_pieces a z v u e p q s hs) y (qCover a z v u e p q y)

/-! ## The keys -/

theorem lanes : ∀ n : Fin 128, IntOp.cmpi .slt (BitVec.ofNat 32 n.val) 64#32 = if n.val < 64 then 1#1 else 0#1 := by
  decide +kernel

/-- The mask is set on the lanes below 64. -/
theorem low_at (z : S256x128.Idx) : k0_pay66 z = if (z 1 : Fin 128).val < 64 then 1#1 else 0#1 := by
  refine Eq.trans ?_ (lanes (z 1))
  unfold k0_pay66
  pointwise

/-- The keys' block, from the keys' rows `a` and the spare lanes `s`. -/
def kBlock (a : S256x256.Idx → EReal) (s : S256x512.Idx → EReal) : Vec Ideal S1x256x512 .bf16 := fun y =>
  if (y 2 : Fin 512).val % 128 < 64 then
    a (ix2 (y 1) ⟨64 * ((y 2 : Fin 512).val / 128) + (y 2 : Fin 512).val % 128 % 64, by have : (y 2 : Fin 512).val < 512 := (y 2 : Fin 512).isLt; omega⟩)
  else s (ix2 (y 1) (y 2))

theorem inbK (p : ℕ) (hl : p + 128 ≤ 512) : ∀ a, (![0, 0, p] : Fin 3 → ℕ) a + S1x256x128.size a ≤ S1x256x512.size a := by
  intro a; fin_cases a <;> simp [S1x256x128, S1x256x512] <;> omega

/-- A store of one head's lanes. -/
theorem k_head (a : S256x256.Idx → EReal) (s : S256x512.Idx → EReal) (p : ℕ) (hp : p % 128 = 0) (hl : p + 128 ≤ 512) (u : S1x256x128.Idx → EReal)
    (e : Fin 128 → Fin 256) (he : ∀ l : Fin 128, l.val < 64 → (e l).val = p / 2 + l.val)
    (hu : ∀ (z : S1x256x128.Idx), u z = Scalar.select (k0_pay66 (ix2 (z 1) (z 2))) (a (ix2 (z 1) (e (z 2))))
      (s (ix2 (z 1) ⟨p + (z 2 : Fin 128).val, by have : (z 2 : Fin 128).val < 128 := (z 2 : Fin 128).isLt; omega⟩)))
    (z : S1x256x128.Idx) : u z = kBlock a s ((Rect.unit (s := S1x256x512) ![0, 0, p] S1x256x128.size (inbK p hl)).emb z) := by
  have hz : (z 2 : Fin 128).val < 128 := (z 2 : Fin 128).isLt
  have e2 : ((Rect.unit (s := S1x256x512) ![0, 0, p] S1x256x128.size (inbK p hl)).emb z 2 : Fin 512).val = p + (z 2 : Fin 128).val :=
    Rect.idx_unit_val (s := S1x256x512) ![0, 0, p] S1x256x128.size (inbK p hl) z 2
  have e1 : (Rect.unit (s := S1x256x512) ![0, 0, p] S1x256x128.size (inbK p hl)).emb z 1 = z 1 :=
    Fin.ext ((Rect.idx_unit_val (s := S1x256x512) ![0, 0, p] S1x256x128.size (inbK p hl) z 1).trans (Nat.zero_add _))
  unfold kBlock
  rw [hu, e1]
  by_cases h : (z 2 : Fin 128).val < 64
  · rw [show k0_pay66 (ix2 (z 1) (z 2)) = 1#1 from (low_at _).trans (if_pos h), if_pos (by rw [e2]; omega)]
    refine congrArg a (congrArg (ix2 (z 1)) (Fin.ext ?_))
    refine (he _ h).trans ?_
    show p / 2 + (z 2 : Fin 128).val = 64 * (_ / 128) + _ % 128 % 64
    rw [e2]; omega
  · rw [show k0_pay66 (ix2 (z 1) (z 2)) = 0#1 from (low_at _).trans (if_neg h), if_neg (by rw [e2]; omega)]
    refine congrArg s (congrArg (ix2 (z 1)) (Fin.ext e2.symm))

/-- The keys' stores, the last one first. -/
def kPieces (a : Vec Ideal S256x256 .f32) (s : Vec Ideal S256x512 .f32) : List (View.Piece (Elt Ideal) S1x256x512 .bf16) :=
  [⟨Rect.unit ![0, 0, 384] ![1, 256, 128] inb_S1x256x512_S1x256x128_0_0_384, k0_pay5 (F := Ideal) a s k0_pay66⟩,
        ⟨Rect.unit ![0, 0, 256] ![1, 256, 128] inb_S1x256x512_S1x256x128_0_0_256, k0_pay4 (F := Ideal) a s k0_pay66⟩,
        ⟨Rect.unit ![0, 0, 128] ![1, 256, 128] inb_S1x256x512_S1x256x128_0_0_128, k0_pay2 (F := Ideal) s k0_pay66 (k0_pay67 a) 64#32⟩,
        ⟨Rect.unit ![0, 0, 0] ![1, 256, 128] inb_S1x256x512_S1x256x128_0_0_0, k0_pay1 (F := Ideal) s k0_pay66 (k0_pay67 a)⟩]

theorem kCover (a : Vec Ideal S256x256 .f32) (s : Vec Ideal S256x512 .f32) (y : S1x256x512.Idx) : ∃ pc ∈ kPieces a s, y ∈ pc.1.set :=
  View.cover_of_tiledL (kPieces a s) S1x256x128.size (by sl_kernel_rfl) y

/-- The keys' stores leave `kBlock`. -/
theorem keys (a : Vec Ideal S256x256 .f32) (s : Vec Ideal S256x512 .f32) (y : S1x256x512.Idx) : View.canon (kPieces a s) y = kBlock a s y := by
  refine View.canon_apply_of_pieces (kBlock a s) _ ?_ y (kCover a s y)
  unfold kPieces
  repeat' refine List.forall_mem_cons.2 ⟨?_, ?_⟩
  · refine k_head _ _ _ (by decide) (by decide) _ (fun l => ⟨128 + (l.val + 128 - 64) % 128, by omega⟩) (fun l _ => by dsimp only <;> omega) fun z => ?_
    unfold k0_pay5 k0_pay3
    pointwise
  · refine k_head _ _ _ (by decide) (by decide) _ (fun l => ⟨128 + l.val, by omega⟩) (fun l _ => by dsimp only <;> omega) fun z => ?_
    unfold k0_pay4 k0_pay3
    pointwise
  · refine k_head _ _ _ (by decide) (by decide) _ (fun l => ⟨(l.val + 128 - 64) % 128, by omega⟩) (fun l _ => by dsimp only <;> omega) fun z => ?_
    unfold k0_pay2 k0_pay67
    pointwise
  · refine k_head _ _ _ (by decide) (by decide) _ (fun l => ⟨l.val, by omega⟩) (fun l _ => by dsimp only <;> omega) fun z => ?_
    unfold k0_pay1 k0_pay67
    pointwise
  · exact fun pc h => absurd h List.not_mem_nil

end Cert.FoxProjIdeal.Rows

end
-- ==== Proof.FoxProj.Value.lean ====
/-
  The forgetting layers' input projection: the features of its positions, and the arrays that hold them as they are.
-/
module

public import proofs.«01_k».proof.Proof.FoxProj.Block
public import Idealize.ShloMosaic.Lib.Pipeline.ReadBack

@[expose] public section

set_option maxRecDepth 16384
set_option Elab.async false

noncomputable section

namespace Cert.FoxProjIdeal.Rows

open Cert.FoxProjIdeal Cert.FoxProjIdeal.Gen
open Idealize.ShloMosaic
open Idealize.ShloMosaic.TcCoe
open Cert.Rms Cert.Prefix

variable (X : Shape.Idx S2x8192x1024 → EReal) (g : Shape.Idx S1024 → EReal) (W : Shape.Idx S1024x2576 → EReal) (B : Shape.Idx S16 → EReal)

/-- Feature `n` of position `s` in batch `b`. -/
def proj (b : Fin 2) (s : Fin 8192) (n : Fin 2576) : EReal :=
  dotp (fun d => rms (fun j => X (ix3 b s j)) d (g (ix1 d))) fun d => W (ix2 d n)

/-- The logarithm of head `h`'s forget gate at position `s` in batch `b`. -/
def logF (b : Fin 2) (s : Fin 8192) (h : Fin 16) : EReal := lsig (proj X g W b s ⟨2560 + h.val, by omega⟩ + B (ix1 h))

/-- The gate. -/
def gArr (y : Shape.Idx S2x1024x8192) : EReal :=
  proj X g W (y 0) (y 2) ⟨1536 + (y 1 : Fin 1024).val, by have : (y 1 : Fin 1024).val < 1024 := (y 1 : Fin 1024).isLt; omega⟩
/-- The keys, one feature per row. -/
def kArr (y : Shape.Idx S2x256x8192) : EReal :=
  proj X g W (y 0) (y 2) ⟨1024 + (y 1 : Fin 256).val, by have : (y 1 : Fin 256).val < 256 := (y 1 : Fin 256).isLt; omega⟩
/-- The values, one feature per row. -/
def vArr (y : Shape.Idx S2x256x8192) : EReal :=
  proj X g W (y 0) (y 2) ⟨1280 + (y 1 : Fin 256).val, by have : (y 1 : Fin 256).val < 256 := (y 1 : Fin 256).isLt; omega⟩
/-- The logarithms of the forget gates, one head per row. -/
def logArr (y : Shape.Idx S2x16x8192) : EReal := logF X g W B (y 0) (y 2) (y 1)

variable (m : (ℓ : Loc nD τ sig) → Buf (Elt Ideal) ℓ) (c : Dev nD)

/-- The scale that the region reads is the argument, as one row. -/
theorem scale (y : S1x1024.Idx) : V m c main_v0 y = m ((c : Thread nD τ).loc main_arg1) (ix1 (y 1)) := by
  have e : V m c main_v0 = (shapeCast (α := Ideal .f32) S1x1024 (m ((c : Thread nD τ).loc main_arg1)) shapeCasts_S1024_S1x1024 : FVec Ideal S1x1024 .f32) := by
    unfold_abbrev_sides
    simp only [List.flatten_cons, List.flatten_nil, List.cons_append, List.nil_append]
    after_results
    rfl
  rw [e]
  pointwise

/-- The weights that the region reads are the argument's, one feature per row. -/
theorem weights (y : S2560x1024.Idx) : V m c main_v3 y = m ((c : Thread nD τ).loc main_arg2)
    (ix2 (y 1) ⟨(y 0 : Fin 2560).val, by have : (y 0 : Fin 2560).val < 2560 := (y 0 : Fin 2560).isLt; omega⟩) := by
  have e : V m c main_v3 = (truncf (F := Ideal) (φ := .f32) .bf16 (transpose S2560x1024 [1, 0] (extractStridedSlice S1024x2560 ![0, 0]
      (m ((c : Thread nD τ).loc main_arg2)) slices_S1024x2576_S1024x2560_0_0) transposes_S1024x2560_S2560x1024_1_0) bitsLt_bf16_f32
      : FVec Ideal S2560x1024 .bf16) := by
    unfold_abbrev_sides
    simp only [List.flatten_cons, List.flatten_nil, List.cons_append, List.nil_append]
    after_results
  rw [e]
  pointwise

/-- The keys' weights. -/
theorem kWeights (y : S1024x256.Idx) : V m c main_v5 y = m ((c : Thread nD τ).loc main_arg2)
    (ix2 (y 0) ⟨1024 + (y 1 : Fin 256).val, by have : (y 1 : Fin 256).val < 256 := (y 1 : Fin 256).isLt; omega⟩) := by
  have e : V m c main_v5 = (truncf (F := Ideal) (φ := .f32) .bf16 (extractStridedSlice S1024x256 ![0, 1024] (m ((c : Thread nD τ).loc main_arg2))
      slices_S1024x2576_S1024x256_0_1024) bitsLt_bf16_f32 : FVec Ideal S1024x256 .bf16) := by
    unfold_abbrev_sides
    simp only [List.flatten_cons, List.flatten_nil, List.cons_append, List.nil_append]
    after_results
  rw [e]
  pointwise

/-- The forget gates' weights, one head per row. -/
theorem fWeights (y : S16x1024.Idx) : V m c main_v10 y = m ((c : Thread nD τ).loc main_arg2)
    (ix2 (y 1) ⟨2560 + (y 0 : Fin 16).val, by have : (y 0 : Fin 16).val < 16 := (y 0 : Fin 16).isLt; omega⟩) := by
  have e : V m c main_v10 = (truncf (F := Ideal) (φ := .f32) .bf16 (transpose S16x1024 [1, 0] (extractStridedSlice S1024x16 ![0, 2560]
      (m ((c : Thread nD τ).loc main_arg2)) slices_S1024x2576_S1024x16_0_2560) transposes_S1024x16_S16x1024_1_0) bitsLt_bf16_f32
      : FVec Ideal S16x1024 .bf16) := by
    unfold_abbrev_sides
    simp only [List.flatten_cons, List.flatten_nil, List.cons_append, List.nil_append]
    after_results
  rw [e]
  pointwise

/-- The forget gates' biases, one head per row. -/
theorem fBias (y : S16x1.Idx) : V m c main_v13 y = m ((c : Thread nD τ).loc main_arg3) (ix1 (y 0)) := by
  have e : V m c main_v13 = (shapeCast (α := Ideal .f32) S16x1 (m ((c : Thread nD τ).loc main_arg3)) shapeCasts_S16_S16x1 : FVec Ideal S16x1 .f32) := by
    unfold_abbrev_sides
    simp only [List.flatten_cons, List.flatten_nil, List.cons_append, List.nil_append]
    after_results
    rfl
  rw [e]
  pointwise

/-- Where each step's blocks lie: step `t` has batch `t / 32` and rows from `256 * (t % 32)`. -/
theorem places : ∀ t : Fin cfg0.N, win0_0.index t = ![t.val / 32, t.val % 32, 0] ∧ win0_1.index t = ![0, 0] ∧ win0_2.index t = ![0, 0]
    ∧ win0_3.index t = ![0, 0] ∧ win0_5.index t = ![0, 0] ∧ win0_7.index t = ![0, 0]
    ∧ win0_13.index t = ![t.val / 32, 0, t.val % 32] ∧ win0_14.index t = ![t.val / 32, 0, t.val % 32]
    ∧ win0_15.index t = ![t.val / 32, 0, t.val % 32] ∧ win0_17.index t = ![t.val / 32, 0, t.val % 32]
    ∧ win0_18.index t = ![t.val / 32, 0, t.val % 32] := by
  decide +kernel

theorem row_blk (t : Fin cfg0.N) (r : Fin 256) (b : Fin 2) (s : Fin 8192) (hb : b.val = t.val / 32) (hs : s.val = 256 * (t.val % 32) + r.val) :
    hrow (iblk m c 0 t) (iblk m c 1 t) r = fun d => rms (fun j => m ((c : Thread nD τ).loc main_arg0) (ix3 b s j)) d (m ((c : Thread nD τ).loc main_arg1) (ix1 d)) := by
  obtain ⟨p0, p1, -⟩ := places t
  funext d
  unfold hrow
  have ex : ∀ j : Fin 1024, iblk m c 0 t (ix3 0 r j) = m ((c : Thread nD τ).loc main_arg0) (ix3 b s j) := by
    intro j
    rw [← V_main_arg0 m c]
    blk_ext [iblk, p0]
  have eg : iblk m c 1 t (ix2 0 d) = m ((c : Thread nD τ).loc main_arg1) (ix1 d) := by
    trans V m c main_v0 (ix2 0 d)
    · blk_ext [iblk, p1]
    · exact scale m c _
  rw [funext ex, eg]

/-- A step's features are the rows' of its positions. -/
theorem feat_blk (t : Fin cfg0.N) (n : Fin 2560) (r : Fin 256) (b : Fin 2) (s : Fin 8192) (hb : b.val = t.val / 32) (hs : s.val = 256 * (t.val % 32) + r.val) :
    feat (iblk m c 0 t) (iblk m c 1 t) (iblk m c 2 t) n r
      = proj (m ((c : Thread nD τ).loc main_arg0)) (m ((c : Thread nD τ).loc main_arg1)) (m ((c : Thread nD τ).loc main_arg2)) b s ⟨n.val, by omega⟩ := by
  obtain ⟨-, -, p2, -⟩ := places t
  unfold feat proj
  rw [row_blk m c t r b s hb hs]
  refine congrArg (dotp _) (funext fun d => ?_)
  trans V m c main_v3 (ix2 n d)
  · blk_ext [iblk, p2]
  · exact weights m c _

/-- The same of the keys' rows. -/
theorem key_blk (t : Fin cfg0.N) (n : Fin 256) (r : Fin 256) (b : Fin 2) (s : Fin 8192) (hb : b.val = t.val / 32) (hs : s.val = 256 * (t.val % 32) + r.val) :
    dotp (hrow (iblk m c 0 t) (iblk m c 1 t) r) (fun d => iblk m c 3 t (ix2 d n))
      = proj (m ((c : Thread nD τ).loc main_arg0)) (m ((c : Thread nD τ).loc main_arg1)) (m ((c : Thread nD τ).loc main_arg2)) b s ⟨1024 + n.val, by omega⟩ := by
  obtain ⟨-, -, -, p3, -⟩ := places t
  unfold proj
  rw [row_blk m c t r b s hb hs]
  refine congrArg (dotp _) (funext fun d => ?_)
  trans V m c main_v5 (ix2 d n)
  · blk_ext [iblk, p3]
  · exact kWeights m c _

/-- The same of the forget gates' logarithms. -/
theorem log_blk (t : Fin cfg0.N) (h : Fin 16) (r : Fin 256) (b : Fin 2) (s : Fin 8192) (hb : b.val = t.val / 32) (hs : s.val = 256 * (t.val % 32) + r.val) :
    lsig (dotp (hrow (iblk m c 0 t) (iblk m c 1 t) r) (fun d => iblk m c 5 t (ix2 h d)) + iblk m c 7 t (ix2 h 0))
      = logF (m ((c : Thread nD τ).loc main_arg0)) (m ((c : Thread nD τ).loc main_arg1)) (m ((c : Thread nD τ).loc main_arg2))
        (m ((c : Thread nD τ).loc main_arg3)) b s h := by
  obtain ⟨-, -, -, -, p5, p7, -⟩ := places t
  unfold logF proj
  rw [row_blk m c t r b s hb hs]
  have eb : iblk m c 7 t (ix2 h 0) = m ((c : Thread nD τ).loc main_arg3) (ix1 h) := by
    trans V m c main_v13 (ix2 h 0)
    · blk_ext [iblk, p7]
    · exact fBias m c _
  rw [eb]
  refine congrArg (fun z => lsig (dotp _ z + _)) (funext fun d => ?_)
  trans V m c main_v10 (ix2 h d)
  · blk_ext [iblk, p5]
  · exact fWeights m c _

/-- The gate's array. -/
theorem arr13 : (dats m 0 c).arrAt (13 : Fin 19) cfg0.N
    = gArr (m ((c : Thread nD τ).loc main_arg0)) (m ((c : Thread nD τ).loc main_arg1)) (m ((c : Thread nD τ).loc main_arg2)) := by
  refine (dats m 0 c).arrAt_eq_of_covers (13 : Fin 19) _ (by decide +kernel) fun t hf y => ?_
  obtain ⟨-, -, -, -, -, -, p13, p14, p15, p17, p18⟩ := places t
  rw [after0_13]
  refine Eq.trans (b := k0_pay10 (iblk m c 0 t) (iblk m c 1 t) (iblk m c 2 t) y) ?_ ?_
  · by_cases h0 : t.val % 32 = 0
    · rw [outsAt0_A m c t h0]
      frame_out
      rfl
    · rw [outsAt0_B m c t h0]
      frame_out
      rfl
  refine (gate_at _ _ _ y).trans ?_
  refine (feat_blk m c t _ _ (((cfg0.win (13 : Fin 19)).blk t).view.emb y 0) (((cfg0.win (13 : Fin 19)).blk t).view.emb y 2) ?_ ?_).trans ?_
  · blk_simp [p13]
    try omega
  · blk_simp [p13]
    try omega
  · unfold gArr
    refine congrArg _ (Fin.ext ?_)
    blk_simp [p13]
    try omega

/-- The keys' array, by features. -/
theorem arr14 : (dats m 0 c).arrAt (14 : Fin 19) cfg0.N
    = kArr (m ((c : Thread nD τ).loc main_arg0)) (m ((c : Thread nD τ).loc main_arg1)) (m ((c : Thread nD τ).loc main_arg2)) := by
  refine (dats m 0 c).arrAt_eq_of_covers (14 : Fin 19) _ (by decide +kernel) fun t hf y => ?_
  obtain ⟨-, -, -, -, -, -, p13, p14, p15, p17, p18⟩ := places t
  rw [after0_14]
  refine Eq.trans (b := k0_pay11 (iblk m c 0 t) (iblk m c 1 t) (iblk m c 2 t) y) ?_ ?_
  · by_cases h0 : t.val % 32 = 0
    · rw [outsAt0_A m c t h0]
      frame_out
      rfl
    · rw [outsAt0_B m c t h0]
      frame_out
      rfl
  refine (keyF_at _ _ _ y).trans ?_
  refine (feat_blk m c t _ _ (((cfg0.win (14 : Fin 19)).blk t).view.emb y 0) (((cfg0.win (14 : Fin 19)).blk t).view.emb y 2) ?_ ?_).trans ?_
  · blk_simp [p14]
    try omega
  · blk_simp [p14]
    try omega
  · unfold kArr
    refine congrArg _ (Fin.ext ?_)
    blk_simp [p14]
    try omega

/-- The values' array. -/
theorem arr15 : (dats m 0 c).arrAt (15 : Fin 19) cfg0.N
    = vArr (m ((c : Thread nD τ).loc main_arg0)) (m ((c : Thread nD τ).loc main_arg1)) (m ((c : Thread nD τ).loc main_arg2)) := by
  refine (dats m 0 c).arrAt_eq_of_covers (15 : Fin 19) _ (by decide +kernel) fun t hf y => ?_
  obtain ⟨-, -, -, -, -, -, p13, p14, p15, p17, p18⟩ := places t
  rw [after0_15]
  refine Eq.trans (b := k0_pay12 (k0_pay9 (iblk m c 0 t) (iblk m c 1 t) (iblk m c 2 t)) y) ?_ ?_
  · by_cases h0 : t.val % 32 = 0
    · rw [outsAt0_A m c t h0]
      frame_out
      rfl
    · rw [outsAt0_B m c t h0]
      frame_out
      rfl
  refine (value_at _ _ _ y).trans ?_
  refine (feat_blk m c t _ _ (((cfg0.win (15 : Fin 19)).blk t).view.emb y 0) (((cfg0.win (15 : Fin 19)).blk t).view.emb y 2) ?_ ?_).trans ?_
  · blk_simp [p15]
    try omega
  · blk_simp [p15]
    try omega
  · unfold vArr
    refine congrArg _ (Fin.ext ?_)
    blk_simp [p15]
    try omega

/-- The values' array, rounded. -/
theorem arr17 : (dats m 0 c).arrAt (17 : Fin 19) cfg0.N
    = vArr (m ((c : Thread nD τ).loc main_arg0)) (m ((c : Thread nD τ).loc main_arg1)) (m ((c : Thread nD τ).loc main_arg2)) := by
  refine (dats m 0 c).arrAt_eq_of_covers (17 : Fin 19) _ (by decide +kernel) fun t hf y => ?_
  obtain ⟨-, -, -, -, -, -, p13, p14, p15, p17, p18⟩ := places t
  rw [after0_17]
  refine Eq.trans (b := k0_pay13 (k0_pay9 (iblk m c 0 t) (iblk m c 1 t) (iblk m c 2 t)) y) ?_ ?_
  · by_cases h0 : t.val % 32 = 0
    · rw [outsAt0_A m c t h0]
      frame_out
      rfl
    · rw [outsAt0_B m c t h0]
      frame_out
      rfl
  refine (value16_at _ _ _ y).trans ?_
  refine (feat_blk m c t _ _ (((cfg0.win (17 : Fin 19)).blk t).view.emb y 0) (((cfg0.win (17 : Fin 19)).blk t).view.emb y 2) ?_ ?_).trans ?_
  · blk_simp [p17]
    try omega
  · blk_simp [p17]
    try omega
  · unfold vArr
    refine congrArg _ (Fin.ext ?_)
    blk_simp [p17]
    try omega

/-- The logarithms' array. -/
theorem arr18 : (dats m 0 c).arrAt (18 : Fin 19) cfg0.N
    = logArr (m ((c : Thread nD τ).loc main_arg0)) (m ((c : Thread nD τ).loc main_arg1)) (m ((c : Thread nD τ).loc main_arg2)) (m ((c : Thread nD τ).loc main_arg3)) := by
  refine (dats m 0 c).arrAt_eq_of_covers (18 : Fin 19) _ (by decide +kernel) fun t hf y => ?_
  obtain ⟨-, -, -, -, -, -, p13, p14, p15, p17, p18⟩ := places t
  rw [after0_18]
  refine Eq.trans (b := k0_pay20 (k0_pay17 (k0_pay6 (iblk m c 0 t) (iblk m c 1 t)) (iblk m c 5 t) (iblk m c 7 t)) (k0_pay18 (k0_pay6 (iblk m c 0 t) (iblk m c 1 t)) (iblk m c 5 t) (iblk m c 7 t)) y) ?_ ?_
  · by_cases h0 : t.val % 32 = 0
    · rw [outsAt0_A m c t h0]
      frame_out
      rfl
    · rw [outsAt0_B m c t h0]
      frame_out
      rfl
  refine (logf_at _ _ _ _ y).trans ?_
  refine (log_blk m c t _ _ (((cfg0.win (18 : Fin 19)).blk t).view.emb y 0) (((cfg0.win (18 : Fin 19)).blk t).view.emb y 2) ?_ ?_).trans ?_
  · blk_simp [p18]
    try omega
  · blk_simp [p18]
    try omega
  · unfold logArr
    refine congrArg _ (Fin.ext ?_)
    blk_simp [p18]
    try omega

end Cert.FoxProjIdeal.Rows

end
-- ==== Proof.FoxProj.Carry.lean ====
/-
  The forgetting layers' input projection: the running sums that one step hands to the next.
-/
module

public import proofs.«01_k».proof.Proof.FoxProj.Value

@[expose] public section

set_option maxRecDepth 16384
set_option Elab.async false

noncomputable section

namespace Cert.FoxProjIdeal.Rows

open Cert.FoxProjIdeal Cert.FoxProjIdeal.Gen
open Idealize.ShloMosaic
open Idealize.ShloMosaic.TcCoe
open Cert.Rms Cert.Prefix
open Finset (range)

variable (X : Shape.Idx S2x8192x1024 → EReal) (g : Shape.Idx S1024 → EReal) (W : Shape.Idx S1024x2576 → EReal) (B : Shape.Idx S16 → EReal)

/-- The logarithm at position `i`, or zero past the last. -/
def logAt (b : Fin 2) (h : Fin 16) (i : ℕ) : EReal := if hi : i < 8192 then logF X g W B b ⟨i, hi⟩ h else 0

/-- The running sum of head `h`'s logarithms, up to and with position `s`. -/
def cum (b : Fin 2) (s : Fin 8192) (h : Fin 16) : EReal := ∑ i ∈ range (s.val + 1), logAt X g W B b h i

variable (m : (ℓ : Loc nD τ sig) → Buf (Elt Ideal) ℓ) (c : Dev nD)

/-- The forget gates' weights, one head per lane. -/
theorem rowWeights (d : Fin 1024) (h : Fin 16) : V m c main_v8 (ix2 d ⟨h.val, by omega⟩) = m ((c : Thread nD τ).loc main_arg2) (ix2 d ⟨2560 + h.val, by omega⟩) := by
  have e : V m c main_v8 = (truncf (F := Ideal) (φ := .f32) .bf16 (pad S1024x128 ![0, 0] ![0, 112] ![0, 0]
      (extractStridedSlice S1024x16 ![0, 2560] (m ((c : Thread nD τ).loc main_arg2)) slices_S1024x2576_S1024x16_0_2560)
      (sitofp (F := Ideal) FTy.f32 (constantI S_ 32 0#32)) pads_S1024x16_S1024x128_000_01120 h_S_) bitsLt_bf16_f32 : FVec Ideal S1024x128 .bf16) := by
    unfold_abbrev_sides
    simp only [List.flatten_cons, List.flatten_nil, List.cons_append, List.nil_append]
    after_results
    rfl
  rw [e]
  pointwise

/-- The forget gates' biases, one head per lane. -/
theorem rowBias (h : Fin 16) : V m c main_v12 (ix2 0 ⟨h.val, by omega⟩) = m ((c : Thread nD τ).loc main_arg3) (ix1 h) := by
  have e : V m c main_v12 = (shapeCast (α := Ideal .f32) S1x128 (pad S128 ![0] ![112] ![0] (m ((c : Thread nD τ).loc main_arg3))
      (sitofp (F := Ideal) FTy.f32 (constantI S_ 32 0#32)) pads_S16_S128_01120 h_S_) shapeCasts_S128_S1x128 : FVec Ideal S1x128 .f32) := by
    unfold_abbrev_sides
    simp only [List.flatten_cons, List.flatten_nil, List.cons_append, List.nil_append]
    after_results
    rfl
  rw [e]
  pointwise
  exact dif_pos fun a => by
    match a with
    | 0 => exact h.isLt

/-- Where the remaining blocks lie. -/
theorem places' : ∀ t : Fin cfg0.N, win0_4.index t = ![0, 0] ∧ win0_6.index t = ![0, 0] ∧ win0_8.index t = ![0, 0] ∧ win0_9.index t = ![0, 0]
    ∧ win0_10.index t = ![0, 0] ∧ win0_11.index t = ![0, 0] ∧ win0_12.index t = ![t.val / 32, 0, t.val % 32]
    ∧ win0_16.index t = ![t.val / 32, t.val % 32, 0] := by
  decide +kernel

/-- A step's logarithms, one row per position. -/
abbrev rowLog (t : Fin cfg0.N) : Vec Ideal S256x128 .f32 := lrow (iblk m c 0 t) (iblk m c 1 t) (iblk m c 4 t) (iblk m c 6 t)
/-- A step's logarithms, one row per head. -/
abbrev colLog (t : Fin cfg0.N) : Vec Ideal S16x256 .f32 := lcol (iblk m c 0 t) (iblk m c 1 t) (iblk m c 5 t) (iblk m c 7 t)

theorem rowLog_ne (t : Fin cfg0.N) (y : S256x128.Idx) : rowLog m c t y ≠ ⊤ := by
  exact ne_of_eq_of_ne (lrow_at _ _ _ _ y) (lsig_ne_top _)
theorem colLog_ne (t : Fin cfg0.N) (y : S16x256.Idx) : colLog m c t y ≠ ⊤ := by
  exact ne_of_eq_of_ne (lcol_at _ _ _ _ y) (lsig_ne_top _)

/-- Each is the reference's logarithm at the position. -/
theorem rowLog_at (t : Fin cfg0.N) (r : Fin 256) (h : Fin 16) (b : Fin 2) (hb : b.val = t.val / 32) :
    rowLog m c t (ix2 r ⟨h.val, by omega⟩) = logAt (m ((c : Thread nD τ).loc main_arg0)) (m ((c : Thread nD τ).loc main_arg1))
      (m ((c : Thread nD τ).loc main_arg2)) (m ((c : Thread nD τ).loc main_arg3)) b h (256 * (t.val % 32) + r.val) := by
  obtain ⟨p4, p6, -⟩ := places' t
  have hs : 256 * (t.val % 32) + r.val < 8192 := by have := r.isLt; omega
  unfold logAt
  rw [dif_pos hs]
  refine (lrow_at _ _ _ _ _).trans ?_
  unfold logF proj
  have eb : iblk m c 6 t (ix2 0 ⟨h.val, by omega⟩) = m ((c : Thread nD τ).loc main_arg3) (ix1 h) := by
    trans V m c main_v12 (ix2 0 ⟨h.val, by omega⟩)
    · blk_ext [iblk, p6]
    · exact rowBias m c _
  have ew : (fun d => iblk m c 4 t (ix2 d ⟨h.val, by omega⟩)) = fun d => m ((c : Thread nD τ).loc main_arg2) (ix2 d ⟨2560 + h.val, by omega⟩) := by
    funext d
    trans V m c main_v8 (ix2 d ⟨h.val, by omega⟩)
    · blk_ext [iblk, p4]
    · exact rowWeights m c _ _
  exact congrArg lsig (congrArg₂ (· + ·) (congrArg₂ dotp (row_blk m c t r b ⟨_, hs⟩ hb rfl) ew) eb)

theorem colLog_at (t : Fin cfg0.N) (r : Fin 256) (h : Fin 16) (b : Fin 2) (hb : b.val = t.val / 32) :
    colLog m c t (ix2 h r) = logAt (m ((c : Thread nD τ).loc main_arg0)) (m ((c : Thread nD τ).loc main_arg1))
      (m ((c : Thread nD τ).loc main_arg2)) (m ((c : Thread nD τ).loc main_arg3)) b h (256 * (t.val % 32) + r.val) := by
  have hs : 256 * (t.val % 32) + r.val < 8192 := by have := r.isLt; omega
  unfold logAt
  rw [dif_pos hs]
  refine (lcol_at _ _ _ _ _).trans ?_
  exact log_blk m c t h r b ⟨_, hs⟩ hb rfl

/-- What step `n` adds to lane `j` of the carried row. -/
def rowTerm (n : ℕ) (i : S1x128.Idx) : EReal := if hn : n < cfg0.N then ∑ r : Fin 256, rowLog m c ⟨n, hn⟩ (ix2 r (i 1)) else 0
/-- What step `n` adds to head `i`'s carried sum. -/
def colTerm (n : ℕ) (i : S16x1.Idx) : EReal := if hn : n < cfg0.N then ∑ r : Fin 256, colLog m c ⟨n, hn⟩ (ix2 (i 0) r) else 0

theorem zero_row (i : S1x128.Idx) : k0_pay14 (F := Ideal) i = 0 := by
  unfold k0_pay14
  pointwise
theorem zero_col (i : S16x1.Idx) : k0_pay15 (F := Ideal) i = 0 := by
  unfold k0_pay15
  pointwise

theorem rows_carried (t : Fin cfg0.N) (i : S1x128.Idx) :
    (outsAt0 m c t.val t.isLt).2.2.2.2.2.2.2.1 i = 0 + ∑ k ∈ range (t.val % 32 + 1), rowTerm m c (32 * (t.val / 32) + k) i := by
  refine Pipeline.eq_sum_of_reset_step_apply (fun n h => ((outsAt0 m c n h).2.2.2.2.2.2.2.1 : S1x128.Idx → EReal)) 32 (fun _ => 0) (rowTerm m c) ?_ ?_ t i
  · intro t h i
    have ht : rowTerm m c t.val i = ∑ r : Fin 256, rowLog m c t (ix2 r (i 1)) := dif_pos t.isLt
    rw [ht]
    refine Eq.trans ?_ ((rows_last (rowLog m c t) (rowLog_ne m c t) (k0_pay14 (F := Ideal)) i).trans (congrArg (· + _) (zero_row _)))
    rw [outsAt0_A m c t h]
    frame_out
  · intro t h i
    have ht : rowTerm m c t.val i = ∑ r : Fin 256, rowLog m c t (ix2 r (i 1)) := dif_pos t.isLt
    rw [ht]
    have hi : i = ix2 0 (i 1) := by
      funext a
      match a with
      | 0 => exact Subsingleton.elim (α := Fin 1) _ _
      | 1 => rfl
    refine Eq.trans ?_ ((rows_last (rowLog m c t) (rowLog_ne m c t) ((outsAt0 m c (t.val - 1) (Nat.lt_of_le_of_lt (Nat.sub_le _ _) t.isLt)).2.2.2.2.2.2.2.1) i).trans (congrArg (fun j : S1x128.Idx => (outsAt0 m c (t.val - 1) (Nat.lt_of_le_of_lt (Nat.sub_le _ _) t.isLt)).2.2.2.2.2.2.2.1 j + _) hi.symm))
    rw [outsAt0_B m c t h]
    frame_out
    simp only [read_unread_whole]

theorem cols_carried (t : Fin cfg0.N) (i : S16x1.Idx) :
    (outsAt0 m c t.val t.isLt).2.2.2.2.2.2.2.2 i = 0 + ∑ k ∈ range (t.val % 32 + 1), colTerm m c (32 * (t.val / 32) + k) i := by
  refine Pipeline.eq_sum_of_reset_step_apply (fun n h => ((outsAt0 m c n h).2.2.2.2.2.2.2.2 : S16x1.Idx → EReal)) 32 (fun _ => 0) (colTerm m c) ?_ ?_ t i
  · intro t h i
    have ht : colTerm m c t.val i = ∑ r : Fin 256, colLog m c t (ix2 (i 0) r) := dif_pos t.isLt
    rw [ht]
    refine Eq.trans ?_ ((cols_last (colLog m c t) (k0_pay15 (F := Ideal)) i).trans (congrArg (· + _) (zero_col _)))
    rw [outsAt0_A m c t h]
    frame_out
  · intro t h i
    have ht : colTerm m c t.val i = ∑ r : Fin 256, colLog m c t (ix2 (i 0) r) := dif_pos t.isLt
    rw [ht]
    refine Eq.trans ?_ (cols_last (colLog m c t) ((outsAt0 m c (t.val - 1) (Nat.lt_of_le_of_lt (Nat.sub_le _ _) t.isLt)).2.2.2.2.2.2.2.2) i)
    rw [outsAt0_B m c t h]
    frame_out
    simp only [read_unread_whole]

end Cert.FoxProjIdeal.Rows

end
-- ==== Proof.FoxProj.Reference.lean ====
/-
  The reference of the forgetting layers' input projection, array by array.
-/
module

public import proofs.«01_k».proof.Proof.Gen.FoxProjReferenceIdeal.Run
public import proofs.«01_k».proof.Proof.FoxProj.Carry

@[expose] public section

set_option maxRecDepth 16384
set_option Elab.async false

noncomputable section

namespace Cert.FoxProjReferenceIdeal.Rows

open Cert.FoxProjReferenceIdeal Cert.FoxProjReferenceIdeal.Gen
open Idealize.ShloMosaic
open Idealize.ShloMosaic.TcCoe
open Cert.Rms Cert.Prefix
open Finset (range)
open Cert.FoxProjIdeal.Rows (proj logF logAt cum part lScale qScale logArr)

variable (X : FVec Ideal S2x8192x1024 .f32) (g : FVec Ideal S1024 .f32) (W : FVec Ideal S1024x2576 .f32) (B : FVec Ideal S16 .f32)

/-- The features of every position. -/
def feats : FVec Ideal S2x8192x2576 .f32 :=
  Host.dotGeneral dot_S2x8192x1024_S1024x2576_S2x8192x2576_2_0_01_1_n_n none (mulf (mulf X (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf X X) (constant (F := Ideal) S_ .f32 0x00000000#32) reducesTo_S2x8192x1024_S2x8192_d2 h_S_)) (broadcastInDim S2x8192x1 ![] bcast_S_S2x8192x1 (constant (F := Ideal) S_ .f32 0x44800000#32))) (broadcastInDim S2x8192x1 ![] bcast_S_S2x8192x1 (constant (F := Ideal) S_ .f32 0x358637BD#32)))))) (broadcastInDim S2x8192x1024 ![0, 1, 2] bcast_S1x1x1024_S2x8192x1024_0_1_2 (broadcastInDim S1x1x1024 ![2] bcast_S1024_S1x1x1024_2 g))) W

/-- The forget gates before their sigmoid. -/
def gates (P : FVec Ideal S2x8192x2576 .f32) (B : FVec Ideal S16 .f32) : FVec Ideal S2x8192x16 .f32 :=
  addf (extractStridedSlice S2x8192x16 ![0, 0, 2560] P slices_S2x8192x2576_S2x8192x16_0_0_2560) (broadcastInDim S2x8192x16 ![0, 1, 2] bcast_S1x1x16_S2x8192x16_0_1_2 (broadcastInDim S1x1x16 ![2] bcast_S16_S1x1x16_2 B))

/-- The logarithm of the sigmoid. -/
def logs (Z : FVec Ideal S2x8192x16 .f32) : FVec Ideal S2x8192x16 .f32 :=
  Host.negf (select (cmpf .une (subf (Host.negf Z) (broadcastInDim S2x8192x16 ![] bcast_S_S2x8192x16 (constant (F := Ideal) S_ .f32 0x00000000#32))) (subf (Host.negf Z) (broadcastInDim S2x8192x16 ![] bcast_S_S2x8192x16 (constant (F := Ideal) S_ .f32 0x00000000#32)))) (addf (Host.negf Z) (broadcastInDim S2x8192x16 ![] bcast_S_S2x8192x16 (constant (F := Ideal) S_ .f32 0x00000000#32))) (addf (maximumf (Host.negf Z) (broadcastInDim S2x8192x16 ![] bcast_S_S2x8192x16 (constant (F := Ideal) S_ .f32 0x00000000#32))) (Host.log1p (Host.exp (Host.negf (Host.absf (subf (Host.negf Z) (broadcastInDim S2x8192x16 ![] bcast_S_S2x8192x16 (constant (F := Ideal) S_ .f32 0x00000000#32)))))))))

/-- The running sums over the positions. -/
def sums (L : FVec Ideal S2x8192x16 .f32) : FVec Ideal S2x8192x16 .f32 :=
  Host.reduceWindowAdd ![1, 8192, 1] ![1, 1, 1] ![0, 8191, 0] ![0, 0, 0] L (broadcastInDim S_ ![] bcast_S_S_ (constant (F := Ideal) S_ .f32 0x00000000#32)) reduceWindows_S2x8192x16_S2x8192x16_w1s1p0_0_w8192s1p8191_0_w1s1p0_0 h_S_

/-- The same in units of the base-two logarithm. -/
def units (C : FVec Ideal S2x8192x16 .f32) : FVec Ideal S2x8192x16 .f32 :=
  mulf C (broadcastInDim S2x8192x16 ![] bcast_S_S2x8192x16 (constant (F := Ideal) S_ .f32 0x3FB8AA3B#32))

/-- The three parts of each bias. -/
def parts (A : FVec Ideal S2x8192x16 .f32) : FVec Ideal S2x8192x16x3 .f32 :=
  concatenate S2x8192x16x3 3 [⟨S2x8192x16x1, ((broadcastInDim S2x8192x16x1 ![0, 1, 2] bcast_S2x8192x16_S2x8192x16x1_0_1_2 (extf .f32 (truncf .bf16 A bitsLt_bf16_f32) bitsLt_bf16_f32)) : (⟨S2x8192x16x1, .f32⟩ : BufTy).Contents (Elt Ideal))⟩, ⟨S2x8192x16x1, ((broadcastInDim S2x8192x16x1 ![0, 1, 2] bcast_S2x8192x16_S2x8192x16x1_0_1_2 (extf .f32 (truncf .bf16 (subf A (extf .f32 (truncf .bf16 A bitsLt_bf16_f32) bitsLt_bf16_f32)) bitsLt_bf16_f32) bitsLt_bf16_f32)) : (⟨S2x8192x16x1, .f32⟩ : BufTy).Contents (Elt Ideal))⟩, ⟨S2x8192x16x1, ((broadcastInDim S2x8192x16x1 ![0, 1, 2] bcast_S2x8192x16_S2x8192x16x1_0_1_2 (extf .f32 (truncf .bf16 (subf (subf A (extf .f32 (truncf .bf16 A bitsLt_bf16_f32) bitsLt_bf16_f32)) (extf .f32 (truncf .bf16 (subf A (extf .f32 (truncf .bf16 A bitsLt_bf16_f32) bitsLt_bf16_f32)) bitsLt_bf16_f32) bitsLt_bf16_f32)) bitsLt_bf16_f32) bitsLt_bf16_f32)) : (⟨S2x8192x16x1, .f32⟩ : BufTy).Contents (Elt Ideal))⟩] concatenates_S2x8192x16x1_S2x8192x16x1_S2x8192x16x1_S2x8192x16x3_d3

/-- Whether a head is the given one of its group. -/
def mine : IVec S16x4 1 :=
  cmpi .eq (broadcastInDim S16x4 ![0, 1] bcast_S16x1_S16x4_0_1 (andi (broadcastInDim S16x1 ![0] bcast_S16_S16x1_0 (iotaInDim S16 32 0)) (broadcastInDim S16x1 ![] bcast_S_S16x1 (constantI S_ 32 3#32)))) (broadcastInDim S16x4 ![0, 1] bcast_S1x4_S16x4_0_1 (broadcastInDim S1x4 ![1] bcast_S4_S1x4_1 (iotaInDim S4 32 0)))

/-- The queries, scaled, by heads. -/
def scaled (P : FVec Ideal S2x8192x2576 .f32) : FVec Ideal S2x8192x16x64 .f32 :=
  mulf (shapeCast _ (extractStridedSlice S2x8192x1024 ![0, 0, 0] P slices_S2x8192x2576_S2x8192x1024_0_0_0) shapeCasts_S2x8192x1024_S2x8192x16x64) (broadcastInDim S2x8192x16x64 ![] bcast_S_S2x8192x16x64 (constant (F := Ideal) S_ .f32 0x3E38AA3B#32))

/-- The ones at a head's place, three times each, at every position. -/
def spread (H : IVec S16x4 1) : FVec Ideal S2x8192x16x4x3 .f32 :=
  uitofp (F := Ideal) .f32 (broadcastInDim S2x8192x16x4x3 ![0, 1, 2, 3, 4] bcast_S1x1x16x4x1_S2x8192x16x4x3_0_1_2_3_4 (broadcastInDim S1x1x16x4x1 ![2, 3] bcast_S16x4_S1x1x16x4x1_2_3 H))

/-- The same as twelve lanes. -/
def own (U : FVec Ideal S2x8192x16x4x3 .f32) : FVec Ideal S2x8192x16x12 .f32 := shapeCast S2x8192x16x12 U shapeCasts_S2x8192x16x4x3_S2x8192x16x12

/-- A head's 128 lanes of a query. -/
def queryHeads (a : FVec Ideal S2x8192x16x64 .f32) (b : FVec Ideal S2x8192x16x12 .f32) (T : FVec Ideal S2x8192x16x3 .f32) : FVec Ideal S2x8192x16x128 .f32 :=
  concatenate S2x8192x16x128 3 [⟨S2x8192x16x64, a⟩, ⟨S2x8192x16x12, b⟩, ⟨S2x8192x16x3, T⟩, ⟨S2x8192x16x49, ((broadcastInDim S2x8192x16x49 ![] bcast_S_S2x8192x16x49 (constant (F := Ideal) S_ .f32 0x00000000#32)) : (⟨S2x8192x16x49, .f32⟩ : BufTy).Contents (Elt Ideal))⟩] concatenates_S2x8192x16x64_S2x8192x16x12_S2x8192x16x3_S2x8192x16x49_S2x8192x16x128_d3

/-- The queries with their spare lanes, one lane per row. -/
def queryLanes (Q : FVec Ideal S2x8192x16x128 .f32) : FVec Ideal S2x2048x8192 .bf16 :=
  truncf .bf16 (transpose S2x2048x8192 [0, 2, 1] (shapeCast _ Q shapeCasts_S2x8192x16x128_S2x8192x2048) transposes_S2x8192x2048_S2x2048x8192_0_2_1) bitsLt_bf16_f32

/-- The keys by heads. -/
def keysOf (P : FVec Ideal S2x8192x2576 .f32) : FVec Ideal S2x8192x4x64 .f32 :=
  shapeCast S2x8192x4x64 (extractStridedSlice S2x8192x256 ![0, 0, 1024] P slices_S2x8192x2576_S2x8192x256_0_0_1024) shapeCasts_S2x8192x256_S2x8192x4x64

/-- The parts of a group's heads, negated. -/
def minus (T : FVec Ideal S2x8192x16x3 .f32) : FVec Ideal S2x8192x4x12 .f32 := Host.negf (shapeCast _ T shapeCasts_S2x8192x16x3_S2x8192x4x12)

/-- A head's 128 lanes of a key. -/
def keyHeads (a : FVec Ideal S2x8192x4x64 .f32) (b : FVec Ideal S2x8192x4x12 .f32) : FVec Ideal S2x8192x4x128 .f32 :=
  concatenate S2x8192x4x128 3 [⟨S2x8192x4x64, a⟩, ⟨S2x8192x4x12, b⟩, ⟨S2x8192x4x3, ((broadcastInDim S2x8192x4x3 ![] bcast_S_S2x8192x4x3 (constant (F := Ideal) S_ .f32 0x3F800000#32)) : (⟨S2x8192x4x3, .f32⟩ : BufTy).Contents (Elt Ideal))⟩, ⟨S2x8192x4x49, ((broadcastInDim S2x8192x4x49 ![] bcast_S_S2x8192x4x49 (constant (F := Ideal) S_ .f32 0x00000000#32)) : (⟨S2x8192x4x49, .f32⟩ : BufTy).Contents (Elt Ideal))⟩] concatenates_S2x8192x4x64_S2x8192x4x12_S2x8192x4x3_S2x8192x4x49_S2x8192x4x128_d3

/-- The keys with their spare lanes. -/
def keyLanes (K : FVec Ideal S2x8192x4x128 .f32) : FVec Ideal S2x8192x512 .bf16 :=
  truncf .bf16 (shapeCast _ K shapeCasts_S2x8192x4x128_S2x8192x512) bitsLt_bf16_f32

theorem feats_at (y : S2x8192x2576.Idx) : feats X g W y = proj X g W (y 0) (y 1) (y 2) := by
  unfold feats proj Cert.Rms.rms Cert.Rms.dotp
  pointwise

theorem gates_at (P : FVec Ideal S2x8192x2576 .f32) (y : S2x8192x16.Idx) : gates P B y
    = P (ix3 (y 0) (y 1) ⟨2560 + (y 2 : Fin 16).val, by have : (y 2 : Fin 16).val < 16 := (y 2 : Fin 16).isLt; omega⟩) + B (ix1 (y 2)) := by
  unfold gates
  pointwise

theorem logs_at (Z : FVec Ideal S2x8192x16 .f32) (y : S2x8192x16.Idx) : logs Z y = lsig (Z y) := by
  unfold logs lsig
  pointwise
  generalize (Z y : EReal) = z
  refine (congrArg Neg.neg (if_neg (not_not.2 rfl))).trans ?_
  show -(max (-z) 0 + Ideal.log1p (Ideal.exp (-max (-z) (- -z)))) = _
  rw [zero_sub, zero_sub, zero_sub, neg_neg, max_comm (-z) z]

theorem window_add {s t u : Shape} (win strides lo hi : Fin s.rank → ℕ) (x : FVec Ideal s .f32) (v : FVec Ideal u .f32)
    (h : s.ReduceWindows win strides lo hi t) (hu : 0 < u.numel) (hv : v = fun _ => (0 : EReal)) :
    Host.reduceWindowAdd win strides lo hi x v h hu = Ideal.hostReduceWindowAdd win strides lo hi h x 0 := by
  subst hv
  rfl

theorem sums_at (L : FVec Ideal S2x8192x16 .f32) (y : S2x8192x16.Idx) : sums L y
    = ∑ i ∈ range ((y 1 : Fin 8192).val + 1), if hi : i < 8192 then L (ix3 (y 0) ⟨i, hi⟩ (y 2)) else 0 := by
  refine Eq.trans ?_ (running_sum L reduceWindows_S2x8192x16_S2x8192x16_w1s1p0_0_w8192s1p8191_0_w1s1p0_0 y)
  unfold sums
  refine congrFun (window_add _ _ _ _ _ _ _ _ ?_) y
  funext i
  pointwise

theorem units_at (C : FVec Ideal S2x8192x16 .f32) (y : S2x8192x16.Idx) : units C y = @HMul.hMul EReal EReal EReal _ (C y) lScale := by
  unfold units
  pointwise

theorem part_of (a : EReal) (i : Fin 3) : (if _ : i.val < 1 then a else if _ : i.val - 1 < 1 then a - a else a - a - (a - a)) = part a i := by
  match i with
  | 0 => exact dif_pos (by decide)
  | 1 => exact (dif_neg (by decide)).trans (dif_pos (by decide))
  | 2 => exact (dif_neg (by decide)).trans (dif_neg (by decide))

theorem parts_at (A : FVec Ideal S2x8192x16 .f32) (y : S2x8192x16x3.Idx) : parts A y = part (A (ix3 (y 0) (y 1) (y 2))) (y 3) := by
  unfold parts
  pointwise
  exact part_of _ (y 3)

theorem mine_at : ∀ (h : Fin 16) (j : Fin 4), mine (ix2 h j) = if h.val % 4 = j.val then 1#1 else 0#1 := by
  decide +kernel

theorem log_of (y : S2x8192x16.Idx) : logs (gates (feats X g W) B) y = logF X g W B (y 0) (y 1) (y 2) :=
  (logs_at _ y).trans (congrArg lsig ((gates_at B _ y).trans (congrArg (· + _) (feats_at X g W _))))

theorem sum_of (y : S2x8192x16.Idx) : sums (logs (gates (feats X g W) B)) y = cum X g W B (y 0) (y 1) (y 2) := by
  refine (sums_at _ y).trans ?_
  unfold cum
  refine Finset.sum_congr rfl fun i _ => ?_
  unfold logAt
  by_cases hi : i < 8192
  · rw [dif_pos hi, dif_pos hi]
    exact log_of X g W B _
  · rw [dif_neg hi, dif_neg hi]

/-- The parts of the running sums. -/
theorem part_at (b : Fin 2) (s : Fin 8192) (h : Fin 16) (i : Fin 3) : parts (units (sums (logs (gates (feats X g W) B)))) (ix4 b s h i)
    = part (cum X g W B b s h * lScale) i :=
  (parts_at _ _).trans (congrArg (fun u => part u i) ((units_at _ _).trans (congrArg (· * lScale) (sum_of X g W B _))))

end Cert.FoxProjReferenceIdeal.Rows

end
-- ==== Proof.FoxProj.Consts.lean ====
/-
  The forgetting layers' input projection: the constants that the host builds, which place the parts of the running sums and the ones.
-/
module

public import proofs.«01_k».proof.Proof.FoxProj.Block
public import Idealize.ShloMosaic.Lib.Pointwise
public import Idealize.ShloMosaic.Lib.WordCmp

@[expose] public section

set_option maxRecDepth 16384
set_option Elab.async false

noncomputable section

namespace Cert.FoxProjIdeal.Rows

open Cert.FoxProjIdeal Cert.FoxProjIdeal.Gen
open Idealize.ShloMosaic
open Idealize.ShloMosaic.TcCoe
open Cert.Rms Cert.Prefix

/-! ## The words the host computes -/

/-- One word at each of the 384 rows. -/
abbrev w384 (k : BitVec 32) : (⟨S384, .i32⟩ : BufTy).Contents (Elt Ideal) := broadcastInDim S384 ![] bcast_S_S384 (constantI S_ 32 k)
/-- The number of each of the 384 rows. -/
abbrev i384 : (⟨S384, .i32⟩ : BufTy).Contents (Elt Ideal) := iotaInDim S384 32 0
/-- The lane that each of the 384 rows goes to. -/
abbrev dest : (⟨S384, .i32⟩ : BufTy).Contents (Elt Ideal) :=
  addi (addi (addi (Host.shli (Host.shrsi (andi i384 (w384 127#32)) (w384 2#32)) (w384 7#32)) (w384 64#32))
    (muli (w384 3#32) (andi (andi i384 (w384 127#32)) (w384 3#32)))) (Host.shrsi i384 (w384 7#32))

theorem dest_at : ∀ n : Fin 384, (dest (ix1 n) : BitVec 32)
    = BitVec.ofNat 32 (128 * (n.val % 128 / 4) + 64 + 3 * (n.val % 4) + n.val / 128) := by
  decide +kernel

/-- One word at each of the 512 lanes. -/
abbrev w512 (k : BitVec 32) : (⟨S512, .i32⟩ : BufTy).Contents (Elt Ideal) := broadcastInDim S512 ![] bcast_S_S512 (constantI S_ 32 k)
/-- Whether a lane holds a one. -/
abbrev onesK : (⟨S512, .i1⟩ : BufTy).Contents (Elt Ideal) :=
  andi (cmpi .sge (andi (iotaInDim S512 32 0) (w512 127#32)) (w512 76#32)) (cmpi .slt (andi (iotaInDim S512 32 0) (w512 127#32)) (w512 79#32))

theorem onesK_at : ∀ n : Fin 512, (onesK (ix1 n) : BitVec 1) = if 76 ≤ n.val % 128 ∧ n.val % 128 < 79 then 1#1 else 0#1 := by
  decide +kernel

/-- One word at each of the 1024 rows. -/
abbrev w1024 (k : BitVec 32) : (⟨S1024, .i32⟩ : BufTy).Contents (Elt Ideal) := broadcastInDim S1024 ![] bcast_S_S1024 (constantI S_ 32 k)
/-- The head of each of the 1024 rows. -/
abbrev headQ : (⟨S1024, .i32⟩ : BufTy).Contents (Elt Ideal) := Host.shrsi (iotaInDim S1024 32 0) (w1024 6#32)
/-- The spare lane of each of the 1024 rows. -/
abbrev laneQ : (⟨S1024, .i32⟩ : BufTy).Contents (Elt Ideal) := andi (iotaInDim S1024 32 0) (w1024 63#32)
/-- The same less twelve. -/
abbrev partQ : (⟨S1024, .i32⟩ : BufTy).Contents (Elt Ideal) := subi laneQ (w1024 12#32)
/-- The lane that a row comes from. -/
abbrev srcQ : (⟨S1024, .i32⟩ : BufTy).Contents (Elt Ideal) := addi (Host.shli partQ (w1024 4#32)) headQ
/-- Whether a row's lane lies below the last part's. -/
abbrev lowQ : (⟨S1024, .i1⟩ : BufTy).Contents (Elt Ideal) := cmpi .slt partQ (w1024 3#32)
/-- Whether a row holds a one. -/
abbrev onesQ : (⟨S1024, .i1⟩ : BufTy).Contents (Elt Ideal) :=
  andi (andi (cmpi .sge (subi laneQ (muli (w1024 3#32) (andi headQ (w1024 3#32)))) (w1024 0#32))
    (cmpi .slt (subi laneQ (muli (w1024 3#32) (andi headQ (w1024 3#32)))) (w1024 3#32))) (cmpi .slt partQ (w1024 0#32))

theorem srcQ_at : ∀ n : Fin 1024, (srcQ (ix1 n) : BitVec 32)
    = if 12 ≤ n.val % 64 then BitVec.ofNat 32 (16 * (n.val % 64 - 12) + n.val / 64) else BitVec.ofNat 32 (4294967296 - (16 * (12 - n.val % 64) - n.val / 64)) := by
  decide +kernel

theorem lowQ_at : ∀ n : Fin 1024, (lowQ (ix1 n) : BitVec 1) = if n.val % 64 < 15 then 1#1 else 0#1 := by
  decide +kernel

theorem onesQ_at : ∀ n : Fin 1024, (onesQ (ix1 n) : BitVec 1) = if n.val % 64 < 12 ∧ n.val % 64 / 3 = n.val / 64 % 4 then 1#1 else 0#1 := by
  decide +kernel

/-! ## The four constants -/

theorem choose (n : BitVec 1) (p : Prop) [Decidable p] (h : n = if p then 1#1 else 0#1) (a b : EReal) : Scalar.select n a b = if p then a else b := by
  subst h
  by_cases hp : p
  · rw [if_pos hp, if_pos hp]; rfl
  · rw [if_neg hp, if_neg hp]; rfl

theorem same (a b : ℕ) (ha : a < 2 ^ 32) (hb : b < 2 ^ 32) :
    IntOp.cmpi .eq (BitVec.ofNat 32 a) (BitVec.ofNat 32 b) = if a = b then 1#1 else 0#1 := by
  rw [WordCmp.cmpi_eq_ofNat ha hb]
  by_cases h : a = b
  · rw [if_pos h, decide_eq_true h]; rfl
  · rw [if_neg h, decide_eq_false h]; rfl

theorem minus_one : Ideal.ofBits FTy.f32 3212836864#32 = -(1 : EReal) := by
  have h : Ideal.ofBits FTy.f32 3212836864#32 = ((-(1 : ℝ) : ℝ) : EReal) := by
    simp [Ideal.ofBits, Ideal.ieee, -EReal.coe_mul, -EReal.coe_neg]; norm_num
  rw [h, EReal.coe_neg]
  rfl

variable (m : (ℓ : Loc nD τ sig) → Buf (Elt Ideal) ℓ) (c : Dev nD)

theorem place_k (n : Fin 384) (x : Fin 512) : V m c main_v38 (ix2 n x)
    = if 128 * (n.val % 128 / 4) + 64 + 3 * (n.val % 4) + n.val / 128 = x.val then -(1 : EReal) else 0 := by
  have e : V m c main_v38 = (truncf (F := Ideal) (φ := .f32) .bf16 (select (cmpi .eq
      (broadcastInDim S384x512 ![0, 1] bcast_S384x1_S384x512_0_1 (broadcastInDim S384x1 ![0] bcast_S384_S384x1_0 dest))
      (broadcastInDim S384x512 ![0, 1] bcast_S1x512_S384x512_0_1 (broadcastInDim S1x512 ![1] bcast_S512_S1x512_1 (iotaInDim S512 32 0))))
      (broadcastInDim S384x512 ![] bcast_S_S384x512 (constant (F := Ideal) S_ .f32 0xBF800000#32))
      (broadcastInDim S384x512 ![] bcast_S_S384x512 (constant (F := Ideal) S_ .f32 0x00000000#32))) bitsLt_bf16_f32 : FVec Ideal S384x512 .bf16) := by
    unfold_abbrev_sides
    simp only [List.flatten_cons, List.flatten_nil, List.cons_append, List.nil_append]
    after_results
    rfl
  have d := dest_at n
  rw [e]
  generalize dest = D at d ⊢
  pointwise
  rw [minus_one]
  refine choose _ _ ?_ _ _
  rw [d]
  exact same _ _ (by omega) (by omega)

theorem ones_k (y : S1x512.Idx) : V m c main_v48 y
    = if 76 ≤ (y 1 : Fin 512).val % 128 ∧ (y 1 : Fin 512).val % 128 < 79 then (1 : EReal) else 0 := by
  have e : V m c main_v48 = (broadcastInDim S1x512 ![1] bcast_S512_S1x512_1 (select onesK
      (broadcastInDim S512 ![] bcast_S_S512 (constant (F := Ideal) S_ .f32 0x3F800000#32))
      (broadcastInDim S512 ![] bcast_S_S512 (constant (F := Ideal) S_ .f32 0x00000000#32))) : FVec Ideal S1x512 .f32) := by
    unfold_abbrev_sides
    simp only [List.flatten_cons, List.flatten_nil, List.cons_append, List.nil_append]
    after_results
    rfl
  have d := onesK_at (y 1)
  rw [e]
  generalize onesK = D at d ⊢
  pointwise
  exact choose _ _ d _ _

theorem place_q (n : Fin 1024) (x : Fin 128) : V m c main_v86 (ix2 n x)
    = if 12 ≤ n.val % 64 ∧ n.val % 64 < 15 ∧ 16 * (n.val % 64 - 12) + n.val / 64 = x.val then (1 : EReal) else 0 := by
  have e : V m c main_v86 = (truncf (F := Ideal) (φ := .f32) .bf16 (select (andi (cmpi .eq
      (broadcastInDim S1024x128 ![0, 1] bcast_S1024x1_S1024x128_0_1 (broadcastInDim S1024x1 ![0] bcast_S1024_S1024x1_0 srcQ))
      (broadcastInDim S1024x128 ![0, 1] bcast_S1x128_S1024x128_0_1 (broadcastInDim S1x128 ![1] bcast_S128_S1x128_1 (iotaInDim S128 32 0))))
      (broadcastInDim S1024x128 ![0, 1] bcast_S1024x1_S1024x128_0_1 (broadcastInDim S1024x1 ![0] bcast_S1024_S1024x1_0 lowQ)))
      (broadcastInDim S1024x128 ![] bcast_S_S1024x128 (constant (F := Ideal) S_ .f32 0x3F800000#32))
      (broadcastInDim S1024x128 ![] bcast_S_S1024x128 (constant (F := Ideal) S_ .f32 0x00000000#32))) bitsLt_bf16_f32 : FVec Ideal S1024x128 .bf16) := by
    unfold_abbrev_sides
    simp only [List.flatten_cons, List.flatten_nil, List.cons_append, List.nil_append]
    after_results
    rfl
  have d := srcQ_at n
  have d' := lowQ_at n
  rw [e]
  generalize srcQ = D at d ⊢
  generalize lowQ = D' at d' ⊢
  pointwise
  refine choose _ _ ?_ _ _
  rw [d, d']
  by_cases h : 12 ≤ n.val % 64
  · rw [if_pos h, same _ _ (by omega) (by omega)]
    by_cases h1 : n.val % 64 < 15 <;> by_cases h2 : 16 * (n.val % 64 - 12) + n.val / 64 = x.val
    · rw [if_pos h1, if_pos h2, if_pos ⟨h, h1, h2⟩]; rfl
    · rw [if_pos h1, if_neg h2, if_neg fun hh => h2 hh.2.2]; rfl
    · rw [if_neg h1, if_pos h2, if_neg fun hh => h1 hh.2.1]; rfl
    · rw [if_neg h1, if_neg h2, if_neg fun hh => h1 hh.2.1]; rfl
  · have e0 : IntOp.cmpi .eq (BitVec.ofNat 32 (4294967296 - (16 * (12 - n.val % 64) - n.val / 64))) (BitVec.ofNat 32 x.val) = 0#1 :=
      (same _ _ (by omega) (by omega)).trans (if_neg (by omega))
    rw [if_neg h, e0]
    refine Eq.trans ?_ (if_neg fun hh => h hh.1).symm
    by_cases h1 : n.val % 64 < 15
    · rw [if_pos h1]; rfl
    · rw [if_neg h1]; rfl

theorem ones_q (y : S1024x1.Idx) : V m c main_v85 y
    = if (y 0 : Fin 1024).val % 64 < 12 ∧ (y 0 : Fin 1024).val % 64 / 3 = (y 0 : Fin 1024).val / 64 % 4 then (1 : EReal) else 0 := by
  have e : V m c main_v85 = (broadcastInDim S1024x1 ![0] bcast_S1024_S1024x1_0 (select onesQ
      (broadcastInDim S1024 ![] bcast_S_S1024 (constant (F := Ideal) S_ .f32 0x3F800000#32))
      (broadcastInDim S1024 ![] bcast_S_S1024 (constant (F := Ideal) S_ .f32 0x00000000#32))) : FVec Ideal S1024x1 .f32) := by
    unfold_abbrev_sides
    simp only [List.flatten_cons, List.flatten_nil, List.cons_append, List.nil_append]
    after_results
    rfl
  have d := onesQ_at (y 0)
  rw [e]
  generalize onesQ = D at d ⊢
  pointwise
  exact choose _ _ d _ _

/-! ## What they pick -/

theorem picked_key (u : Fin 128 → EReal) (x : Fin 512) (q e p : ℕ) (hq : q < 4) (he : e < 4) (hp : p < 3) (hx : x.val = 128 * q + 64 + 3 * e + p) :
    (∑ n : Fin 384, part (u ⟨n.val % 128, by omega⟩) ⟨n.val / 128, by omega⟩ * V m c main_v38 (ix2 n x)) = -part (u ⟨4 * q + e, by omega⟩) ⟨p, hp⟩ := by
  rw [Finset.sum_eq_single (⟨128 * p + (4 * q + e), by omega⟩ : Fin 384)]
  · have e1 : (⟨(128 * p + (4 * q + e)) % 128, by omega⟩ : Fin 128) = ⟨4 * q + e, by omega⟩ := Fin.ext (show (128 * p + (4 * q + e)) % 128 = 4 * q + e by omega)
    have e2 : (⟨(128 * p + (4 * q + e)) / 128, by omega⟩ : Fin 3) = ⟨p, hp⟩ := Fin.ext (show (128 * p + (4 * q + e)) / 128 = p by omega)
    have e0 : (128 * p + (4 * q + e)) % 128 = 4 * q + e := by
      rw [Nat.mul_add_mod]
      exact Nat.mod_eq_of_lt (by omega)
    have e3 : (128 * p + (4 * q + e)) % 128 / 4 = q := by rw [e0]; omega
    have e4 : (128 * p + (4 * q + e)) % 4 = e := by omega
    have e5 : (128 * p + (4 * q + e)) / 128 = p := by omega
    rw [place_k, if_pos (by dsimp only; rw [e3, e4, e5]; omega), mul_neg, mul_one, e1, e2]
  · intro n _ hn
    have h1 : n.val / 128 < 3 := by omega
    have h2 : n.val % 4 < 4 := by omega
    have hs : n.val = 128 * (n.val / 128) + (4 * (n.val % 128 / 4) + n.val % 4) := by omega
    rw [place_k, if_neg, mul_zero]
    refine fun h => hn (Fin.ext ?_)
    dsimp only
    rw [hs]
    generalize n.val / 128 = i at *
    generalize n.val % 4 = j at *
    generalize n.val % 128 / 4 = k at *
    rw [hx] at h
    have hk : k = q := by omega
    subst hk
    have hj : j = e := by omega
    subst hj
    omega
  · exact fun hh => absurd (Finset.mem_univ _) hh

/-- The keys' spare lanes: the parts of four heads' sums, negated, and then three ones. -/
theorem spare_keys (u : Fin 128 → EReal) (x : Fin 512) :
    (∑ n : Fin 384, part (u ⟨n.val % 128, by omega⟩) ⟨n.val / 128, by omega⟩ * V m c main_v38 (ix2 n x)) + V m c main_v48 (ix2 0 x)
      = if 64 ≤ x.val % 128 ∧ x.val % 128 < 76 then
          -part (u ⟨4 * (x.val / 128) + (x.val % 128 - 64) / 3 % 4, by omega⟩) ⟨(x.val % 128 - 64) % 3, by omega⟩
        else if 76 ≤ x.val % 128 ∧ x.val % 128 < 79 then 1 else 0 := by
  have o : V m c main_v48 (ix2 0 x) = if 76 ≤ x.val % 128 ∧ x.val % 128 < 79 then (1 : EReal) else 0 := ones_k m c (ix2 0 x)
  rw [o]
  by_cases h : 64 ≤ x.val % 128 ∧ x.val % 128 < 76
  · rw [if_pos h, if_neg (show ¬ (76 ≤ x.val % 128 ∧ x.val % 128 < 79) by omega), add_zero]
    exact picked_key m c u x _ _ _ (by omega) (by omega) (by omega) (by omega)
  · rw [if_neg h]
    refine (congrArg (· + _) (Finset.sum_eq_zero fun n _ => ?_)).trans (zero_add _)
    have hp : n.val / 128 < 3 := by omega
    have hb : n.val % 4 < 4 := by omega
    rw [place_k, if_neg, mul_zero]
    generalize n.val / 128 = p at hp ⊢
    generalize n.val % 4 = b at hb ⊢
    generalize n.val % 128 / 4 = a
    intro hx
    have hm : x.val % 128 = 64 + 3 * b + p := by
      rw [← hx, show 128 * a + 64 + 3 * b + p = 128 * a + (64 + 3 * b + p) by omega, Nat.mul_add_mod]
      exact Nat.mod_eq_of_lt (by omega)
    omega

/-- The queries' spare lanes: ones at the head's place in its group, and then the parts of its sum. -/
theorem spare_queries (v : S16x256.Idx → EReal) (r : Fin 256) (n : Fin 1024) :
    (∑ x : Fin 128, @HMul.hMul EReal EReal EReal _ (V m c main_v86 (ix2 n x)) (pick v r x)) + V m c main_v85 (ix2 n 0)
      = if n.val % 64 < 12 then (if n.val % 64 / 3 = n.val / 64 % 4 then 1 else 0)
        else if n.val % 64 < 15 then part (v (ix2 ⟨n.val / 64, by omega⟩ r)) ⟨(n.val % 64 - 12) % 3, by omega⟩ else 0 := by
  have o : V m c main_v85 (ix2 n 0) = if n.val % 64 < 12 ∧ n.val % 64 / 3 = n.val / 64 % 4 then (1 : EReal) else 0 := ones_q m c (ix2 n 0)
  rw [o]
  by_cases h : n.val % 64 < 12
  · rw [if_pos h, Finset.sum_eq_zero, zero_add]
    · by_cases h2 : n.val % 64 / 3 = n.val / 64 % 4
      · exact (if_pos ⟨h, h2⟩).trans (if_pos h2).symm
      · exact (if_neg fun hh => h2 hh.2).trans (if_neg h2).symm
    · intro x _
      rw [place_q, if_neg (by omega), zero_mul]
  · refine (congrArg (_ + ·) (if_neg fun hh => h hh.1)).trans ?_
    rw [if_neg h, add_zero]
    by_cases h1 : n.val % 64 < 15
    · rw [if_pos h1, Finset.sum_eq_single (⟨16 * (n.val % 64 - 12) + n.val / 64, by omega⟩ : Fin 128)]
      · rw [place_q, if_pos ⟨by omega, h1, rfl⟩, one_mul]
        unfold pick
        rw [if_pos (by dsimp only; omega)]
        have e1 : (⟨(16 * (n.val % 64 - 12) + n.val / 64) % 16, by omega⟩ : Fin 16) = ⟨n.val / 64, by omega⟩ :=
          Fin.ext (show (16 * (n.val % 64 - 12) + n.val / 64) % 16 = n.val / 64 by omega)
        have e2 : (⟨(16 * (n.val % 64 - 12) + n.val / 64) / 16 % 3, by omega⟩ : Fin 3) = ⟨(n.val % 64 - 12) % 3, by omega⟩ :=
          Fin.ext (show (16 * (n.val % 64 - 12) + n.val / 64) / 16 % 3 = (n.val % 64 - 12) % 3 by omega)
        rw [e1, e2]
      · intro x _ hx
        rw [place_q, if_neg fun e => hx (Fin.ext e.2.2.symm), zero_mul]
      · exact fun hh => absurd (Finset.mem_univ _) hh
    · rw [if_neg h1, Finset.sum_eq_zero]
      intro x _
      rw [place_q, if_neg fun e => h1 e.2.1, zero_mul]

end Cert.FoxProjIdeal.Rows

end
-- ==== Proof.FoxProj.Spare.lean ====
/-
  The forgetting layers' input projection: the queries and the keys with the bias in their spare lanes.
-/
module

public import proofs.«01_k».proof.Proof.FoxProj.Carry
public import proofs.«01_k».proof.Proof.FoxProj.Consts

@[expose] public section

set_option maxRecDepth 16384
set_option Elab.async false

noncomputable section

namespace Cert.FoxProjIdeal.Rows

open Cert.FoxProjIdeal Cert.FoxProjIdeal.Gen
open Idealize.ShloMosaic
open Idealize.ShloMosaic.TcCoe
open Cert.Rms Cert.Prefix
open Finset (range)

variable (X : Shape.Idx S2x8192x1024 → EReal) (g : Shape.Idx S1024 → EReal) (W : Shape.Idx S1024x2576 → EReal) (B : Shape.Idx S16 → EReal)

/-- The queries, 128 lanes per head: the scaled query, ones at the head's place in its group, and the parts of its running sum. -/
def qArr (y : Shape.Idx S2x2048x8192) : EReal :=
  if (y 1 : Fin 2048).val % 128 < 64 then
    proj X g W (y 0) (y 2) ⟨64 * ((y 1 : Fin 2048).val / 128) + (y 1 : Fin 2048).val % 128 % 64,
      by have : (y 1 : Fin 2048).val < 2048 := (y 1 : Fin 2048).isLt; omega⟩ * qScale
  else if (y 1 : Fin 2048).val % 128 % 64 < 12 then
    (if (y 1 : Fin 2048).val % 128 % 64 / 3 = (y 1 : Fin 2048).val / 128 % 4 then 1 else 0)
  else if (y 1 : Fin 2048).val % 128 % 64 < 15 then
    part (cum X g W B (y 0) (y 2) ⟨(y 1 : Fin 2048).val / 128, by have : (y 1 : Fin 2048).val < 2048 := (y 1 : Fin 2048).isLt; omega⟩ * lScale)
      ⟨((y 1 : Fin 2048).val % 128 % 64 - 12) % 3, by omega⟩
  else 0

/-- The keys, 128 lanes per head: the key, the parts of its four heads' running sums, negated, and three ones. -/
def aArr (y : Shape.Idx S2x8192x512) : EReal :=
  if (y 2 : Fin 512).val % 128 < 64 then
    proj X g W (y 0) (y 1) ⟨1024 + (64 * ((y 2 : Fin 512).val / 128) + (y 2 : Fin 512).val % 128 % 64),
      by have : (y 2 : Fin 512).val < 512 := (y 2 : Fin 512).isLt; omega⟩
  else if 64 ≤ (y 2 : Fin 512).val % 128 ∧ (y 2 : Fin 512).val % 128 < 76 then
    -part (cum X g W B (y 0) (y 1) ⟨4 * ((y 2 : Fin 512).val / 128) + ((y 2 : Fin 512).val % 128 - 64) / 3 % 4,
      by have : (y 2 : Fin 512).val < 512 := (y 2 : Fin 512).isLt; omega⟩ * lScale) ⟨((y 2 : Fin 512).val % 128 - 64) % 3, by omega⟩
  else if 76 ≤ (y 2 : Fin 512).val % 128 ∧ (y 2 : Fin 512).val % 128 < 79 then 1 else 0

variable (m : (ℓ : Loc nD τ sig) → Buf (Elt Ideal) ℓ) (c : Dev nD)

/-- The running sums within a step. -/
theorem rows_at (t : Fin cfg0.N) (prev : Vec Ideal S1x128 .f32) (hp : ∀ i, prev i = ∑ k ∈ range (t.val % 32), rowTerm m c (32 * (t.val / 32) + k) i)
    (r : Fin 256) (h : Fin 16) (b : Fin 2) (s : Fin 8192) (hb : b.val = t.val / 32) (hs : s.val = 256 * (t.val % 32) + r.val) :
    k0_pay22 (rowLog m c t) prev (ix2 r ⟨h.val, by omega⟩) = cum (m ((c : Thread nD τ).loc main_arg0)) (m ((c : Thread nD τ).loc main_arg1)) (m ((c : Thread nD τ).loc main_arg2)) (m ((c : Thread nD τ).loc main_arg3)) b s h := by
  have ht : t.val < 64 := t.isLt
  refine (rows_sum _ (rowLog_ne m c t) prev _).trans ?_
  unfold cum
  rw [hs]
  refine Eq.trans ?_ (prefix_blocks (logAt (m ((c : Thread nD τ).loc main_arg0)) (m ((c : Thread nD τ).loc main_arg1)) (m ((c : Thread nD τ).loc main_arg2)) (m ((c : Thread nD τ).loc main_arg3)) b h) (t.val % 32) r)
  refine congrArg₂ (· + ·) ((hp _).trans (Finset.sum_congr rfl fun k hk => ?_)) (Finset.sum_congr rfl fun x _ => ?_)
  · have hk' : k < t.val % 32 := Finset.mem_range.1 hk
    have hn : 32 * (t.val / 32) + k < cfg0.N := show 32 * (t.val / 32) + k < 64 by omega
    refine (dif_pos hn).trans (Finset.sum_congr rfl fun x _ => (rowLog_at m c ⟨_, hn⟩ x h b ?_).trans ?_)
    · show b.val = (32 * (t.val / 32) + k) / 32
      omega
    · show logAt _ _ _ _ b h (256 * ((32 * (t.val / 32) + k) % 32) + x.val) = _
      rw [show (32 * (t.val / 32) + k) % 32 = k by omega]
  · by_cases hx : x ≤ r
    · exact (if_pos hx).trans ((rowLog_at m c t x h b hb).trans (if_pos hx).symm)
    · exact (if_neg hx).trans (if_neg hx).symm

/-- The running sums within a step. -/
theorem cols_at (t : Fin cfg0.N) (prev : Vec Ideal S16x1 .f32) (hp : ∀ i, prev i = ∑ k ∈ range (t.val % 32), colTerm m c (32 * (t.val / 32) + k) i)
    (r : Fin 256) (h : Fin 16) (b : Fin 2) (s : Fin 8192) (hb : b.val = t.val / 32) (hs : s.val = 256 * (t.val % 32) + r.val) :
    k0_pay27 (colLog m c t) k0_pay21 prev (ix2 h r) = cum (m ((c : Thread nD τ).loc main_arg0)) (m ((c : Thread nD τ).loc main_arg1)) (m ((c : Thread nD τ).loc main_arg2)) (m ((c : Thread nD τ).loc main_arg3)) b s h * lScale := by
  have ht : t.val < 64 := t.isLt
  refine (cols_sum _ (colLog_ne m c t) prev _).trans (congrArg (· * lScale) ?_)
  unfold cum
  rw [hs]
  refine Eq.trans ?_ (prefix_blocks (logAt (m ((c : Thread nD τ).loc main_arg0)) (m ((c : Thread nD τ).loc main_arg1)) (m ((c : Thread nD τ).loc main_arg2)) (m ((c : Thread nD τ).loc main_arg3)) b h) (t.val % 32) r)
  refine congrArg₂ (· + ·) ((hp _).trans (Finset.sum_congr rfl fun k hk => ?_)) (Finset.sum_congr rfl fun x _ => ?_)
  · have hk' : k < t.val % 32 := Finset.mem_range.1 hk
    have hn : 32 * (t.val / 32) + k < cfg0.N := show 32 * (t.val / 32) + k < 64 by omega
    refine (dif_pos hn).trans (Finset.sum_congr rfl fun x _ => (colLog_at m c ⟨_, hn⟩ x h b ?_).trans ?_)
    · show b.val = (32 * (t.val / 32) + k) / 32
      omega
    · show logAt _ _ _ _ b h (256 * ((32 * (t.val / 32) + k) % 32) + x.val) = _
      rw [show (32 * (t.val / 32) + k) % 32 = k by omega]
  · by_cases hx : x ≤ r
    · exact (if_pos hx).trans ((colLog_at m c t x h b hb).trans (if_pos hx).symm)
    · exact (if_neg hx).trans (if_neg hx).symm

/-- The keys' stores at a step, over what the steps before have summed. -/
theorem key_state (t : Fin cfg0.N) : ∃ prev : Vec Ideal S1x128 .f32, (∀ i, prev i = ∑ k ∈ range (t.val % 32), rowTerm m c (32 * (t.val / 32) + k) i)
    ∧ (outsAt0 m c t.val t.isLt).2.2.2.2.1 = View.canon (kPieces (k0_pay8 (iblk m c 0 t) (iblk m c 1 t) (iblk m c 3 t))
      (k0_pay25 (k0_pay22 (rowLog m c t) prev) (iblk m c 8 t) (iblk m c 9 t))) := by
  have ht : t.val < 64 := t.isLt
  by_cases h : t.val % 32 = 0
  · refine ⟨k0_pay14 (F := Ideal), fun i => ?_, ?_⟩
    · rw [h]
      exact zero_row i
    · rw [outsAt0_A m c t h]
      frame_out
      try rfl
  · refine ⟨(outsAt0 m c (t.val - 1) (Nat.lt_of_le_of_lt (Nat.sub_le _ _) t.isLt)).2.2.2.2.2.2.2.1, fun i => ?_, ?_⟩
    · have hn : t.val - 1 < cfg0.N := Nat.lt_of_le_of_lt (Nat.sub_le _ _) t.isLt
      refine (rows_carried m c ⟨t.val - 1, hn⟩ i).trans ((zero_add _).trans ?_)
      show ∑ k ∈ range ((t.val - 1) % 32 + 1), rowTerm m c (32 * ((t.val - 1) / 32) + k) i = _
      rw [show (t.val - 1) % 32 + 1 = t.val % 32 by omega, show (t.val - 1) / 32 = t.val / 32 by omega]
    · rw [outsAt0_B m c t h]
      frame_out
      simp only [read_unread_whole]
      try rfl

/-- The queries' stores at a step, over what the steps before have summed. -/
theorem query_state (t : Fin cfg0.N) : ∃ prev : Vec Ideal S16x1 .f32, (∀ i, prev i = ∑ k ∈ range (t.val % 32), colTerm m c (32 * (t.val / 32) + k) i)
    ∧ (outsAt0 m c t.val t.isLt).1 = View.canon (qPieces (k0_pay7 (iblk m c 0 t) (iblk m c 1 t) (iblk m c 2 t)) (k0_pay26 (F := Ideal))
      (k0_pay27 (colLog m c t) k0_pay21 prev) (k0_pay28 (colLog m c t) k0_pay21 prev) (k0_pay29 (colLog m c t) k0_pay21 prev) (iblk m c 10 t) (iblk m c 11 t)) := by
  have ht : t.val < 64 := t.isLt
  by_cases h : t.val % 32 = 0
  · refine ⟨k0_pay15 (F := Ideal), fun i => ?_, ?_⟩
    · rw [h]
      exact zero_col i
    · rw [outsAt0_A m c t h]
      frame_out
      try rfl
  · refine ⟨(outsAt0 m c (t.val - 1) (Nat.lt_of_le_of_lt (Nat.sub_le _ _) t.isLt)).2.2.2.2.2.2.2.2, fun i => ?_, ?_⟩
    · have hn : t.val - 1 < cfg0.N := Nat.lt_of_le_of_lt (Nat.sub_le _ _) t.isLt
      refine (cols_carried m c ⟨t.val - 1, hn⟩ i).trans ((zero_add _).trans ?_)
      show ∑ k ∈ range ((t.val - 1) % 32 + 1), colTerm m c (32 * ((t.val - 1) / 32) + k) i = _
      rw [show (t.val - 1) % 32 + 1 = t.val % 32 by omega, show (t.val - 1) / 32 = t.val / 32 by omega]
    · rw [outsAt0_B m c t h]
      frame_out
      simp only [read_unread_whole]
      try rfl

/-- The keys' array, by positions. -/
theorem arr16 : (dats m 0 c).arrAt (16 : Fin 19) cfg0.N = aArr (m ((c : Thread nD τ).loc main_arg0)) (m ((c : Thread nD τ).loc main_arg1)) (m ((c : Thread nD τ).loc main_arg2)) (m ((c : Thread nD τ).loc main_arg3)) := by
  refine (dats m 0 c).arrAt_eq_of_covers (16 : Fin 19) _ (by decide +kernel) fun t hf y => ?_
  obtain ⟨p4, p6, p8, p9, p10, p11, p12, p16⟩ := places' t
  obtain ⟨prev, hp, he⟩ := key_state m c t
  rw [after0_16]
  refine (congrFun he y).trans ((keys _ _ y).trans ?_)
  have e0 : (((cfg0.win (16 : Fin 19)).blk t).view.emb y 0 : Fin 2).val = t.val / 32 := by
    blk_simp [p16]
    try omega
  have e1 : (((cfg0.win (16 : Fin 19)).blk t).view.emb y 1 : Fin 8192).val = 256 * (t.val % 32) + (y 1 : Fin 256).val := by
    blk_simp [p16]
    try omega
  have e : (((cfg0.win (16 : Fin 19)).blk t).view.emb y 2 : Fin 512).val = (y 2 : Fin 512).val := by
    blk_simp [p16]
    try omega
  have hl : (y 2 : Fin 512).val < 512 := (y 2 : Fin 512).isLt
  unfold kBlock aArr
  by_cases h : (y 2 : Fin 512).val % 128 < 64
  · refine (if_pos h).trans (Eq.trans ?_ (if_pos (by rw [e]; exact h)).symm)
    refine (keys_at _ _ _ _).trans ?_
    refine (key_blk m c t ⟨64 * ((y 2 : Fin 512).val / 128) + (y 2 : Fin 512).val % 128 % 64, by omega⟩ _ (((cfg0.win (16 : Fin 19)).blk t).view.emb y 0) (((cfg0.win (16 : Fin 19)).blk t).view.emb y 1) e0 e1).trans ?_
    refine congrArg _ (Fin.ext ?_)
    show 1024 + _ = 1024 + (64 * (_ / 128) + _ % 128 % 64)
    rw [e]
  · refine (if_neg h).trans (Eq.trans ?_ (if_neg (by rw [e]; exact h)).symm)
    refine (spare_k _ _ _ _).trans ?_
    have e8 : ∀ (n : Fin 384) (x : Fin 512), iblk m c 8 t (ix2 n x) = V m c main_v38 (ix2 n x) := by
      intro n x
      blk_ext [iblk, p8]
    have e9 : ∀ (x : Fin 512), iblk m c 9 t (ix2 0 x) = V m c main_v48 (ix2 0 x) := by
      intro x
      blk_ext [iblk, p9]
    refine Eq.trans (congrArg₂ (· + ·) (Finset.sum_congr rfl fun n _ => congrArg (_ * ·) (e8 n (y 2))) (e9 (y 2))) ?_
    refine (spare_keys m c (fun j => k0_pay22 (rowLog m c t) prev (ix2 (y 1) j) * lScale) (y 2)).trans ?_
    by_cases h1 : 64 ≤ (y 2 : Fin 512).val % 128 ∧ (y 2 : Fin 512).val % 128 < 76
    · refine (if_pos h1).trans (Eq.trans ?_ (if_pos (by rw [e]; exact h1)).symm)
      refine congrArg Neg.neg (congrArg₂ (fun u i => part (u * lScale) i) ?_ ?_)
      · refine (rows_at m c t prev hp (y 1) ⟨4 * ((y 2 : Fin 512).val / 128) + ((y 2 : Fin 512).val % 128 - 64) / 3 % 4, by omega⟩
          (((cfg0.win (16 : Fin 19)).blk t).view.emb y 0) (((cfg0.win (16 : Fin 19)).blk t).view.emb y 1) e0 e1).trans ?_
        refine congrArg _ (Fin.ext ?_)
        show 4 * (_ / 128) + (_ % 128 - 64) / 3 % 4 = 4 * (_ / 128) + (_ % 128 - 64) / 3 % 4
        rw [e]
      · apply Fin.ext
        show (_ % 128 - 64) % 3 = (_ % 128 - 64) % 3
        rw [e]
    · refine (if_neg h1).trans (Eq.trans ?_ (if_neg (by rw [e]; exact h1)).symm)
      by_cases h2 : 76 ≤ (y 2 : Fin 512).val % 128 ∧ (y 2 : Fin 512).val % 128 < 79
      · exact (if_pos h2).trans (if_pos (by rw [e]; exact h2)).symm
      · exact (if_neg h2).trans (if_neg (by rw [e]; exact h2)).symm

section
variable (u : Vec Ideal S16x256 .f32) (w : Vec Ideal S256x256 .bf16) (prev : Vec Ideal S16x1 .f32)

theorem first_part (z : S16x256.Idx) : k0_pay28 u w prev z = k0_pay27 u w prev z := by
  unfold k0_pay28
  generalize k0_pay27 u w prev = a
  pointwise

theorem first_wide (z : S16x256.Idx) : k0_pay29 u w prev z = k0_pay27 u w prev z := by
  unfold k0_pay29 k0_pay28
  generalize k0_pay27 u w prev = a
  pointwise

end

/-- The spare lanes of the queries' block, by the running sums. -/
theorem spare_rows (u : Vec Ideal S16x256 .f32) (w : Vec Ideal S256x256 .bf16) (prev : Vec Ideal S16x1 .f32) (p : Vec Ideal S1024x128 .bf16) (q : Vec Ideal S1024x1 .f32)
    (y : S1024x256.Idx) : k0_pay30 k0_pay26 (k0_pay27 u w prev) (k0_pay28 u w prev) (k0_pay29 u w prev) p q y
      = (∑ n : Fin 128, p (ix2 (y 0) n) * pick (k0_pay27 u w prev) (y 1) n) + q (ix2 (y 0) 0) := by
  have h1 := first_part u w prev
  have h2 := first_wide u w prev
  generalize k0_pay27 u w prev = v at h1 h2 ⊢
  generalize k0_pay28 u w prev = hi at h1 ⊢
  generalize k0_pay29 u w prev = ex at h2 ⊢
  exact spare_q v hi ex h1 h2 p q y

set_option maxHeartbeats 800000 in
/-- The queries' array. -/
theorem arr12 : (dats m 0 c).arrAt (12 : Fin 19) cfg0.N = qArr (m ((c : Thread nD τ).loc main_arg0)) (m ((c : Thread nD τ).loc main_arg1)) (m ((c : Thread nD τ).loc main_arg2)) (m ((c : Thread nD τ).loc main_arg3)) := by
  refine (dats m 0 c).arrAt_eq_of_covers (12 : Fin 19) _ (by decide +kernel) fun t hf y => ?_
  obtain ⟨p4, p6, p8, p9, p10, p11, p12, p16⟩ := places' t
  obtain ⟨prev, hp, he⟩ := query_state m c t
  rw [after0_12]
  refine (congrFun he y).trans ((queries _ _ _ _ _ _ _ _ rfl y).trans ?_)
  have e0 : (((cfg0.win (12 : Fin 19)).blk t).view.emb y 0 : Fin 2).val = t.val / 32 := by
    blk_simp [p12]
    try omega
  have e2 : (((cfg0.win (12 : Fin 19)).blk t).view.emb y 2 : Fin 8192).val = 256 * (t.val % 32) + (y 2 : Fin 256).val := by
    blk_simp [p12]
    try omega
  have e : (((cfg0.win (12 : Fin 19)).blk t).view.emb y 1 : Fin 2048).val = (y 1 : Fin 2048).val := by
    blk_simp [p12]
    try omega
  have hl : (y 1 : Fin 2048).val < 2048 := (y 1 : Fin 2048).isLt
  unfold qBlock qArr
  by_cases h : (y 1 : Fin 2048).val % 128 < 64
  · refine (if_pos h).trans (Eq.trans ?_ (if_pos (by rw [e]; exact h)).symm)
    refine congrArg (· * qScale) ?_
    refine (all_at _ _ _ _).trans ?_
    refine (feat_blk m c t ⟨64 * ((y 1 : Fin 2048).val / 128) + (y 1 : Fin 2048).val % 128 % 64, by omega⟩ (y 2) (((cfg0.win (12 : Fin 19)).blk t).view.emb y 0) (((cfg0.win (12 : Fin 19)).blk t).view.emb y 2) e0 e2).trans ?_
    refine congrArg _ (Fin.ext ?_)
    show _ = 64 * (_ / 128) + _ % 128 % 64
    rw [e]
  · refine (if_neg h).trans (Eq.trans ?_ (if_neg (by rw [e]; exact h)).symm)
    refine (spare_rows (colLog m c t) (k0_pay21 (F := Ideal)) prev _ _ _).trans ?_
    have e10 : ∀ (n : Fin 1024) (x : Fin 128), iblk m c 10 t (ix2 n x) = V m c main_v86 (ix2 n x) := by
      intro n x
      blk_ext [iblk, p10]
    have e11 : ∀ (n : Fin 1024), iblk m c 11 t (ix2 n 0) = V m c main_v85 (ix2 n 0) := by
      intro n
      blk_ext [iblk, p11]
    refine Eq.trans (congrArg₂ (· + ·) (Finset.sum_congr rfl fun n _ => congrArg (· * _) (e10 _ n)) (e11 _)) ?_
    refine (spare_queries m c _ (y 2) ⟨64 * ((y 1 : Fin 2048).val / 128) + (y 1 : Fin 2048).val % 128 % 64, by omega⟩).trans ?_
    have f1 : (64 * ((y 1 : Fin 2048).val / 128) + (y 1 : Fin 2048).val % 128 % 64) % 64 = (y 1 : Fin 2048).val % 128 % 64 := by omega
    have f2 : (64 * ((y 1 : Fin 2048).val / 128) + (y 1 : Fin 2048).val % 128 % 64) / 64 = (y 1 : Fin 2048).val / 128 := by omega
    by_cases h1 : (y 1 : Fin 2048).val % 128 % 64 < 12
    · refine (if_pos (by rw [f1]; exact h1)).trans (Eq.trans ?_ (if_pos (by rw [e]; exact h1)).symm)
      by_cases h2 : (y 1 : Fin 2048).val % 128 % 64 / 3 = (y 1 : Fin 2048).val / 128 % 4
      · exact (if_pos (by rw [f1, f2]; exact h2)).trans (if_pos (by rw [e]; exact h2)).symm
      · exact (if_neg (by rw [f1, f2]; exact h2)).trans (if_neg (by rw [e]; exact h2)).symm
    · refine (if_neg (by rw [f1]; exact h1)).trans (Eq.trans ?_ (if_neg (by rw [e]; exact h1)).symm)
      by_cases h2 : (y 1 : Fin 2048).val % 128 % 64 < 15
      · refine (if_pos (by rw [f1]; exact h2)).trans (Eq.trans ?_ (if_pos (by rw [e]; exact h2)).symm)
        refine congrArg₂ part ?_ ?_
        · refine (cols_at m c t prev hp (y 2) ⟨(64 * ((y 1 : Fin 2048).val / 128) + (y 1 : Fin 2048).val % 128 % 64) / 64, by omega⟩
            (((cfg0.win (12 : Fin 19)).blk t).view.emb y 0) (((cfg0.win (12 : Fin 19)).blk t).view.emb y 2) e0 e2).trans ?_
          refine congrArg (· * lScale) (congrArg _ (Fin.ext ?_))
          show (64 * ((y 1 : Fin 2048).val / 128) + (y 1 : Fin 2048).val % 128 % 64) / 64 = _ / 128
          rw [e, f2]
        · apply Fin.ext
          show ((64 * ((y 1 : Fin 2048).val / 128) + (y 1 : Fin 2048).val % 128 % 64) % 64 - 12) % 3 = (_ % 128 % 64 - 12) % 3
          rw [e, f1]
      · exact (if_neg (by rw [f1]; exact h2)).trans (if_neg (by rw [e]; exact h2)).symm

end Cert.FoxProjIdeal.Rows

end
-- ==== Proof.FoxProj.Lanes.lean ====
/-
  The reference of the forgetting layers' input projection, the spare lanes.
-/
module

public import proofs.«01_k».proof.Proof.Gen.FoxProjReferenceIdeal.Run
public import proofs.«01_k».proof.Proof.FoxProj.Reference
public import proofs.«01_k».proof.Proof.FoxProj.Spare

@[expose] public section

set_option maxRecDepth 16384
set_option Elab.async false

noncomputable section

namespace Cert.FoxProjReferenceIdeal.Rows

open Cert.FoxProjReferenceIdeal Cert.FoxProjReferenceIdeal.Gen
open Idealize.ShloMosaic
open Idealize.ShloMosaic.TcCoe
open Cert.Rms Cert.Prefix
open Finset (range)
open Cert.FoxProjIdeal.Rows (proj logF logAt cum part lScale qScale qArr aArr logArr)

theorem scaled_at (P : FVec Ideal S2x8192x2576 .f32) (b : Fin 2) (s : Fin 8192) (h : Fin 16) (l : Fin 64) :
    scaled P (ix4 b s h l) = @HMul.hMul EReal EReal EReal _ (P (ix3 b s ⟨h.val * 64 + l.val, by omega⟩)) qScale := by
  unfold scaled qScale
  pointwise

theorem spread_at (H : IVec S16x4 1) (y : S2x8192x16x4x3.Idx) : spread H y = FloatOps.uitofp (F := Ideal) .f32 (H (ix2 (y 2) (y 3))) := by
  unfold spread
  pointwise

theorem own_at (U : FVec Ideal S2x8192x16x4x3 .f32) (b : Fin 2) (s : Fin 8192) (h : Fin 16) (l : Fin 12) :
    own U (ix4 b s h l) = U (ix5 b s h ⟨l.val / 3, by omega⟩ ⟨l.val % 3, by omega⟩) := by
  unfold own
  pointwise

theorem queryHeads_at (a : FVec Ideal S2x8192x16x64 .f32) (u : FVec Ideal S2x8192x16x12 .f32) (T : FVec Ideal S2x8192x16x3 .f32)
    (b : Fin 2) (s : Fin 8192) (h : Fin 16) (l : Fin 128) : (queryHeads a u T (ix4 b s h l) : EReal)
      = if h0 : l.val < 64 then a (ix4 b s h ⟨l.val, h0⟩) else if h1 : l.val - 64 < 12 then u (ix4 b s h ⟨l.val - 64, h1⟩)
        else if h2 : l.val - 64 - 12 < 3 then T (ix4 b s h ⟨l.val - 64 - 12, h2⟩) else 0 := by
  unfold queryHeads
  pointwise

theorem queryLanes_at (Q : FVec Ideal S2x8192x16x128 .f32) (y : S2x2048x8192.Idx) : (queryLanes Q y : EReal)
    = Q (ix4 (y 0) (y 2) ⟨(y 1 : Fin 2048).val / 128, by have : (y 1 : Fin 2048).val < 2048 := (y 1 : Fin 2048).isLt; omega⟩
        ⟨(y 1 : Fin 2048).val % 128, by omega⟩) := by
  unfold queryLanes
  pointwise

theorem keysOf_at (P : FVec Ideal S2x8192x2576 .f32) (b : Fin 2) (s : Fin 8192) (h : Fin 4) (l : Fin 64) :
    keysOf P (ix4 b s h l) = P (ix3 b s ⟨1024 + (h.val * 64 + l.val), by omega⟩) := by
  unfold keysOf
  pointwise

theorem minus_at (T : FVec Ideal S2x8192x16x3 .f32) (b : Fin 2) (s : Fin 8192) (h : Fin 4) (l : Fin 12) :
    (minus T (ix4 b s h l) : EReal) = -(T (ix4 b s ⟨h.val * 4 + l.val / 3, by omega⟩ ⟨l.val % 3, by omega⟩) : EReal) := by
  unfold minus
  pointwise

theorem keyHeads_at (a : FVec Ideal S2x8192x4x64 .f32) (u : FVec Ideal S2x8192x4x12 .f32)
    (b : Fin 2) (s : Fin 8192) (h : Fin 4) (l : Fin 128) : (keyHeads a u (ix4 b s h l) : EReal)
      = if h0 : l.val < 64 then a (ix4 b s h ⟨l.val, h0⟩) else if h1 : l.val - 64 < 12 then u (ix4 b s h ⟨l.val - 64, h1⟩)
        else if _h2 : l.val - 64 - 12 < 3 then 1 else 0 := by
  unfold keyHeads
  pointwise

theorem keyLanes_at (K : FVec Ideal S2x8192x4x128 .f32) (y : S2x8192x512.Idx) : (keyLanes K y : EReal)
    = K (ix4 (y 0) (y 1) ⟨(y 2 : Fin 512).val / 128, by have : (y 2 : Fin 512).val < 512 := (y 2 : Fin 512).isLt; omega⟩
        ⟨(y 2 : Fin 512).val % 128, by omega⟩) := by
  unfold keyLanes
  pointwise

theorem bit_value (n : BitVec 1) (p : Prop) [Decidable p] (h : n = if p then 1#1 else 0#1) :
    (FloatOps.uitofp (F := Ideal) FTy.f32 n : EReal) = if p then 1 else 0 := by
  subst h
  by_cases hp : p
  · rw [if_pos hp, if_pos hp]
    show (((1#1 : BitVec 1).toNat : ℝ) : EReal) = 1
    simp
  · rw [if_neg hp, if_neg hp]
    show (((0#1 : BitVec 1).toNat : ℝ) : EReal) = 0
    simp

variable (X : FVec Ideal S2x8192x1024 .f32) (g : FVec Ideal S1024 .f32) (W : FVec Ideal S1024x2576 .f32) (B : FVec Ideal S16 .f32)

/-- The reference's keys are the call's. -/
theorem keys_out (P : FVec Ideal S2x8192x2576 .f32) (T : FVec Ideal S2x8192x16x3 .f32) (hP : ∀ y, P y = proj X g W (y 0) (y 1) (y 2))
    (hT : ∀ b s h i, T (ix4 b s h i) = part (cum X g W B b s h * lScale) i) (y : S2x8192x512.Idx) :
    keyLanes (keyHeads (keysOf P) (minus T)) y = aArr X g W B y := by
  have hl : (y 2 : Fin 512).val < 512 := (y 2 : Fin 512).isLt
  refine (keyLanes_at _ y).trans ((keyHeads_at _ _ _ _ _ _).trans ?_)
  unfold aArr
  by_cases h : (y 2 : Fin 512).val % 128 < 64
  · refine (dif_pos h).trans (Eq.trans ?_ (if_pos h).symm)
    refine (keysOf_at P _ _ _ _).trans ((hP _).trans (congrArg (proj X g W (y 0) (y 1)) (Fin.ext ?_)))
    show 1024 + ((y 2 : Fin 512).val / 128 * 64 + (y 2 : Fin 512).val % 128) = 1024 + (64 * ((y 2 : Fin 512).val / 128) + (y 2 : Fin 512).val % 128 % 64)
    omega
  · refine (dif_neg h).trans (Eq.trans ?_ (if_neg h).symm)
    by_cases h1 : (y 2 : Fin 512).val % 128 - 64 < 12
    · refine (dif_pos h1).trans (Eq.trans ?_ (if_pos ⟨by omega, by omega⟩).symm)
      refine (minus_at T _ _ _ _).trans (congrArg Neg.neg ((hT _ _ _ _).trans ?_))
      refine congrArg (fun k => part (cum X g W B (y 0) (y 1) k * lScale) _) (Fin.ext ?_)
      show (y 2 : Fin 512).val / 128 * 4 + ((y 2 : Fin 512).val % 128 - 64) / 3 = 4 * ((y 2 : Fin 512).val / 128) + ((y 2 : Fin 512).val % 128 - 64) / 3 % 4
      omega
    · refine (dif_neg h1).trans (Eq.trans ?_ (if_neg fun hh => h1 (by omega)).symm)
      by_cases h2 : (y 2 : Fin 512).val % 128 - 64 - 12 < 3
      · exact (dif_pos h2).trans (if_pos ⟨by omega, by omega⟩).symm
      · exact (dif_neg h2).trans (if_neg fun hh => h2 (by omega)).symm

/-- The reference's queries are the call's. -/
theorem queries_out (P : FVec Ideal S2x8192x2576 .f32) (T : FVec Ideal S2x8192x16x3 .f32) (H : IVec S16x4 1) (hP : ∀ y, P y = proj X g W (y 0) (y 1) (y 2))
    (hT : ∀ b s h i, T (ix4 b s h i) = part (cum X g W B b s h * lScale) i) (hH : ∀ (h : Fin 16) (j : Fin 4), H (ix2 h j) = if h.val % 4 = j.val then 1#1 else 0#1)
    (y : S2x2048x8192.Idx) : queryLanes (queryHeads (scaled P) (own (spread H)) T) y = qArr X g W B y := by
  have hl : (y 1 : Fin 2048).val < 2048 := (y 1 : Fin 2048).isLt
  refine (queryLanes_at _ y).trans ((queryHeads_at _ _ _ _ _ _ _).trans ?_)
  unfold qArr
  by_cases h : (y 1 : Fin 2048).val % 128 < 64
  · refine (dif_pos h).trans (Eq.trans ?_ (if_pos h).symm)
    refine (scaled_at P _ _ _ _).trans (congrArg (· * qScale) ((hP _).trans (congrArg (proj X g W (y 0) (y 2)) (Fin.ext ?_))))
    show (y 1 : Fin 2048).val / 128 * 64 + (y 1 : Fin 2048).val % 128 = 64 * ((y 1 : Fin 2048).val / 128) + (y 1 : Fin 2048).val % 128 % 64
    omega
  · refine (dif_neg h).trans (Eq.trans ?_ (if_neg h).symm)
    by_cases h1 : (y 1 : Fin 2048).val % 128 - 64 < 12
    · refine (dif_pos h1).trans (Eq.trans ?_ (if_pos (by omega)).symm)
      refine (own_at _ _ _ _ _).trans ((spread_at _ _).trans ((bit_value _ _ (hH _ _)).trans ?_))
      by_cases h2 : (y 1 : Fin 2048).val % 128 % 64 / 3 = (y 1 : Fin 2048).val / 128 % 4
      · refine (if_pos ?_).trans (if_pos h2).symm
        show (y 1 : Fin 2048).val / 128 % 4 = ((y 1 : Fin 2048).val % 128 - 64) / 3
        omega
      · refine (if_neg fun hh => h2 ?_).trans (if_neg h2).symm
        have hh' : (y 1 : Fin 2048).val / 128 % 4 = ((y 1 : Fin 2048).val % 128 - 64) / 3 := hh
        omega
    · refine (dif_neg h1).trans (Eq.trans ?_ (if_neg (by omega)).symm)
      by_cases h2 : (y 1 : Fin 2048).val % 128 - 64 - 12 < 3
      · refine (dif_pos h2).trans (Eq.trans ?_ (if_pos (by omega)).symm)
        refine (hT _ _ _ _).trans (congrArg (part _) (Fin.ext ?_))
        show (y 1 : Fin 2048).val % 128 - 64 - 12 = ((y 1 : Fin 2048).val % 128 % 64 - 12) % 3
        omega
      · exact (dif_neg h2).trans (if_neg fun hh => h2 (by omega)).symm

end Cert.FoxProjReferenceIdeal.Rows

end
-- ==== Proof.FoxProj.Claim.lean ====
/-
  The forgetting layers' input projection: its frames, and the equality of its seven arrays with the reference's results.
-/
module

public import proofs.«01_k».proof.Defs
public import proofs.«01_k».proof.Proof.Gen.FoxProj.Frame
public import proofs.«01_k».proof.Proof.FoxProj.Lanes

@[expose] public section

set_option maxRecDepth 16384
set_option Elab.async false

noncomputable section

namespace Cert.FoxProjReferenceIdeal.Rows

open Cert.FoxProjReferenceIdeal Cert.FoxProjReferenceIdeal.Gen Cert.FoxProjReferenceIdeal.Value
open Idealize.ShloMosaic Idealize.ShloMosaic.TcCoe

variable (m : (ℓ : Loc nD τ sig) → Buf (Elt Ideal) ℓ) (c : Dev nD)

theorem logs_res : res_main_v73 m c = transpose S2x16x8192 [0, 2, 1] (logs (gates (feats (m ((c.tc : Thread nD τ).loc main_arg0)) (m ((c.tc : Thread nD τ).loc main_arg1)) (m ((c.tc : Thread nD τ).loc main_arg2))) (m ((c.tc : Thread nD τ).loc main_arg3)))) transposes_S2x8192x16_S2x16x8192_0_2_1 := by
  unfold res_main_v73 logs gates feats
  rfl

theorem keys_res : res_main_v70 m c = keyLanes (keyHeads (keysOf (feats (m ((c.tc : Thread nD τ).loc main_arg0)) (m ((c.tc : Thread nD τ).loc main_arg1)) (m ((c.tc : Thread nD τ).loc main_arg2))))
    (minus (parts (units (sums (logs (gates (feats (m ((c.tc : Thread nD τ).loc main_arg0)) (m ((c.tc : Thread nD τ).loc main_arg1)) (m ((c.tc : Thread nD τ).loc main_arg2))) (m ((c.tc : Thread nD τ).loc main_arg3))))))))) := by
  unfold res_main_v70 keyLanes keyHeads keysOf minus parts units sums logs gates feats
  rfl

theorem queries_res : res_main_v65 m c = queryLanes (queryHeads (scaled (feats (m ((c.tc : Thread nD τ).loc main_arg0)) (m ((c.tc : Thread nD τ).loc main_arg1)) (m ((c.tc : Thread nD τ).loc main_arg2)))) (own (spread mine))
    (parts (units (sums (logs (gates (feats (m ((c.tc : Thread nD τ).loc main_arg0)) (m ((c.tc : Thread nD τ).loc main_arg1)) (m ((c.tc : Thread nD τ).loc main_arg2))) (m ((c.tc : Thread nD τ).loc main_arg3))))))) ) := by
  unfold res_main_v65 queryLanes queryHeads scaled own spread mine parts units sums logs gates feats
  rfl

theorem logs_out (X : FVec Ideal S2x8192x1024 .f32) (g : FVec Ideal S1024 .f32) (W : FVec Ideal S1024x2576 .f32) (B : FVec Ideal S16 .f32) (y : S2x16x8192.Idx) :
    transpose S2x16x8192 [0, 2, 1] (logs (gates (feats X g W) B)) transposes_S2x8192x16_S2x16x8192_0_2_1 y = Cert.FoxProjIdeal.Rows.logArr X g W B y := by
  have h := log_of X g W B
  generalize logs (gates (feats X g W) B) = L at h ⊢
  unfold Cert.FoxProjIdeal.Rows.logArr
  refine Eq.trans ?_ (h (ix3 (y 0) (y 2) (y 1)))
  pointwise

end Cert.FoxProjReferenceIdeal.Rows

namespace Cert.FoxProjIdeal.Rows

open Idealize.ShloMosaic Idealize.ShloMosaic.TcCoe Idealize.SL.Sem
open Cert.FoxProjReferenceIdeal.Rows (logs_res keys_res queries_res logs_out keys_out queries_out feats_at part_at mine_at)

/-- The reference has no semaphores. -/
theorem no_sems (s : MemSt Cert.FoxProjReferenceIdeal.nD Cert.FoxProjReferenceIdeal.τ Cert.FoxProjReferenceIdeal.sig (Elt Ideal)) : s.sem = fun _ => 0 :=
  funext fun g => by
    obtain ⟨c, sm⟩ := g
    cases sm with
    | reg k => exact k.elim0
    | dma k => exact k.elim0

theorem frame_ref : Cert.quiescent_FoxProjReferenceIdeal (hFoxProjReferenceIdeal := Cert.FoxProjReferenceIdeal.Gen.facts) :=
  fun m g _ => (θ_run Cert.FoxProjReferenceIdeal.defs _ _).mono (fun r h => ⟨fun c => (h c).2.2.2.2.2.2.2, no_sems r.2⟩)
    (Cert.FoxProjReferenceIdeal.Value.run (F := Ideal) m g)

/-- The call's results are the reference's. -/
theorem algebraic : Cert.algebraic_FoxProjIdeal_FoxProjReferenceIdeal (hFoxProjIdeal := Cert.FoxProjIdeal.Gen.facts)
    (hFoxProjReferenceIdeal := Cert.FoxProjReferenceIdeal.Gen.facts) := by
  intro m g m' g' _ hagree
  refine ⟨fun c => qArr (m ((c.tc : Thread Cert.FoxProjIdeal.nD Cert.FoxProjIdeal.τ).loc Cert.FoxProjIdeal.main_arg0)) (m ((c.tc : Thread Cert.FoxProjIdeal.nD Cert.FoxProjIdeal.τ).loc Cert.FoxProjIdeal.main_arg1)) (m ((c.tc : Thread Cert.FoxProjIdeal.nD Cert.FoxProjIdeal.τ).loc Cert.FoxProjIdeal.main_arg2)) (m ((c.tc : Thread Cert.FoxProjIdeal.nD Cert.FoxProjIdeal.τ).loc Cert.FoxProjIdeal.main_arg3)),
    fun c => gArr (m ((c.tc : Thread Cert.FoxProjIdeal.nD Cert.FoxProjIdeal.τ).loc Cert.FoxProjIdeal.main_arg0)) (m ((c.tc : Thread Cert.FoxProjIdeal.nD Cert.FoxProjIdeal.τ).loc Cert.FoxProjIdeal.main_arg1)) (m ((c.tc : Thread Cert.FoxProjIdeal.nD Cert.FoxProjIdeal.τ).loc Cert.FoxProjIdeal.main_arg2)),
    fun c => kArr (m ((c.tc : Thread Cert.FoxProjIdeal.nD Cert.FoxProjIdeal.τ).loc Cert.FoxProjIdeal.main_arg0)) (m ((c.tc : Thread Cert.FoxProjIdeal.nD Cert.FoxProjIdeal.τ).loc Cert.FoxProjIdeal.main_arg1)) (m ((c.tc : Thread Cert.FoxProjIdeal.nD Cert.FoxProjIdeal.τ).loc Cert.FoxProjIdeal.main_arg2)),
    fun c => vArr (m ((c.tc : Thread Cert.FoxProjIdeal.nD Cert.FoxProjIdeal.τ).loc Cert.FoxProjIdeal.main_arg0)) (m ((c.tc : Thread Cert.FoxProjIdeal.nD Cert.FoxProjIdeal.τ).loc Cert.FoxProjIdeal.main_arg1)) (m ((c.tc : Thread Cert.FoxProjIdeal.nD Cert.FoxProjIdeal.τ).loc Cert.FoxProjIdeal.main_arg2)),
    fun c => aArr (m ((c.tc : Thread Cert.FoxProjIdeal.nD Cert.FoxProjIdeal.τ).loc Cert.FoxProjIdeal.main_arg0)) (m ((c.tc : Thread Cert.FoxProjIdeal.nD Cert.FoxProjIdeal.τ).loc Cert.FoxProjIdeal.main_arg1)) (m ((c.tc : Thread Cert.FoxProjIdeal.nD Cert.FoxProjIdeal.τ).loc Cert.FoxProjIdeal.main_arg2)) (m ((c.tc : Thread Cert.FoxProjIdeal.nD Cert.FoxProjIdeal.τ).loc Cert.FoxProjIdeal.main_arg3)),
    fun c => vArr (m ((c.tc : Thread Cert.FoxProjIdeal.nD Cert.FoxProjIdeal.τ).loc Cert.FoxProjIdeal.main_arg0)) (m ((c.tc : Thread Cert.FoxProjIdeal.nD Cert.FoxProjIdeal.τ).loc Cert.FoxProjIdeal.main_arg1)) (m ((c.tc : Thread Cert.FoxProjIdeal.nD Cert.FoxProjIdeal.τ).loc Cert.FoxProjIdeal.main_arg2)),
    fun c => logArr (m ((c.tc : Thread Cert.FoxProjIdeal.nD Cert.FoxProjIdeal.τ).loc Cert.FoxProjIdeal.main_arg0)) (m ((c.tc : Thread Cert.FoxProjIdeal.nD Cert.FoxProjIdeal.τ).loc Cert.FoxProjIdeal.main_arg1)) (m ((c.tc : Thread Cert.FoxProjIdeal.nD Cert.FoxProjIdeal.τ).loc Cert.FoxProjIdeal.main_arg2)) (m ((c.tc : Thread Cert.FoxProjIdeal.nD Cert.FoxProjIdeal.τ).loc Cert.FoxProjIdeal.main_arg3)), ?_, ?_⟩
  · refine (θ_run Cert.FoxProjIdeal.defs _ _).mono (fun r h c => ?_) (Cert.FoxProjIdeal.Value.run_blocks (F := Ideal) m g)
    obtain ⟨h12, h13, h14, h15, h16, h17, h18, h⟩ := h c
    exact ⟨h12.trans (arr12 m c), h13.trans (arr13 m c), h14.trans (arr14 m c), h15.trans (arr15 m c), h16.trans (arr16 m c), h17.trans (arr17 m c), h18.trans (arr18 m c), h⟩
  · refine (θ_run Cert.FoxProjReferenceIdeal.defs _ _).mono (fun r h c => ?_) (Cert.FoxProjReferenceIdeal.Value.run (F := Ideal) m' g')
    obtain ⟨h12, h13, h14, h15, h16, h17, h18, h⟩ := h c
    obtain ⟨e0, e1, e2, e3⟩ := hagree c
    refine ⟨h12.trans ?_, h13.trans ?_, h14.trans ?_, h15.trans ?_, h16.trans ?_, h17.trans ?_, h18.trans ?_, h⟩
    · rw [queries_res, e0, e1, e2, e3]
      funext y
      exact queries_out _ _ _ _ _ _ _ (feats_at _ _ _) (part_at _ _ _ _) mine_at y
    · rw [e0, e1, e2]
      funext y
      unfold gArr proj Cert.Rms.rms Cert.Rms.dotp
      pointwise
    · rw [e0, e1, e2]
      funext y
      unfold kArr proj Cert.Rms.rms Cert.Rms.dotp
      pointwise
    · rw [e0, e1, e2]
      funext y
      unfold vArr proj Cert.Rms.rms Cert.Rms.dotp
      pointwise
    · rw [keys_res, e0, e1, e2, e3]
      funext y
      exact keys_out _ _ _ _ _ _ (feats_at _ _ _) (part_at _ _ _ _) y
    · rw [e0, e1, e2]
      funext y
      unfold vArr proj Cert.Rms.rms Cert.Rms.dotp
      pointwise
    · rw [logs_res, e0, e1, e2, e3]
      funext y
      exact logs_out _ _ _ _ y

end Cert.FoxProjIdeal.Rows

end
-- ==== Proof.lean ====
/-
  The certificate: the flash call's frame as printed and idealized, the reference's frame, the mask's named constant,
  and the equality of the idealized call's result with the reference's, which is causal softmax attention, gated; and the
  frames and the equalities of the output projection and of both kinds of layer's input projection.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Launch
public import proofs.«01_k».proof.Proof.Gen.OutProj.Frame
public import proofs.«01_k».proof.Proof.Gen.OutProjIdeal.Value
public import proofs.«01_k».proof.Proof.Gen.SwaProj.Frame
public import proofs.«01_k».proof.Proof.Gen.OutProjReferenceIdeal.Run
public import proofs.«01_k».proof.Proof.Gen.SwaProjIdeal.Value
public import proofs.«01_k».proof.Proof.Gen.SwaProjReferenceIdeal.Run
public import proofs.«01_k».proof.Proof.KernelIdeal.Output
public import proofs.«01_k».proof.Proof.ReferenceIdeal.Values
public import proofs.«01_k».proof.Proof.Finite
public import proofs.«01_k».proof.Proof.OutProj.Claim
public import proofs.«01_k».proof.Proof.SwaProj.Claim
public import proofs.«01_k».proof.Proof.FoxProj.Claim
public import proofs.«01_k».proof.Proof.Gen.FoxProj.Frame
public import proofs.«01_k».proof.Proof.Gen.FoxProjIdeal.Value
public import proofs.«01_k».proof.Proof.Gen.FoxProjReferenceIdeal.Run

@[expose] public section

set_option maxRecDepth 16384

noncomputable section

namespace Cert.Proof

open Idealize.ShloMosaic Idealize.ShloMosaic.TcCoe Idealize.SL.Sem

/-- The reference has no semaphores. -/
theorem no_sems (s : MemSt Cert.ReferenceIdeal.nD Cert.ReferenceIdeal.τ Cert.ReferenceIdeal.sig (Elt Ideal)) : s.sem = fun _ => 0 :=
  funext fun g => by
    obtain ⟨c, sm⟩ := g
    cases sm with
    | reg k => exact k.elim0
    | dma k => exact k.elim0

theorem frame_ref : Cert.quiescent_ReferenceIdeal (hReferenceIdeal := Cert.ReferenceIdeal.Gen.facts) :=
  fun m g _ => (θ_run Cert.ReferenceIdeal.defs _ _).mono (fun r h => ⟨fun c => (h c).2, no_sems r.2⟩)
    (Cert.ReferenceIdeal.Value.run (F := Ideal) m g)

/-- The idealized call's result: what the reference computes of the same arguments. -/
theorem algebraic : Cert.algebraic_KernelIdeal_ReferenceIdeal_pre_finite (hKernelIdeal := Cert.KernelIdeal.Gen.facts)
    (hReferenceIdeal := Cert.ReferenceIdeal.Gen.facts) (hPre_finite := Cert.Finite.facts) := by
  intro m g m' g' hpre hagree
  refine ⟨fun c => Cert.KernelIdeal.Flash.outG m c, ?_, ?_⟩
  · refine (θ_run Cert.KernelIdeal.defs _ _).mono (fun r h c => ⟨?_, Cert.KernelIdeal.Flash.kept m h.1 c⟩) (Cert.KernelIdeal.Flash.run_main m g)
    exact (h.1 c (4 : Fin 5)).trans (Cert.KernelIdeal.Flash.arr_out (Cert.Finite.split _ _ _ _ (hpre c)))
  · refine (θ_run Cert.ReferenceIdeal.defs _ _).mono (fun r h c => ⟨(h c).1.trans ?_, (h c).2⟩) (Cert.ReferenceIdeal.Value.run (F := Ideal) m' g')
    have H : Cert.KernelIdeal.Flash.Reals m c := Cert.Finite.split _ _ _ _ (hpre c)
    obtain ⟨e0, e1, e2, e3⟩ := hagree c
    refine (Cert.ReferenceIdeal.Attn.res_eq m' c).trans ?_
    rw [e0, e1, e2, e3]
    funext y
    exact Cert.ReferenceIdeal.Attn.out_at _ _
      (fun b h q => ⟨Cert.KernelIdeal.Flash.scr_ne_top H b h q, Cert.KernelIdeal.Flash.scr_zero H b h q⟩) y

theorem claim : Cert.Claim :=
  ⟨Cert.Kernel.Gen.facts, Cert.KernelIdeal.Gen.facts, Cert.ReferenceIdeal.Gen.facts, Cert.OutProj.Gen.facts, Cert.OutProjIdeal.Gen.facts,
    Cert.OutProjReferenceIdeal.Gen.facts, Cert.SwaProj.Gen.facts, Cert.SwaProjIdeal.Gen.facts, Cert.SwaProjReferenceIdeal.Gen.facts,
    Cert.FoxProj.Gen.facts, Cert.FoxProjIdeal.Gen.facts, Cert.FoxProjReferenceIdeal.Gen.facts, Cert.Finite.facts,
    fun m g _ => Cert.Kernel.Flash.frame m g, fun m g _ => Cert.KernelIdeal.Flash.frame m g,
    fun m g _ => Cert.KernelIdeal.Flash.frame m g, frame_ref, fun m g _ => frame_ref m g trivial,
    fun m g _ => Cert.OutProj.Gen.frame m g, fun m g _ => Cert.OutProjIdeal.Gen.frame m g, Cert.OutProjIdeal.Rows.frame_ref,
    fun m g _ => Cert.SwaProj.Gen.frame m g, fun m g _ => Cert.SwaProjIdeal.Gen.frame m g, Cert.SwaProjIdeal.Rows.frame_ref,
    fun m g _ => Cert.FoxProj.Gen.frame m g, fun m g _ => Cert.FoxProjIdeal.Gen.frame m g, Cert.FoxProjIdeal.Rows.frame_ref,
    IdealRules.named_const.statement Cert.KernelIdeal.κ "mask" .f32 0xF149F2CA#32 ⊥ rfl, algebraic,
    trivial, Cert.OutProjIdeal.Rows.algebraic, trivial, Cert.SwaProjIdeal.Rows.algebraic,
    trivial, Cert.FoxProjIdeal.Rows.algebraic⟩

end Cert.Proof

end
